-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_given_KernelIdeal [hPre_pages_given_KernelIdeal : Cert.Pre_pages_given_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_given_ReferenceIdeal [hPre_pages_given_ReferenceIdeal : Cert.Pre_pages_given_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_given_KernelIdeal [hKernelIdeal : Cert.KernelIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_given_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_given_ReferenceIdeal [hReferenceIdeal : Cert.ReferenceIdeal.Facts] [hPre_pages_given_ReferenceIdeal : Cert.Pre_pages_given_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_given_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pages_given_KernelIdeal [hKernelIdeal : Cert.KernelIdeal.Facts] [hReferenceIdeal : Cert.ReferenceIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_given_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_given_KernelIdeal : Cert.Pre_pages_given_KernelIdeal.Facts) (hPre_pages_given_ReferenceIdeal : Cert.Pre_pages_given_ReferenceIdeal.Facts),
    quiescent_Kernel (hKernel := hKernel)
    ∧ quiescent_KernelIdeal (hKernelIdeal := hKernelIdeal)
    ∧ quiescent_KernelIdeal_pre_pages_given_KernelIdeal (hKernelIdeal := hKernelIdeal) (hPre_pages_given_KernelIdeal := hPre_pages_given_KernelIdeal)
    ∧ quiescent_ReferenceIdeal (hReferenceIdeal := hReferenceIdeal)
    ∧ quiescent_ReferenceIdeal_pre_pages_given_ReferenceIdeal (hReferenceIdeal := hReferenceIdeal) (hPre_pages_given_ReferenceIdeal := hPre_pages_given_ReferenceIdeal)
    ∧ preserves_Kernel_KernelIdeal
    ∧ algebraic_KernelIdeal_ReferenceIdeal_pre_pages_given_KernelIdeal (hKernelIdeal := hKernelIdeal) (hReferenceIdeal := hReferenceIdeal) (hPre_pages_given_KernelIdeal := hPre_pages_given_KernelIdeal)
-- ==== Pre_pages_given_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_where {F : FTy → Type} [FloatOps F] (arg0 : IVec S32x256 1) (arg1 : IVec S32x256 1) (arg2 : IVec S_ 1) : IVec S32x256 1 :=
  let v0 : IVec S32x256 1 := broadcastInDim S32x256 ![] bcast_S_S32x256 arg2
  let v1 : IVec S32x256 1 := select arg0 arg1 v0
  v1

def fn_part1 {F : FTy → Type} [FloatOps F] (main_arg4 : IVec S32 32) (main_v5 : IVec S32x256 1) (main_v10 : IVec S32x256 1) (main_v14 : IVec S_ 1) (main_v17 : IVec S256x32x16x128 1) (main_c_3 : IVec S_ 1) : IVec S_ 1 × IVec S_ 1 × IVec S_ 1 × IVec S_ 1 :=
  let main_v18 : IVec S_ 1 := (fun x v => Host.reduce IntOp.andi x v reducesTo_S256x32x16x128_S_d0_1_2_3 h_S_) main_v17 main_c_3
  let main_c_4 : IVec S_ 32 := constantI S_ 32 1#32
  let main_v19 : IVec S32 32 := broadcastInDim S32 ![] bcast_S_S32 main_c_4
  let main_v20 : IVec S32 1 := cmpi .sge main_arg4 main_v19
  let main_c_5 : IVec S_ 1 := constantI S_ 1 1#1
  let main_v21 : IVec S_ 1 := (fun x v => Host.reduce IntOp.andi x v reducesTo_S32_S_d0 h_S_) main_v20 main_c_5
  let main_c_6 : IVec S_ 1 := constantI S_ 1 1#1
  let main_v22 : IVec S32x256 1 := fn_where (F := F) main_v5 main_v10 main_c_6
  let main_c_7 : IVec S_ 1 := constantI S_ 1 1#1
  let main_v23 : IVec S_ 1 := (fun x v => Host.reduce IntOp.andi x v reducesTo_S32x256_S_d0_1 h_S_) main_v22 main_c_7
  (main_v14, main_v18, main_v21, main_v23)

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 × IVec S_ 1 × IVec S_ 1 × IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 1024#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : FVec F S32x1x16x128 .f32 := Host.absf main_arg0
  let main_cst : FVec F S_ .f32 := constant S_ .f32 0x7F800000#32
  let main_v12 : FVec F S32x1x16x128 .f32 := broadcastInDim S32x1x16x128 ![] bcast_S_S32x1x16x128 main_cst
  let main_v13 : IVec S32x1x16x128 1 := cmpf .olt main_v11 main_v12
  let main_c_1 : IVec S_ 1 := constantI S_ 1 1#1
  let main_v14 : IVec S_ 1 := (fun x v => Host.reduce IntOp.andi x v reducesTo_S32x1x16x128_S_d0_1_2_3 h_S_) main_v13 main_c_1
  let main_v15 : FVec F S256x32x16x128 .f32 := Host.absf main_arg1
  let main_cst_2 : FVec F S_ .f32 := constant S_ .f32 0x7F800000#32
  let main_v16 : FVec F S256x32x16x128 .f32 := broadcastInDim S256x32x16x128 ![] bcast_S_S256x32x16x128 main_cst_2
  let main_v17 : IVec S256x32x16x128 1 := cmpf .olt main_v15 main_v16
  let main_c_3 : IVec S_ 1 := constantI S_ 1 1#1
  fn_part1 (F := F) main_arg4 main_v5 main_v10 main_v14 main_v17 main_c_3
-- ==== Pre_pages_given_ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S1024x32x16x128 : S_.BroadcastsInDim S1024x32x16x128 (![] : Fin 0 → Fin S1024x32x16x128.rank)
  reducesTo_S1024x32x16x128_S_d0_1_2_3 : S1024x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_where {F : FTy → Type} [FloatOps F] (arg0 : IVec S32x256 1) (arg1 : IVec S32x256 1) (arg2 : IVec S_ 1) : IVec S32x256 1 :=
  let v0 : IVec S32x256 1 := broadcastInDim S32x256 ![] bcast_S_S32x256 arg2
  let v1 : IVec S32x256 1 := select arg0 arg1 v0
  v1

def fn_part1 {F : FTy → Type} [FloatOps F] (main_arg4 : IVec S32 32) (main_v5 : IVec S32x256 1) (main_v10 : IVec S32x256 1) (main_v14 : IVec S_ 1) (main_v17 : IVec S1024x32x16x128 1) (main_c_3 : IVec S_ 1) : IVec S_ 1 × IVec S_ 1 × IVec S_ 1 × IVec S_ 1 :=
  let main_v18 : IVec S_ 1 := (fun x v => Host.reduce IntOp.andi x v reducesTo_S1024x32x16x128_S_d0_1_2_3 h_S_) main_v17 main_c_3
  let main_c_4 : IVec S_ 32 := constantI S_ 32 1#32
  let main_v19 : IVec S32 32 := broadcastInDim S32 ![] bcast_S_S32 main_c_4
  let main_v20 : IVec S32 1 := cmpi .sge main_arg4 main_v19
  let main_c_5 : IVec S_ 1 := constantI S_ 1 1#1
  let main_v21 : IVec S_ 1 := (fun x v => Host.reduce IntOp.andi x v reducesTo_S32_S_d0 h_S_) main_v20 main_c_5
  let main_c_6 : IVec S_ 1 := constantI S_ 1 1#1
  let main_v22 : IVec S32x256 1 := fn_where (F := F) main_v5 main_v10 main_c_6
  let main_c_7 : IVec S_ 1 := constantI S_ 1 1#1
  let main_v23 : IVec S_ 1 := (fun x v => Host.reduce IntOp.andi x v reducesTo_S32x256_S_d0_1 h_S_) main_v22 main_c_7
  (main_v14, main_v18, main_v21, main_v23)

def fn {F : FTy → Type} [FloatOps F] (main_arg0 : FVec F S32x1x16x128 .f32) (main_arg1 : FVec F S1024x32x16x128 .f32) (main_arg2 : FVec F S1024x32x16x128 .f32) (main_arg3 : IVec S32x256 32) (main_arg4 : IVec S32 32) : IVec S_ 1 × IVec S_ 1 × IVec S_ 1 × IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 1024#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : FVec F S32x1x16x128 .f32 := Host.absf main_arg0
  let main_cst : FVec F S_ .f32 := constant S_ .f32 0x7F800000#32
  let main_v12 : FVec F S32x1x16x128 .f32 := broadcastInDim S32x1x16x128 ![] bcast_S_S32x1x16x128 main_cst
  let main_v13 : IVec S32x1x16x128 1 := cmpf .olt main_v11 main_v12
  let main_c_1 : IVec S_ 1 := constantI S_ 1 1#1
  let main_v14 : IVec S_ 1 := (fun x v => Host.reduce IntOp.andi x v reducesTo_S32x1x16x128_S_d0_1_2_3 h_S_) main_v13 main_c_1
  let main_v15 : FVec F S1024x32x16x128 .f32 := Host.absf main_arg1
  let main_cst_2 : FVec F S_ .f32 := constant S_ .f32 0x7F800000#32
  let main_v16 : FVec F S1024x32x16x128 .f32 := broadcastInDim S1024x32x16x128 ![] bcast_S_S1024x32x16x128 main_cst_2
  let main_v17 : IVec S1024x32x16x128 1 := cmpf .olt main_v15 main_v16
  let main_c_3 : IVec S_ 1 := constantI S_ 1 1#1
  fn_part1 (F := F) main_arg4 main_v5 main_v10 main_v14 main_v17 main_c_3
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S16x64x32x128 : Shape := ⟨4, ![16, 64, 32, 128]⟩
abbrev S2x9x32x128 : Shape := ⟨4, ![2, 9, 32, 128]⟩
abbrev S2x3x9x32x128 : Shape := ⟨5, ![2, 3, 9, 32, 128]⟩
abbrev S16 : Shape := ⟨1, ![16]⟩
abbrev S2x3 : Shape := ⟨2, ![2, 3]⟩
abbrev S1 : Shape := ⟨1, ![1]⟩
abbrev S_ : Shape := ⟨0, ![]⟩
abbrev S1x64x32x128 : Shape := ⟨4, ![1, 64, 32, 128]⟩
abbrev S64x32x128 : Shape := ⟨3, ![64, 32, 128]⟩
abbrev S64x32x1x128 : Shape := ⟨4, ![64, 32, 1, 128]⟩
abbrev S1x64x1 : Shape := ⟨3, ![1, 64, 1]⟩
abbrev S32x1x256 : Shape := ⟨3, ![32, 1, 256]⟩
abbrev S32x1x1 : Shape := ⟨3, ![32, 1, 1]⟩
abbrev S32x64x256 : Shape := ⟨3, ![32, 64, 256]⟩
abbrev S32x64 : Shape := ⟨2, ![32, 64]⟩
abbrev S32x64x1 : Shape := ⟨3, ![32, 64, 1]⟩
abbrev S32x64x32 : Shape := ⟨3, ![32, 64, 32]⟩
abbrev S32x2048 : Shape := ⟨2, ![32, 2048]⟩
abbrev S32x1x1x128 : Shape := ⟨4, ![32, 1, 1, 128]⟩
abbrev S32x128 : Shape := ⟨2, ![32, 128]⟩
abbrev S2048x128 : Shape := ⟨2, ![2048, 128]⟩
abbrev S32x1 : Shape := ⟨2, ![32, 1]⟩
abbrev S32x8 : Shape := ⟨2, ![32, 8]⟩
abbrev S8x32 : Shape := ⟨2, ![8, 32]⟩
abbrev S1x1x32x128 : Shape := ⟨4, ![1, 1, 32, 128]⟩
abbrev S1x1x8x32 : Shape := ⟨4, ![1, 1, 8, 32]⟩
abbrev S1x1 : Shape := ⟨2, ![1, 1]⟩
abbrev S1x1x9x32x128 : Shape := ⟨5, ![1, 1, 9, 32, 128]⟩
abbrev S9x32x128 : Shape := ⟨3, ![9, 32, 128]⟩
abbrev S1x9x32x128 : Shape := ⟨4, ![1, 9, 32, 128]⟩
abbrev S1x1x1x8x32 : Shape := ⟨5, ![1, 1, 1, 8, 32]⟩
abbrev S1x1x1x32x128 : Shape := ⟨5, ![1, 1, 1, 32, 128]⟩

abbrev nBuf : Space → Nat
  | .hbm => 6
  | .vmem => 10
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S32x1x16x128, .f32⟩
  | .local _ .vmem, ⟨0, _⟩ => ⟨S32x1x16x128, .f32⟩
  | .local _ .vmem, ⟨1, _⟩ => ⟨S32x256, .i32⟩
  | .local _ .vmem, ⟨2, _⟩ => ⟨S32, .i32⟩
  | .local _ .vmem, ⟨3, _⟩ => ⟨S32x1x16x128, .f32⟩
  | .local _ .vmem, ⟨4, _⟩ => ⟨S16x64x32x128, .f32⟩
  | .local _ .vmem, ⟨5, _⟩ => ⟨S16x64x32x128, .f32⟩
  | .local _ .vmem, ⟨6, _⟩ => ⟨S2x9x32x128, .f32⟩
  | .local _ .vmem, ⟨7, _⟩ => ⟨S2x3x9x32x128, .f32⟩
  | .local _ .vmem, ⟨8, _⟩ => ⟨S2x9x32x128, .f32⟩
  | .local _ .vmem, ⟨9, _⟩ => ⟨S2x3x9x32x128, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_8 : BitVec 32 := 0#32
  let c0_i32 : BitVec 32 := 0#32
  let c0_i32_9 : BitVec 32 := 0#32
  ![v11.toNat, 0, 0, 0]
def k0_off2 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_24 : BitVec 32 := 0#32
  let c1_i32_18 : BitVec 32 := 1#32
  let c0_i32_25 : BitVec 32 := 0#32
  ![v11.toNat, 0, 1, 0]
def k0_off3 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_40 : BitVec 32 := 0#32
  let c2_i32_34 : BitVec 32 := 2#32
  let c0_i32_41 : BitVec 32 := 0#32
  ![v11.toNat, 0, 2, 0]
def k0_off4 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_55 : BitVec 32 := 0#32
  let c3_i32 : BitVec 32 := 3#32
  let c0_i32_56 : BitVec 32 := 0#32
  ![v11.toNat, 0, 3, 0]
def k0_off5 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_71 : BitVec 32 := 0#32
  let c4_i32_65 : BitVec 32 := 4#32
  let c0_i32_72 : BitVec 32 := 0#32
  ![v11.toNat, 0, 4, 0]
def k0_off6 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_86 : BitVec 32 := 0#32
  let c5_i32 : BitVec 32 := 5#32
  let c0_i32_87 : BitVec 32 := 0#32
  ![v11.toNat, 0, 5, 0]
def k0_off7 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_101 : BitVec 32 := 0#32
  let c6_i32 : BitVec 32 := 6#32
  let c0_i32_102 : BitVec 32 := 0#32
  ![v11.toNat, 0, 6, 0]
def k0_off8 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_116 : BitVec 32 := 0#32
  let c7_i32 : BitVec 32 := 7#32
  let c0_i32_117 : BitVec 32 := 0#32
  ![v11.toNat, 0, 7, 0]
def k0_off9 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_132 : BitVec 32 := 0#32
  let c8_i32_126 : BitVec 32 := 8#32
  let c0_i32_133 : BitVec 32 := 0#32
  ![v11.toNat, 0, 8, 0]
def k0_off10 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_147 : BitVec 32 := 0#32
  let c9_i32 : BitVec 32 := 9#32
  let c0_i32_148 : BitVec 32 := 0#32
  ![v11.toNat, 0, 9, 0]
def k0_off11 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_162 : BitVec 32 := 0#32
  let c10_i32 : BitVec 32 := 10#32
  let c0_i32_163 : BitVec 32 := 0#32
  ![v11.toNat, 0, 10, 0]
def k0_off12 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_177 : BitVec 32 := 0#32
  let c11_i32 : BitVec 32 := 11#32
  let c0_i32_178 : BitVec 32 := 0#32
  ![v11.toNat, 0, 11, 0]
def k0_off13 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_192 : BitVec 32 := 0#32
  let c12_i32 : BitVec 32 := 12#32
  let c0_i32_193 : BitVec 32 := 0#32
  ![v11.toNat, 0, 12, 0]
def k0_off14 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_207 : BitVec 32 := 0#32
  let c13_i32 : BitVec 32 := 13#32
  let c0_i32_208 : BitVec 32 := 0#32
  ![v11.toNat, 0, 13, 0]
def k0_off15 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_222 : BitVec 32 := 0#32
  let c14_i32 : BitVec 32 := 14#32
  let c0_i32_223 : BitVec 32 := 0#32
  ![v11.toNat, 0, 14, 0]
def k0_off16 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c64_i32 : BitVec 32 := 64#32
  let v11 : BitVec 32 := Scalar.muli v10 c64_i32
  let c0_i32_237 : BitVec 32 := 0#32
  let c15_i32 : BitVec 32 := 15#32
  let c0_i32_238 : BitVec 32 := 0#32
  ![v11.toNat, 0, 15, 0]
def k0_dev1 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_247 : BitVec 32 := 1#32
  let v205 : BitVec 32 := Scalar.xori v10 c1_i32_247
  let c0_i32_249 : BitVec 32 := 0#32
  let v207 : BitVec 1 := Scalar.cmpi .sgt v205 c0_i32_249
  let v208 : BitVec 32 := Scalar.extui v207
  let c0_i32_250 : BitVec 32 := 0#32
  let v209 : BitVec 1 := Scalar.cmpi .slt v205 c0_i32_250
  let v210 : BitVec 32 := Scalar.extui v209
  let v211 : BitVec 32 := Scalar.subi v208 v210
  let c2_i32_248 : BitVec 32 := 2#32
  let c0_i32_251 : BitVec 32 := 0#32
  let v212 : BitVec 1 := Scalar.cmpi .sgt c2_i32_248 c0_i32_251
  let v213 : BitVec 32 := Scalar.extui v212
  let c0_i32_252 : BitVec 32 := 0#32
  let v214 : BitVec 1 := Scalar.cmpi .slt c2_i32_248 c0_i32_252
  let v215 : BitVec 32 := Scalar.extui v214
  let v216 : BitVec 32 := Scalar.subi v213 v215
  let v217 : BitVec 1 := Scalar.cmpi .ne v211 v216
  let v218 : BitVec 32 := Scalar.remsi v205 c2_i32_248
  let c0_i32_253 : BitVec 32 := 0#32
  let v219 : BitVec 1 := Scalar.cmpi .ne v218 c0_i32_253
  let v220 : BitVec 1 := Scalar.andi v217 v219
  let v206 : BitVec 32 := Scalar.divsi v205 c2_i32_248
  let c1_i32_254 : BitVec 32 := 1#32
  let v221 : BitVec 32 := Scalar.subi v206 c1_i32_254
  let v222 : BitVec 32 := Scalar.select v220 v221 v206
  let c8_i32_263 : BitVec 32 := 8#32
  let v234 : BitVec 32 := Scalar.muli v222 c8_i32_263
  let v235 : BitVec 32 := Scalar.addi c0_i32_264 v234
  let c1_i32_255 : BitVec 32 := 1#32
  let v223 : BitVec 32 := Scalar.xori v10 c1_i32_255
  let c2_i32_256 : BitVec 32 := 2#32
  let c0_i32_257 : BitVec 32 := 0#32
  let v224 : BitVec 1 := Scalar.cmpi .eq c2_i32_256 c0_i32_257
  let c1_i32_258 : BitVec 32 := 1#32
  let v225 : BitVec 32 := Scalar.select v224 c1_i32_258 c2_i32_256
  let v226 : BitVec 32 := Scalar.remsi v223 v225
  let c0_i32_260 : BitVec 32 := 0#32
  let v228 : BitVec 1 := Scalar.cmpi .slt v226 c0_i32_260
  let c0_i32_261 : BitVec 32 := 0#32
  let v229 : BitVec 1 := Scalar.cmpi .slt v225 c0_i32_261
  let v230 : BitVec 1 := Scalar.xori v228 v229
  let c0_i32_259 : BitVec 32 := 0#32
  let v227 : BitVec 1 := Scalar.cmpi .ne v226 c0_i32_259
  let v231 : BitVec 1 := Scalar.andi v230 v227
  let v232 : BitVec 32 := Scalar.addi v226 v225
  let v233 : BitVec 32 := Scalar.select v231 v232 v226
  let c4_i32_265 : BitVec 32 := 4#32
  let v236 : BitVec 32 := Scalar.muli v233 c4_i32_265
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v238 : BitVec 32 := Scalar.muli v8 c1_i32_266
  let v239 : BitVec 32 := Scalar.addi v237 v238
  v239.toNat
def k0_dev2 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_267 : BitVec 32 := 2#32
  let v240 : BitVec 32 := Scalar.xori v10 c2_i32_267
  let c0_i32_269 : BitVec 32 := 0#32
  let v242 : BitVec 1 := Scalar.cmpi .sgt v240 c0_i32_269
  let v243 : BitVec 32 := Scalar.extui v242
  let c0_i32_270 : BitVec 32 := 0#32
  let v244 : BitVec 1 := Scalar.cmpi .slt v240 c0_i32_270
  let v245 : BitVec 32 := Scalar.extui v244
  let v246 : BitVec 32 := Scalar.subi v243 v245
  let c2_i32_268 : BitVec 32 := 2#32
  let c0_i32_271 : BitVec 32 := 0#32
  let v247 : BitVec 1 := Scalar.cmpi .sgt c2_i32_268 c0_i32_271
  let v248 : BitVec 32 := Scalar.extui v247
  let c0_i32_272 : BitVec 32 := 0#32
  let v249 : BitVec 1 := Scalar.cmpi .slt c2_i32_268 c0_i32_272
  let v250 : BitVec 32 := Scalar.extui v249
  let v251 : BitVec 32 := Scalar.subi v248 v250
  let v252 : BitVec 1 := Scalar.cmpi .ne v246 v251
  let v253 : BitVec 32 := Scalar.remsi v240 c2_i32_268
  let c0_i32_273 : BitVec 32 := 0#32
  let v254 : BitVec 1 := Scalar.cmpi .ne v253 c0_i32_273
  let v255 : BitVec 1 := Scalar.andi v252 v254
  let v241 : BitVec 32 := Scalar.divsi v240 c2_i32_268
  let c1_i32_274 : BitVec 32 := 1#32
  let v256 : BitVec 32 := Scalar.subi v241 c1_i32_274
  let v257 : BitVec 32 := Scalar.select v255 v256 v241
  let c8_i32_283 : BitVec 32 := 8#32
  let v269 : BitVec 32 := Scalar.muli v257 c8_i32_283
  let v270 : BitVec 32 := Scalar.addi c0_i32_284 v269
  let c2_i32_275 : BitVec 32 := 2#32
  let v258 : BitVec 32 := Scalar.xori v10 c2_i32_275
  let c2_i32_276 : BitVec 32 := 2#32
  let c0_i32_277 : BitVec 32 := 0#32
  let v259 : BitVec 1 := Scalar.cmpi .eq c2_i32_276 c0_i32_277
  let c1_i32_278 : BitVec 32 := 1#32
  let v260 : BitVec 32 := Scalar.select v259 c1_i32_278 c2_i32_276
  let v261 : BitVec 32 := Scalar.remsi v258 v260
  let c0_i32_280 : BitVec 32 := 0#32
  let v263 : BitVec 1 := Scalar.cmpi .slt v261 c0_i32_280
  let c0_i32_281 : BitVec 32 := 0#32
  let v264 : BitVec 1 := Scalar.cmpi .slt v260 c0_i32_281
  let v265 : BitVec 1 := Scalar.xori v263 v264
  let c0_i32_279 : BitVec 32 := 0#32
  let v262 : BitVec 1 := Scalar.cmpi .ne v261 c0_i32_279
  let v266 : BitVec 1 := Scalar.andi v265 v262
  let v267 : BitVec 32 := Scalar.addi v261 v260
  let v268 : BitVec 32 := Scalar.select v266 v267 v261
  let c4_i32_285 : BitVec 32 := 4#32
  let v271 : BitVec 32 := Scalar.muli v268 c4_i32_285
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v273 : BitVec 32 := Scalar.muli v8 c1_i32_286
  let v274 : BitVec 32 := Scalar.addi v272 v273
  v274.toNat
def k0_dev3 (d0 : Dev nD) : Nat :=
  let c0_i32_304 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_287 : BitVec 32 := 3#32
  let v275 : BitVec 32 := Scalar.xori v10 c3_i32_287
  let c0_i32_289 : BitVec 32 := 0#32
  let v277 : BitVec 1 := Scalar.cmpi .sgt v275 c0_i32_289
  let v278 : BitVec 32 := Scalar.extui v277
  let c0_i32_290 : BitVec 32 := 0#32
  let v279 : BitVec 1 := Scalar.cmpi .slt v275 c0_i32_290
  let v280 : BitVec 32 := Scalar.extui v279
  let v281 : BitVec 32 := Scalar.subi v278 v280
  let c2_i32_288 : BitVec 32 := 2#32
  let c0_i32_291 : BitVec 32 := 0#32
  let v282 : BitVec 1 := Scalar.cmpi .sgt c2_i32_288 c0_i32_291
  let v283 : BitVec 32 := Scalar.extui v282
  let c0_i32_292 : BitVec 32 := 0#32
  let v284 : BitVec 1 := Scalar.cmpi .slt c2_i32_288 c0_i32_292
  let v285 : BitVec 32 := Scalar.extui v284
  let v286 : BitVec 32 := Scalar.subi v283 v285
  let v287 : BitVec 1 := Scalar.cmpi .ne v281 v286
  let v288 : BitVec 32 := Scalar.remsi v275 c2_i32_288
  let c0_i32_293 : BitVec 32 := 0#32
  let v289 : BitVec 1 := Scalar.cmpi .ne v288 c0_i32_293
  let v290 : BitVec 1 := Scalar.andi v287 v289
  let v276 : BitVec 32 := Scalar.divsi v275 c2_i32_288
  let c1_i32_294 : BitVec 32 := 1#32
  let v291 : BitVec 32 := Scalar.subi v276 c1_i32_294
  let v292 : BitVec 32 := Scalar.select v290 v291 v276
  let c8_i32_303 : BitVec 32 := 8#32
  let v304 : BitVec 32 := Scalar.muli v292 c8_i32_303
  let v305 : BitVec 32 := Scalar.addi c0_i32_304 v304
  let c3_i32_295 : BitVec 32 := 3#32
  let v293 : BitVec 32 := Scalar.xori v10 c3_i32_295
  let c2_i32_296 : BitVec 32 := 2#32
  let c0_i32_297 : BitVec 32 := 0#32
  let v294 : BitVec 1 := Scalar.cmpi .eq c2_i32_296 c0_i32_297
  let c1_i32_298 : BitVec 32 := 1#32
  let v295 : BitVec 32 := Scalar.select v294 c1_i32_298 c2_i32_296
  let v296 : BitVec 32 := Scalar.remsi v293 v295
  let c0_i32_300 : BitVec 32 := 0#32
  let v298 : BitVec 1 := Scalar.cmpi .slt v296 c0_i32_300
  let c0_i32_301 : BitVec 32 := 0#32
  let v299 : BitVec 1 := Scalar.cmpi .slt v295 c0_i32_301
  let v300 : BitVec 1 := Scalar.xori v298 v299
  let c0_i32_299 : BitVec 32 := 0#32
  let v297 : BitVec 1 := Scalar.cmpi .ne v296 c0_i32_299
  let v301 : BitVec 1 := Scalar.andi v300 v297
  let v302 : BitVec 32 := Scalar.addi v296 v295
  let v303 : BitVec 32 := Scalar.select v301 v302 v296
  let c4_i32_305 : BitVec 32 := 4#32
  let v306 : BitVec 32 := Scalar.muli v303 c4_i32_305
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v308 : BitVec 32 := Scalar.muli v8 c1_i32_306
  let v309 : BitVec 32 := Scalar.addi v307 v308
  v309.toNat
def k0_dev4 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v321 : BitVec 32 := Scalar.muli v2 c8_i32_315
  let v322 : BitVec 32 := Scalar.addi c0_i32_316 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_317 : BitVec 32 := 4#32
  let v323 : BitVec 32 := Scalar.muli v5 c4_i32_317
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v310 : BitVec 32 := Scalar.addi v8 c1_i32_307
  let c4_i32_308 : BitVec 32 := 4#32
  let c0_i32_309 : BitVec 32 := 0#32
  let v311 : BitVec 1 := Scalar.cmpi .eq c4_i32_308 c0_i32_309
  let c1_i32_310 : BitVec 32 := 1#32
  let v312 : BitVec 32 := Scalar.select v311 c1_i32_310 c4_i32_308
  let v313 : BitVec 32 := Scalar.remsi v310 v312
  let c0_i32_312 : BitVec 32 := 0#32
  let v315 : BitVec 1 := Scalar.cmpi .slt v313 c0_i32_312
  let c0_i32_313 : BitVec 32 := 0#32
  let v316 : BitVec 1 := Scalar.cmpi .slt v312 c0_i32_313
  let v317 : BitVec 1 := Scalar.xori v315 v316
  let c0_i32_311 : BitVec 32 := 0#32
  let v314 : BitVec 1 := Scalar.cmpi .ne v313 c0_i32_311
  let v318 : BitVec 1 := Scalar.andi v317 v314
  let v319 : BitVec 32 := Scalar.addi v313 v312
  let v320 : BitVec 32 := Scalar.select v318 v319 v313
  let c1_i32_318 : BitVec 32 := 1#32
  let v325 : BitVec 32 := Scalar.muli v320 c1_i32_318
  let v326 : BitVec 32 := Scalar.addi v324 v325
  v326.toNat
def k0_dev5 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v338 : BitVec 32 := Scalar.muli v2 c8_i32_327
  let v339 : BitVec 32 := Scalar.addi c0_i32_328 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v340 : BitVec 32 := Scalar.muli v5 c4_i32_329
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_319 : BitVec 32 := 2#32
  let v327 : BitVec 32 := Scalar.addi v8 c2_i32_319
  let c4_i32_320 : BitVec 32 := 4#32
  let c0_i32_321 : BitVec 32 := 0#32
  let v328 : BitVec 1 := Scalar.cmpi .eq c4_i32_320 c0_i32_321
  let c1_i32_322 : BitVec 32 := 1#32
  let v329 : BitVec 32 := Scalar.select v328 c1_i32_322 c4_i32_320
  let v330 : BitVec 32 := Scalar.remsi v327 v329
  let c0_i32_324 : BitVec 32 := 0#32
  let v332 : BitVec 1 := Scalar.cmpi .slt v330 c0_i32_324
  let c0_i32_325 : BitVec 32 := 0#32
  let v333 : BitVec 1 := Scalar.cmpi .slt v329 c0_i32_325
  let v334 : BitVec 1 := Scalar.xori v332 v333
  let c0_i32_323 : BitVec 32 := 0#32
  let v331 : BitVec 1 := Scalar.cmpi .ne v330 c0_i32_323
  let v335 : BitVec 1 := Scalar.andi v334 v331
  let v336 : BitVec 32 := Scalar.addi v330 v329
  let v337 : BitVec 32 := Scalar.select v335 v336 v330
  let c1_i32_330 : BitVec 32 := 1#32
  let v342 : BitVec 32 := Scalar.muli v337 c1_i32_330
  let v343 : BitVec 32 := Scalar.addi v341 v342
  v343.toNat
def k0_dev6 (d0 : Dev nD) : Nat :=
  let c0_i32_340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_339 : BitVec 32 := 8#32
  let v355 : BitVec 32 := Scalar.muli v2 c8_i32_339
  let v356 : BitVec 32 := Scalar.addi c0_i32_340 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_341 : BitVec 32 := 4#32
  let v357 : BitVec 32 := Scalar.muli v5 c4_i32_341
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_331 : BitVec 32 := 3#32
  let v344 : BitVec 32 := Scalar.addi v8 c3_i32_331
  let c4_i32_332 : BitVec 32 := 4#32
  let c0_i32_333 : BitVec 32 := 0#32
  let v345 : BitVec 1 := Scalar.cmpi .eq c4_i32_332 c0_i32_333
  let c1_i32_334 : BitVec 32 := 1#32
  let v346 : BitVec 32 := Scalar.select v345 c1_i32_334 c4_i32_332
  let v347 : BitVec 32 := Scalar.remsi v344 v346
  let c0_i32_336 : BitVec 32 := 0#32
  let v349 : BitVec 1 := Scalar.cmpi .slt v347 c0_i32_336
  let c0_i32_337 : BitVec 32 := 0#32
  let v350 : BitVec 1 := Scalar.cmpi .slt v346 c0_i32_337
  let v351 : BitVec 1 := Scalar.xori v349 v350
  let c0_i32_335 : BitVec 32 := 0#32
  let v348 : BitVec 1 := Scalar.cmpi .ne v347 c0_i32_335
  let v352 : BitVec 1 := Scalar.andi v351 v348
  let v353 : BitVec 32 := Scalar.addi v347 v346
  let v354 : BitVec 32 := Scalar.select v352 v353 v347
  let c1_i32_342 : BitVec 32 := 1#32
  let v359 : BitVec 32 := Scalar.muli v354 c1_i32_342
  let v360 : BitVec 32 := Scalar.addi v358 v359
  v360.toNat
def k0_dev7 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_642 : BitVec 32 := 1#32
  let v709 : BitVec 32 := Scalar.xori v10 c1_i32_642
  let c0_i32_644 : BitVec 32 := 0#32
  let v711 : BitVec 1 := Scalar.cmpi .sgt v709 c0_i32_644
  let v712 : BitVec 32 := Scalar.extui v711
  let c0_i32_645 : BitVec 32 := 0#32
  let v713 : BitVec 1 := Scalar.cmpi .slt v709 c0_i32_645
  let v714 : BitVec 32 := Scalar.extui v713
  let v715 : BitVec 32 := Scalar.subi v712 v714
  let c2_i32_643 : BitVec 32 := 2#32
  let c0_i32_646 : BitVec 32 := 0#32
  let v716 : BitVec 1 := Scalar.cmpi .sgt c2_i32_643 c0_i32_646
  let v717 : BitVec 32 := Scalar.extui v716
  let c0_i32_647 : BitVec 32 := 0#32
  let v718 : BitVec 1 := Scalar.cmpi .slt c2_i32_643 c0_i32_647
  let v719 : BitVec 32 := Scalar.extui v718
  let v720 : BitVec 32 := Scalar.subi v717 v719
  let v721 : BitVec 1 := Scalar.cmpi .ne v715 v720
  let v722 : BitVec 32 := Scalar.remsi v709 c2_i32_643
  let c0_i32_648 : BitVec 32 := 0#32
  let v723 : BitVec 1 := Scalar.cmpi .ne v722 c0_i32_648
  let v724 : BitVec 1 := Scalar.andi v721 v723
  let v710 : BitVec 32 := Scalar.divsi v709 c2_i32_643
  let c1_i32_649 : BitVec 32 := 1#32
  let v725 : BitVec 32 := Scalar.subi v710 c1_i32_649
  let v726 : BitVec 32 := Scalar.select v724 v725 v710
  let c8_i32_664 : BitVec 32 := 8#32
  let v738 : BitVec 32 := Scalar.muli v726 c8_i32_664
  let v739 : BitVec 32 := Scalar.addi c0_i32_665 v738
  let c1_i32_650 : BitVec 32 := 1#32
  let v727 : BitVec 32 := Scalar.xori v10 c1_i32_650
  let c2_i32_651 : BitVec 32 := 2#32
  let c0_i32_652 : BitVec 32 := 0#32
  let v728 : BitVec 1 := Scalar.cmpi .eq c2_i32_651 c0_i32_652
  let c1_i32_653 : BitVec 32 := 1#32
  let v729 : BitVec 32 := Scalar.select v728 c1_i32_653 c2_i32_651
  let v730 : BitVec 32 := Scalar.remsi v727 v729
  let c0_i32_655 : BitVec 32 := 0#32
  let v732 : BitVec 1 := Scalar.cmpi .slt v730 c0_i32_655
  let c0_i32_656 : BitVec 32 := 0#32
  let v733 : BitVec 1 := Scalar.cmpi .slt v729 c0_i32_656
  let v734 : BitVec 1 := Scalar.xori v732 v733
  let c0_i32_654 : BitVec 32 := 0#32
  let v731 : BitVec 1 := Scalar.cmpi .ne v730 c0_i32_654
  let v735 : BitVec 1 := Scalar.andi v734 v731
  let v736 : BitVec 32 := Scalar.addi v730 v729
  let v737 : BitVec 32 := Scalar.select v735 v736 v730
  let c4_i32_666 : BitVec 32 := 4#32
  let v740 : BitVec 32 := Scalar.muli v737 c4_i32_666
  let v741 : BitVec 32 := Scalar.addi v739 v740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v742 : BitVec 32 := Scalar.muli v8 c1_i32_667
  let v743 : BitVec 32 := Scalar.addi v741 v742
  v743.toNat
def k0_dev8 (d0 : Dev nD) : Nat :=
  let c0_i32_697 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_674 : BitVec 32 := 2#32
  let v752 : BitVec 32 := Scalar.xori v10 c2_i32_674
  let c0_i32_676 : BitVec 32 := 0#32
  let v754 : BitVec 1 := Scalar.cmpi .sgt v752 c0_i32_676
  let v755 : BitVec 32 := Scalar.extui v754
  let c0_i32_677 : BitVec 32 := 0#32
  let v756 : BitVec 1 := Scalar.cmpi .slt v752 c0_i32_677
  let v757 : BitVec 32 := Scalar.extui v756
  let v758 : BitVec 32 := Scalar.subi v755 v757
  let c2_i32_675 : BitVec 32 := 2#32
  let c0_i32_678 : BitVec 32 := 0#32
  let v759 : BitVec 1 := Scalar.cmpi .sgt c2_i32_675 c0_i32_678
  let v760 : BitVec 32 := Scalar.extui v759
  let c0_i32_679 : BitVec 32 := 0#32
  let v761 : BitVec 1 := Scalar.cmpi .slt c2_i32_675 c0_i32_679
  let v762 : BitVec 32 := Scalar.extui v761
  let v763 : BitVec 32 := Scalar.subi v760 v762
  let v764 : BitVec 1 := Scalar.cmpi .ne v758 v763
  let v765 : BitVec 32 := Scalar.remsi v752 c2_i32_675
  let c0_i32_680 : BitVec 32 := 0#32
  let v766 : BitVec 1 := Scalar.cmpi .ne v765 c0_i32_680
  let v767 : BitVec 1 := Scalar.andi v764 v766
  let v753 : BitVec 32 := Scalar.divsi v752 c2_i32_675
  let c1_i32_681 : BitVec 32 := 1#32
  let v768 : BitVec 32 := Scalar.subi v753 c1_i32_681
  let v769 : BitVec 32 := Scalar.select v767 v768 v753
  let c8_i32_696 : BitVec 32 := 8#32
  let v781 : BitVec 32 := Scalar.muli v769 c8_i32_696
  let v782 : BitVec 32 := Scalar.addi c0_i32_697 v781
  let c2_i32_682 : BitVec 32 := 2#32
  let v770 : BitVec 32 := Scalar.xori v10 c2_i32_682
  let c2_i32_683 : BitVec 32 := 2#32
  let c0_i32_684 : BitVec 32 := 0#32
  let v771 : BitVec 1 := Scalar.cmpi .eq c2_i32_683 c0_i32_684
  let c1_i32_685 : BitVec 32 := 1#32
  let v772 : BitVec 32 := Scalar.select v771 c1_i32_685 c2_i32_683
  let v773 : BitVec 32 := Scalar.remsi v770 v772
  let c0_i32_687 : BitVec 32 := 0#32
  let v775 : BitVec 1 := Scalar.cmpi .slt v773 c0_i32_687
  let c0_i32_688 : BitVec 32 := 0#32
  let v776 : BitVec 1 := Scalar.cmpi .slt v772 c0_i32_688
  let v777 : BitVec 1 := Scalar.xori v775 v776
  let c0_i32_686 : BitVec 32 := 0#32
  let v774 : BitVec 1 := Scalar.cmpi .ne v773 c0_i32_686
  let v778 : BitVec 1 := Scalar.andi v777 v774
  let v779 : BitVec 32 := Scalar.addi v773 v772
  let v780 : BitVec 32 := Scalar.select v778 v779 v773
  let c4_i32_698 : BitVec 32 := 4#32
  let v783 : BitVec 32 := Scalar.muli v780 c4_i32_698
  let v784 : BitVec 32 := Scalar.addi v782 v783
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_699 : BitVec 32 := 1#32
  let v785 : BitVec 32 := Scalar.muli v8 c1_i32_699
  let v786 : BitVec 32 := Scalar.addi v784 v785
  v786.toNat
def k0_dev9 (d0 : Dev nD) : Nat :=
  let c0_i32_729 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_706 : BitVec 32 := 3#32
  let v795 : BitVec 32 := Scalar.xori v10 c3_i32_706
  let c0_i32_708 : BitVec 32 := 0#32
  let v797 : BitVec 1 := Scalar.cmpi .sgt v795 c0_i32_708
  let v798 : BitVec 32 := Scalar.extui v797
  let c0_i32_709 : BitVec 32 := 0#32
  let v799 : BitVec 1 := Scalar.cmpi .slt v795 c0_i32_709
  let v800 : BitVec 32 := Scalar.extui v799
  let v801 : BitVec 32 := Scalar.subi v798 v800
  let c2_i32_707 : BitVec 32 := 2#32
  let c0_i32_710 : BitVec 32 := 0#32
  let v802 : BitVec 1 := Scalar.cmpi .sgt c2_i32_707 c0_i32_710
  let v803 : BitVec 32 := Scalar.extui v802
  let c0_i32_711 : BitVec 32 := 0#32
  let v804 : BitVec 1 := Scalar.cmpi .slt c2_i32_707 c0_i32_711
  let v805 : BitVec 32 := Scalar.extui v804
  let v806 : BitVec 32 := Scalar.subi v803 v805
  let v807 : BitVec 1 := Scalar.cmpi .ne v801 v806
  let v808 : BitVec 32 := Scalar.remsi v795 c2_i32_707
  let c0_i32_712 : BitVec 32 := 0#32
  let v809 : BitVec 1 := Scalar.cmpi .ne v808 c0_i32_712
  let v810 : BitVec 1 := Scalar.andi v807 v809
  let v796 : BitVec 32 := Scalar.divsi v795 c2_i32_707
  let c1_i32_713 : BitVec 32 := 1#32
  let v811 : BitVec 32 := Scalar.subi v796 c1_i32_713
  let v812 : BitVec 32 := Scalar.select v810 v811 v796
  let c8_i32_728 : BitVec 32 := 8#32
  let v824 : BitVec 32 := Scalar.muli v812 c8_i32_728
  let v825 : BitVec 32 := Scalar.addi c0_i32_729 v824
  let c3_i32_714 : BitVec 32 := 3#32
  let v813 : BitVec 32 := Scalar.xori v10 c3_i32_714
  let c2_i32_715 : BitVec 32 := 2#32
  let c0_i32_716 : BitVec 32 := 0#32
  let v814 : BitVec 1 := Scalar.cmpi .eq c2_i32_715 c0_i32_716
  let c1_i32_717 : BitVec 32 := 1#32
  let v815 : BitVec 32 := Scalar.select v814 c1_i32_717 c2_i32_715
  let v816 : BitVec 32 := Scalar.remsi v813 v815
  let c0_i32_719 : BitVec 32 := 0#32
  let v818 : BitVec 1 := Scalar.cmpi .slt v816 c0_i32_719
  let c0_i32_720 : BitVec 32 := 0#32
  let v819 : BitVec 1 := Scalar.cmpi .slt v815 c0_i32_720
  let v820 : BitVec 1 := Scalar.xori v818 v819
  let c0_i32_718 : BitVec 32 := 0#32
  let v817 : BitVec 1 := Scalar.cmpi .ne v816 c0_i32_718
  let v821 : BitVec 1 := Scalar.andi v820 v817
  let v822 : BitVec 32 := Scalar.addi v816 v815
  let v823 : BitVec 32 := Scalar.select v821 v822 v816
  let c4_i32_730 : BitVec 32 := 4#32
  let v826 : BitVec 32 := Scalar.muli v823 c4_i32_730
  let v827 : BitVec 32 := Scalar.addi v825 v826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v828 : BitVec 32 := Scalar.muli v8 c1_i32_731
  let v829 : BitVec 32 := Scalar.addi v827 v828
  v829.toNat
def k0_dev10 (d0 : Dev nD) : Nat :=
  let c0_i32_1058 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_1035 : BitVec 32 := 1#32
  let v1160 : BitVec 32 := Scalar.xori v10 c1_i32_1035
  let c0_i32_1037 : BitVec 32 := 0#32
  let v1162 : BitVec 1 := Scalar.cmpi .sgt v1160 c0_i32_1037
  let v1163 : BitVec 32 := Scalar.extui v1162
  let c0_i32_1038 : BitVec 32 := 0#32
  let v1164 : BitVec 1 := Scalar.cmpi .slt v1160 c0_i32_1038
  let v1165 : BitVec 32 := Scalar.extui v1164
  let v1166 : BitVec 32 := Scalar.subi v1163 v1165
  let c2_i32_1036 : BitVec 32 := 2#32
  let c0_i32_1039 : BitVec 32 := 0#32
  let v1167 : BitVec 1 := Scalar.cmpi .sgt c2_i32_1036 c0_i32_1039
  let v1168 : BitVec 32 := Scalar.extui v1167
  let c0_i32_1040 : BitVec 32 := 0#32
  let v1169 : BitVec 1 := Scalar.cmpi .slt c2_i32_1036 c0_i32_1040
  let v1170 : BitVec 32 := Scalar.extui v1169
  let v1171 : BitVec 32 := Scalar.subi v1168 v1170
  let v1172 : BitVec 1 := Scalar.cmpi .ne v1166 v1171
  let v1173 : BitVec 32 := Scalar.remsi v1160 c2_i32_1036
  let c0_i32_1041 : BitVec 32 := 0#32
  let v1174 : BitVec 1 := Scalar.cmpi .ne v1173 c0_i32_1041
  let v1175 : BitVec 1 := Scalar.andi v1172 v1174
  let v1161 : BitVec 32 := Scalar.divsi v1160 c2_i32_1036
  let c1_i32_1042 : BitVec 32 := 1#32
  let v1176 : BitVec 32 := Scalar.subi v1161 c1_i32_1042
  let v1177 : BitVec 32 := Scalar.select v1175 v1176 v1161
  let c8_i32_1057 : BitVec 32 := 8#32
  let v1189 : BitVec 32 := Scalar.muli v1177 c8_i32_1057
  let v1190 : BitVec 32 := Scalar.addi c0_i32_1058 v1189
  let c1_i32_1043 : BitVec 32 := 1#32
  let v1178 : BitVec 32 := Scalar.xori v10 c1_i32_1043
  let c2_i32_1044 : BitVec 32 := 2#32
  let c0_i32_1045 : BitVec 32 := 0#32
  let v1179 : BitVec 1 := Scalar.cmpi .eq c2_i32_1044 c0_i32_1045
  let c1_i32_1046 : BitVec 32 := 1#32
  let v1180 : BitVec 32 := Scalar.select v1179 c1_i32_1046 c2_i32_1044
  let v1181 : BitVec 32 := Scalar.remsi v1178 v1180
  let c0_i32_1048 : BitVec 32 := 0#32
  let v1183 : BitVec 1 := Scalar.cmpi .slt v1181 c0_i32_1048
  let c0_i32_1049 : BitVec 32 := 0#32
  let v1184 : BitVec 1 := Scalar.cmpi .slt v1180 c0_i32_1049
  let v1185 : BitVec 1 := Scalar.xori v1183 v1184
  let c0_i32_1047 : BitVec 32 := 0#32
  let v1182 : BitVec 1 := Scalar.cmpi .ne v1181 c0_i32_1047
  let v1186 : BitVec 1 := Scalar.andi v1185 v1182
  let v1187 : BitVec 32 := Scalar.addi v1181 v1180
  let v1188 : BitVec 32 := Scalar.select v1186 v1187 v1181
  let c4_i32_1059 : BitVec 32 := 4#32
  let v1191 : BitVec 32 := Scalar.muli v1188 c4_i32_1059
  let v1192 : BitVec 32 := Scalar.addi v1190 v1191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1060 : BitVec 32 := 1#32
  let v1193 : BitVec 32 := Scalar.muli v8 c1_i32_1060
  let v1194 : BitVec 32 := Scalar.addi v1192 v1193
  v1194.toNat
def k0_dev11 (d0 : Dev nD) : Nat :=
  let c0_i32_1090 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_1067 : BitVec 32 := 2#32
  let v1203 : BitVec 32 := Scalar.xori v10 c2_i32_1067
  let c0_i32_1069 : BitVec 32 := 0#32
  let v1205 : BitVec 1 := Scalar.cmpi .sgt v1203 c0_i32_1069
  let v1206 : BitVec 32 := Scalar.extui v1205
  let c0_i32_1070 : BitVec 32 := 0#32
  let v1207 : BitVec 1 := Scalar.cmpi .slt v1203 c0_i32_1070
  let v1208 : BitVec 32 := Scalar.extui v1207
  let v1209 : BitVec 32 := Scalar.subi v1206 v1208
  let c2_i32_1068 : BitVec 32 := 2#32
  let c0_i32_1071 : BitVec 32 := 0#32
  let v1210 : BitVec 1 := Scalar.cmpi .sgt c2_i32_1068 c0_i32_1071
  let v1211 : BitVec 32 := Scalar.extui v1210
  let c0_i32_1072 : BitVec 32 := 0#32
  let v1212 : BitVec 1 := Scalar.cmpi .slt c2_i32_1068 c0_i32_1072
  let v1213 : BitVec 32 := Scalar.extui v1212
  let v1214 : BitVec 32 := Scalar.subi v1211 v1213
  let v1215 : BitVec 1 := Scalar.cmpi .ne v1209 v1214
  let v1216 : BitVec 32 := Scalar.remsi v1203 c2_i32_1068
  let c0_i32_1073 : BitVec 32 := 0#32
  let v1217 : BitVec 1 := Scalar.cmpi .ne v1216 c0_i32_1073
  let v1218 : BitVec 1 := Scalar.andi v1215 v1217
  let v1204 : BitVec 32 := Scalar.divsi v1203 c2_i32_1068
  let c1_i32_1074 : BitVec 32 := 1#32
  let v1219 : BitVec 32 := Scalar.subi v1204 c1_i32_1074
  let v1220 : BitVec 32 := Scalar.select v1218 v1219 v1204
  let c8_i32_1089 : BitVec 32 := 8#32
  let v1232 : BitVec 32 := Scalar.muli v1220 c8_i32_1089
  let v1233 : BitVec 32 := Scalar.addi c0_i32_1090 v1232
  let c2_i32_1075 : BitVec 32 := 2#32
  let v1221 : BitVec 32 := Scalar.xori v10 c2_i32_1075
  let c2_i32_1076 : BitVec 32 := 2#32
  let c0_i32_1077 : BitVec 32 := 0#32
  let v1222 : BitVec 1 := Scalar.cmpi .eq c2_i32_1076 c0_i32_1077
  let c1_i32_1078 : BitVec 32 := 1#32
  let v1223 : BitVec 32 := Scalar.select v1222 c1_i32_1078 c2_i32_1076
  let v1224 : BitVec 32 := Scalar.remsi v1221 v1223
  let c0_i32_1080 : BitVec 32 := 0#32
  let v1226 : BitVec 1 := Scalar.cmpi .slt v1224 c0_i32_1080
  let c0_i32_1081 : BitVec 32 := 0#32
  let v1227 : BitVec 1 := Scalar.cmpi .slt v1223 c0_i32_1081
  let v1228 : BitVec 1 := Scalar.xori v1226 v1227
  let c0_i32_1079 : BitVec 32 := 0#32
  let v1225 : BitVec 1 := Scalar.cmpi .ne v1224 c0_i32_1079
  let v1229 : BitVec 1 := Scalar.andi v1228 v1225
  let v1230 : BitVec 32 := Scalar.addi v1224 v1223
  let v1231 : BitVec 32 := Scalar.select v1229 v1230 v1224
  let c4_i32_1091 : BitVec 32 := 4#32
  let v1234 : BitVec 32 := Scalar.muli v1231 c4_i32_1091
  let v1235 : BitVec 32 := Scalar.addi v1233 v1234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1092 : BitVec 32 := 1#32
  let v1236 : BitVec 32 := Scalar.muli v8 c1_i32_1092
  let v1237 : BitVec 32 := Scalar.addi v1235 v1236
  v1237.toNat
def k0_dev12 (d0 : Dev nD) : Nat :=
  let c0_i32_1122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_1099 : BitVec 32 := 3#32
  let v1246 : BitVec 32 := Scalar.xori v10 c3_i32_1099
  let c0_i32_1101 : BitVec 32 := 0#32
  let v1248 : BitVec 1 := Scalar.cmpi .sgt v1246 c0_i32_1101
  let v1249 : BitVec 32 := Scalar.extui v1248
  let c0_i32_1102 : BitVec 32 := 0#32
  let v1250 : BitVec 1 := Scalar.cmpi .slt v1246 c0_i32_1102
  let v1251 : BitVec 32 := Scalar.extui v1250
  let v1252 : BitVec 32 := Scalar.subi v1249 v1251
  let c2_i32_1100 : BitVec 32 := 2#32
  let c0_i32_1103 : BitVec 32 := 0#32
  let v1253 : BitVec 1 := Scalar.cmpi .sgt c2_i32_1100 c0_i32_1103
  let v1254 : BitVec 32 := Scalar.extui v1253
  let c0_i32_1104 : BitVec 32 := 0#32
  let v1255 : BitVec 1 := Scalar.cmpi .slt c2_i32_1100 c0_i32_1104
  let v1256 : BitVec 32 := Scalar.extui v1255
  let v1257 : BitVec 32 := Scalar.subi v1254 v1256
  let v1258 : BitVec 1 := Scalar.cmpi .ne v1252 v1257
  let v1259 : BitVec 32 := Scalar.remsi v1246 c2_i32_1100
  let c0_i32_1105 : BitVec 32 := 0#32
  let v1260 : BitVec 1 := Scalar.cmpi .ne v1259 c0_i32_1105
  let v1261 : BitVec 1 := Scalar.andi v1258 v1260
  let v1247 : BitVec 32 := Scalar.divsi v1246 c2_i32_1100
  let c1_i32_1106 : BitVec 32 := 1#32
  let v1262 : BitVec 32 := Scalar.subi v1247 c1_i32_1106
  let v1263 : BitVec 32 := Scalar.select v1261 v1262 v1247
  let c8_i32_1121 : BitVec 32 := 8#32
  let v1275 : BitVec 32 := Scalar.muli v1263 c8_i32_1121
  let v1276 : BitVec 32 := Scalar.addi c0_i32_1122 v1275
  let c3_i32_1107 : BitVec 32 := 3#32
  let v1264 : BitVec 32 := Scalar.xori v10 c3_i32_1107
  let c2_i32_1108 : BitVec 32 := 2#32
  let c0_i32_1109 : BitVec 32 := 0#32
  let v1265 : BitVec 1 := Scalar.cmpi .eq c2_i32_1108 c0_i32_1109
  let c1_i32_1110 : BitVec 32 := 1#32
  let v1266 : BitVec 32 := Scalar.select v1265 c1_i32_1110 c2_i32_1108
  let v1267 : BitVec 32 := Scalar.remsi v1264 v1266
  let c0_i32_1112 : BitVec 32 := 0#32
  let v1269 : BitVec 1 := Scalar.cmpi .slt v1267 c0_i32_1112
  let c0_i32_1113 : BitVec 32 := 0#32
  let v1270 : BitVec 1 := Scalar.cmpi .slt v1266 c0_i32_1113
  let v1271 : BitVec 1 := Scalar.xori v1269 v1270
  let c0_i32_1111 : BitVec 32 := 0#32
  let v1268 : BitVec 1 := Scalar.cmpi .ne v1267 c0_i32_1111
  let v1272 : BitVec 1 := Scalar.andi v1271 v1268
  let v1273 : BitVec 32 := Scalar.addi v1267 v1266
  let v1274 : BitVec 32 := Scalar.select v1272 v1273 v1267
  let c4_i32_1123 : BitVec 32 := 4#32
  let v1277 : BitVec 32 := Scalar.muli v1274 c4_i32_1123
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1124 : BitVec 32 := 1#32
  let v1279 : BitVec 32 := Scalar.muli v8 c1_i32_1124
  let v1280 : BitVec 32 := Scalar.addi v1278 v1279
  v1280.toNat
def k0_dev13 (d0 : Dev nD) : Nat :=
  let c0_i32_1387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1386 : BitVec 32 := 8#32
  let v1568 : BitVec 32 := Scalar.muli v2 c8_i32_1386
  let v1569 : BitVec 32 := Scalar.addi c0_i32_1387 v1568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1388 : BitVec 32 := 4#32
  let v1570 : BitVec 32 := Scalar.muli v5 c4_i32_1388
  let v1571 : BitVec 32 := Scalar.addi v1569 v1570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v1557 : BitVec 32 := Scalar.addi v8 c1_i32_1372
  let c4_i32_1373 : BitVec 32 := 4#32
  let c0_i32_1374 : BitVec 32 := 0#32
  let v1558 : BitVec 1 := Scalar.cmpi .eq c4_i32_1373 c0_i32_1374
  let c1_i32_1375 : BitVec 32 := 1#32
  let v1559 : BitVec 32 := Scalar.select v1558 c1_i32_1375 c4_i32_1373
  let v1560 : BitVec 32 := Scalar.remsi v1557 v1559
  let c0_i32_1377 : BitVec 32 := 0#32
  let v1562 : BitVec 1 := Scalar.cmpi .slt v1560 c0_i32_1377
  let c0_i32_1378 : BitVec 32 := 0#32
  let v1563 : BitVec 1 := Scalar.cmpi .slt v1559 c0_i32_1378
  let v1564 : BitVec 1 := Scalar.xori v1562 v1563
  let c0_i32_1376 : BitVec 32 := 0#32
  let v1561 : BitVec 1 := Scalar.cmpi .ne v1560 c0_i32_1376
  let v1565 : BitVec 1 := Scalar.andi v1564 v1561
  let v1566 : BitVec 32 := Scalar.addi v1560 v1559
  let v1567 : BitVec 32 := Scalar.select v1565 v1566 v1560
  let c1_i32_1389 : BitVec 32 := 1#32
  let v1572 : BitVec 32 := Scalar.muli v1567 c1_i32_1389
  let v1573 : BitVec 32 := Scalar.addi v1571 v1572
  v1573.toNat
def k0_dev14 (d0 : Dev nD) : Nat :=
  let c0_i32_1411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1410 : BitVec 32 := 8#32
  let v1593 : BitVec 32 := Scalar.muli v2 c8_i32_1410
  let v1594 : BitVec 32 := Scalar.addi c0_i32_1411 v1593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1412 : BitVec 32 := 4#32
  let v1595 : BitVec 32 := Scalar.muli v5 c4_i32_1412
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1396 : BitVec 32 := 2#32
  let v1582 : BitVec 32 := Scalar.addi v8 c2_i32_1396
  let c4_i32_1397 : BitVec 32 := 4#32
  let c0_i32_1398 : BitVec 32 := 0#32
  let v1583 : BitVec 1 := Scalar.cmpi .eq c4_i32_1397 c0_i32_1398
  let c1_i32_1399 : BitVec 32 := 1#32
  let v1584 : BitVec 32 := Scalar.select v1583 c1_i32_1399 c4_i32_1397
  let v1585 : BitVec 32 := Scalar.remsi v1582 v1584
  let c0_i32_1401 : BitVec 32 := 0#32
  let v1587 : BitVec 1 := Scalar.cmpi .slt v1585 c0_i32_1401
  let c0_i32_1402 : BitVec 32 := 0#32
  let v1588 : BitVec 1 := Scalar.cmpi .slt v1584 c0_i32_1402
  let v1589 : BitVec 1 := Scalar.xori v1587 v1588
  let c0_i32_1400 : BitVec 32 := 0#32
  let v1586 : BitVec 1 := Scalar.cmpi .ne v1585 c0_i32_1400
  let v1590 : BitVec 1 := Scalar.andi v1589 v1586
  let v1591 : BitVec 32 := Scalar.addi v1585 v1584
  let v1592 : BitVec 32 := Scalar.select v1590 v1591 v1585
  let c1_i32_1413 : BitVec 32 := 1#32
  let v1597 : BitVec 32 := Scalar.muli v1592 c1_i32_1413
  let v1598 : BitVec 32 := Scalar.addi v1596 v1597
  v1598.toNat
def k0_dev15 (d0 : Dev nD) : Nat :=
  let c0_i32_1435 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1434 : BitVec 32 := 8#32
  let v1618 : BitVec 32 := Scalar.muli v2 c8_i32_1434
  let v1619 : BitVec 32 := Scalar.addi c0_i32_1435 v1618
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1436 : BitVec 32 := 4#32
  let v1620 : BitVec 32 := Scalar.muli v5 c4_i32_1436
  let v1621 : BitVec 32 := Scalar.addi v1619 v1620
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1420 : BitVec 32 := 3#32
  let v1607 : BitVec 32 := Scalar.addi v8 c3_i32_1420
  let c4_i32_1421 : BitVec 32 := 4#32
  let c0_i32_1422 : BitVec 32 := 0#32
  let v1608 : BitVec 1 := Scalar.cmpi .eq c4_i32_1421 c0_i32_1422
  let c1_i32_1423 : BitVec 32 := 1#32
  let v1609 : BitVec 32 := Scalar.select v1608 c1_i32_1423 c4_i32_1421
  let v1610 : BitVec 32 := Scalar.remsi v1607 v1609
  let c0_i32_1425 : BitVec 32 := 0#32
  let v1612 : BitVec 1 := Scalar.cmpi .slt v1610 c0_i32_1425
  let c0_i32_1426 : BitVec 32 := 0#32
  let v1613 : BitVec 1 := Scalar.cmpi .slt v1609 c0_i32_1426
  let v1614 : BitVec 1 := Scalar.xori v1612 v1613
  let c0_i32_1424 : BitVec 32 := 0#32
  let v1611 : BitVec 1 := Scalar.cmpi .ne v1610 c0_i32_1424
  let v1615 : BitVec 1 := Scalar.andi v1614 v1611
  let v1616 : BitVec 32 := Scalar.addi v1610 v1609
  let v1617 : BitVec 32 := Scalar.select v1615 v1616 v1610
  let c1_i32_1437 : BitVec 32 := 1#32
  let v1622 : BitVec 32 := Scalar.muli v1617 c1_i32_1437
  let v1623 : BitVec 32 := Scalar.addi v1621 v1622
  v1623.toNat
def k0_dev16 (d0 : Dev nD) : Nat :=
  let c0_i32_1700 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1699 : BitVec 32 := 8#32
  let v1911 : BitVec 32 := Scalar.muli v2 c8_i32_1699
  let v1912 : BitVec 32 := Scalar.addi c0_i32_1700 v1911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1701 : BitVec 32 := 4#32
  let v1913 : BitVec 32 := Scalar.muli v5 c4_i32_1701
  let v1914 : BitVec 32 := Scalar.addi v1912 v1913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v1900 : BitVec 32 := Scalar.addi v8 c1_i32_1685
  let c4_i32_1686 : BitVec 32 := 4#32
  let c0_i32_1687 : BitVec 32 := 0#32
  let v1901 : BitVec 1 := Scalar.cmpi .eq c4_i32_1686 c0_i32_1687
  let c1_i32_1688 : BitVec 32 := 1#32
  let v1902 : BitVec 32 := Scalar.select v1901 c1_i32_1688 c4_i32_1686
  let v1903 : BitVec 32 := Scalar.remsi v1900 v1902
  let c0_i32_1690 : BitVec 32 := 0#32
  let v1905 : BitVec 1 := Scalar.cmpi .slt v1903 c0_i32_1690
  let c0_i32_1691 : BitVec 32 := 0#32
  let v1906 : BitVec 1 := Scalar.cmpi .slt v1902 c0_i32_1691
  let v1907 : BitVec 1 := Scalar.xori v1905 v1906
  let c0_i32_1689 : BitVec 32 := 0#32
  let v1904 : BitVec 1 := Scalar.cmpi .ne v1903 c0_i32_1689
  let v1908 : BitVec 1 := Scalar.andi v1907 v1904
  let v1909 : BitVec 32 := Scalar.addi v1903 v1902
  let v1910 : BitVec 32 := Scalar.select v1908 v1909 v1903
  let c1_i32_1702 : BitVec 32 := 1#32
  let v1915 : BitVec 32 := Scalar.muli v1910 c1_i32_1702
  let v1916 : BitVec 32 := Scalar.addi v1914 v1915
  v1916.toNat
def k0_dev17 (d0 : Dev nD) : Nat :=
  let c0_i32_1724 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1723 : BitVec 32 := 8#32
  let v1936 : BitVec 32 := Scalar.muli v2 c8_i32_1723
  let v1937 : BitVec 32 := Scalar.addi c0_i32_1724 v1936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1725 : BitVec 32 := 4#32
  let v1938 : BitVec 32 := Scalar.muli v5 c4_i32_1725
  let v1939 : BitVec 32 := Scalar.addi v1937 v1938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1709 : BitVec 32 := 2#32
  let v1925 : BitVec 32 := Scalar.addi v8 c2_i32_1709
  let c4_i32_1710 : BitVec 32 := 4#32
  let c0_i32_1711 : BitVec 32 := 0#32
  let v1926 : BitVec 1 := Scalar.cmpi .eq c4_i32_1710 c0_i32_1711
  let c1_i32_1712 : BitVec 32 := 1#32
  let v1927 : BitVec 32 := Scalar.select v1926 c1_i32_1712 c4_i32_1710
  let v1928 : BitVec 32 := Scalar.remsi v1925 v1927
  let c0_i32_1714 : BitVec 32 := 0#32
  let v1930 : BitVec 1 := Scalar.cmpi .slt v1928 c0_i32_1714
  let c0_i32_1715 : BitVec 32 := 0#32
  let v1931 : BitVec 1 := Scalar.cmpi .slt v1927 c0_i32_1715
  let v1932 : BitVec 1 := Scalar.xori v1930 v1931
  let c0_i32_1713 : BitVec 32 := 0#32
  let v1929 : BitVec 1 := Scalar.cmpi .ne v1928 c0_i32_1713
  let v1933 : BitVec 1 := Scalar.andi v1932 v1929
  let v1934 : BitVec 32 := Scalar.addi v1928 v1927
  let v1935 : BitVec 32 := Scalar.select v1933 v1934 v1928
  let c1_i32_1726 : BitVec 32 := 1#32
  let v1940 : BitVec 32 := Scalar.muli v1935 c1_i32_1726
  let v1941 : BitVec 32 := Scalar.addi v1939 v1940
  v1941.toNat
def k0_dev18 (d0 : Dev nD) : Nat :=
  let c0_i32_1748 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1747 : BitVec 32 := 8#32
  let v1961 : BitVec 32 := Scalar.muli v2 c8_i32_1747
  let v1962 : BitVec 32 := Scalar.addi c0_i32_1748 v1961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1749 : BitVec 32 := 4#32
  let v1963 : BitVec 32 := Scalar.muli v5 c4_i32_1749
  let v1964 : BitVec 32 := Scalar.addi v1962 v1963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1733 : BitVec 32 := 3#32
  let v1950 : BitVec 32 := Scalar.addi v8 c3_i32_1733
  let c4_i32_1734 : BitVec 32 := 4#32
  let c0_i32_1735 : BitVec 32 := 0#32
  let v1951 : BitVec 1 := Scalar.cmpi .eq c4_i32_1734 c0_i32_1735
  let c1_i32_1736 : BitVec 32 := 1#32
  let v1952 : BitVec 32 := Scalar.select v1951 c1_i32_1736 c4_i32_1734
  let v1953 : BitVec 32 := Scalar.remsi v1950 v1952
  let c0_i32_1738 : BitVec 32 := 0#32
  let v1955 : BitVec 1 := Scalar.cmpi .slt v1953 c0_i32_1738
  let c0_i32_1739 : BitVec 32 := 0#32
  let v1956 : BitVec 1 := Scalar.cmpi .slt v1952 c0_i32_1739
  let v1957 : BitVec 1 := Scalar.xori v1955 v1956
  let c0_i32_1737 : BitVec 32 := 0#32
  let v1954 : BitVec 1 := Scalar.cmpi .ne v1953 c0_i32_1737
  let v1958 : BitVec 1 := Scalar.andi v1957 v1954
  let v1959 : BitVec 32 := Scalar.addi v1953 v1952
  let v1960 : BitVec 32 := Scalar.select v1958 v1959 v1953
  let c1_i32_1750 : BitVec 32 := 1#32
  let v1965 : BitVec 32 := Scalar.muli v1960 c1_i32_1750
  let v1966 : BitVec 32 := Scalar.addi v1964 v1965
  v1966.toNat
abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x32x16x128 : Shape := ⟨5, ![32, 256, 32, 16, 128]⟩
abbrev S32x16x1x256x32 : Shape := ⟨5, ![32, 16, 1, 256, 32]⟩
abbrev S256 : Shape := ⟨1, ![256]⟩
abbrev S1x256 : Shape := ⟨2, ![1, 256]⟩
abbrev S32x1 : Shape := ⟨2, ![32, 1]⟩
abbrev S32x1x1x256x1 : Shape := ⟨5, ![32, 1, 1, 256, 1]⟩
abbrev S32x16x1 : Shape := ⟨3, ![32, 16, 1]⟩
abbrev S32x16x1x1x1 : Shape := ⟨5, ![32, 16, 1, 1, 1]⟩
abbrev S32x16x128x1 : Shape := ⟨4, ![32, 16, 128, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S1024x32x16x128, .f32⟩
  | .hbm, ⟨2, _⟩ => ⟨S1024x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S_, .i32⟩
  | .hbm, ⟨15, _⟩ => ⟨S32x256, .i32⟩
  | .hbm, ⟨16, _⟩ => ⟨S32x256, .i1⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S32x256, .i32⟩
  | .hbm, ⟨21, _⟩ => ⟨S32x256x1, .i32⟩
  | .hbm, ⟨22, _⟩ => ⟨S32x256x32x16x128, .f32⟩
  | .hbm, ⟨23, _⟩ => ⟨S32x16x1x256x32, .f32⟩
  | .hbm, ⟨24, _⟩ => ⟨S_, .f32⟩
  | .hbm, ⟨25, _⟩ => ⟨S32x16x1x256x32, .f32⟩
  | .hbm, ⟨26, _⟩ => ⟨S32x16x1x256x32, .f32⟩
  | .hbm, ⟨27, _⟩ => ⟨S256, .i32⟩
  | .hbm, ⟨28, _⟩ => ⟨S1x256, .i32⟩
  | .hbm, ⟨29, _⟩ => ⟨S32x1, .i32⟩
  | .hbm, ⟨30, _⟩ => ⟨S32x256, .i32⟩
  | .hbm, ⟨31, _⟩ => ⟨S32x256, .i32⟩
  | .hbm, ⟨32, _⟩ => ⟨S32x256, .i1⟩
  | .hbm, ⟨33, _⟩ => ⟨S32x1x1x256x1, .i1⟩
  | .hbm, ⟨34, _⟩ => ⟨S_, .f32⟩
  | .hbm, ⟨35, _⟩ => ⟨S_, .f32⟩
  | .hbm, ⟨36, _⟩ => ⟨S32x16x1x256x32, .i1⟩
  | .hbm, ⟨37, _⟩ => ⟨S32x16x1x256x32, .f32⟩
  | .hbm, ⟨38, _⟩ => ⟨S32x16x1x256x32, .f32⟩
  | .hbm, ⟨39, _⟩ => ⟨S_, .f32⟩
  | .hbm, ⟨40, _⟩ => ⟨S32x16x1, .f32⟩
  | .hbm, ⟨41, _⟩ => ⟨S32x16x1x1x1, .f32⟩
  | .hbm, ⟨42, _⟩ => ⟨S32x16x1x256x32, .f32⟩
  | .hbm, ⟨43, _⟩ => ⟨S32x16x1x256x32, .f32⟩
  | .hbm, ⟨44, _⟩ => ⟨S32x16x1x256x32, .f32⟩
  | .hbm, ⟨45, _⟩ => ⟨S_, .f32⟩
  | .hbm, ⟨46, _⟩ => ⟨S32x16x1, .f32⟩
  | .hbm, ⟨47, _⟩ => ⟨S32x16x1x1x1, .f32⟩
  | .hbm, ⟨48, _⟩ => ⟨S32x16x1x256x32, .f32⟩
  | .hbm, ⟨49, _⟩ => ⟨S32x16x1x256x32, .f32⟩
  | .hbm, ⟨50, _⟩ => ⟨S32x16x128x1, .f32⟩
  | .hbm, ⟨51, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.IHeld.lean ====
/-
Buffers held by a set of a memref's indices together with what is known of the contents, and the loads and stores that
go through them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Pointwise
public import Idealize.ShloMosaic.Lib.Tactic

@[expose] public section

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, this kernel's rounds (duties `Fin 6`), the transfers' counters -/

abbrev UB : Type := URounds (GSem nD τ sig) (Fin 6)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

instance ER_landsIn : (ER (F := F)).LandsIn (upEmb : UEmb _ (MT nD τ sig Unit (Elt F) ℕ UU ℕ)) := by
  unfold ER; infer_instance

abbrev 𝒱₀ : Variants := Variants.none

/-- The weakest precondition every statement here is about. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A buffer held by some of a memref's indices -/

/-- Device `c` holds the elements of `M` at the indices `S`, at the share `q`, and what the memref reads satisfies `P`. -/
def Held {s : Shape} {e : EltTy} (M : Memref sig .tc .vmem s e) (c : Dev nD) (S : Finset s.Idx) (q : PosShare TreeShare)
    (P : Vec F s e → Prop) : sProp 𝕄 :=
  iprop(∃ f : Buf (Elt F) (M.view.loc (c : Thread nD τ)), (M.view.loc (c : Thread nD τ) ↦[M.view.setOn S]{q} f)
    ∗ ⌜P (M.view.read (Elt F) f)⌝)

instance held_storable {s : Shape} {e : EltTy} (M : Memref sig .tc .vmem s e) (c : Dev nD) (S : Finset s.Idx) (q : PosShare TreeShare)
    (P : Vec F s e → Prop) : BI.Storable (upEmb : UEmb _ 𝕄) (Held (F := F) M c S q P) := by unfold Held; infer_instance

theorem held_mono {s : Shape} {e : EltTy} {M : Memref sig .tc .vmem s e} {c : Dev nD} {S : Finset s.Idx}
    {q : PosShare TreeShare} {P P' : Vec F s e → Prop} (h : ∀ t, P t → P' t) : Held M c S q P ⊢ Held M c S q P' := by
  unfold Held
  iintro ⟨%f, H, %hf⟩
  iexists f
  isplitl [H]; · iexact H
  ipureintro; exact h _ hf

/-- A load of a box inside the held indices, of contents the held facts determine. -/
theorem held_load {s : Shape} {e : EltTy} {M : Memref sig .tc .vmem s e} {c : Dev nD} {S : Finset s.Idx}
    {q : PosShare TreeShare} {P : Vec F s e → Prop} {r : LoadRect s} {hl : M.view.LoadsAt r} {α : Type} {Q : α → sProp 𝕄} {k : (r.shape.Idx → Elt F e) → Prog (TpuEff nD τ sig (Elt F) Λ₀ .tc) α}
    (v : r.shape.Idx → Elt F e) (hS : r.set ⊆ S) (hv : ∀ t, P t → (fun j => t (r.idx j)) = v) :
    Held M c S q P ⊢ iprop((Held M c S q P -∗ WP c (k v) Q) -∗ WP c (.op (.load M r hl) k) Q) := by
  unfold Held
  iintro ⟨%f, H, %hf⟩ Hk
  have hS' : M.view.setOn r.set ⊆ M.view.setOn S := Finset.map_subset_map.mpr hS
  iapply (wp_load 𝒱₀ (c : Thread nD τ) none Set.univ (m := M) (r := r) (hl := hl) hS') $$ H
  iintro H
  rw [show M.view.readAt (Elt F) r f = v from hv _ hf]
  iapply Hk
  iexists f
  isplitl [H]; · iexact H
  ipureintro; exact hf

/-- A load whose value is not used, and a store into the same box. -/
theorem held_put {s : Shape} {e : EltTy} {M : Memref sig .tc .vmem s e} {c : Dev nD} {S : Finset s.Idx} {P P' : Vec F s e → Prop}
    {r : Rect s} {hl : M.view.LoadsAt r.toLoadRect} {w : r.shape.Idx → Elt F e} {hx : (M.access r).Stores Finset.univ}
    {hm : Finset.univ = Finset.univ ∨ ∀ a, r.stride a = 1} {α : Type} {Q : α → sProp 𝕄}
    {k : PUnit → Prog (TpuEff nD τ sig (Elt F) Λ₀ .tc) α} (hS : r.toLoadRect.set ⊆ S)
    (hP : ∀ t t' : Vec F s e, P t → (∀ j, t' (r.toLoadRect.idx j) = w j) → (∀ i, i ∉ r.toLoadRect.set → t' i = t i) → P' t') :
    Held M c S fullShare P ⊢ iprop((Held M c S fullShare P' -∗ WP c (k ⟨⟩) Q)
      -∗ WP c (.op (.load M r.toLoadRect hl) fun _ => .op (.store M r w Finset.univ hx hm) k) Q) := by
  unfold Held
  iintro ⟨%f, H, %hf⟩ Hk
  have hS₀ : M.view.setOn r.toLoadRect.set ⊆ M.view.setOn S := Finset.map_subset_map.mpr hS
  iapply (wp_load 𝒱₀ (c : Thread nD τ) none Set.univ (m := M) (r := r.toLoadRect) (hl := hl) hS₀) $$ H
  iintro H
  have hS' : (M.access r).setOn Finset.univ ⊆ M.view.setOn S := by
    show (M.view.slice r).set ⊆ _
    rw [View.set_slice]; exact Finset.map_subset_map.mpr hS
  iapply (wp_store 𝒱₀ (c : Thread nD τ) none Set.univ (m := M) (r := r) (w := w) (hx := hx) (hm := hm) hS') $$ H
  iintro H
  iapply Hk
  iexists ((M.access r).write (Elt F) f w Finset.univ)
  isplitl [H]; · iexact H
  ipureintro
  refine hP _ _ hf (fun j => ?_) (fun i hi => ?_)
  · exact View.read_slice_write_emb (v := M.view) (Val := Elt F) r f w (M := Finset.univ) (x := j) (Finset.mem_univ _)
  · exact View.read_slice_write_of_not_mem (v := M.view) (Val := Elt F) r f w Finset.univ (by rw [Rect.map_emb_univ]; exact hi)

end Cert.KernelIdealPf

end
-- ==== Proof.ICommon.lean ====
/-
The exchange between the devices: who sends to whom, the cells, what each cell's payment hands over, what every device
owes and in which order it pays.
-/
module

public import proofs.«01_k».proof.Proof.IHeld

@[expose] public section

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The links

A device is `4 * q + z`: `q` names its (x, y) plane position, `z` its place along z. Links 0, 1, 2 go to the other three
`q` at the same `z`; links 3, 4, 5 to the other three `z` at the same `q`. -/

def nbv (c e : ℕ) : ℕ :=
  if e < 3 then 4 * ((c / 4) ^^^ (e + 1)) + c % 4 else 4 * (c / 4) + (c % 4 + (e - 2)) % 4
theorem nbv_lt : ∀ (c : Dev nD) (e : Fin 6), nbv c e < nD := by decide
/-- The device at the end of device `c`'s link `e`. -/
def nb (c : Dev nD) (e : Fin 6) : Dev nD := ⟨nbv c e, nbv_lt c e⟩
/-- The link that leads back. -/
def opp : Fin 6 → Fin 6 := ![0, 1, 2, 5, 4, 3]
theorem nb_opp (c : Dev nD) (e : Fin 6) : nb (nb c e) (opp e) = c := by revert c e; decide
theorem nb_opp' (c : Dev nD) (e : Fin 6) : nb (nb c (opp e)) e = c := by revert c e; decide
theorem opp_opp (e : Fin 6) : opp (opp e) = e := by revert e; decide

/-! ## The memrefs -/

abbrev qM : Memref sig .tc .vmem S32x1x16x128 .f32 := Memref.whole cc0_stg0_0
abbrev kH : Memref sig .tc .hbm S256x32x16x128 .f32 := Memref.whole main_arg1
abbrev vH : Memref sig .tc .hbm S256x32x16x128 .f32 := Memref.whole main_arg2
abbrev btM : Memref sig .tc .vmem S32x256 .i32 := Memref.whole cc0_stg1_0
abbrev lenM : Memref sig .tc .vmem S32 .i32 := Memref.whole cc0_stg2_0
abbrev outM : Memref sig .tc .vmem S32x1x16x128 .f32 := Memref.whole cc0_stg3_0
abbrev kM : Memref sig .tc .vmem S16x64x32x128 .f32 := Memref.whole cc0_scratch0
abbrev vM : Memref sig .tc .vmem S16x64x32x128 .f32 := Memref.whole cc0_scratch1
abbrev m1M : Memref sig .tc .vmem S2x9x32x128 .f32 := Memref.whole cc0_scratch2
abbrev r1M : Memref sig .tc .vmem S2x3x9x32x128 .f32 := Memref.whole cc0_scratch3
abbrev m2M : Memref sig .tc .vmem S2x9x32x128 .f32 := Memref.whole cc0_scratch4
abbrev r2M : Memref sig .tc .vmem S2x3x9x32x128 .f32 := Memref.whole cc0_scratch5

/-- The packed buffer a stage sends from, and the one it lands in. -/
def mineM (s : Fin 2) : Memref sig .tc .vmem S2x9x32x128 .f32 := match s with | 0 => m1M | 1 => m2M
def landM (s : Fin 2) : Memref sig .tc .vmem S2x3x9x32x128 .f32 := match s with | 0 => r1M | 1 => r2M
/-- The stage a link belongs to, and its number there. -/
def stg (e : Fin 6) : Fin 2 := ![0, 0, 0, 1, 1, 1] e
def num (e : Fin 6) : Fin 3 := ![0, 1, 2, 0, 1, 2] e

def mineSet (g : Fin 2) : Finset (S2x9x32x128 : Shape).Idx := Finset.univ.filter fun i => (i 0).val = g.val
def landSet (g : Fin 2) (d : Fin 3) : Finset (S2x3x9x32x128 : Shape).Idx := Finset.univ.filter fun i => (i 0).val = g.val ∧ (i 1).val = d.val
def kvSet (h : Fin 16) : Finset (S16x64x32x128 : Shape).Idx := Finset.univ.filter fun i => (i 0).val = h.val

/-! ## The cells -/

abbrev barS : Sem sig := (SemArray.scalar (sig.barrier 0 rfl) : Sems sig S_).sem

def dmaAt (n : Fin 60) : DmaSem sig := n
/-- Send cell and receive cell of link `e`, group `g`. -/
def sendN (e : Fin 6) (g : Fin 2) : Fin 60 := ⟨36 + 12 * (stg e).val + 3 * g.val + (num e).val, by have := (stg e).isLt; have := (num e).isLt; omega⟩
def recvN (e : Fin 6) (g : Fin 2) : Fin 60 := ⟨42 + 12 * (stg e).val + 3 * g.val + (num e).val, by have := (stg e).isLt; have := (num e).isLt; omega⟩
abbrev sendS (e : Fin 6) (g : Fin 2) : SemLoc sig := .dma (dmaAt (sendN e g))
abbrev recvS (e : Fin 6) (g : Fin 2) : SemLoc sig := .dma (dmaAt (recvN e g))

/-- The cells the exchange uses on each device: the barrier's, then the 24 send and receive cells. -/
def csem (i : Fin 25) : SemLoc sig := if h : i.val = 0 then .reg barS else .dma (dmaAt ⟨35 + i.val, by omega⟩)
abbrev kcell (ck : Dev nD × Fin 25) : GSem nD τ sig := ((ck.1 : Thread nD τ), csem ck.2)
abbrev barCell (c : Dev nD) : GSem nD τ sig := ((c : Thread nD τ), .reg barS)
abbrev sendCell (c : Dev nD) (e : Fin 6) (g : Fin 2) : GSem nD τ sig := ((c : Thread nD τ), sendS e g)
abbrev recvCell (c : Dev nD) (e : Fin 6) (g : Fin 2) : GSem nD τ sig := ((c : Thread nD τ), recvS e g)

def sIdx (e : Fin 6) (g : Fin 2) : Fin 25 := ⟨1 + 12 * (stg e).val + 3 * g.val + (num e).val, by have := (stg e).isLt; have := (num e).isLt; omega⟩
def rIdx (e : Fin 6) (g : Fin 2) : Fin 25 := ⟨7 + 12 * (stg e).val + 3 * g.val + (num e).val, by have := (stg e).isLt; have := (num e).isLt; omega⟩
theorem csem_bar : csem 0 = .reg barS := rfl
theorem csem_send (e : Fin 6) (g : Fin 2) : csem (sIdx e g) = sendS e g := by revert e g; decide
theorem csem_recv (e : Fin 6) (g : Fin 2) : csem (rIdx e g) = recvS e g := by revert e g; decide

/-- Link and group of a send or receive cell, by its number from the first of the 24. -/
def linkOf (n : ℕ) : Fin 6 := ⟨(3 * (n / 12) + n % 3) % 6, Nat.mod_lt _ (by decide)⟩
def groupOf (n : ℕ) : Fin 2 := ⟨(n / 3) % 2, Nat.mod_lt _ (by decide)⟩
theorem link_send (e : Fin 6) (g : Fin 2) : linkOf ((sendN e g).val - 36) = e ∧ groupOf ((sendN e g).val - 36) = g ∧ ((sendN e g).val - 36) % 12 < 6 := by
  revert e g; decide
theorem link_recv (e : Fin 6) (g : Fin 2) : linkOf ((recvN e g).val - 36) = e ∧ groupOf ((recvN e g).val - 36) = g ∧ ¬ ((recvN e g).val - 36) % 12 < 6 := by
  revert e g; decide

/-! ## What is sent -/

/-- What a device packs for a stage and group: eight accumulators, the running maxima and the running sums, a column per head. -/
structure Vals (F : FTy → Type) [FloatOps F] where
  A : Dev nD → Fin 2 → Fin 2 → Fin 8 → FVec F S32x128 .f32
  M : Dev nD → Fin 2 → Fin 2 → FVec F S8x32 .f32
  L : Dev nD → Fin 2 → Fin 2 → FVec F S8x32 .f32

/-- The packed form: the first `k` of accumulators 0 to 7, maxima and sums are in place. -/
def IsPack (A : Fin 8 → FVec F S32x128 .f32) (M L : FVec F S8x32 .f32) (k : ℕ) (w : Vec F S9x32x128 .f32) : Prop :=
  (∀ (i : Fin 8) (a : Fin 32) (b : Fin 128), i.val < k → w (ix3 ⟨i.val, by omega⟩ a b) = A i (ix2 a b))
    ∧ (∀ (a : Fin 8) (b : Fin 32), 8 < k → w (ix3 8 ⟨a.val, by omega⟩ ⟨b.val, by omega⟩) = M (ix2 a b))
    ∧ (∀ (a : Fin 8) (b : Fin 32), 9 < k → w (ix3 8 ⟨8 + a.val, by omega⟩ ⟨b.val, by omega⟩) = L (ix2 a b))

def Vals.pk (X : Vals F) (c : Dev nD) (s g : Fin 2) (k : ℕ) (w : Vec F S9x32x128 .f32) : Prop := IsPack (X.A c s g) (X.M c s g) (X.L c s g) k w

def mineSl (g : Fin 2) (t : Vec F S2x9x32x128 .f32) : Vec F S9x32x128 .f32 := fun j => t (ix4 g (j 0) (j 1) (j 2))
def landSl (g : Fin 2) (d : Fin 3) (t : Vec F S2x3x9x32x128 .f32) : Vec F S9x32x128 .f32 := fun j => t (ix5 g d (j 0) (j 1) (j 2))

variable (X : Vals F)

/-- The three shares of a packed group its three transfers read from. -/
def shr (d : Fin 3) : PosShare TreeShare := match d with
  | 0 => fullShare.left | 1 => fullShare.right.left | 2 => fullShare.right.right

/-- A landing slot, whatever it holds; -/
def slotAny (c : Dev nD) (e : Fin 6) (g : Fin 2) : sProp 𝕄 := Held (landM (stg e)) c (landSet g (num e)) fullShare fun _ => True
/-- one that has received what its writer packed; -/
def slotGot (c : Dev nD) (e : Fin 6) (g : Fin 2) : sProp 𝕄 :=
  Held (landM (stg e)) c (landSet g (num e)) fullShare fun t => X.pk (nb c (opp e)) (stg e) g 10 (landSl g (num e) t)
/-- a transfer's share of the packed group, whatever it holds, -/
def srcAny (c : Dev nD) (e : Fin 6) (g : Fin 2) : sProp 𝕄 := Held (mineM (stg e)) c (mineSet g) (shr (num e)) fun _ => True
/-- and packed. -/
def srcGot (c : Dev nD) (e : Fin 6) (g : Fin 2) : sProp 𝕄 :=
  Held (mineM (stg e)) c (mineSet g) (shr (num e)) fun t => X.pk c (stg e) g 10 (mineSl g t)

/-- What a barrier cell's duty `e` hands the cell's device: the two slots at the end of its link `e`. -/
def barPay (c : Dev nD) (e : Fin 6) : sProp 𝕄 := iprop(slotAny (nb c e) e 0 ∗ slotAny (nb c e) e 1)

def dmaPay (c : Dev nD) (n : ℕ) : sProp 𝕄 :=
  if n % 12 < 6 then srcAny c (linkOf n) (groupOf n) else slotGot X c (linkOf n) (groupOf n)

/-! ## The schedule -/

abbrev N : ℕ := ((m1M.slice (Rect.unit (s := S2x9x32x128) ![0, 0, 0, 0] S1x9x32x128.size inb_S2x9x32x128_S1x9x32x128_0_0_0_0) (fun _ => rfl)).squeeze
  S9x32x128 squeezes_S1x9x32x128_S9x32x128).view.dmaCredit
theorem N_pos : 0 < N := View.dmaCredit_pos _ (by decide)

def semDuties (sm : SemLoc sig) : Finset (Fin 6) := match sm with
  | .reg s => if s = barS then Finset.univ else ∅
  | .dma s => if 36 ≤ (show Fin 60 from s).val then {0} else ∅

/-- One round: a barrier cell is paid one unit over each of its device's six links, a send or receive cell a block's credit. -/
def sched : Rounds.Schedule (GSem nD τ sig) (Fin 6) 𝕄 where
  duties g r := if r = 0 ∧ g.1.2 = .tc then semDuties g.2 else ∅
  unitless _ := False
  amount g _ _ := match g.2 with | .reg _ => 1 | .dma _ => N
  payload g _ d := match g.2 with
    | .reg _ => barPay g.1.1 d
    | .dma s => dmaPay X g.1.1 ((show Fin 60 from s).val - 36)
  amount_pos g _ _ _ := by split; · exact Nat.one_pos
                           · exact N_pos

instance sched_payload_storable (g : GSem nD τ sig) (r : ℕ) (d : Fin 6) :
    BI.Storable (upEmb : UEmb _ 𝕄) ((sched X).payload g r d) := by
  show BI.Storable upEmb (match g.2 with | .reg _ => barPay g.1.1 d | .dma s => dmaPay X g.1.1 ((show Fin 60 from s).val - 36))
  unfold barPay dmaPay srcAny slotGot slotAny
  split
  · infer_instance
  · split <;> infer_instance

theorem duties_bar (c : Dev nD) : (sched X).duties (barCell c) 0 = Finset.univ := by
  dsimp only [sched]; rw [if_pos ⟨rfl, rfl⟩]; dsimp only [semDuties]; rw [if_pos rfl]
theorem duties_dma (c : Dev nD) (n : Fin 60) (h : 36 ≤ n.val) : (sched X).duties ((c : Thread nD τ), .dma (dmaAt n)) 0 = {0} := by
  dsimp only [sched]; rw [if_pos ⟨rfl, rfl⟩]; exact if_pos h
theorem duties_later (g : GSem nD τ sig) : ∀ r, 1 ≤ r → (sched X).duties g r = ∅ :=
  fun r hr => if_neg fun h => by omega
theorem sendN_ge (e : Fin 6) (g : Fin 2) : 36 ≤ (sendN e g).val := by show 36 ≤ 36 + _ + _ + _; omega
theorem recvN_ge (e : Fin 6) (g : Fin 2) : 36 ≤ (recvN e g).val := by show 36 ≤ 42 + _ + _ + _; omega
theorem duties_send (c : Dev nD) (e : Fin 6) (g : Fin 2) : (sched X).duties (sendCell c e g) 0 = {0} := duties_dma X c _ (sendN_ge e g)
theorem duties_recv (c : Dev nD) (e : Fin 6) (g : Fin 2) : (sched X).duties (recvCell c e g) 0 = {0} := duties_dma X c _ (recvN_ge e g)

theorem expect_bar (c : Dev nD) : (sched X).expect (barCell c) 0 = 6 := by
  unfold Schedule.expect Schedule.amountOf
  rw [duties_bar]; rfl
theorem expect_dma (c : Dev nD) (n : Fin 60) (h : 36 ≤ n.val) : (sched X).expect ((c : Thread nD τ), .dma (dmaAt n)) 0 = N := by
  unfold Schedule.expect Schedule.amountOf; rw [duties_dma X c n h, Finset.sum_singleton]; rfl

theorem payload_send (c : Dev nD) (e : Fin 6) (g : Fin 2) (d : Fin 6) : (sched X).payload (sendCell c e g) 0 d = srcAny c e g := by
  show dmaPay X c ((sendN e g).val - 36) = _
  unfold dmaPay; rw [if_pos (link_send e g).2.2, (link_send e g).1, (link_send e g).2.1]
theorem payload_recv (c : Dev nD) (e : Fin 6) (g : Fin 2) (d : Fin 6) : (sched X).payload (recvCell c e g) 0 d = slotGot X c e g := by
  show dmaPay X c ((recvN e g).val - 36) = _
  unfold dmaPay; rw [if_neg (link_recv e g).2.2, (link_recv e g).1, (link_recv e g).2.1]
theorem rest_send (c : Dev nD) (e : Fin 6) (g : Fin 2) :
    bigSep ((sched X).duties (sendCell c e g) 0 \ ∅) (fun d => (sched X).payload (sendCell c e g) 0 d) = srcAny c e g := by
  rw [Finset.sdiff_empty, duties_send, bigSep_singleton, payload_send]
theorem rest_recv (c : Dev nD) (e : Fin 6) (g : Fin 2) :
    bigSep ((sched X).duties (recvCell c e g) 0 \ ∅) (fun d => (sched X).payload (recvCell c e g) 0 d) = slotGot X c e g := by
  rw [Finset.sdiff_empty, duties_recv, bigSep_singleton, payload_recv]
theorem rest_bar (c : Dev nD) :
    bigSep ((sched X).duties (barCell c) 0 \ ∅) (fun d => (sched X).payload (barCell c) 0 d) = bigSep Finset.univ fun e => barPay (F := F) c e := by
  rw [Finset.sdiff_empty, duties_bar]; rfl

/-! ## What a device owes

Counted down: at `n` the device still owes the first `n` of its eighteen payments; payment 17 is its first. -/

/-- Payments 17 to 12 are the barrier's, over links 0 to 5; 11 to 6 and 5 to 0 the receive cells of the two stages. -/
def talSem (n : ℕ) : SemLoc sig := if 12 ≤ n then .reg barS else recvS (if 6 ≤ n then ⟨(11 - n) % 3, by omega⟩ else ⟨3 + (5 - n) % 3, by omega⟩) ⟨((11 - n) / 3) % 2, by omega⟩
def talLink (n : ℕ) : Fin 6 := if 12 ≤ n then ⟨(17 - n) % 6, by omega⟩ else if 6 ≤ n then ⟨(11 - n) % 3, by omega⟩ else ⟨3 + (5 - n) % 3, by omega⟩
def talCell (c : Dev nD) (n : ℕ) : GSem nD τ sig := ((nb c (talLink n) : Thread nD τ), talSem n)
def talAmt (n : ℕ) : ℕ := if 12 ≤ n then 1 else N
def owe (c : Dev nD) : ℕ → CellTallies nD τ sig Unit
  | 0 => 0
  | n + 1 => owe c n + tallyAt (talCell c n) () (talAmt n)

def L (g : GSem nD τ sig) : Finset Unit := if g.1.2 = .tc then {()} else ∅
def semLv (sm : SemLoc sig) : ℕ := match sm with
  | .reg _ => 1
  | .dma s => if (show Fin 60 from s).val < 42 then 0 else if (show Fin 60 from s).val < 48 then 2 else if (show Fin 60 from s).val < 54 then 0 else 3
/-- Local and send cells at 0, the barrier at 1, the first stage's receive cells at 2, the second's at 3. -/
def lv (g : GSem nD τ sig) (_ : Unit) : ℕ := semLv g.2
theorem L_tc (c : Dev nD) (sm : SemLoc sig) : L ((c : Thread nD τ), sm) = {()} := if_pos rfl
theorem L_of_ne (g : GSem nD τ sig) (h : g.1.2 ≠ .tc) : L g = ∅ := if_neg h

theorem owe_pos (c : Dev nD) {g : GSem nD τ sig} {u : Unit} : ∀ n, 0 < owe c n g u → ∃ k < n, g = talCell c k
  | 0, h => absurd h (Nat.lt_irrefl 0)
  | n + 1, h => by
    unfold owe at h
    rw [Pi.add_apply, Finsupp.add_apply, tallyAt_apply] at h
    by_cases hg : g = talCell c n ∧ u = ()
    · exact ⟨n, Nat.lt_succ_self n, hg.1⟩
    · rw [if_neg hg, add_zero] at h
      obtain ⟨k, hk, e⟩ := owe_pos c n h
      exact ⟨k, Nat.lt_succ_of_lt hk, e⟩

/-- A device may wait at a cell below every cell it still owes. -/
theorem mayWait (c : Dev nD) (sm : SemLoc sig) (n : ℕ) (h : ∀ k < n, semLv sm < semLv (talSem k)) :
    (levAts L lv : sProp 𝕄) ⊢ MayWait (c : Thread nD τ) sm () (owe c n) :=
  MayOwe.of_cut (L := L) (lev := lv) (semLv sm) (fun p hp => by rw [Finset.mem_singleton.mp hp, L_tc]; exact Finset.mem_singleton_self _)
    (fun g u hg => by obtain ⟨k, -, rfl⟩ := owe_pos c n hg; exact Finset.mem_singleton_self _)
    (fun p hp => by rw [Finset.mem_singleton.mp hp]; exact Nat.le_refl _)
    (fun g u hg => by obtain ⟨k, hk, rfl⟩ := owe_pos c n hg; exact h k hk)

/-- What a device owes while `n` payments are left, whatever waits it has recorded. -/
def Ow (c : Dev nD) (n : ℕ) : sProp 𝕄 := iprop(∃ W, owes (c : Thread nD τ) (owe c n) W)

/-! ## The shared records -/

/-- Every cell's invariant, that round 0 of every cell is reached, and the levels. -/
def Rec : sProp 𝕄 :=
  iprop(∃ K : Dev nD × Fin 25 → ℕ, (bigSep Finset.univ fun ck => cellInv ER (sched X) (K ck) (kcell ck))
    ∗ (bigSep Finset.univ fun ck => reached ER (kcell ck) 0) ∗ levAts L lv)

instance Rec_persistent : BI.Persistent (Rec X) := by unfold Rec; infer_instance

theorem inv_at (K : Dev nD × Fin 25 → ℕ) (ck : Dev nD × Fin 25) :
    (bigSep Finset.univ fun ck : Dev nD × Fin 25 => (cellInv ER (sched X) (K ck) (kcell ck) : sProp 𝕄)) ⊢ cellInv ER (sched X) (K ck) (kcell ck) :=
  bigSep_elim (Finset.mem_univ ck)
theorem reached_at (ck : Dev nD × Fin 25) :
    (bigSep Finset.univ fun ck : Dev nD × Fin 25 => (reached (ER (F := F)) (kcell ck) 0 : sProp 𝕄)) ⊢ reached ER (kcell ck) 0 :=
  bigSep_elim (Finset.mem_univ ck)

theorem rec_open (ck ck' : Dev nD × Fin 25) : Rec X ⊢ iprop(∃ κ κ', cellInv ER (sched X) κ (kcell ck) ∗ cellInv ER (sched X) κ' (kcell ck')
    ∗ reached ER (kcell ck) 0 ∗ reached ER (kcell ck') 0 ∗ levAts L lv) := by
  unfold Rec
  iintro ⟨%K, #HI, #HR, #HL⟩
  iexists (K ck)
  iexists (K ck')
  isplitr; · iapply (inv_at X K ck); iexact HI
  isplitr; · iapply (inv_at X K ck'); iexact HI
  isplitr; · iapply (reached_at (F := F) ck); iexact HR
  isplitr; · iapply (reached_at (F := F) ck'); iexact HR
  iexact HL

end Cert.KernelIdealPf

end
-- ==== Proof.IOps.lean ====
/-
One lemma per kind of memory operation of the kernel body, over the resources a device holds for it.
-/
module

public import proofs.«01_k».proof.Proof.ICommon
public import Idealize.ShloMosaic.Lib.Ring.FamCut

@[expose] public section

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Windows of the buffers -/

/-- A group's window of a packed buffer, a slot's window of a landing buffer. -/
abbrev mineW (M : Memref sig .tc .vmem S2x9x32x128 .f32) (o : Fin 4 → ℕ) (inb : ∀ a, o a + S1x9x32x128.size a ≤ S2x9x32x128.size a) :
    Memref sig .tc .vmem S9x32x128 .f32 :=
  (M.slice (Rect.unit (s := S2x9x32x128) o S1x9x32x128.size inb) (fun _ => rfl)).squeeze S9x32x128 squeezes_S1x9x32x128_S9x32x128
abbrev landW (M : Memref sig .tc .vmem S2x3x9x32x128 .f32) (o : Fin 5 → ℕ) (inb : ∀ a, o a + S1x1x9x32x128.size a ≤ S2x3x9x32x128.size a) :
    Memref sig .tc .vmem S9x32x128 .f32 :=
  (M.slice (Rect.unit (s := S2x3x9x32x128) o S1x1x9x32x128.size inb) (fun _ => rfl)).squeeze S9x32x128 squeezes_S1x1x9x32x128_S9x32x128
/-- A head's window of a key or value buffer, and of the array it is copied from. -/
abbrev kvW (M : Memref sig .tc .vmem S16x64x32x128 .f32) (o : Fin 4 → ℕ) (inb : ∀ a, o a + S1x64x32x128.size a ≤ S16x64x32x128.size a) :
    Memref sig .tc .vmem S64x32x128 .f32 :=
  (M.slice (Rect.unit (s := S16x64x32x128) o S1x64x32x128.size inb) (fun _ => rfl)).squeeze S64x32x128 squeezes_S1x64x32x128_S64x32x128
abbrev srcW (M : Memref sig .tc .hbm S256x32x16x128 .f32) (o : Fin 4 → ℕ) (inb : ∀ a, o a + S64x32x1x128.size a ≤ S256x32x16x128.size a) :
    Memref sig .tc .hbm S64x32x128 .f32 :=
  (M.slice (Rect.unit (s := S256x32x16x128) o S64x32x1x128.size inb) (fun _ => rfl)).squeeze S64x32x128 squeezes_S64x32x1x128_S64x32x128

theorem mineW_set (M : Memref sig .tc .vmem S2x9x32x128 .f32) (g : Fin 2) (inb) :
    (mineW M ![g.val, 0, 0, 0] inb).view.set = M.view.setOn (mineSet g) := by
  show ((M.view.slice _).reshape _ _).set = _
  rw [View.set_reshape, View.set_slice]
  refine congrArg (Finset.map M.view.emb) (Finset.ext fun i => ?_)
  rw [Rect.mem_set_unit]
  simp only [mineSet, Finset.mem_filter, Finset.mem_univ, true_and]
  constructor
  · intro h; have := h 0; simp at this; omega
  · intro h a; have := (i a).isLt; fin_cases a <;> simp at this ⊢ <;> omega

theorem landW_set (M : Memref sig .tc .vmem S2x3x9x32x128 .f32) (g : Fin 2) (d : Fin 3) (inb) :
    (landW M ![g.val, d.val, 0, 0, 0] inb).view.set = M.view.setOn (landSet g d) := by
  show ((M.view.slice _).reshape _ _).set = _
  rw [View.set_reshape, View.set_slice]
  refine congrArg (Finset.map M.view.emb) (Finset.ext fun i => ?_)
  rw [Rect.mem_set_unit]
  simp only [landSet, Finset.mem_filter, Finset.mem_univ, true_and]
  constructor
  · intro h; have h0 := h 0; have h1 := h 1; simp at h0 h1; omega
  · intro h a; have := (i a).isLt; fin_cases a <;> simp at this ⊢ <;> omega

theorem kvW_set (M : Memref sig .tc .vmem S16x64x32x128 .f32) (h : Fin 16) (inb) :
    (kvW M ![h.val, 0, 0, 0] inb).view.set = M.view.setOn (kvSet h) := by
  show ((M.view.slice _).reshape _ _).set = _
  rw [View.set_reshape, View.set_slice]
  refine congrArg (Finset.map M.view.emb) (Finset.ext fun i => ?_)
  rw [Rect.mem_set_unit]
  simp only [kvSet, Finset.mem_filter, Finset.mem_univ, true_and]
  constructor
  · intro h; have h0 := h 0; simp at h0; omega
  · intro h a; have := (i a).isLt; fin_cases a <;> simp at this ⊢ <;> omega

theorem unsq4 {a b c : ℕ} (hn : (⟨3, ![a, b, c]⟩ : Shape).numel = (⟨4, ![1, a, b, c]⟩ : Shape).numel) (x : Fin a) (y : Fin b) (z : Fin c) :
    Shape.reshapeEquiv (s := ⟨4, ![1, a, b, c]⟩) (s' := ⟨3, ![a, b, c]⟩) hn (ix3 x y z) = ix4 (0 : Fin 1) x y z :=
  Shape.reshapeEquiv_eq_of_rowMajor hn (by
    rw [Shape.rowMajor_val_four, Shape.rowMajor_val_three]
    show (((0 * a + x.val) * b + y.val) * c + z.val) = (x.val * b + y.val) * c + z.val
    simp only [Nat.zero_mul, Nat.zero_add])
theorem unsq5 {a b c : ℕ} (hn : (⟨3, ![a, b, c]⟩ : Shape).numel = (⟨5, ![1, 1, a, b, c]⟩ : Shape).numel) (x : Fin a) (y : Fin b) (z : Fin c) :
    Shape.reshapeEquiv (s := ⟨5, ![1, 1, a, b, c]⟩) (s' := ⟨3, ![a, b, c]⟩) hn (ix3 x y z) = ix5 (0 : Fin 1) (0 : Fin 1) x y z :=
  Shape.reshapeEquiv_eq_of_rowMajor hn (by
    rw [Shape.rowMajor_val_five, Shape.rowMajor_val_three]
    show ((((0 * 1 + 0) * a + x.val) * b + y.val) * c + z.val) = (x.val * b + y.val) * c + z.val
    simp only [Nat.zero_mul, Nat.zero_add])

theorem mineW_read (M : Memref sig .tc .vmem S2x9x32x128 .f32) (g : Fin 2) (inb) (f : M.view.ty.Contents (Elt F)) (j : (S9x32x128 : Shape).Idx) :
    (mineW M ![g.val, 0, 0, 0] inb).view.read (Elt F) f j = M.view.read (Elt F) f (ix4 g (j 0) (j 1) (j 2)) := by
  show M.view.read (Elt F) f ((Rect.unit (s := S2x9x32x128) ![g.val, 0, 0, 0] S1x9x32x128.size inb).emb (Shape.reshapeEquiv _ j)) = _
  refine congrArg (M.view.read (Elt F) f) ?_
  obtain ⟨x, y, z, rfl⟩ : ∃ x y z, j = ix3 x y z := ⟨j 0, j 1, j 2, eq_ix3 j⟩
  erw [unsq4]
  funext a
  apply Fin.ext
  fin_cases a
  · show g.val + 1 * 0 = g.val; omega
  · show 0 + 1 * x.val = x.val; omega
  · show 0 + 1 * y.val = y.val; omega
  · show 0 + 1 * z.val = z.val; omega

theorem landW_read (M : Memref sig .tc .vmem S2x3x9x32x128 .f32) (g : Fin 2) (d : Fin 3) (inb) (f : M.view.ty.Contents (Elt F)) (j : (S9x32x128 : Shape).Idx) :
    (landW M ![g.val, d.val, 0, 0, 0] inb).view.read (Elt F) f j = M.view.read (Elt F) f (ix5 g d (j 0) (j 1) (j 2)) := by
  show M.view.read (Elt F) f ((Rect.unit (s := S2x3x9x32x128) ![g.val, d.val, 0, 0, 0] S1x1x9x32x128.size inb).emb (Shape.reshapeEquiv _ j)) = _
  refine congrArg (M.view.read (Elt F) f) ?_
  obtain ⟨x, y, z, rfl⟩ : ∃ x y z, j = ix3 x y z := ⟨j 0, j 1, j 2, eq_ix3 j⟩
  erw [unsq5]
  funext a
  apply Fin.ext
  fin_cases a
  · show g.val + 1 * 0 = g.val; omega
  · show d.val + 1 * 0 = d.val; omega
  · show 0 + 1 * x.val = x.val; omega
  · show 0 + 1 * y.val = y.val; omega
  · show 0 + 1 * z.val = z.val; omega

theorem kvW_read (M : Memref sig .tc .vmem S16x64x32x128 .f32) (h : Fin 16) (inb) (f : M.view.ty.Contents (Elt F)) (j : (S64x32x128 : Shape).Idx) :
    (kvW M ![h.val, 0, 0, 0] inb).view.read (Elt F) f j = M.view.read (Elt F) f (ix4 h (j 0) (j 1) (j 2)) := by
  show M.view.read (Elt F) f ((Rect.unit (s := S16x64x32x128) ![h.val, 0, 0, 0] S1x64x32x128.size inb).emb (Shape.reshapeEquiv _ j)) = _
  refine congrArg (M.view.read (Elt F) f) ?_
  obtain ⟨x, y, z, rfl⟩ : ∃ x y z, j = ix3 x y z := ⟨j 0, j 1, j 2, eq_ix3 j⟩
  erw [unsq4]
  funext a
  apply Fin.ext
  fin_cases a
  · show h.val + 1 * 0 = h.val; omega
  · show 0 + 1 * x.val = x.val; omega
  · show 0 + 1 * y.val = y.val; omega
  · show 0 + 1 * z.val = z.val; omega

/-- The first of a device's 64 pages, among the 256 its z position holds. -/
def page0 (c : Dev nD) : ℕ := 64 * (c.val / 4)
theorem page0_lt (c : Dev nD) (i : Fin 64) : page0 c + i.val < 256 := by
  have := c.isLt; simp only [nD] at this; unfold page0; omega

theorem srcW_read (M : Memref sig .tc .hbm S256x32x16x128 .f32) (c : Dev nD) (h : Fin 16) (inb) (f : M.view.ty.Contents (Elt F)) (j : (S64x32x128 : Shape).Idx) :
    (srcW M ![page0 c, 0, h.val, 0] inb).view.read (Elt F) f j = M.view.read (Elt F) f (ix4 ⟨page0 c + (j 0).val, page0_lt c (j 0)⟩ (j 1) h (j 2)) := by
  show M.view.read (Elt F) f ((Rect.unit (s := S256x32x16x128) ![page0 c, 0, h.val, 0] S64x32x1x128.size inb).emb (Shape.reshapeEquiv _ j)) = _
  refine congrArg (M.view.read (Elt F) f) ?_
  obtain ⟨x, y, z, rfl⟩ : ∃ x y z, j = ix3 x y z := ⟨j 0, j 1, j 2, eq_ix3 j⟩
  have e : ∀ hn : (S64x32x128 : Shape).numel = (S64x32x1x128 : Shape).numel,
      Shape.reshapeEquiv (s := S64x32x1x128) (s' := S64x32x128) hn (ix3 x y z) = ix4 x y (0 : Fin 1) z := fun hn =>
    Shape.reshapeEquiv_eq_of_rowMajor _ (by
      rw [Shape.rowMajor_val_four, Shape.rowMajor_val_three]
      show (((x.val * 32 + y.val) * 1 + 0) * 128 + z.val) = (x.val * 32 + y.val) * 128 + z.val
      omega)
  erw [e]
  funext a
  apply Fin.ext
  fin_cases a
  · show page0 c + 1 * x.val = page0 c + x.val; omega
  · show 0 + 1 * y.val = y.val; omega
  · show h.val + 1 * 0 = h.val; omega
  · show 0 + 1 * z.val = z.val; omega

/-! ## The copies into the key and value buffers -/

def srcSet (c : Dev nD) (h : Fin 16) : Finset (S256x32x16x128 : Shape).Idx :=
  Finset.univ.filter fun i => page0 c ≤ (i 0).val ∧ (i 0).val < page0 c + 64 ∧ (i 2).val = h.val

theorem srcW_set (M : Memref sig .tc .hbm S256x32x16x128 .f32) (c : Dev nD) (h : Fin 16) (inb) :
    (srcW M ![page0 c, 0, h.val, 0] inb).view.set = M.view.setOn (srcSet c h) := by
  show ((M.view.slice _).reshape _ _).set = _
  rw [View.set_reshape, View.set_slice]
  refine congrArg (Finset.map M.view.emb) (Finset.ext fun i => ?_)
  rw [Rect.mem_set_unit]
  simp only [srcSet, Finset.mem_filter, Finset.mem_univ, true_and]
  constructor
  · intro h; have h0 := h 0; have h2 := h 2; simp at h0 h2; omega
  · intro h a; have := (i a).isLt; fin_cases a <;> simp at this ⊢ <;> omega

/-- One head of a device's pages of an array, as the array holds it. -/
def headOf (c : Dev nD) (h : Fin 16) (t : Vec F S256x32x16x128 .f32) : Vec F S1x64x32x128 .f32 :=
  fun j => t (ix4 ⟨page0 c + (j 1).val, page0_lt c (j 1)⟩ (j 2) h (j 3))
def Got (c : Dev nD) (h : Fin 16) (t : Vec F S256x32x16x128 .f32) (w : Vec F S16x64x32x128 .f32) : Prop :=
  ∀ (x : Fin 64) (y : Fin 32) (z : Fin 128), w (ix4 h x y z) = headOf c h t (ix4 0 x y z)

abbrev SrcH (A : Memref sig .tc .hbm S256x32x16x128 .f32) (c : Dev nD) (h : Fin 16) (f : Buf (Elt F) (A.view.loc (c : Thread nD τ))) : sProp 𝕄 :=
  (A.view.loc (c : Thread nD τ) ↦[A.view.setOn (srcSet c h)]{fullShare} f)

abbrev NK : ℕ := (kvW kM ![0, 0, 0, 0] inb_S16x64x32x128_S1x64x32x128_0_0_0_0).view.dmaCredit
theorem NK_pos : 0 < NK := View.dmaCredit_pos _ (by decide)

def Idle (A : Memref sig .tc .hbm S256x32x16x128 .f32) (M : Memref sig .tc .vmem S16x64x32x128 .f32) (n : Fin 60) (c : Dev nD) (h : Fin 16)
    (f : Buf (Elt F) (A.view.loc (c : Thread nD τ))) : sProp 𝕄 :=
  iprop(Held M c (kvSet h) fullShare (fun _ => True) ∗ SrcH A c h f ∗ semVal ((c : Thread nD τ), .dma (dmaAt n)) 0)
def Landed (A : Memref sig .tc .hbm S256x32x16x128 .f32) (M : Memref sig .tc .vmem S16x64x32x128 .f32) (c : Dev nD) (h : Fin 16)
    (f : Buf (Elt F) (A.view.loc (c : Thread nD τ))) : sProp 𝕄 :=
  iprop(Held M c (kvSet h) fullShare (Got c h (A.view.read (Elt F) f)) ∗ SrcH A c h f)
def Fly (A : Memref sig .tc .hbm S256x32x16x128 .f32) (M : Memref sig .tc .vmem S16x64x32x128 .f32) (n : Fin 60) (c : Dev nD) (h : Fin 16)
    (f : Buf (Elt F) (A.view.loc (c : Thread nD τ))) : sProp 𝕄 :=
  Transfers.Flight EC (c : Thread nD τ) (.dma (dmaAt n)) () NK (Landed A M c h f)
def Done (A : Memref sig .tc .hbm S256x32x16x128 .f32) (M : Memref sig .tc .vmem S16x64x32x128 .f32) (n : Fin 60) (c : Dev nD) (h : Fin 16)
    (f : Buf (Elt F) (A.view.loc (c : Thread nD τ))) : sProp 𝕄 :=
  iprop(Landed A M c h f ∗ semVal ((c : Thread nD τ), .dma (dmaAt n)) 0)

theorem op_start {A : Memref sig .tc .hbm S256x32x16x128 .f32} {M : Memref sig .tc .vmem S16x64x32x128 .f32} {o : Fin 4 → ℕ} {inb} {o' : Fin 4 → ℕ} {inb'}
    {sm : DmaSem sig} {hsrc : (srcW A o inb).view.WordExact} {hdst : (kvW M o' inb').view.WordExact}
    {hsem : DmaTarget.Typed (nD := nD) .hbm (.dma sm) (DmaTarget.here (p := Proc.tc) (kvW M o' inb'))}
    {α : Type} {Q : α → sProp 𝕄} {k : PUnit → Prog (TpuEff nD τ sig (Elt F) Λ₀ .tc) α}
    (n : Fin 60) (c : Dev nD) (h : Fin 16) (f : Buf (Elt F) (A.view.loc (c : Thread nD τ)))
    (ho : o = ![page0 c, 0, h.val, 0]) (ho' : o' = ![h.val, 0, 0, 0]) (hn : sm = dmaAt n) (hN : (kvW M o' inb').view.amount (.dma sm) = NK) :
    Idle A M n c h f ⊢ iprop((Fly A M n c h f -∗ WP c (k ⟨⟩) Q)
      -∗ WP c (.op (.enqueueDma (srcW A o inb) (.here (kvW M o' inb')) (.dma sm) hsrc hdst hsem) k) Q) := by
  subst ho ho' hn
  have eA : SrcH A c h f = (A.view.loc (c : Thread nD τ) ↦[(srcW A ![page0 c, 0, h.val, 0] inb).view.set]{fullShare} f) := by rw [srcW_set]
  have hD : ∀ fd, iprop(((kvW M ![h.val, 0, 0, 0] inb').view.loc (c : Thread nD τ) ↦[M.view.setOn (kvSet h)]{fullShare}
        ((kvW M ![h.val, 0, 0, 0] inb').view.write (Elt F) fd (((.same : ReadAs (Elt F) _ _ _ _)).apply ((srcW A ![page0 c, 0, h.val, 0] inb).view.read (Elt F) f)) Finset.univ))
      ∗ (A.view.loc (c : Thread nD τ) ↦[(srcW A ![page0 c, 0, h.val, 0] inb).view.set]{fullShare} f)) ⊢ Landed A M c h f := fun fd => by
    unfold Landed Held
    rw [eA]
    iintro ⟨HM, HA⟩
    isplitl [HM]
    · iexists _
      isplitl [HM]; · iexact HM
      ipureintro
      intro x y z
      refine (kvW_read M h inb' _ (ix3 x y z)).symm.trans ?_
      erw [View.read_write_univ]
      exact srcW_read A c h inb f (ix3 x y z)
    · iexact HA
  unfold Idle Fly Held
  rw [eA]
  iintro ⟨⟨%fd, HM, -⟩, HA, HS⟩ Hk
  iapply (Transfers.wp_dmaLocal EC 𝒱₀ (c : Thread nD τ) none (src := srcW A ![page0 c, 0, h.val, 0] inb) (dst := kvW M ![h.val, 0, 0, 0] inb')
    (Sd := M.view.setOn (kvSet h)) (fd := fd) () NK hN NK_pos (by rw [kvW_set])) $$ [HM HA HS]
  · isplitl [HA]; · iexact HA
    isplitl [HM]; · iexact HM
    iexact HS
  iintro HF
  iapply Hk
  iapply (Transfers.Flight_mono EC (c : Thread nD τ) (hD fd)) $$ HF

end Cert.KernelIdealPf

end
-- ==== Proof.IOps2.lean ====
/-
One lemma per kind of load, store and wait of the kernel body.
-/
module

public import proofs.«01_k».proof.Proof.IOps

@[expose] public section

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Boxes -/

theorem mem_box {s : Shape} {o sz : Fin s.rank → ℕ} {inb} {i : s.Idx} :
    i ∈ (Rect.unit (s := s) o sz inb).toLoadRect.set ↔ ∀ a, o a ≤ (i a).val ∧ (i a).val < o a + sz a := by
  rw [LoadRect.mem_set]
  constructor
  · intro h a
    obtain ⟨j, hj, e⟩ := h a
    have e' : (i a).val = o a + 1 * j := e
    have hj' : j < sz a := hj
    omega
  · intro h a
    have := h a
    exact ⟨(i a).val - o a, by show _ < sz a; omega, by show _ = o a + 1 * _; omega⟩

theorem box_idx {s : Shape} {o sz : Fin s.rank → ℕ} {inb} (j : (Rect.unit (s := s) o sz inb).toLoadRect.shape.Idx) (a : Fin s.rank) :
    ((Rect.unit (s := s) o sz inb).toLoadRect.idx j a).val = o a + (j a).val := by
  show o a + 1 * (j a).val = _; omega

/-! ## Loads and stores -/

/-- A load of anything held, its value not used. -/
theorem held_peek {s : Shape} {e : EltTy} {M : Memref sig .tc .vmem s e} {c : Dev nD} {S : Finset s.Idx}
    {q : PosShare TreeShare} {P : Vec F s e → Prop} {r : LoadRect s} {hl : M.view.LoadsAt r} {α : Type} {Q : α → sProp 𝕄}
    {k : (r.shape.Idx → Elt F e) → Prog (TpuEff nD τ sig (Elt F) Λ₀ .tc) α} (hS : r.set ⊆ S) :
    Held M c S q P ⊢ iprop((∀ v, Held M c S q P -∗ WP c (k v) Q) -∗ WP c (.op (.load M r hl) k) Q) := by
  unfold Held
  iintro ⟨%f, H, %hf⟩ Hk
  have hS' : M.view.setOn r.set ⊆ M.view.setOn S := Finset.map_subset_map.mpr hS
  iapply (wp_load 𝒱₀ (c : Thread nD τ) none Set.univ (m := M) (r := r) (hl := hl) hS') $$ H
  iintro H
  iapply Hk
  iexists f
  isplitl [H]; · iexact H
  ipureintro; exact hf

theorem held_store {s : Shape} {e : EltTy} {M : Memref sig .tc .vmem s e} {c : Dev nD} {S : Finset s.Idx} {P P' : Vec F s e → Prop}
    {r : Rect s} {w : r.shape.Idx → Elt F e} {hx : (M.access r).Stores Finset.univ}
    {hm : Finset.univ = Finset.univ ∨ ∀ a, r.stride a = 1} {α : Type} {Q : α → sProp 𝕄}
    {k : PUnit → Prog (TpuEff nD τ sig (Elt F) Λ₀ .tc) α} (hS : r.toLoadRect.set ⊆ S)
    (hP : ∀ t t' : Vec F s e, P t → (∀ j, t' (r.toLoadRect.idx j) = w j) → (∀ i, i ∉ r.toLoadRect.set → t' i = t i) → P' t') :
    Held M c S fullShare P ⊢ iprop((Held M c S fullShare P' -∗ WP c (k ⟨⟩) Q) -∗ WP c (.op (.store M r w Finset.univ hx hm) k) Q) := by
  unfold Held
  iintro ⟨%f, H, %hf⟩ Hk
  have hS' : (M.access r).setOn Finset.univ ⊆ M.view.setOn S := by
    show (M.view.slice r).set ⊆ _
    rw [View.set_slice]; exact Finset.map_subset_map.mpr hS
  iapply (wp_store 𝒱₀ (c : Thread nD τ) none Set.univ (m := M) (r := r) (w := w) (hx := hx) (hm := hm) hS') $$ H
  iintro H
  iapply Hk
  iexists ((M.access r).write (Elt F) f w Finset.univ)
  isplitl [H]; · iexact H
  ipureintro
  refine hP _ _ hf (fun j => ?_) (fun i hi => ?_)
  · exact View.read_slice_write_emb (v := M.view) (Val := Elt F) r f w (M := Finset.univ) (x := j) (Finset.mem_univ _)
  · exact View.read_slice_write_of_not_mem (v := M.view) (Val := Elt F) r f w Finset.univ (by rw [Rect.map_emb_univ]; exact hi)

/-- A load from a buffer held whole at known contents. -/
theorem op_ld {s : Shape} {e : EltTy} {M : Memref sig .tc .vmem s e} {c : Dev nD}
    {r : LoadRect s} {hl : M.view.LoadsAt r} {α : Type} {Q : α → sProp 𝕄}
    {k : (r.shape.Idx → Elt F e) → Prog (TpuEff nD τ sig (Elt F) Λ₀ .tc) α} (t₀ : Vec F s e) :
    Held M c Finset.univ fullShare (fun t => t = t₀)
      ⊢ iprop((Held M c Finset.univ fullShare (fun t => t = t₀) -∗ WP c (k fun j => t₀ (r.idx j)) Q) -∗ WP c (.op (.load M r hl) k) Q) :=
  held_load _ (Finset.subset_univ _) (fun t ht => by rw [ht])

/-- A load of a head that has landed. -/
theorem op_ld_head {A : Memref sig .tc .hbm S256x32x16x128 .f32} {M : Memref sig .tc .vmem S16x64x32x128 .f32} {n : Fin 60} {c : Dev nD} {h : Fin 16}
    {f : Buf (Elt F) (A.view.loc (c : Thread nD τ))} {o : Fin 4 → ℕ} {inb}
    {hl : M.view.LoadsAt (Rect.unit (s := S16x64x32x128) o S1x64x32x128.size inb).toLoadRect} {α : Type} {Q : α → sProp 𝕄}
    {k : Vec F S1x64x32x128 .f32 → Prog (TpuEff nD τ sig (Elt F) Λ₀ .tc) α} (ho : o = ![h.val, 0, 0, 0]) :
    Done A M n c h f ⊢ iprop((Done A M n c h f -∗ WP c (k (headOf c h (A.view.read (Elt F) f))) Q)
      -∗ WP c (.op (.load M (Rect.unit (s := S16x64x32x128) o S1x64x32x128.size inb).toLoadRect hl) k) Q) := by
  subst ho
  unfold Done Landed
  iintro ⟨⟨HM, HA⟩, HS⟩ Hk
  iapply (held_load (headOf c h (A.view.read (Elt F) f)) ?_ ?_) $$ HM
  · intro i hi
    have := mem_box.mp hi 0
    simp [kvSet] at this ⊢; omega
  · intro t ht
    funext j
    have e : (Rect.unit (s := S16x64x32x128) ![h.val, 0, 0, 0] S1x64x32x128.size inb).toLoadRect.idx j = ix4 h (j 1) (j 2) (j 3) := by
      funext a; apply Fin.ext; rw [box_idx]
      fin_cases a
      · show h.val + (j 0).val = h.val
        have h1 : (j 0).val < 1 := (j 0).isLt
        omega
      · show 0 + (j 1).val = (j 1).val; omega
      · show 0 + (j 2).val = (j 2).val; omega
      · show 0 + (j 3).val = (j 3).val; omega
    rw [e]; exact ht (j 1) (j 2) (j 3)
  iintro HM
  iapply Hk
  isplitr [HS]
  · isplitl [HM]; · iexact HM
    iexact HA
  iexact HS

/-! ## The packed buffers -/

variable (X : Vals F)

def Pk (c : Dev nD) (s g : Fin 2) (k : ℕ) : sProp 𝕄 := Held (mineM s) c (mineSet g) fullShare fun t => X.pk c s g k (mineSl g t)

theorem pk_start (c : Dev nD) (s g : Fin 2) : Held (F := F) (mineM s) c (mineSet g) fullShare (fun _ => True) ⊢ Pk X c s g 0 :=
  held_mono fun t _ => ⟨fun i a b h => absurd h (Nat.not_lt_zero _), fun a b h => absurd h (by decide), fun a b h => absurd h (by decide)⟩

/-- A load from a packed buffer before a store into the same place. -/
theorem op_pk_peek {M : Memref sig .tc .vmem S2x9x32x128 .f32} {c : Dev nD} {s g : Fin 2} {m : ℕ} {o sz : Fin 4 → ℕ} {inb}
    {hl : M.view.LoadsAt (Rect.unit (s := S2x9x32x128) o sz inb).toLoadRect} {α : Type} {Q : α → sProp 𝕄}
    {k : ((Rect.unit (s := S2x9x32x128) o sz inb).toLoadRect.shape.Idx → Elt F .f32) → Prog (TpuEff nD τ sig (Elt F) Λ₀ .tc) α}
    (hM : mineM s = M) (ho : o 0 = g.val) (hsz : sz 0 = 1) :
    Pk X c s g m ⊢ iprop((∀ v, Pk X c s g m -∗ WP c (k v) Q)
      -∗ WP c (.op (.load M (Rect.unit (s := S2x9x32x128) o sz inb).toLoadRect hl) k) Q) := by
  subst hM
  unfold Pk
  exact held_peek (fun i hi => by
    have := mem_box.mp hi 0
    simp only [mineSet, Finset.mem_filter, Finset.mem_univ, true_and]; omega)

theorem op_pk_acc {M : Memref sig .tc .vmem S2x9x32x128 .f32} {c : Dev nD} {s g : Fin 2} {o : Fin 4 → ℕ} {inb}
    {w : Vec F S1x1x32x128 .f32} {hx : (M.access (Rect.unit (s := S2x9x32x128) o S1x1x32x128.size inb)).Stores Finset.univ}
    {hm : Finset.univ = Finset.univ ∨ ∀ a, (Rect.unit (s := S2x9x32x128) o S1x1x32x128.size inb).stride a = 1} {α : Type} {Q : α → sProp 𝕄}
    {k : PUnit → Prog (TpuEff nD τ sig (Elt F) Λ₀ .tc) α} (i : Fin 8) (m m' : ℕ) (hi : m = i.val) (hi' : m' = i.val + 1)
    (hM : mineM s = M) (ho : o = ![g.val, i.val, 0, 0]) (hw : ∀ a b, w (ix4 0 0 a b) = X.A c s g i (ix2 a b)) :
    Pk X c s g m ⊢ iprop((Pk X c s g m' -∗ WP c (k ⟨⟩) Q)
      -∗ WP c (.op (.store M (Rect.unit (s := S2x9x32x128) o S1x1x32x128.size inb) w Finset.univ hx hm) k) Q) := by
  subst hM ho hi hi'
  unfold Pk
  refine held_store (fun j hj => ?_) (fun t t' ht h1 h2 => ?_)
  · have := mem_box.mp hj 0
    simp [mineSet] at this ⊢; omega
  · have out : ∀ (x : Fin 9) (a : Fin 32) (b : Fin 128), x.val ≠ i.val → t' (ix4 g x a b) = t (ix4 g x a b) := fun x a b hx => h2 _ fun hi => by
      have h' : i.val ≤ x.val ∧ x.val < i.val + 1 := mem_box.mp hi 1
      omega
    have ins : ∀ (a : Fin 32) (b : Fin 128), t' (ix4 g ⟨i.val, by omega⟩ a b) = w (ix4 0 0 a b) := fun a b => by
      rw [← h1 (ix4 0 0 a b)]
      congr 1
      funext x; apply Fin.ext; rw [box_idx]
      fin_cases x
      · show g.val = g.val + 0; omega
      · show i.val = i.val + 0; omega
      · show a.val = 0 + a.val; omega
      · show b.val = 0 + b.val; omega
    refine ⟨fun j a b hj => ?_, fun a b h => ?_, fun a b h => ?_⟩
    · by_cases e : j = i
      · subst e; exact (ins a b).trans (hw a b)
      · have hne : j.val ≠ i.val := fun h => e (Fin.ext h)
        exact (out _ a b hne).trans (ht.1 j a b (by omega))
    · exact absurd h (by omega)
    · exact absurd h (by omega)

theorem op_pk_max {M : Memref sig .tc .vmem S2x9x32x128 .f32} {c : Dev nD} {s g : Fin 2} {o : Fin 4 → ℕ} {inb}
    {w : Vec F S1x1x8x32 .f32} {hx : (M.access (Rect.unit (s := S2x9x32x128) o S1x1x8x32.size inb)).Stores Finset.univ}
    {hm : Finset.univ = Finset.univ ∨ ∀ a, (Rect.unit (s := S2x9x32x128) o S1x1x8x32.size inb).stride a = 1} {α : Type} {Q : α → sProp 𝕄}
    {k : PUnit → Prog (TpuEff nD τ sig (Elt F) Λ₀ .tc) α}
    (hM : mineM s = M) (ho : o = ![g.val, 8, 0, 0]) (hw : ∀ a b, w (ix4 0 0 a b) = X.M c s g (ix2 a b)) :
    Pk X c s g 8 ⊢ iprop((Pk X c s g 9 -∗ WP c (k ⟨⟩) Q)
      -∗ WP c (.op (.store M (Rect.unit (s := S2x9x32x128) o S1x1x8x32.size inb) w Finset.univ hx hm) k) Q) := by
  subst hM ho
  unfold Pk
  refine held_store (fun j hj => ?_) (fun t t' ht h1 h2 => ?_)
  · have := mem_box.mp hj 0
    simp [mineSet] at this ⊢; omega
  · have out : ∀ (x : Fin 9) (a : Fin 32) (b : Fin 128), x.val < 8 → t' (ix4 g x a b) = t (ix4 g x a b) := fun x a b hx => h2 _ fun hi => by
      have h' : 8 ≤ x.val ∧ x.val < 8 + 1 := mem_box.mp hi 1
      omega
    have ins : ∀ (a : Fin 8) (b : Fin 32), t' (ix4 g 8 ⟨a.val, by omega⟩ ⟨b.val, by omega⟩) = w (ix4 0 0 a b) := fun a b => by
      rw [← h1 (ix4 0 0 a b)]
      congr 1
      funext x; apply Fin.ext; rw [box_idx]
      fin_cases x
      · show g.val = g.val + 0; omega
      · show 8 = 8 + 0; omega
      · show a.val = 0 + a.val; omega
      · show b.val = 0 + b.val; omega
    exact ⟨fun j a b hj => (out _ a b j.isLt).trans (ht.1 j a b j.isLt), fun a b _ => (ins a b).trans (hw a b), fun a b h => absurd h (by omega)⟩

theorem op_pk_sum {M : Memref sig .tc .vmem S2x9x32x128 .f32} {c : Dev nD} {s g : Fin 2} {o : Fin 4 → ℕ} {inb}
    {w : Vec F S1x1x8x32 .f32} {hx : (M.access (Rect.unit (s := S2x9x32x128) o S1x1x8x32.size inb)).Stores Finset.univ}
    {hm : Finset.univ = Finset.univ ∨ ∀ a, (Rect.unit (s := S2x9x32x128) o S1x1x8x32.size inb).stride a = 1} {α : Type} {Q : α → sProp 𝕄}
    {k : PUnit → Prog (TpuEff nD τ sig (Elt F) Λ₀ .tc) α}
    (hM : mineM s = M) (ho : o = ![g.val, 8, 8, 0]) (hw : ∀ a b, w (ix4 0 0 a b) = X.L c s g (ix2 a b)) :
    Pk X c s g 9 ⊢ iprop((Pk X c s g 10 -∗ WP c (k ⟨⟩) Q)
      -∗ WP c (.op (.store M (Rect.unit (s := S2x9x32x128) o S1x1x8x32.size inb) w Finset.univ hx hm) k) Q) := by
  subst hM ho
  unfold Pk
  refine held_store (fun j hj => ?_) (fun t t' ht h1 h2 => ?_)
  · have := mem_box.mp hj 0
    simp [mineSet] at this ⊢; omega
  · have out : ∀ (x : Fin 9) (a : Fin 32) (b : Fin 128), x.val < 8 ∨ a.val < 8 → t' (ix4 g x a b) = t (ix4 g x a b) := fun x a b hx => h2 _ fun hi => by
      have h' : 8 ≤ x.val ∧ x.val < 8 + 1 := mem_box.mp hi 1
      have h'' : 8 ≤ a.val ∧ a.val < 8 + 8 := mem_box.mp hi 2
      omega
    have ins : ∀ (a : Fin 8) (b : Fin 32), t' (ix4 g 8 ⟨8 + a.val, by omega⟩ ⟨b.val, by omega⟩) = w (ix4 0 0 a b) := fun a b => by
      rw [← h1 (ix4 0 0 a b)]
      congr 1
      funext x; apply Fin.ext; rw [box_idx]
      fin_cases x
      · show g.val = g.val + 0; omega
      · show 8 = 8 + 0; omega
      · show 8 + a.val = 8 + a.val; omega
      · show b.val = 0 + b.val; omega
    exact ⟨fun j a b hj => (out _ a b (.inl j.isLt)).trans (ht.1 j a b (by have := j.isLt; omega)),
      fun a b _ => (out 8 _ _ (.inr a.isLt)).trans (ht.2.1 a b (by omega)), fun a b h => (ins a b).trans (hw a b)⟩

/-! ## The result -/

/-- The first `k` heads of the result are written. -/
def OutP (O : Fin 16 → Vec F S32x1x1x128 .f32) (k : ℕ) (t : Vec F S32x1x16x128 .f32) : Prop :=
  ∀ (h : Fin 16) (a : Fin 32) (b : Fin 128), h.val < k → t (ix4 a 0 h b) = O h (ix4 a 0 0 b)
def OutH (O : Fin 16 → Vec F S32x1x1x128 .f32) (c : Dev nD) (k : ℕ) : sProp 𝕄 := Held outM c Finset.univ fullShare (OutP O k)

theorem op_out_peek {O : Fin 16 → Vec F S32x1x1x128 .f32} {c : Dev nD} {m : ℕ}
    {r : LoadRect S32x1x16x128} {hl : outM.view.LoadsAt r} {α : Type} {Q : α → sProp 𝕄}
    {k : (r.shape.Idx → Elt F .f32) → Prog (TpuEff nD τ sig (Elt F) Λ₀ .tc) α} :
    OutH O c m ⊢ iprop((∀ v, OutH O c m -∗ WP c (k v) Q) -∗ WP c (.op (.load outM r hl) k) Q) :=
  held_peek (Finset.subset_univ _)

theorem op_out {O : Fin 16 → Vec F S32x1x1x128 .f32} {c : Dev nD} {o : Fin 4 → ℕ} {inb}
    {w : Vec F S32x1x1x128 .f32} {hx : (outM.access (Rect.unit (s := S32x1x16x128) o S32x1x1x128.size inb)).Stores Finset.univ}
    {hm : Finset.univ = Finset.univ ∨ ∀ a, (Rect.unit (s := S32x1x16x128) o S32x1x1x128.size inb).stride a = 1} {α : Type} {Q : α → sProp 𝕄}
    {k : PUnit → Prog (TpuEff nD τ sig (Elt F) Λ₀ .tc) α} (h : Fin 16) (m m' : ℕ) (hm' : m = h.val) (hm'' : m' = h.val + 1)
    (ho : o = ![0, 0, h.val, 0]) (hw : w = O h) :
    OutH O c m ⊢ iprop((OutH O c m' -∗ WP c (k ⟨⟩) Q)
      -∗ WP c (.op (.store outM (Rect.unit (s := S32x1x16x128) o S32x1x1x128.size inb) w Finset.univ hx hm) k) Q) := by
  subst ho hw hm' hm''
  unfold OutH
  refine held_store (Finset.subset_univ _) (fun t t' ht h1 h2 => ?_)
  intro j a b hj
  by_cases e : j = h
  · subst e
    rw [← h1 (ix4 a 0 0 b)]
    congr 1
    funext x; apply Fin.ext; rw [box_idx]
    fin_cases x
    · show a.val = 0 + a.val; omega
    · rfl
    · show j.val = j.val + 0; omega
    · show b.val = 0 + b.val; omega
  · have hne : j.val ≠ h.val := fun h => e (Fin.ext h)
    refine (h2 _ fun hi => ?_).trans (ht j a b (by omega))
    have h' : h.val ≤ j.val ∧ j.val < h.val + 1 := mem_box.mp hi 2
    omega

end Cert.KernelIdealPf

end
-- ==== Proof.IOps3.lean ====
/-
The synchronisation of the kernel body: signals, the barrier wait, transfers, and the waits for them.
-/
module

public import proofs.«01_k».proof.Proof.IOps2

@[expose] public section

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Vals F)

theorem rec_lev : Rec X ⊢ levAts L lv := by
  unfold Rec
  iintro ⟨%K, #HI, #HR, #HL⟩
  iexact HL

/-- The wait for a copy of a head. -/
theorem op_landed {A : Memref sig .tc .hbm S256x32x16x128 .f32} {M : Memref sig .tc .vmem S16x64x32x128 .f32} {n : Fin 60} {c : Dev nD} {h : Fin 16}
    {f : Buf (Elt F) (A.view.loc (c : Thread nD τ))} {m : ℕ} {sp sp' : Space} {s s' : Shape} {e e' : EltTy} {sm : DmaSem sig}
    {srcw : Memref sig .tc sp' s' e'} {dstw : Memref sig .tc sp s e} {hsrc : srcw.view.WordExact} {hdst : dstw.view.WordExact}
    {α : Type} {Q : α → sProp 𝕄} {k : PUnit → Prog (TpuEff nD τ sig (Elt F) Λ₀ .tc) α}
    (hn : sm = dmaAt n) (hN : dstw.view.dmaCredit = NK) (hl : ∀ k < m, semLv (.dma (dmaAt n)) < semLv (talSem k)) :
    Rec X ⊢ iprop(Ow c m -∗ Fly A M n c h f -∗ ((Ow c m ∗ Done A M n c h f) -∗ WP c (k ⟨⟩) Q)
      -∗ WP c (.op (.waitDma2 sm srcw dstw hsrc hdst) k) Q) := by
  subst hn
  unfold Ow Fly Done
  iintro #HR ⟨%W, HO⟩ HF Hk
  ihave HR' := (rec_open X (c, 0) (c, 0)) $$ HR
  icases HR' with ⟨%κ, %κ', -, -, -, -, #HL⟩
  iapply (Transfers.wp_waitLocalO EC 𝒱₀ (c : Thread nD τ) none (srcw := srcw) (dstw := dstw) (hsrc := hsrc) (hdst := hdst) (k := k) (O := owe c m) (W := W) (D := Landed A M c h f) () (N := NK) hN) $$ [HF HO]
  · isplitl [HF]; · iexact HF
    isplitl [HO]; · iexact HO
    iapply (mayWait (F := F) c _ m hl); iexact HL
  iintro ⟨HD, HS, HO⟩
  iapply Hk
  isplitl [HO]; · iexists _; iexact HO
  isplitl [HD]; · iexact HD
  iexact HS

/-! ## The handshake -/

/-- What a device needs to signal over link `e`: the duty, and its own two slots the peer will write into. -/
def BarTok (c : Dev nD) (e : Fin 6) : sProp 𝕄 :=
  iprop(dutyTok ER (barCell (nb c e)) 0 (opp e) ∗ slotAny c (opp e) 0 ∗ slotAny c (opp e) 1)

theorem op_signal {c n : Dev nD} {sm : Sem sig} {a : Int} {α : Type} {Q : α → sProp 𝕄} {k : PUnit → Prog (TpuEff nD τ sig (Elt F) Λ₀ .tc) α}
    (e : Fin 6) (m : ℕ) (hn : n = nb c e) (hs : sm = barS) (ha : a = ((1 : ℕ) : Int)) (ht : talCell c m = barCell (nb c e)) (hm : talAmt m = 1) :
    Rec X ⊢ iprop(Ow c (m + 1) -∗ BarTok c e -∗ (Ow c m -∗ WP c (k ⟨⟩) Q)
      -∗ WP c (.op (.semSignal ((n : Dev nD), Proc.tc) sm a) k) Q) := by
  subst hn hs ha
  unfold Ow BarTok
  iintro #HR ⟨%W, HO⟩ ⟨Ht, H0, H1⟩ Hk
  ihave HR' := (rec_open X (nb c e, 0) (nb c e, 0)) $$ HR
  icases HR' with ⟨%κ, %κ', #HI, -, #Hr, -⟩
  iapply (Rounds.wp_signal 𝒱₀ ER (sched X) (c : Thread nD τ) none (dst := (nb c e : Thread nD τ)) (κ := κ)
      (d := opp e) (by rw [duties_bar]; exact Finset.mem_univ _) rfl () (owe c m) (by show owe c m + tallyAt (talCell c m) () (talAmt m) = _; rw [ht, hm]; rfl))
    $$ [HO Ht H0 H1]
  · isplitr; · iexact HI
    isplitl [HO]; · iexact HO
    isplitl [Ht]; · iexact Ht
    isplitl [H0 H1]
    · rw [show (sched X).payload ((nb c e : Thread nD τ), .reg barS) 0 (opp e) = iprop(slotAny c (opp e) 0 ∗ slotAny c (opp e) 1) by
        show barPay (nb c e) (opp e) = _
        unfold barPay; rw [nb_opp]]
      isplitl [H0]; · iexact H0
      iexact H1
    iexact Hr
  iintro HO
  iapply Hk
  iexists W
  iexact HO

def BarWait (c : Dev nD) : sProp 𝕄 := iprop(atPos ER (barCell c) 0 ∅ 0 ∗ cred (tallyAt (barCell c) () 6))

theorem op_barrier {c : Dev nD} {sm : Sem sig} {a : Int} {α : Type} {Q : α → sProp 𝕄} {k : PUnit → Prog (TpuEff nD τ sig (Elt F) Λ₀ .tc) α}
    (m : ℕ) (hs : sm = barS) (ha : a = ((6 : ℕ) : Int)) (hl : ∀ k < m, semLv (.reg barS) < semLv (talSem k)) :
    Rec X ⊢ iprop(Ow c m -∗ BarWait c -∗ ((Ow c m ∗ semVal (barCell c) 0 ∗ bigSep Finset.univ (fun e => barPay c e)) -∗ WP c (k ⟨⟩) Q)
      -∗ WP c (.op (.semWait sm a) k) Q) := by
  subst hs ha
  unfold Ow BarWait
  iintro #HR ⟨%W, HO⟩ ⟨Hat, Hc⟩ Hk
  ihave HR' := (rec_open X (c, 0) (c, 0)) $$ HR
  icases HR' with ⟨%κ, %κ', #HI, -, -, -, #HL⟩
  iapply (Rounds.wp_wait_rest_token 𝒱₀ ER (sched X) (c : Thread nD τ) none (κ := κ)
      (wpE_semWait_eq 𝒱₀ (c : Thread nD τ) none Set.univ) (Set.mem_univ _) () (O := owe c m) (W := W) (R := 0) (m := 0) (T := ∅)
      (by rw [expect_bar])) $$ [Hc HO Hat]
  · isplitr; · iexact HI
    isplitl [Hc]; · iexact Hc
    isplitl [HO]; · iexact HO
    isplitr; · iapply (mayWait (F := F) c _ m hl); iexact HL
    iexact Hat
  iintro ⟨HO, Hat, -, Hpay⟩
  ihave Hp := (Entails.of_eq (rest_bar X c)) $$ Hpay
  imod (Rounds.cell_close ER (sched X) (Set.mem_univ κ) (fun h => h) (R := 0 + 1) (duties_later X (barCell c))) $$ [Hat] with Hz
  · isplitr; · iexact HI
    iexact Hat
  iapply Hk
  isplitl [HO]; · iexists _; iexact HO
  isplitl [Hz]; · iexact Hz
  iexact Hp

/-! ## The transfers -/

def SendTok (c : Dev nD) (e : Fin 6) (g : Fin 2) : sProp 𝕄 :=
  iprop(atPos ER (sendCell c e g) 0 ∅ 0 ∗ dutyTok ER (sendCell c e g) 0 (0 : Fin 6) ∗ dutyTok ER (recvCell (nb c e) e g) 0 (0 : Fin 6))
def Sent (c : Dev nD) (e : Fin 6) (g : Fin 2) : sProp 𝕄 :=
  iprop(atPos ER (sendCell c e g) 0 ∅ 0 ∗ cred (tallyAt (sendCell c e g) () N))
def SendDone (c : Dev nD) (e : Fin 6) (g : Fin 2) : sProp 𝕄 := iprop(srcAny c e g ∗ semVal (sendCell c e g) 0)
def RecvTok (c : Dev nD) (e : Fin 6) (g : Fin 2) : sProp 𝕄 :=
  iprop(atPos ER (recvCell c e g) 0 ∅ 0 ∗ cred (tallyAt (recvCell c e g) () N))
def Rcv (c : Dev nD) (e : Fin 6) (g : Fin 2) : sProp 𝕄 := iprop(slotGot X c e g ∗ semVal (recvCell c e g) 0)

theorem amount_dma (g : Thread nD τ) (n : Fin 60) : (sched X).amount (g, .dma (dmaAt n)) 0 (0 : Fin 6) = N := rfl

theorem send_core (c : Dev nD) (e : Fin 6) (g : Fin 2) (m : ℕ) (inb) (inb')
    {hsc : (landW (landM (stg e)) ![g.val, (num e).val, 0, 0, 0] inb' : Memref sig (Dev.tc (nb c e) : Thread nD τ).2.kind .vmem S9x32x128 .f32).view.ref.isScScratch = false}
    {hsrc : (mineW (mineM (stg e)) ![g.val, 0, 0, 0] inb).view.WordExact} {hdst : (landW (landM (stg e)) ![g.val, (num e).val, 0, 0, 0] inb').view.WordExact}
    {hsem : DmaTarget.Typed .vmem (recvS e g) (.remote (p := Proc.tc) (Dev.tc (nb c e) : Thread nD τ) (landW (landM (stg e)) ![g.val, (num e).val, 0, 0, 0] inb') (sendS e g) hsc)}
    {α : Type} {Q : α → sProp 𝕄} {k : PUnit → Prog (TpuEff nD τ sig (Elt F) Λ₀ .tc) α}
    (hN : (landW (landM (stg e)) ![g.val, (num e).val, 0, 0, 0] inb').view.amount (recvS e g) = N)
    (ht : talCell c m = recvCell (nb c e) e g) (hm : talAmt m = N) (W : Waits sig Unit) (κ₁ κ₂ : ℕ)
    (fs : Buf (Elt F) ((mineM (stg e)).view.loc (c : Thread nD τ))) (hs : X.pk c (stg e) g 10 (mineSl g ((mineM (stg e)).view.read (Elt F) fs)))
    (fd : Buf (Elt F) ((landM (stg e)).view.loc (nb c e : Thread nD τ))) :
    iprop(cellInv ER (sched X) κ₁ (sendCell c e g) ∗ cellInv ER (sched X) κ₂ (recvCell (nb c e) e g)
        ∗ ((mineM (stg e)).view.loc (c : Thread nD τ) ↦[(mineW (mineM (stg e)) ![g.val, 0, 0, 0] inb).view.set]{shr (num e)} fs)
        ∗ ((landM (stg e)).view.loc (nb c e : Thread nD τ) ↦[(landW (landM (stg e)) ![g.val, (num e).val, 0, 0, 0] inb').view.set]{fullShare} fd)
        ∗ owes (c : Thread nD τ) (owe c (m + 1)) W
        ∗ dutyTok ER (sendCell c e g) 0 (0 : Fin 6) ∗ reached ER (sendCell c e g) 0
        ∗ dutyTok ER (recvCell (nb c e) e g) 0 (0 : Fin 6) ∗ reached ER (recvCell (nb c e) e g) 0)
      ⊢ iprop(((cred (tallyAt (sendCell c e g) () N) ∗ owes (c : Thread nD τ) (owe c m) W) -∗ WP c (k ⟨⟩) Q)
      -∗ WP c (.op (.enqueueDma (mineW (mineM (stg e)) ![g.val, 0, 0, 0] inb) (.remote (Dev.tc (nb c e) : Thread nD τ)
          (landW (landM (stg e)) ![g.val, (num e).val, 0, 0, 0] inb') (sendS e g) hsc) (recvS e g) hsrc hdst hsem) k) Q) := by
  have hp1 : ((mineM (stg e)).view.loc (c : Thread nD τ) ↦[(mineW (mineM (stg e)) ![g.val, 0, 0, 0] inb).view.set]{shr (num e)} fs)
      ⊢ (sched X).payload (sendCell c e g) 0 0 := by
    rw [payload_send]; unfold srcAny Held
    rw [← mineW_set _ g inb]
    iintro H; iexists fs
    isplitl [H]; · iexact H
    ipureintro; trivial
  have e0 : landSl g (num e) ((landM (stg e)).view.read (Elt F) ((landW (landM (stg e)) ![g.val, (num e).val, 0, 0, 0] inb').view.write (Elt F) fd
      ((mineW (mineM (stg e)) ![g.val, 0, 0, 0] inb).view.read (Elt F) fs) Finset.univ)) = mineSl g ((mineM (stg e)).view.read (Elt F) fs) := by
    funext j
    refine (landW_read (landM (stg e)) g (num e) inb' _ j).symm.trans ?_
    erw [View.read_write_univ]
    exact mineW_read (mineM (stg e)) g inb fs j
  have hp2 : ((landM (stg e)).view.loc (nb c e : Thread nD τ) ↦[(landW (landM (stg e)) ![g.val, (num e).val, 0, 0, 0] inb').view.set]{fullShare}
      ((landW (landM (stg e)) ![g.val, (num e).val, 0, 0, 0] inb').view.write (Elt F) fd
      ((mineW (mineM (stg e)) ![g.val, 0, 0, 0] inb).view.read (Elt F) fs) Finset.univ)) ⊢ (sched X).payload (recvCell (nb c e) e g) 0 0 := by
    rw [payload_recv]; unfold slotGot Held
    rw [← landW_set _ g (num e) inb', nb_opp]
    iintro H; iexists _
    isplitl [H]; · iexact H
    ipureintro
    show X.pk c (stg e) g 10 _
    rw [e0]; exact hs
  have ha1 : (sched X).amount (sendCell c e g) 0 (0 : Fin 6) = N := amount_dma X _ _
  have ha2 : (sched X).amount (recvCell (nb c e) e g) 0 (0 : Fin 6) = N := amount_dma X _ _
  have hO : owe c (m + 1) = owe c m + tallyAt (recvCell (nb c e) e g) () N := by
    show owe c m + tallyAt (talCell c m) () (talAmt m) = _; rw [ht, hm]
  have hr : τ.routes (c : Thread nD τ) (nb c e : Thread nD τ) = true := by routes
  have hd1 : (0 : Fin 6) ∈ (sched X).duties (sendCell c e g) 0 := by rw [duties_send]; exact Finset.mem_singleton_self _
  have hd2 : (0 : Fin 6) ∈ (sched X).duties (recvCell (nb c e) e g) 0 := by rw [duties_recv]; exact Finset.mem_singleton_self _
  exact Rounds.wp_send_pointsTo 𝒱₀ ER (sched X) (c : Thread nD τ) none (κ₁ := κ₁) (κ₂ := κ₂) (sS := sendS e g) (sem := recvS e g)
    (c' := (nb c e : Thread nD τ)) (src := mineW (mineM (stg e)) ![g.val, 0, 0, 0] inb) (dst := landW (landM (stg e)) ![g.val, (num e).val, 0, 0, 0] inb') (hsc := hsc)
    (hsrc := hsrc) (hdst := hdst) (hsem := hsem) (k := k) (q := shr (num e)) (fs := fs) (fd := fd) (r₁ := 0) (r₂ := 0) (d₁ := (0 : Fin 6)) (d₂ := (0 : Fin 6))
    hd1 hd2 () () N hN ha1 ha2 (owe c m) hO (W := W) hp1 hp2 hr

theorem op_send {c n : Dev nD} {e : Fin 6} {g : Fin 2} {M : Memref sig .tc .vmem S2x9x32x128 .f32} {M' : Memref sig .tc .vmem S2x3x9x32x128 .f32}
    {o : Fin 4 → ℕ} {inb} {o' : Fin 5 → ℕ} {inb'} {sS sR : DmaSem sig}
    {hsc : (landW M' o' inb' : Memref sig (Dev.tc n : Thread nD τ).2.kind .vmem S9x32x128 .f32).view.ref.isScScratch = false}
    {hsrc : (mineW M o inb).view.WordExact} {hdst : (landW M' o' inb').view.WordExact}
    {hsem : DmaTarget.Typed .vmem (.dma sR) (.remote (p := Proc.tc) (Dev.tc n : Thread nD τ) (landW M' o' inb') (.dma sS) hsc)}
    {α : Type} {Q : α → sProp 𝕄} {k : PUnit → Prog (TpuEff nD τ sig (Elt F) Λ₀ .tc) α}
    (m : ℕ) (hn : n = nb c e) (hM : mineM (stg e) = M) (hM' : landM (stg e) = M') (ho : o = ![g.val, 0, 0, 0]) (ho' : o' = ![g.val, (num e).val, 0, 0, 0])
    (hS : sS = dmaAt (sendN e g)) (hR : sR = dmaAt (recvN e g)) (hN : (landW M' o' inb').view.amount (.dma sR) = N)
    (ht : talCell c m = recvCell (nb c e) e g) (hm : talAmt m = N) :
    Rec X ⊢ iprop(Ow c (m + 1) -∗ srcGot X c e g -∗ slotAny (nb c e) e g -∗ SendTok c e g
      -∗ ((Ow c m ∗ Sent c e g) -∗ WP c (k ⟨⟩) Q)
      -∗ WP c (.op (.enqueueDma (mineW M o inb) (.remote (Dev.tc n : Thread nD τ) (landW M' o' inb') (.dma sS) hsc) (.dma sR) hsrc hdst hsem) k) Q) := by
  subst hn hM hM' ho ho' hS hR
  unfold Ow srcGot slotAny SendTok Sent Held
  rw [← mineW_set _ g inb, ← landW_set _ g (num e) inb']
  iintro #HR ⟨%W, HO⟩ ⟨%fs, Hs, %hs⟩ ⟨%fd, Hd, -⟩ ⟨Hat, Ht1, Ht2⟩ Hk
  ihave HR' := (rec_open X (c, sIdx e g) (nb c e, rIdx e g)) $$ HR
  rw [show kcell (c, sIdx e g) = sendCell c e g from congrArg (Prod.mk _) (csem_send e g),
    show kcell (nb c e, rIdx e g) = recvCell (nb c e) e g from congrArg (Prod.mk _) (csem_recv e g)]
  icases HR' with ⟨%κ₁, %κ₂, #HI1, #HI2, #Hr1, #Hr2, -⟩
  iapply (send_core X c e g m inb inb' hN ht hm W κ₁ κ₂ fs hs fd) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hat]; · iexact Hat
  iexact Hc

/-- The wait for the end of this device's own transfer: its share of the packed group is back. -/
theorem op_sent {c : Dev nD} {e : Fin 6} {g : Fin 2} {m : ℕ} {sp sp' : Space} {s s' : Shape} {e₀ e₀' : EltTy} {sm : DmaSem sig}
    {srcw : Memref sig .tc sp' s' e₀'} {dstw : Memref sig .tc sp s e₀} {hsrc : srcw.view.WordExact} {hdst : dstw.view.WordExact}
    {α : Type} {Q : α → sProp 𝕄} {k : PUnit → Prog (TpuEff nD τ sig (Elt F) Λ₀ .tc) α}
    (hn : sm = dmaAt (sendN e g)) (hN : dstw.view.dmaCredit = N) (hl : ∀ k < m, semLv (sendS e g) < semLv (talSem k)) :
    Rec X ⊢ iprop(Ow c m -∗ Sent c e g -∗ ((Ow c m ∗ SendDone c e g) -∗ WP c (k ⟨⟩) Q)
      -∗ WP c (.op (.waitDma2 sm srcw dstw hsrc hdst) k) Q) := by
  subst hn
  unfold Ow Sent SendDone
  iintro #HR ⟨%W, HO⟩ ⟨Hat, Hc⟩ Hk
  ihave HR' := (rec_open X (c, sIdx e g) (c, sIdx e g)) $$ HR
  rw [show kcell (c, sIdx e g) = sendCell c e g from congrArg (Prod.mk _) (csem_send e g)]
  icases HR' with ⟨%κ, %κ', #HI, -, -, -, #HL⟩
  iapply (Rounds.wp_wait_rest_token 𝒱₀ ER (sched X) (c : Thread nD τ) none (κ := κ)
      (wpE_waitDma2_eq 𝒱₀ (c : Thread nD τ) none Set.univ (src := srcw) (dst := dstw)) (Set.mem_univ _) () (O := owe c m) (W := W) (R := 0) (m := 0) (T := ∅)
      (by rw [expect_dma X c _ (sendN_ge e g), hN, Nat.zero_add])) $$ [Hc HO Hat]
  · isplitr; · iexact HI
    isplitl [Hc]; · rw [hN]; iexact Hc
    isplitl [HO]; · iexact HO
    isplitr; · iapply (mayWait (F := F) c _ m hl); iexact HL
    iexact Hat
  iintro ⟨HO, Hat, -, Hpay⟩
  ihave Hp := (Entails.of_eq (rest_send X c e g)) $$ Hpay
  imod (Rounds.cell_close ER (sched X) (Set.mem_univ κ) (fun h => h) (R := 0 + 1) (duties_later X (sendCell c e g))) $$ [Hat] with Hz
  · isplitr; · iexact HI
    iexact Hat
  iapply Hk
  isplitl [HO]; · iexists _; iexact HO
  isplitl [Hp]; · iexact Hp
  iexact Hz

/-- The wait for a peer's transfer: the slot holds what the peer packed. -/
theorem op_recv {c : Dev nD} {e : Fin 6} {g : Fin 2} {m : ℕ} {sp sp' : Space} {s s' : Shape} {e₀ e₀' : EltTy} {sm : DmaSem sig}
    {srcw : Memref sig .tc sp' s' e₀'} {dstw : Memref sig .tc sp s e₀} {hsrc : srcw.view.WordExact} {hdst : dstw.view.WordExact}
    {α : Type} {Q : α → sProp 𝕄} {k : PUnit → Prog (TpuEff nD τ sig (Elt F) Λ₀ .tc) α}
    (hn : sm = dmaAt (recvN e g)) (hN : dstw.view.dmaCredit = N) (hl : ∀ k < m, semLv (recvS e g) < semLv (talSem k)) :
    Rec X ⊢ iprop(Ow c m -∗ RecvTok c e g -∗ ((Ow c m ∗ Rcv X c e g) -∗ WP c (k ⟨⟩) Q)
      -∗ WP c (.op (.waitDma2 sm srcw dstw hsrc hdst) k) Q) := by
  subst hn
  unfold Ow RecvTok Rcv
  iintro #HR ⟨%W, HO⟩ ⟨Hat, Hc⟩ Hk
  ihave HR' := (rec_open X (c, rIdx e g) (c, rIdx e g)) $$ HR
  rw [show kcell (c, rIdx e g) = recvCell c e g from congrArg (Prod.mk _) (csem_recv e g)]
  icases HR' with ⟨%κ, %κ', #HI, -, -, -, #HL⟩
  iapply (Rounds.wp_wait_rest_token 𝒱₀ ER (sched X) (c : Thread nD τ) none (κ := κ)
      (wpE_waitDma2_eq 𝒱₀ (c : Thread nD τ) none Set.univ (src := srcw) (dst := dstw)) (Set.mem_univ _) () (O := owe c m) (W := W) (R := 0) (m := 0) (T := ∅)
      (by rw [expect_dma X c _ (recvN_ge e g), hN, Nat.zero_add])) $$ [Hc HO Hat]
  · isplitr; · iexact HI
    isplitl [Hc]; · rw [hN]; iexact Hc
    isplitl [HO]; · iexact HO
    isplitr; · iapply (mayWait (F := F) c _ m hl); iexact HL
    iexact Hat
  iintro ⟨HO, Hat, -, Hpay⟩
  ihave Hp := (Entails.of_eq (rest_recv X c e g)) $$ Hpay
  imod (Rounds.cell_close ER (sched X) (Set.mem_univ κ) (fun h => h) (R := 0 + 1) (duties_later X (recvCell c e g))) $$ [Hat] with Hz
  · isplitr; · iexact HI
    iexact Hat
  iapply Hk
  isplitl [HO]; · iexists _; iexact HO
  isplitl [Hp]; · iexact Hp
  iexact Hz

/-! ## Loads of what has arrived -/

theorem rcv_ld {c : Dev nD} {e : Fin 6} {g : Fin 2} {M : Memref sig .tc .vmem S2x3x9x32x128 .f32} {o sz : Fin 5 → ℕ} {inb}
    {hl : M.view.LoadsAt (Rect.unit (s := S2x3x9x32x128) o sz inb).toLoadRect} {α : Type} {Q : α → sProp 𝕄}
    {k : ((Rect.unit (s := S2x3x9x32x128) o sz inb).toLoadRect.shape.Idx → Elt F .f32) → Prog (TpuEff nD τ sig (Elt F) Λ₀ .tc) α}
    (v : (Rect.unit (s := S2x3x9x32x128) o sz inb).toLoadRect.shape.Idx → Elt F .f32)
    (hM : landM (stg e) = M) (ho : o 0 = g.val ∧ o 1 = (num e).val ∧ sz 0 = 1 ∧ sz 1 = 1)
    (hv : ∀ t : Vec F S2x3x9x32x128 .f32, X.pk (nb c (opp e)) (stg e) g 10 (landSl g (num e) t) → (fun j => t ((Rect.unit (s := S2x3x9x32x128) o sz inb).toLoadRect.idx j)) = v) :
    Rcv X c e g ⊢ iprop((Rcv X c e g -∗ WP c (k v) Q)
      -∗ WP c (.op (.load M (Rect.unit (s := S2x3x9x32x128) o sz inb).toLoadRect hl) k) Q) := by
  subst hM
  unfold Rcv slotGot
  iintro ⟨HM, HS⟩ Hk
  iapply (held_load v ?_ hv) $$ HM
  · intro i hi
    have h0 := mem_box.mp hi 0
    have h1 := mem_box.mp hi 1
    simp only [landSet, Finset.mem_filter, Finset.mem_univ, true_and]; omega
  iintro HM
  iapply Hk
  isplitl [HM]; · iexact HM
  iexact HS

def accBox (w : Vec F S1x1x32x128 .f32) : Vec F S1x1x1x32x128 .f32 := fun j => w (ix4 0 0 (j 3) (j 4))
def rowBox (w : Vec F S1x1x8x32 .f32) : Vec F S1x1x1x8x32 .f32 := fun j => w (ix4 0 0 (j 3) (j 4))

theorem op_ld_acc {c : Dev nD} {e : Fin 6} {g : Fin 2} {M : Memref sig .tc .vmem S2x3x9x32x128 .f32} {o : Fin 5 → ℕ} {inb}
    {hl : M.view.LoadsAt (Rect.unit (s := S2x3x9x32x128) o S1x1x1x32x128.size inb).toLoadRect} {α : Type} {Q : α → sProp 𝕄}
    {k : Vec F S1x1x1x32x128 .f32 → Prog (TpuEff nD τ sig (Elt F) Λ₀ .tc) α} (i : Fin 8) (w : Vec F S1x1x32x128 .f32)
    (hM : landM (stg e) = M) (ho : o = ![g.val, (num e).val, i.val, 0, 0]) (hw : ∀ a b, X.A (nb c (opp e)) (stg e) g i (ix2 a b) = w (ix4 0 0 a b)) :
    Rcv X c e g ⊢ iprop((Rcv X c e g -∗ WP c (k (accBox w)) Q)
      -∗ WP c (.op (.load M (Rect.unit (s := S2x3x9x32x128) o S1x1x1x32x128.size inb).toLoadRect hl) k) Q) := by
  subst ho
  refine rcv_ld X (accBox w) hM ⟨rfl, rfl, rfl, rfl⟩ fun t ht => funext fun j => ?_
  refine Eq.trans ?_ ((ht.1 i (j 3) (j 4) (by have := i.isLt; omega)).trans (hw _ _))
  show t _ = t _
  congr 1
  have h0 : (j 0).val < 1 := (j 0).isLt
  have h1 : (j 1).val < 1 := (j 1).isLt
  have h2 : (j 2).val < 1 := (j 2).isLt
  funext x; apply Fin.ext; refine (box_idx ..).trans ?_
  fin_cases x
  · show g.val + (j 0).val = g.val; omega
  · show (num e).val + (j 1).val = (num e).val; omega
  · show i.val + (j 2).val = i.val; omega
  · show 0 + (j 3).val = (j 3).val; omega
  · show 0 + (j 4).val = (j 4).val; omega

theorem op_ld_max {c : Dev nD} {e : Fin 6} {g : Fin 2} {M : Memref sig .tc .vmem S2x3x9x32x128 .f32} {o : Fin 5 → ℕ} {inb}
    {hl : M.view.LoadsAt (Rect.unit (s := S2x3x9x32x128) o S1x1x1x8x32.size inb).toLoadRect} {α : Type} {Q : α → sProp 𝕄}
    {k : Vec F S1x1x1x8x32 .f32 → Prog (TpuEff nD τ sig (Elt F) Λ₀ .tc) α} (w : Vec F S1x1x8x32 .f32)
    (hM : landM (stg e) = M) (ho : o = ![g.val, (num e).val, 8, 0, 0]) (hw : ∀ a b, X.M (nb c (opp e)) (stg e) g (ix2 a b) = w (ix4 0 0 a b)) :
    Rcv X c e g ⊢ iprop((Rcv X c e g -∗ WP c (k (rowBox w)) Q)
      -∗ WP c (.op (.load M (Rect.unit (s := S2x3x9x32x128) o S1x1x1x8x32.size inb).toLoadRect hl) k) Q) := by
  subst ho
  refine rcv_ld X (rowBox w) hM ⟨rfl, rfl, rfl, rfl⟩ fun t ht => funext fun j => ?_
  refine Eq.trans ?_ ((ht.2.1 (j 3) (j 4) (by decide)).trans (hw _ _))
  show t _ = t _
  congr 1
  have h0 : (j 0).val < 1 := (j 0).isLt
  have h1 : (j 1).val < 1 := (j 1).isLt
  have h2 : (j 2).val < 1 := (j 2).isLt
  funext x; apply Fin.ext; refine (box_idx ..).trans ?_
  fin_cases x
  · show g.val + (j 0).val = g.val; omega
  · show (num e).val + (j 1).val = (num e).val; omega
  · show 8 + (j 2).val = 8; omega
  · show 0 + (j 3).val = (j 3).val; omega
  · show 0 + (j 4).val = (j 4).val; omega

theorem op_ld_sum {c : Dev nD} {e : Fin 6} {g : Fin 2} {M : Memref sig .tc .vmem S2x3x9x32x128 .f32} {o : Fin 5 → ℕ} {inb}
    {hl : M.view.LoadsAt (Rect.unit (s := S2x3x9x32x128) o S1x1x1x8x32.size inb).toLoadRect} {α : Type} {Q : α → sProp 𝕄}
    {k : Vec F S1x1x1x8x32 .f32 → Prog (TpuEff nD τ sig (Elt F) Λ₀ .tc) α} (w : Vec F S1x1x8x32 .f32)
    (hM : landM (stg e) = M) (ho : o = ![g.val, (num e).val, 8, 8, 0]) (hw : ∀ a b, X.L (nb c (opp e)) (stg e) g (ix2 a b) = w (ix4 0 0 a b)) :
    Rcv X c e g ⊢ iprop((Rcv X c e g -∗ WP c (k (rowBox w)) Q)
      -∗ WP c (.op (.load M (Rect.unit (s := S2x3x9x32x128) o S1x1x1x8x32.size inb).toLoadRect hl) k) Q) := by
  subst ho
  refine rcv_ld X (rowBox w) hM ⟨rfl, rfl, rfl, rfl⟩ fun t ht => funext fun j => ?_
  refine Eq.trans ?_ ((ht.2.2 (j 3) (j 4) (by decide)).trans (hw _ _))
  show t _ = t _
  congr 1
  have h0 : (j 0).val < 1 := (j 0).isLt
  have h1 : (j 1).val < 1 := (j 1).isLt
  have h2 : (j 2).val < 1 := (j 2).isLt
  funext x; apply Fin.ext; refine (box_idx ..).trans ?_
  fin_cases x
  · show g.val + (j 0).val = g.val; omega
  · show (num e).val + (j 1).val = (num e).val; omega
  · show 8 + (j 2).val = 8; omega
  · show 8 + (j 3).val = 8 + (j 3).val; omega
  · show 0 + (j 4).val = (j 4).val; omega

/-! ## The shares of a packed group -/

theorem pk_split (c : Dev nD) (s g : Fin 2) : Pk X c s g 10 ⊢ iprop(
    Held (mineM s) c (mineSet g) (shr 0) (fun t => X.pk c s g 10 (mineSl g t))
    ∗ Held (mineM s) c (mineSet g) (shr 1) (fun t => X.pk c s g 10 (mineSl g t))
    ∗ Held (mineM s) c (mineSet g) (shr 2) (fun t => X.pk c s g 10 (mineSl g t))) := by
  unfold Pk Held
  iintro ⟨%f, H, %hf⟩
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]
  · iexists f; isplitl [H0]; · iexact H0
    ipureintro; exact hf
  isplitl [H1]
  · iexists f; isplitl [H1]; · iexact H1
    ipureintro; exact hf
  · iexists f; isplitl [H2]; · iexact H2
    ipureintro; exact hf

end Cert.KernelIdealPf

end
-- ==== Proof.IOps4.lean ====
/-
Small facts of the exchange at each link and head, and the steps between parts.
-/
module

public import proofs.«01_k».proof.Proof.IOps3

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem off_eq0 (c : Dev nD) : k0_off1 c = ![page0 c, 0, 0, 0] := by revert c; decide +kernel
theorem off_eq1 (c : Dev nD) : k0_off2 c = ![page0 c, 0, 1, 0] := by revert c; decide +kernel
theorem off_eq2 (c : Dev nD) : k0_off3 c = ![page0 c, 0, 2, 0] := by revert c; decide +kernel
theorem off_eq3 (c : Dev nD) : k0_off4 c = ![page0 c, 0, 3, 0] := by revert c; decide +kernel
theorem off_eq4 (c : Dev nD) : k0_off5 c = ![page0 c, 0, 4, 0] := by revert c; decide +kernel
theorem off_eq5 (c : Dev nD) : k0_off6 c = ![page0 c, 0, 5, 0] := by revert c; decide +kernel
theorem off_eq6 (c : Dev nD) : k0_off7 c = ![page0 c, 0, 6, 0] := by revert c; decide +kernel
theorem off_eq7 (c : Dev nD) : k0_off8 c = ![page0 c, 0, 7, 0] := by revert c; decide +kernel
theorem off_eq8 (c : Dev nD) : k0_off9 c = ![page0 c, 0, 8, 0] := by revert c; decide +kernel
theorem off_eq9 (c : Dev nD) : k0_off10 c = ![page0 c, 0, 9, 0] := by revert c; decide +kernel
theorem off_eq10 (c : Dev nD) : k0_off11 c = ![page0 c, 0, 10, 0] := by revert c; decide +kernel
theorem off_eq11 (c : Dev nD) : k0_off12 c = ![page0 c, 0, 11, 0] := by revert c; decide +kernel
theorem off_eq12 (c : Dev nD) : k0_off13 c = ![page0 c, 0, 12, 0] := by revert c; decide +kernel
theorem off_eq13 (c : Dev nD) : k0_off14 c = ![page0 c, 0, 13, 0] := by revert c; decide +kernel
theorem off_eq14 (c : Dev nD) : k0_off15 c = ![page0 c, 0, 14, 0] := by revert c; decide +kernel
theorem off_eq15 (c : Dev nD) : k0_off16 c = ![page0 c, 0, 15, 0] := by revert c; decide +kernel
theorem dev_eq1 (c : Dev nD) : (⟨k0_dev1 c, k0_dev1_lt c⟩ : Dev nD) = nb c 0 := by revert c; decide +kernel
theorem dev_eq2 (c : Dev nD) : (⟨k0_dev2 c, k0_dev2_lt c⟩ : Dev nD) = nb c 1 := by revert c; decide +kernel
theorem dev_eq3 (c : Dev nD) : (⟨k0_dev3 c, k0_dev3_lt c⟩ : Dev nD) = nb c 2 := by revert c; decide +kernel
theorem dev_eq4 (c : Dev nD) : (⟨k0_dev4 c, k0_dev4_lt c⟩ : Dev nD) = nb c 3 := by revert c; decide +kernel
theorem dev_eq5 (c : Dev nD) : (⟨k0_dev5 c, k0_dev5_lt c⟩ : Dev nD) = nb c 4 := by revert c; decide +kernel
theorem dev_eq6 (c : Dev nD) : (⟨k0_dev6 c, k0_dev6_lt c⟩ : Dev nD) = nb c 5 := by revert c; decide +kernel
theorem dev_eq7 (c : Dev nD) : (⟨k0_dev7 c, k0_dev7_lt c⟩ : Dev nD) = nb c 0 := by revert c; decide +kernel
theorem dev_eq8 (c : Dev nD) : (⟨k0_dev8 c, k0_dev8_lt c⟩ : Dev nD) = nb c 1 := by revert c; decide +kernel
theorem dev_eq9 (c : Dev nD) : (⟨k0_dev9 c, k0_dev9_lt c⟩ : Dev nD) = nb c 2 := by revert c; decide +kernel
theorem dev_eq10 (c : Dev nD) : (⟨k0_dev10 c, k0_dev10_lt c⟩ : Dev nD) = nb c 0 := by revert c; decide +kernel
theorem dev_eq11 (c : Dev nD) : (⟨k0_dev11 c, k0_dev11_lt c⟩ : Dev nD) = nb c 1 := by revert c; decide +kernel
theorem dev_eq12 (c : Dev nD) : (⟨k0_dev12 c, k0_dev12_lt c⟩ : Dev nD) = nb c 2 := by revert c; decide +kernel
theorem dev_eq13 (c : Dev nD) : (⟨k0_dev13 c, k0_dev13_lt c⟩ : Dev nD) = nb c 3 := by revert c; decide +kernel
theorem dev_eq14 (c : Dev nD) : (⟨k0_dev14 c, k0_dev14_lt c⟩ : Dev nD) = nb c 4 := by revert c; decide +kernel
theorem dev_eq15 (c : Dev nD) : (⟨k0_dev15 c, k0_dev15_lt c⟩ : Dev nD) = nb c 5 := by revert c; decide +kernel
theorem dev_eq16 (c : Dev nD) : (⟨k0_dev16 c, k0_dev16_lt c⟩ : Dev nD) = nb c 3 := by revert c; decide +kernel
theorem dev_eq17 (c : Dev nD) : (⟨k0_dev17 c, k0_dev17_lt c⟩ : Dev nD) = nb c 4 := by revert c; decide +kernel
theorem dev_eq18 (c : Dev nD) : (⟨k0_dev18 c, k0_dev18_lt c⟩ : Dev nD) = nb c 5 := by revert c; decide +kernel

theorem tal_bar (c : Dev nD) (e : Fin 6) : talCell c (17 - e.val) = barCell (nb c e) := by revert e; decide +revert
theorem tal_recv (c : Dev nD) (e : Fin 6) (g : Fin 2) (n : ℕ) (h1 : talLink n = e) (h2 : talSem n = recvS e g) : talCell c n = recvCell (nb c e) e g := by
  unfold talCell; rw [h1, h2]

theorem op_dev {c : Dev nD} {α : Type} {Q : α → sProp 𝕄} {k : Dev nD → Prog (TpuEff nD τ sig (Elt F) Λ₀ .tc) α} :
    WP c (k c) Q ⊢ WP c (.op .deviceId k) Q := by
  unfold WP; rw [wp_deviceId]

theorem fin {c : Dev nD} {α : Type} {Q : α → sProp 𝕄} (r : α) : Q r ⊢ WP c (.ret r) Q := by
  unfold WP; rw [wp_ret]; iintro H; imodintro; iexact H

theorem fin_eq {c : Dev nD} {α : Type} {Q : α → sProp 𝕄} (r r' : α) (h : r = r') : Q r' ⊢ WP c (.ret r) Q := by
  subst h; exact fin r

theorem seqW {c : Dev nD} {α β : Type} {Q : β → sProp 𝕄} {p : Prog (TpuEff nD τ sig (Elt F) Λ₀ .tc) α} {k : α → Prog (TpuEff nD τ sig (Elt F) Λ₀ .tc) β} :
    WP c p (fun x => WP c (k x) Q) ⊢ WP c (p >>= k) Q := by
  unfold WP; rw [wp_bind]

theorem bar_split (c : Dev nD) : (bigSep Finset.univ fun e : Fin 6 => barPay (F := F) c e)
    ⊢ iprop(slotAny (nb c 0) 0 0 ∗ slotAny (nb c 0) 0 1 ∗ slotAny (nb c 1) 1 0 ∗ slotAny (nb c 1) 1 1 ∗ slotAny (nb c 2) 2 0 ∗ slotAny (nb c 2) 2 1
      ∗ slotAny (nb c 3) 3 0 ∗ slotAny (nb c 3) 3 1 ∗ slotAny (nb c 4) 4 0 ∗ slotAny (nb c 4) 4 1 ∗ slotAny (nb c 5) 5 0 ∗ slotAny (nb c 5) 5 1) := by
  rw [bigSep_univ_succ, bigSep_univ_succ, bigSep_univ_succ, bigSep_univ_succ, bigSep_univ_succ, bigSep_univ_succ]
  unfold barPay
  iintro ⟨⟨A, B⟩, ⟨C, D⟩, ⟨E, F⟩, ⟨G, H⟩, ⟨I, J⟩, ⟨K, L⟩, -⟩
  isplitl [A]; · iexact A
  isplitl [B]; · iexact B
  isplitl [C]; · iexact C
  isplitl [D]; · iexact D
  isplitl [E]; · iexact E
  isplitl [F]; · iexact F
  isplitl [G]; · iexact G
  isplitl [H]; · iexact H
  isplitl [I]; · iexact I
  isplitl [J]; · iexact J
  isplitl [K]; · iexact K
  iexact L

end Cert.KernelIdealPf

end
-- ==== Proof.IVals.lean ====
/-
What the kernel computes on a device, value by value: each is the printed payload of the values before it, and what a
device receives is what the device at the other end of the link packed.
-/
module

public import proofs.«01_k».proof.Proof.IOps4

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the devices start from: a device's query, page table and lengths, and its blocks of the key and value arrays. -/
structure Args (F : FTy → Type) [FloatOps F] where
  q : Dev nD → Vec F S32x1x16x128 .f32
  k : (c : Dev nD) → Buf (Elt F) (kH.view.loc (c : Thread nD τ))
  v : (c : Dev nD) → Buf (Elt F) (vH.view.loc (c : Thread nD τ))
  bt : Dev nD → Vec F S32x256 .i32
  len : Dev nD → Vec F S32 .i32

def x8 (c : Dev nD) : BitVec 32 := (Scalar.remsi (Scalar.divsi (Dev.word c) 1#32) 4#32)
def x11 (c : Dev nD) : BitVec 32 := (Scalar.muli (Scalar.addi (Scalar.muli (Scalar.remsi (Scalar.divsi (Dev.word c) 8#32) 2#32) 2#32) (Scalar.remsi (Scalar.divsi (Dev.word c) 4#32) 2#32)) 64#32)
def x204 : Sems sig S_ := (SemArray.scalar (sig.barrier 0 rfl))
def x365 (a : Args F) (c : Dev nD) : IVec S1x64x1 32 := k0_pay1 (x8 c) (x11 c)
def x371 (a : Args F) (c : Dev nD) : IVec S32x1x256 1 := k0_pay2 (fun j => a.len c ((Rect.unit (s := S32) ![0] S32.size inb_S32_S32_0).toLoadRect.idx j))
def x373 (a : Args F) (c : Dev nD) : IVec S32x256 32 := k0_pay3 (fun j => a.bt c ((Rect.unit (s := S32x256) ![0, 0] S32x256.size inb_S32x256_S32x256_0_0).toLoadRect.idx j))
def x386 (a : Args F) (c : Dev nD) : FVec F S32x2048 .f32 := k0_pay4 (F := F) (x365 a c) (x371 a c) (x373 a c)
def x389 (a : Args F) (c : Dev nD) : FVec F S32x128 .bf16 := k0_pay5 (fun j => a.q c ((Rect.unit (s := S32x1x16x128) ![0, 0, 0, 0] S32x1x1x128.size inb_S32x1x16x128_S32x1x1x128_0_0_0_0).toLoadRect.idx j))
def x405 (a : Args F) (c : Dev nD) : FVec F S2048x128 .bf16 := k0_pay6 (headOf c 0 (kH.view.read (Elt F) (a.k c)))
def x414 (a : Args F) (c : Dev nD) : FVec F S32x1 .f32 := k0_pay8 (x389 a c) (x405 a c)
def x420 (a : Args F) (c : Dev nD) : FVec F S32x1 .f32 := k0_pay10 (x386 a c) (x389 a c) (x405 a c)
def x422 (a : Args F) (c : Dev nD) : FVec F S32x128 .f32 := k0_pay11 (x386 a c) (x389 a c) (x405 a c) (headOf c 0 (vH.view.read (Elt F) (a.v c)))
def x425 (a : Args F) (c : Dev nD) : FVec F S32x128 .bf16 := k0_pay12 (fun j => a.q c ((Rect.unit (s := S32x1x16x128) ![0, 0, 1, 0] S32x1x1x128.size inb_S32x1x16x128_S32x1x1x128_0_0_1_0).toLoadRect.idx j))
def x450 (a : Args F) (c : Dev nD) : FVec F S32x1 .f32 := k0_pay14 (x425 a c) (headOf c 1 (kH.view.read (Elt F) (a.k c)))
def x456 (a : Args F) (c : Dev nD) : FVec F S32x1 .f32 := k0_pay16 (x386 a c) (x425 a c) (headOf c 1 (kH.view.read (Elt F) (a.k c)))
def x458 (a : Args F) (c : Dev nD) : FVec F S32x128 .f32 := k0_pay17 (x386 a c) (x425 a c) (headOf c 1 (kH.view.read (Elt F) (a.k c))) (headOf c 1 (vH.view.read (Elt F) (a.v c)))
def x461 (a : Args F) (c : Dev nD) : FVec F S32x128 .bf16 := k0_pay18 (fun j => a.q c ((Rect.unit (s := S32x1x16x128) ![0, 0, 2, 0] S32x1x1x128.size inb_S32x1x16x128_S32x1x1x128_0_0_2_0).toLoadRect.idx j))
def x486 (a : Args F) (c : Dev nD) : FVec F S32x1 .f32 := k0_pay20 (x461 a c) (headOf c 2 (kH.view.read (Elt F) (a.k c)))
def x492 (a : Args F) (c : Dev nD) : FVec F S32x1 .f32 := k0_pay22 (x386 a c) (x461 a c) (headOf c 2 (kH.view.read (Elt F) (a.k c)))
def x494 (a : Args F) (c : Dev nD) : FVec F S32x128 .f32 := k0_pay23 (x386 a c) (x461 a c) (headOf c 2 (kH.view.read (Elt F) (a.k c))) (headOf c 2 (vH.view.read (Elt F) (a.v c)))
def x497 (a : Args F) (c : Dev nD) : FVec F S32x128 .bf16 := k0_pay24 (fun j => a.q c ((Rect.unit (s := S32x1x16x128) ![0, 0, 3, 0] S32x1x1x128.size inb_S32x1x16x128_S32x1x1x128_0_0_3_0).toLoadRect.idx j))
def x522 (a : Args F) (c : Dev nD) : FVec F S32x1 .f32 := k0_pay26 (x497 a c) (headOf c 3 (kH.view.read (Elt F) (a.k c)))
def x528 (a : Args F) (c : Dev nD) : FVec F S32x1 .f32 := k0_pay28 (x386 a c) (x497 a c) (headOf c 3 (kH.view.read (Elt F) (a.k c)))
def x530 (a : Args F) (c : Dev nD) : FVec F S32x128 .f32 := k0_pay29 (x386 a c) (x497 a c) (headOf c 3 (kH.view.read (Elt F) (a.k c))) (headOf c 3 (vH.view.read (Elt F) (a.v c)))
def x553 (a : Args F) (c : Dev nD) : FVec F S2048x128 .bf16 := k0_pay30 (headOf c 4 (vH.view.read (Elt F) (a.v c)))
def x556 (a : Args F) (c : Dev nD) : FVec F S32x2048 .f32 := k0_pay31 (fun j => a.q c ((Rect.unit (s := S32x1x16x128) ![0, 0, 4, 0] S32x1x1x128.size inb_S32x1x16x128_S32x1x1x128_0_0_4_0).toLoadRect.idx j)) (headOf c 4 (kH.view.read (Elt F) (a.k c)))
def x558 (a : Args F) (c : Dev nD) : FVec F S32x1 .f32 := k0_pay32 (fun j => a.q c ((Rect.unit (s := S32x1x16x128) ![0, 0, 4, 0] S32x1x1x128.size inb_S32x1x16x128_S32x1x1x128_0_0_4_0).toLoadRect.idx j)) (headOf c 4 (kH.view.read (Elt F) (a.k c)))
def x559 (a : Args F) (c : Dev nD) : FVec F S32x2048 .f32 := k0_pay33 (fun j => a.q c ((Rect.unit (s := S32x1x16x128) ![0, 0, 4, 0] S32x1x1x128.size inb_S32x1x16x128_S32x1x1x128_0_0_4_0).toLoadRect.idx j)) (headOf c 4 (kH.view.read (Elt F) (a.k c)))
def x564 (a : Args F) (c : Dev nD) : FVec F S32x1 .f32 := k0_pay35 (x386 a c) (x556 a c) (x559 a c)
def x566 (a : Args F) (c : Dev nD) : FVec F S32x128 .f32 := k0_pay36 (x386 a c) (x553 a c) (x556 a c) (x559 a c)
def x569 (a : Args F) (c : Dev nD) : FVec F S32x128 .bf16 := k0_pay37 (fun j => a.q c ((Rect.unit (s := S32x1x16x128) ![0, 0, 5, 0] S32x1x1x128.size inb_S32x1x16x128_S32x1x1x128_0_0_5_0).toLoadRect.idx j))
def x585 (a : Args F) (c : Dev nD) : FVec F S2048x128 .bf16 := k0_pay38 (headOf c 5 (kH.view.read (Elt F) (a.k c)))
def x587 (a : Args F) (c : Dev nD) : FVec F S64x32x128 .f32 := k0_pay39 (headOf c 5 (vH.view.read (Elt F) (a.v c)))
def x594 (a : Args F) (c : Dev nD) : FVec F S32x1 .f32 := k0_pay41 (x569 a c) (x585 a c)
def x600 (a : Args F) (c : Dev nD) : FVec F S32x1 .f32 := k0_pay43 (x386 a c) (x569 a c) (x585 a c)
def x602 (a : Args F) (c : Dev nD) : FVec F S32x128 .f32 := k0_pay44 (x386 a c) (x569 a c) (x585 a c) (x587 a c)
def x605 (a : Args F) (c : Dev nD) : FVec F S32x128 .bf16 := k0_pay45 (fun j => a.q c ((Rect.unit (s := S32x1x16x128) ![0, 0, 6, 0] S32x1x1x128.size inb_S32x1x16x128_S32x1x1x128_0_0_6_0).toLoadRect.idx j))
def x630 (a : Args F) (c : Dev nD) : FVec F S32x1 .f32 := k0_pay47 (x605 a c) (headOf c 6 (kH.view.read (Elt F) (a.k c)))
def x636 (a : Args F) (c : Dev nD) : FVec F S32x1 .f32 := k0_pay49 (x386 a c) (x605 a c) (headOf c 6 (kH.view.read (Elt F) (a.k c)))
def x638 (a : Args F) (c : Dev nD) : FVec F S32x128 .f32 := k0_pay50 (x386 a c) (x605 a c) (headOf c 6 (kH.view.read (Elt F) (a.k c))) (headOf c 6 (vH.view.read (Elt F) (a.v c)))
def x641 (a : Args F) (c : Dev nD) : FVec F S32x128 .bf16 := k0_pay51 (fun j => a.q c ((Rect.unit (s := S32x1x16x128) ![0, 0, 7, 0] S32x1x1x128.size inb_S32x1x16x128_S32x1x1x128_0_0_7_0).toLoadRect.idx j))
def y00A0 (a : Args F) (c : Dev nD) : Vec F S1x1x32x128 .f32 := (k0_pay58 (x422 a c))
def x674 (a : Args F) (c : Dev nD) : FVec F S32x128 .f32 := k0_pay55 (x386 a c) (x641 a c) (headOf c 7 (kH.view.read (Elt F) (a.k c))) (headOf c 7 (vH.view.read (Elt F) (a.v c)))
def x676 (a : Args F) (c : Dev nD) : FVec F S8x32 .f32 := k0_pay56 (x414 a c) (x450 a c) (x486 a c) (x522 a c) (x558 a c) (x594 a c) (x630 a c) (x641 a c) (headOf c 7 (kH.view.read (Elt F) (a.k c)))
def x678 (a : Args F) (c : Dev nD) : FVec F S8x32 .f32 := k0_pay57 (x386 a c) (x420 a c) (x456 a c) (x492 a c) (x528 a c) (x564 a c) (x600 a c) (x636 a c) (x641 a c) (headOf c 7 (kH.view.read (Elt F) (a.k c)))
def y00A1 (a : Args F) (c : Dev nD) : Vec F S1x1x32x128 .f32 := (k0_pay59 (x458 a c))
def y00A2 (a : Args F) (c : Dev nD) : Vec F S1x1x32x128 .f32 := (k0_pay60 (x494 a c))
def y00A3 (a : Args F) (c : Dev nD) : Vec F S1x1x32x128 .f32 := (k0_pay61 (x530 a c))
def y00A4 (a : Args F) (c : Dev nD) : Vec F S1x1x32x128 .f32 := (k0_pay62 (x566 a c))
def y00A5 (a : Args F) (c : Dev nD) : Vec F S1x1x32x128 .f32 := (k0_pay63 (x602 a c))
def y00A6 (a : Args F) (c : Dev nD) : Vec F S1x1x32x128 .f32 := (k0_pay64 (x638 a c))
def y00A7 (a : Args F) (c : Dev nD) : Vec F S1x1x32x128 .f32 := (k0_pay65 (x674 a c))
def y00M (a : Args F) (c : Dev nD) : Vec F S1x1x8x32 .f32 := (k0_pay66 (x676 a c))
def y00L (a : Args F) (c : Dev nD) : Vec F S1x1x8x32 .f32 := (k0_pay67 (x678 a c))
def x839 (a : Args F) (c : Dev nD) : FVec F S32x128 .f32 := k0_pay68 (fun j => a.q c ((Rect.unit (s := S32x1x16x128) ![0, 0, 8, 0] S32x1x1x128.size inb_S32x1x16x128_S32x1x1x128_0_0_8_0).toLoadRect.idx j))
def x860 (a : Args F) (c : Dev nD) : FVec F S2048x128 .bf16 := k0_pay69 (headOf c 8 (vH.view.read (Elt F) (a.v c)))
def x865 (a : Args F) (c : Dev nD) : FVec F S32x1 .f32 := k0_pay71 (x839 a c) (headOf c 8 (kH.view.read (Elt F) (a.k c)))
def x869 (a : Args F) (c : Dev nD) : FVec F S32x2048 .f32 := k0_pay72 (x386 a c) (x839 a c) (headOf c 8 (kH.view.read (Elt F) (a.k c)))
def x871 (a : Args F) (c : Dev nD) : FVec F S32x1 .f32 := k0_pay73 (x869 a c)
def x873 (a : Args F) (c : Dev nD) : FVec F S32x128 .f32 := k0_pay74 (x860 a c) (x869 a c)
def x896 (a : Args F) (c : Dev nD) : FVec F S2048x128 .bf16 := k0_pay75 (headOf c 9 (vH.view.read (Elt F) (a.v c)))
def x897 (a : Args F) (c : Dev nD) : FVec F S32x2048 .f32 := k0_pay76 (fun j => a.q c ((Rect.unit (s := S32x1x16x128) ![0, 0, 9, 0] S32x1x1x128.size inb_S32x1x16x128_S32x1x1x128_0_0_9_0).toLoadRect.idx j)) (headOf c 9 (kH.view.read (Elt F) (a.k c)))
def x901 (a : Args F) (c : Dev nD) : FVec F S32x1 .f32 := k0_pay78 (x897 a c)
def x907 (a : Args F) (c : Dev nD) : FVec F S32x1 .f32 := k0_pay80 (x386 a c) (x897 a c)
def x909 (a : Args F) (c : Dev nD) : FVec F S32x128 .f32 := k0_pay81 (x386 a c) (x896 a c) (x897 a c)
def x912 (a : Args F) (c : Dev nD) : FVec F S32x128 .bf16 := k0_pay82 (fun j => a.q c ((Rect.unit (s := S32x1x16x128) ![0, 0, 10, 0] S32x1x1x128.size inb_S32x1x16x128_S32x1x1x128_0_0_10_0).toLoadRect.idx j))
def x927 (a : Args F) (c : Dev nD) : FVec F S2048x128 .f32 := k0_pay83 (headOf c 10 (kH.view.read (Elt F) (a.k c)))
def x937 (a : Args F) (c : Dev nD) : FVec F S32x1 .f32 := k0_pay85 (x912 a c) (x927 a c)
def x943 (a : Args F) (c : Dev nD) : FVec F S32x1 .f32 := k0_pay87 (x386 a c) (x912 a c) (x927 a c)
def x945 (a : Args F) (c : Dev nD) : FVec F S32x128 .f32 := k0_pay88 (x386 a c) (x912 a c) (x927 a c) (headOf c 10 (vH.view.read (Elt F) (a.v c)))
def x948 (a : Args F) (c : Dev nD) : FVec F S32x128 .bf16 := k0_pay89 (fun j => a.q c ((Rect.unit (s := S32x1x16x128) ![0, 0, 11, 0] S32x1x1x128.size inb_S32x1x16x128_S32x1x1x128_0_0_11_0).toLoadRect.idx j))
def x973 (a : Args F) (c : Dev nD) : FVec F S32x1 .f32 := k0_pay91 (x948 a c) (headOf c 11 (kH.view.read (Elt F) (a.k c)))
def x979 (a : Args F) (c : Dev nD) : FVec F S32x1 .f32 := k0_pay93 (x386 a c) (x948 a c) (headOf c 11 (kH.view.read (Elt F) (a.k c)))
def x981 (a : Args F) (c : Dev nD) : FVec F S32x128 .f32 := k0_pay94 (x386 a c) (x948 a c) (headOf c 11 (kH.view.read (Elt F) (a.k c))) (headOf c 11 (vH.view.read (Elt F) (a.v c)))
def x984 (a : Args F) (c : Dev nD) : FVec F S32x128 .bf16 := k0_pay95 (fun j => a.q c ((Rect.unit (s := S32x1x16x128) ![0, 0, 12, 0] S32x1x1x128.size inb_S32x1x16x128_S32x1x1x128_0_0_12_0).toLoadRect.idx j))
def x1009 (a : Args F) (c : Dev nD) : FVec F S32x1 .f32 := k0_pay97 (x984 a c) (headOf c 12 (kH.view.read (Elt F) (a.k c)))
def x1015 (a : Args F) (c : Dev nD) : FVec F S32x1 .f32 := k0_pay99 (x386 a c) (x984 a c) (headOf c 12 (kH.view.read (Elt F) (a.k c)))
def x1017 (a : Args F) (c : Dev nD) : FVec F S32x128 .f32 := k0_pay100 (x386 a c) (x984 a c) (headOf c 12 (kH.view.read (Elt F) (a.k c))) (headOf c 12 (vH.view.read (Elt F) (a.v c)))
def x1020 (a : Args F) (c : Dev nD) : FVec F S32x128 .bf16 := k0_pay101 (fun j => a.q c ((Rect.unit (s := S32x1x16x128) ![0, 0, 13, 0] S32x1x1x128.size inb_S32x1x16x128_S32x1x1x128_0_0_13_0).toLoadRect.idx j))
def x1045 (a : Args F) (c : Dev nD) : FVec F S32x1 .f32 := k0_pay103 (x1020 a c) (headOf c 13 (kH.view.read (Elt F) (a.k c)))
def x1051 (a : Args F) (c : Dev nD) : FVec F S32x1 .f32 := k0_pay105 (x386 a c) (x1020 a c) (headOf c 13 (kH.view.read (Elt F) (a.k c)))
def x1053 (a : Args F) (c : Dev nD) : FVec F S32x128 .f32 := k0_pay106 (x386 a c) (x1020 a c) (headOf c 13 (kH.view.read (Elt F) (a.k c))) (headOf c 13 (vH.view.read (Elt F) (a.v c)))
def x1076 (a : Args F) (c : Dev nD) : FVec F S2048x128 .bf16 := k0_pay107 (headOf c 14 (vH.view.read (Elt F) (a.v c)))
def x1079 (a : Args F) (c : Dev nD) : FVec F S32x2048 .f32 := k0_pay108 (fun j => a.q c ((Rect.unit (s := S32x1x16x128) ![0, 0, 14, 0] S32x1x1x128.size inb_S32x1x16x128_S32x1x1x128_0_0_14_0).toLoadRect.idx j)) (headOf c 14 (kH.view.read (Elt F) (a.k c)))
def x1080 (a : Args F) (c : Dev nD) : FVec F S32 .f32 := k0_pay109 (fun j => a.q c ((Rect.unit (s := S32x1x16x128) ![0, 0, 14, 0] S32x1x1x128.size inb_S32x1x16x128_S32x1x1x128_0_0_14_0).toLoadRect.idx j)) (headOf c 14 (kH.view.read (Elt F) (a.k c)))
def x1081 (a : Args F) (c : Dev nD) : FVec F S32x1 .f32 := k0_pay110 (x1080 a c)
def x1087 (a : Args F) (c : Dev nD) : FVec F S32x1 .f32 := k0_pay112 (x386 a c) (x1079 a c) (x1080 a c)
def x1089 (a : Args F) (c : Dev nD) : FVec F S32x128 .f32 := k0_pay113 (x386 a c) (x1076 a c) (x1079 a c) (x1080 a c)
def x1092 (a : Args F) (c : Dev nD) : FVec F S32x128 .bf16 := k0_pay114 (fun j => a.q c ((Rect.unit (s := S32x1x16x128) ![0, 0, 15, 0] S32x1x1x128.size inb_S32x1x16x128_S32x1x1x128_0_0_15_0).toLoadRect.idx j))
def x1108 (a : Args F) (c : Dev nD) : FVec F S2048x128 .bf16 := k0_pay115 (headOf c 15 (kH.view.read (Elt F) (a.k c)))
def y01A0 (a : Args F) (c : Dev nD) : Vec F S1x1x32x128 .f32 := (k0_pay122 (x873 a c))
def y01A1 (a : Args F) (c : Dev nD) : Vec F S1x1x32x128 .f32 := (k0_pay123 (x909 a c))
def y01A2 (a : Args F) (c : Dev nD) : Vec F S1x1x32x128 .f32 := (k0_pay124 (x945 a c))
def y01A3 (a : Args F) (c : Dev nD) : Vec F S1x1x32x128 .f32 := (k0_pay125 (x981 a c))
def x1125 (a : Args F) (c : Dev nD) : FVec F S32x128 .f32 := k0_pay119 (x386 a c) (x1092 a c) (x1108 a c) (headOf c 15 (vH.view.read (Elt F) (a.v c)))
def x1127 (a : Args F) (c : Dev nD) : FVec F S8x32 .f32 := k0_pay120 (x865 a c) (x901 a c) (x937 a c) (x973 a c) (x1009 a c) (x1045 a c) (x1081 a c) (x1092 a c) (x1108 a c)
def x1129 (a : Args F) (c : Dev nD) : FVec F S8x32 .f32 := k0_pay121 (x386 a c) (x871 a c) (x907 a c) (x943 a c) (x979 a c) (x1015 a c) (x1051 a c) (x1087 a c) (x1092 a c) (x1108 a c)
def y01A4 (a : Args F) (c : Dev nD) : Vec F S1x1x32x128 .f32 := (k0_pay126 (x1017 a c))
def y01A5 (a : Args F) (c : Dev nD) : Vec F S1x1x32x128 .f32 := (k0_pay127 (x1053 a c))
def y01A6 (a : Args F) (c : Dev nD) : Vec F S1x1x32x128 .f32 := (k0_pay128 (x1089 a c))
def y01A7 (a : Args F) (c : Dev nD) : Vec F S1x1x32x128 .f32 := (k0_pay129 (x1125 a c))
def y01M (a : Args F) (c : Dev nD) : Vec F S1x1x8x32 .f32 := (k0_pay130 (x1127 a c))
def y01L (a : Args F) (c : Dev nD) : Vec F S1x1x8x32 .f32 := (k0_pay131 (x1129 a c))
def x1334 (a : Args F) (c : Dev nD) : FVec F S8x32 .f32 := k0_pay135 (rowBox (y00L a (nb c (opp 1))))
def x1336 (a : Args F) (c : Dev nD) : FVec F S8x32 .f32 := k0_pay136 (rowBox (y00L a (nb c (opp 2))))
def x1339 (a : Args F) (c : Dev nD) : FVec F S8x32 .f32 := k0_pay137 (x676 a c) (rowBox (y00M a (nb c (opp 0)))) (rowBox (y00M a (nb c (opp 1)))) (rowBox (y00M a (nb c (opp 2))))
def x1341 (a : Args F) (c : Dev nD) : FVec F S8x32 .f32 := k0_pay138 (x676 a c) (rowBox (y00M a (nb c (opp 0)))) (rowBox (y00M a (nb c (opp 1)))) (rowBox (y00M a (nb c (opp 2))))
def x1343 (a : Args F) (c : Dev nD) : FVec F S8x32 .f32 := k0_pay139 (x676 a c) (rowBox (y00M a (nb c (opp 0)))) (rowBox (y00M a (nb c (opp 1)))) (rowBox (y00M a (nb c (opp 2))))
def x1345 (a : Args F) (c : Dev nD) : FVec F S8x32 .f32 := k0_pay140 (x676 a c) (rowBox (y00M a (nb c (opp 0)))) (rowBox (y00M a (nb c (opp 1)))) (rowBox (y00M a (nb c (opp 2))))
def x1347 (a : Args F) (c : Dev nD) : FVec F S8x32 .f32 := k0_pay141 (x676 a c) (rowBox (y00M a (nb c (opp 0)))) (rowBox (y00M a (nb c (opp 1)))) (rowBox (y00M a (nb c (opp 2))))
def x1350 (a : Args F) (c : Dev nD) : FVec F S8x32 .f32 := k0_pay142 (x676 a c) (x678 a c) (rowBox (y00M a (nb c (opp 0)))) (rowBox (y00M a (nb c (opp 1)))) (rowBox (y00M a (nb c (opp 2)))) (rowBox (y00L a (nb c (opp 0))))
def x1354 (a : Args F) (c : Dev nD) : FVec F S8x32 .f32 := k0_pay143 (x1334 a c) (x1336 a c) (x1345 a c) (x1347 a c) (x1350 a c)
def x1355 (a : Args F) (c : Dev nD) : FVec F S32x8 .f32 := k0_pay144 (x1341 a c)
def x1356 (a : Args F) (c : Dev nD) : FVec F S32x8 .f32 := k0_pay145 (x1343 a c)
def x1357 (a : Args F) (c : Dev nD) : FVec F S32x8 .f32 := k0_pay146 (x1345 a c)
def x1358 (a : Args F) (c : Dev nD) : FVec F S32x8 .f32 := k0_pay147 (x1347 a c)
def x1379 (a : Args F) (c : Dev nD) : FVec F S32x128 .f32 := k0_pay148 (x422 a c) (x1341 a c) (x1343 a c) (x1345 a c) (x1347 a c) (accBox (y00A0 a (nb c (opp 0)))) (accBox (y00A0 a (nb c (opp 1)))) (accBox (y00A0 a (nb c (opp 2))))
def x1388 (a : Args F) (c : Dev nD) : FVec F S32x128 .f32 := k0_pay149 (x458 a c) (x1341 a c) (x1343 a c) (accBox (y00A1 a (nb c (opp 0))))
def x1400 (a : Args F) (c : Dev nD) : FVec F S32x128 .f32 := k0_pay150 (x1357 a c) (x1358 a c) (x1388 a c) (accBox (y00A1 a (nb c (opp 1)))) (accBox (y00A1 a (nb c (opp 2))))
def x1421 (a : Args F) (c : Dev nD) : FVec F S32x128 .f32 := k0_pay151 (x494 a c) (x1355 a c) (x1356 a c) (x1357 a c) (x1358 a c) (accBox (y00A2 a (nb c (opp 0)))) (accBox (y00A2 a (nb c (opp 1)))) (accBox (y00A2 a (nb c (opp 2))))
def x1424 (a : Args F) (c : Dev nD) : FVec F S32x128 .f32 := k0_pay152 (x530 a c) (x1355 a c)
def x1442 (a : Args F) (c : Dev nD) : FVec F S32x128 .f32 := k0_pay153 (x1356 a c) (x1357 a c) (x1358 a c) (x1424 a c) (accBox (y00A3 a (nb c (opp 0)))) (accBox (y00A3 a (nb c (opp 1)))) (accBox (y00A3 a (nb c (opp 2))))
def x1457 (a : Args F) (c : Dev nD) : FVec F S32x128 .f32 := k0_pay154 (x566 a c) (x1355 a c) (x1356 a c) (x1357 a c) (accBox (y00A4 a (nb c (opp 0)))) (accBox (y00A4 a (nb c (opp 1))))
def x1463 (a : Args F) (c : Dev nD) : FVec F S32x128 .f32 := k0_pay155 (x1358 a c) (x1457 a c) (accBox (y00A4 a (nb c (opp 2))))
def x1484 (a : Args F) (c : Dev nD) : FVec F S32x128 .f32 := k0_pay156 (x602 a c) (x1355 a c) (x1356 a c) (x1357 a c) (x1358 a c) (accBox (y00A5 a (nb c (opp 0)))) (accBox (y00A5 a (nb c (opp 1)))) (accBox (y00A5 a (nb c (opp 2))))
def x1493 (a : Args F) (c : Dev nD) : FVec F S32x128 .f32 := k0_pay157 (x638 a c) (x1355 a c) (x1356 a c) (accBox (y00A6 a (nb c (opp 0))))
def x1505 (a : Args F) (c : Dev nD) : FVec F S32x128 .f32 := k0_pay158 (x1357 a c) (x1358 a c) (x1493 a c) (accBox (y00A6 a (nb c (opp 1)))) (accBox (y00A6 a (nb c (opp 2))))
def x1526 (a : Args F) (c : Dev nD) : FVec F S32x128 .f32 := k0_pay159 (x674 a c) (x1355 a c) (x1356 a c) (x1357 a c) (x1358 a c) (accBox (y00A7 a (nb c (opp 0)))) (accBox (y00A7 a (nb c (opp 1)))) (accBox (y00A7 a (nb c (opp 2))))
def y10A0 (a : Args F) (c : Dev nD) : Vec F S1x1x32x128 .f32 := (k0_pay160 (x1379 a c))
def y10A1 (a : Args F) (c : Dev nD) : Vec F S1x1x32x128 .f32 := (k0_pay161 (x1400 a c))
def y10A2 (a : Args F) (c : Dev nD) : Vec F S1x1x32x128 .f32 := (k0_pay162 (x1421 a c))
def y10A3 (a : Args F) (c : Dev nD) : Vec F S1x1x32x128 .f32 := (k0_pay163 (x1442 a c))
def y10A4 (a : Args F) (c : Dev nD) : Vec F S1x1x32x128 .f32 := (k0_pay164 (x1463 a c))
def y10A5 (a : Args F) (c : Dev nD) : Vec F S1x1x32x128 .f32 := (k0_pay165 (x1484 a c))
def y10A6 (a : Args F) (c : Dev nD) : Vec F S1x1x32x128 .f32 := (k0_pay166 (x1505 a c))
def y10A7 (a : Args F) (c : Dev nD) : Vec F S1x1x32x128 .f32 := (k0_pay167 (x1526 a c))
def y10M (a : Args F) (c : Dev nD) : Vec F S1x1x8x32 .f32 := (k0_pay168 (x1339 a c))
def y10L (a : Args F) (c : Dev nD) : Vec F S1x1x8x32 .f32 := (k0_pay169 (x1354 a c))
def x1669 (a : Args F) (c : Dev nD) : FVec F S8x32 .f32 := k0_pay170 (rowBox (y01M a (nb c (opp 0))))
def x1671 (a : Args F) (c : Dev nD) : FVec F S8x32 .f32 := k0_pay171 (rowBox (y01M a (nb c (opp 1))))
def x1673 (a : Args F) (c : Dev nD) : FVec F S8x32 .f32 := k0_pay172 (rowBox (y01M a (nb c (opp 2))))
def x1675 (a : Args F) (c : Dev nD) : FVec F S8x32 .f32 := k0_pay173 (rowBox (y01L a (nb c (opp 0))))
def x1677 (a : Args F) (c : Dev nD) : FVec F S8x32 .f32 := k0_pay174 (rowBox (y01L a (nb c (opp 1))))
def x1679 (a : Args F) (c : Dev nD) : FVec F S8x32 .f32 := k0_pay175 (rowBox (y01L a (nb c (opp 2))))
def x1681 (a : Args F) (c : Dev nD) : FVec F S8x32 .f32 := k0_pay176 (x1127 a c) (rowBox (y01M a (nb c (opp 0)))) (rowBox (y01M a (nb c (opp 1))))
def x1682 (a : Args F) (c : Dev nD) : FVec F S8x32 .f32 := k0_pay177 (x1673 a c) (x1681 a c)
def x1697 (a : Args F) (c : Dev nD) : FVec F S8x32 .f32 := k0_pay182 (x1127 a c) (x1129 a c) (x1669 a c) (x1671 a c) (x1673 a c) (x1675 a c) (x1677 a c) (x1679 a c) (x1681 a c)
def x1698 (a : Args F) (c : Dev nD) : FVec F S32x8 .f32 := k0_pay183 (x1127 a c) (x1673 a c) (x1681 a c)
def x1699 (a : Args F) (c : Dev nD) : FVec F S32x8 .f32 := k0_pay184 (x1669 a c) (x1673 a c) (x1681 a c)
def x1700 (a : Args F) (c : Dev nD) : FVec F S32x8 .f32 := k0_pay185 (x1671 a c) (x1673 a c) (x1681 a c)
def x1701 (a : Args F) (c : Dev nD) : FVec F S32x8 .f32 := k0_pay186 (x1673 a c) (x1681 a c)
def x1722 (a : Args F) (c : Dev nD) : FVec F S32x128 .f32 := k0_pay187 (x873 a c) (x1127 a c) (x1669 a c) (x1671 a c) (x1673 a c) (x1681 a c) (accBox (y01A0 a (nb c (opp 0)))) (accBox (y01A0 a (nb c (opp 1)))) (accBox (y01A0 a (nb c (opp 2))))
def x1725 (a : Args F) (c : Dev nD) : FVec F S32x128 .f32 := k0_pay188 (x909 a c) (x1127 a c) (x1673 a c) (x1681 a c)
def x1743 (a : Args F) (c : Dev nD) : FVec F S32x128 .f32 := k0_pay189 (x1699 a c) (x1700 a c) (x1701 a c) (x1725 a c) (accBox (y01A1 a (nb c (opp 0)))) (accBox (y01A1 a (nb c (opp 1)))) (accBox (y01A1 a (nb c (opp 2))))
def x1758 (a : Args F) (c : Dev nD) : FVec F S32x128 .f32 := k0_pay190 (x945 a c) (x1698 a c) (x1699 a c) (x1700 a c) (accBox (y01A2 a (nb c (opp 0)))) (accBox (y01A2 a (nb c (opp 1))))
def x1764 (a : Args F) (c : Dev nD) : FVec F S32x128 .f32 := k0_pay191 (x1701 a c) (x1758 a c) (accBox (y01A2 a (nb c (opp 2))))
def x1785 (a : Args F) (c : Dev nD) : FVec F S32x128 .f32 := k0_pay192 (x981 a c) (x1698 a c) (x1699 a c) (x1700 a c) (x1701 a c) (accBox (y01A3 a (nb c (opp 0)))) (accBox (y01A3 a (nb c (opp 1)))) (accBox (y01A3 a (nb c (opp 2))))
def x1794 (a : Args F) (c : Dev nD) : FVec F S32x128 .f32 := k0_pay193 (x1017 a c) (x1698 a c) (x1699 a c) (accBox (y01A4 a (nb c (opp 0))))
def x1806 (a : Args F) (c : Dev nD) : FVec F S32x128 .f32 := k0_pay194 (x1700 a c) (x1701 a c) (x1794 a c) (accBox (y01A4 a (nb c (opp 1)))) (accBox (y01A4 a (nb c (opp 2))))
def x1827 (a : Args F) (c : Dev nD) : FVec F S32x128 .f32 := k0_pay195 (x1053 a c) (x1698 a c) (x1699 a c) (x1700 a c) (x1701 a c) (accBox (y01A5 a (nb c (opp 0)))) (accBox (y01A5 a (nb c (opp 1)))) (accBox (y01A5 a (nb c (opp 2))))
def x1830 (a : Args F) (c : Dev nD) : FVec F S32x128 .f32 := k0_pay196 (x1089 a c) (x1698 a c)
def x1848 (a : Args F) (c : Dev nD) : FVec F S32x128 .f32 := k0_pay197 (x1699 a c) (x1700 a c) (x1701 a c) (x1830 a c) (accBox (y01A6 a (nb c (opp 0)))) (accBox (y01A6 a (nb c (opp 1)))) (accBox (y01A6 a (nb c (opp 2))))
def x1863 (a : Args F) (c : Dev nD) : FVec F S32x128 .f32 := k0_pay198 (x1125 a c) (x1698 a c) (x1699 a c) (x1700 a c) (accBox (y01A7 a (nb c (opp 0)))) (accBox (y01A7 a (nb c (opp 1))))
def y11A0 (a : Args F) (c : Dev nD) : Vec F S1x1x32x128 .f32 := (k0_pay200 (x1722 a c))
def y11A1 (a : Args F) (c : Dev nD) : Vec F S1x1x32x128 .f32 := (k0_pay201 (x1743 a c))
def y11A2 (a : Args F) (c : Dev nD) : Vec F S1x1x32x128 .f32 := (k0_pay202 (x1764 a c))
def y11A3 (a : Args F) (c : Dev nD) : Vec F S1x1x32x128 .f32 := (k0_pay203 (x1785 a c))
def y11A4 (a : Args F) (c : Dev nD) : Vec F S1x1x32x128 .f32 := (k0_pay204 (x1806 a c))
def y11A5 (a : Args F) (c : Dev nD) : Vec F S1x1x32x128 .f32 := (k0_pay205 (x1827 a c))
def x1869 (a : Args F) (c : Dev nD) : FVec F S32x128 .f32 := (k0_pay199 (x1701 a c) (x1863 a c) (accBox (y01A7 a (nb c (opp 2)))))
def y11A6 (a : Args F) (c : Dev nD) : Vec F S1x1x32x128 .f32 := (k0_pay206 (x1848 a c))
def y11A7 (a : Args F) (c : Dev nD) : Vec F S1x1x32x128 .f32 := (k0_pay207 (x1869 a c))
def y11M (a : Args F) (c : Dev nD) : Vec F S1x1x8x32 .f32 := (k0_pay208 (x1682 a c))
def y11L (a : Args F) (c : Dev nD) : Vec F S1x1x8x32 .f32 := (k0_pay209 (x1697 a c))
def x2012 (a : Args F) (c : Dev nD) : FVec F S8x32 .f32 := k0_pay210 (rowBox (y10M a (nb c (opp 3))))
def x2014 (a : Args F) (c : Dev nD) : FVec F S8x32 .f32 := k0_pay211 (rowBox (y10M a (nb c (opp 4))))
def x2016 (a : Args F) (c : Dev nD) : FVec F S8x32 .f32 := k0_pay212 (rowBox (y10M a (nb c (opp 5))))
def x2018 (a : Args F) (c : Dev nD) : FVec F S8x32 .f32 := k0_pay213 (rowBox (y10L a (nb c (opp 3))))
def x2040 (a : Args F) (c : Dev nD) : FVec F S8x32 .f32 := k0_pay219 (x1339 a c) (x1354 a c) (x2012 a c) (x2014 a c) (x2016 a c) (x2018 a c) (rowBox (y10L a (nb c (opp 4)))) (rowBox (y10L a (nb c (opp 5))))
def x2041 (a : Args F) (c : Dev nD) : FVec F S32x8 .f32 := k0_pay220 (x1339 a c) (x2012 a c) (x2014 a c) (x2016 a c)
def x2042 (a : Args F) (c : Dev nD) : FVec F S32x8 .f32 := k0_pay221 (x1339 a c) (x2012 a c) (x2014 a c) (x2016 a c)
def x2043 (a : Args F) (c : Dev nD) : FVec F S32x8 .f32 := k0_pay222 (x1339 a c) (x2012 a c) (x2014 a c) (x2016 a c)
def x2044 (a : Args F) (c : Dev nD) : FVec F S32x8 .f32 := k0_pay223 (x1339 a c) (x2012 a c) (x2014 a c) (x2016 a c)
def x2059 (a : Args F) (c : Dev nD) : FVec F S32x128 .f32 := k0_pay224 (x1339 a c) (x1379 a c) (x2012 a c) (x2014 a c) (x2016 a c) (accBox (y10A0 a (nb c (opp 3)))) (accBox (y10A0 a (nb c (opp 4))))
def x2065 (a : Args F) (c : Dev nD) : FVec F S32x128 .f32 := k0_pay225 (x2044 a c) (x2059 a c) (accBox (y10A0 a (nb c (opp 5))))
def x2086 (a : Args F) (c : Dev nD) : FVec F S32x128 .f32 := k0_pay226 (x1400 a c) (x2041 a c) (x2042 a c) (x2043 a c) (x2044 a c) (accBox (y10A1 a (nb c (opp 3)))) (accBox (y10A1 a (nb c (opp 4)))) (accBox (y10A1 a (nb c (opp 5))))
def x2095 (a : Args F) (c : Dev nD) : FVec F S32x128 .f32 := k0_pay227 (x1421 a c) (x2041 a c) (x2042 a c) (accBox (y10A2 a (nb c (opp 3))))
def x2107 (a : Args F) (c : Dev nD) : FVec F S32x128 .f32 := k0_pay228 (x2043 a c) (x2044 a c) (x2095 a c) (accBox (y10A2 a (nb c (opp 4)))) (accBox (y10A2 a (nb c (opp 5))))
def x2128 (a : Args F) (c : Dev nD) : FVec F S32x128 .f32 := k0_pay229 (x1442 a c) (x2041 a c) (x2042 a c) (x2043 a c) (x2044 a c) (accBox (y10A3 a (nb c (opp 3)))) (accBox (y10A3 a (nb c (opp 4)))) (accBox (y10A3 a (nb c (opp 5))))
def x2131 (a : Args F) (c : Dev nD) : FVec F S32x128 .f32 := k0_pay230 (x1463 a c) (x2041 a c)
def x2149 (a : Args F) (c : Dev nD) : FVec F S32x128 .f32 := k0_pay231 (x2042 a c) (x2043 a c) (x2044 a c) (x2131 a c) (accBox (y10A4 a (nb c (opp 3)))) (accBox (y10A4 a (nb c (opp 4)))) (accBox (y10A4 a (nb c (opp 5))))
def x2164 (a : Args F) (c : Dev nD) : FVec F S32x128 .f32 := k0_pay232 (x1484 a c) (x2041 a c) (x2042 a c) (x2043 a c) (accBox (y10A5 a (nb c (opp 3)))) (accBox (y10A5 a (nb c (opp 4))))
def x2170 (a : Args F) (c : Dev nD) : FVec F S32x128 .f32 := k0_pay233 (x2044 a c) (x2164 a c) (accBox (y10A5 a (nb c (opp 5))))
def x2191 (a : Args F) (c : Dev nD) : FVec F S32x128 .f32 := k0_pay234 (x1505 a c) (x2041 a c) (x2042 a c) (x2043 a c) (x2044 a c) (accBox (y10A6 a (nb c (opp 3)))) (accBox (y10A6 a (nb c (opp 4)))) (accBox (y10A6 a (nb c (opp 5))))
def x2200 (a : Args F) (c : Dev nD) : FVec F S32x128 .f32 := k0_pay235 (x1526 a c) (x2041 a c) (x2042 a c) (accBox (y10A7 a (nb c (opp 3))))
def yO0 (a : Args F) (c : Dev nD) : Vec F S32x1x1x128 .f32 := (k0_pay238 (x2040 a c) (x2065 a c))
def yO1 (a : Args F) (c : Dev nD) : Vec F S32x1x1x128 .f32 := (k0_pay239 (x2040 a c) (x2086 a c))
def yO2 (a : Args F) (c : Dev nD) : Vec F S32x1x1x128 .f32 := (k0_pay240 (x2040 a c) (x2107 a c))
def x2212 (a : Args F) (c : Dev nD) : FVec F S32x128 .f32 := k0_pay236 (x2043 a c) (x2044 a c) (x2200 a c) (accBox (y10A7 a (nb c (opp 4)))) (accBox (y10A7 a (nb c (opp 5))))
def x2215 (a : Args F) (c : Dev nD) : FVec F S32x8 .f32 := k0_pay237 (x2040 a c)
def x2236 (a : Args F) (c : Dev nD) : FVec F S32x128 .f32 := k0_pay241 (x2040 a c) (x2128 a c)
def yO3 (a : Args F) (c : Dev nD) : Vec F S32x1x1x128 .f32 := (k0_pay242 (x2236 a c))
def yO4 (a : Args F) (c : Dev nD) : Vec F S32x1x1x128 .f32 := (k0_pay243 (x2149 a c) (x2215 a c))
def yO5 (a : Args F) (c : Dev nD) : Vec F S32x1x1x128 .f32 := (k0_pay244 (x2170 a c) (x2215 a c))
def yO6 (a : Args F) (c : Dev nD) : Vec F S32x1x1x128 .f32 := (k0_pay245 (x2191 a c) (x2215 a c))
def yO7 (a : Args F) (c : Dev nD) : Vec F S32x1x1x128 .f32 := (k0_pay246 (x2212 a c) (x2215 a c))
def x2301 (a : Args F) (c : Dev nD) : FVec F S8x32 .f32 := k0_pay247 (rowBox (y11M a (nb c (opp 3))))
def x2303 (a : Args F) (c : Dev nD) : FVec F S8x32 .f32 := k0_pay248 (rowBox (y11M a (nb c (opp 4))))
def x2305 (a : Args F) (c : Dev nD) : FVec F S8x32 .f32 := k0_pay249 (rowBox (y11M a (nb c (opp 5))))
def x2307 (a : Args F) (c : Dev nD) : FVec F S8x32 .f32 := k0_pay250 (rowBox (y11L a (nb c (opp 3))))
def x2309 (a : Args F) (c : Dev nD) : FVec F S8x32 .f32 := k0_pay251 (rowBox (y11L a (nb c (opp 4))))
def x2329 (a : Args F) (c : Dev nD) : FVec F S8x32 .f32 := k0_pay257 (x1682 a c) (x1697 a c) (x2301 a c) (x2303 a c) (x2305 a c) (x2307 a c) (x2309 a c) (rowBox (y11L a (nb c (opp 5))))
def x2330 (a : Args F) (c : Dev nD) : FVec F S32x8 .f32 := k0_pay258 (x1682 a c) (x2301 a c) (x2303 a c) (x2305 a c)
def x2331 (a : Args F) (c : Dev nD) : FVec F S32x8 .f32 := k0_pay259 (x1682 a c) (x2301 a c) (x2303 a c) (x2305 a c)
def x2332 (a : Args F) (c : Dev nD) : FVec F S32x8 .f32 := k0_pay260 (x1682 a c) (x2301 a c) (x2303 a c) (x2305 a c)
def x2333 (a : Args F) (c : Dev nD) : FVec F S32x8 .f32 := k0_pay261 (x1682 a c) (x2301 a c) (x2303 a c) (x2305 a c)
def x2348 (a : Args F) (c : Dev nD) : FVec F S32x128 .f32 := k0_pay262 (x1682 a c) (x1722 a c) (x2301 a c) (x2303 a c) (x2305 a c) (accBox (y11A0 a (nb c (opp 3)))) (accBox (y11A0 a (nb c (opp 4))))
def x2350 (a : Args F) (c : Dev nD) : FVec F S32x128 .f32 := k0_pay263 (accBox (y11A0 a (nb c (opp 5))))
def x2352 (a : Args F) (c : Dev nD) : FVec F S32x128 .f32 := k0_pay264 (x1682 a c) (x2301 a c) (x2303 a c) (x2305 a c)
def x2354 (a : Args F) (c : Dev nD) : FVec F S32x128 .f32 := k0_pay265 (x2348 a c) (x2350 a c) (x2352 a c)
def x2375 (a : Args F) (c : Dev nD) : FVec F S32x128 .f32 := k0_pay266 (x1743 a c) (x2330 a c) (x2331 a c) (x2332 a c) (x2333 a c) (accBox (y11A1 a (nb c (opp 3)))) (accBox (y11A1 a (nb c (opp 4)))) (accBox (y11A1 a (nb c (opp 5))))
def x2384 (a : Args F) (c : Dev nD) : FVec F S32x128 .f32 := k0_pay267 (x1764 a c) (x2330 a c) (x2331 a c) (accBox (y11A2 a (nb c (opp 3))))
def x2386 (a : Args F) (c : Dev nD) : FVec F S32x128 .f32 := k0_pay268 (accBox (y11A2 a (nb c (opp 4))))
def x2387 (a : Args F) (c : Dev nD) : FVec F S32x1 .f32 := k0_pay269 (x2332 a c)
def x2396 (a : Args F) (c : Dev nD) : FVec F S32x128 .f32 := k0_pay270 (x2333 a c) (x2384 a c) (x2386 a c) (x2387 a c) (accBox (y11A2 a (nb c (opp 5))))
def x2417 (a : Args F) (c : Dev nD) : FVec F S32x128 .f32 := k0_pay271 (x1785 a c) (x2330 a c) (x2331 a c) (x2332 a c) (x2333 a c) (accBox (y11A3 a (nb c (opp 3)))) (accBox (y11A3 a (nb c (opp 4)))) (accBox (y11A3 a (nb c (opp 5))))
def x2420 (a : Args F) (c : Dev nD) : FVec F S32x128 .f32 := k0_pay272 (x1806 a c) (x2330 a c)
def x2422 (a : Args F) (c : Dev nD) : FVec F S32x128 .f32 := k0_pay273 (accBox (y11A4 a (nb c (opp 3))))
def x2438 (a : Args F) (c : Dev nD) : FVec F S32x128 .f32 := k0_pay274 (x2331 a c) (x2332 a c) (x2333 a c) (x2420 a c) (x2422 a c) (accBox (y11A4 a (nb c (opp 4)))) (accBox (y11A4 a (nb c (opp 5))))
def x2453 (a : Args F) (c : Dev nD) : FVec F S32x128 .f32 := k0_pay275 (x1827 a c) (x2330 a c) (x2331 a c) (x2332 a c) (accBox (y11A5 a (nb c (opp 3)))) (accBox (y11A5 a (nb c (opp 4))))
def x2455 (a : Args F) (c : Dev nD) : FVec F S32x128 .f32 := k0_pay276 (accBox (y11A5 a (nb c (opp 5))))
def x2457 (a : Args F) (c : Dev nD) : FVec F S32x128 .f32 := k0_pay277 (x2333 a c)
def x2459 (a : Args F) (c : Dev nD) : FVec F S32x128 .f32 := k0_pay278 (x2453 a c) (x2455 a c) (x2457 a c)
def x2480 (a : Args F) (c : Dev nD) : FVec F S32x128 .f32 := k0_pay279 (x1848 a c) (x2330 a c) (x2331 a c) (x2332 a c) (x2333 a c) (accBox (y11A6 a (nb c (opp 3)))) (accBox (y11A6 a (nb c (opp 4)))) (accBox (y11A6 a (nb c (opp 5))))
def x2489 (a : Args F) (c : Dev nD) : FVec F S32x128 .f32 := k0_pay280 (x1869 a c) (x2330 a c) (x2331 a c) (accBox (y11A7 a (nb c (opp 3))))
def x2491 (a : Args F) (c : Dev nD) : FVec F S32x128 .f32 := k0_pay281 (accBox (y11A7 a (nb c (opp 4))))
def x2492 (a : Args F) (c : Dev nD) : FVec F S32x1 .f32 := k0_pay282 (x2332 a c)
def yO8 (a : Args F) (c : Dev nD) : Vec F S32x1x1x128 .f32 := (k0_pay285 (x2329 a c) (x2354 a c))
def yO9 (a : Args F) (c : Dev nD) : Vec F S32x1x1x128 .f32 := (k0_pay286 (x2329 a c) (x2375 a c))
def yO10 (a : Args F) (c : Dev nD) : Vec F S32x1x1x128 .f32 := (k0_pay287 (x2329 a c) (x2396 a c))
def x2501 (a : Args F) (c : Dev nD) : FVec F S32x128 .f32 := k0_pay283 (x2333 a c) (x2489 a c) (x2491 a c) (x2492 a c) (accBox (y11A7 a (nb c (opp 5))))
def x2504 (a : Args F) (c : Dev nD) : FVec F S32x8 .f32 := k0_pay284 (x2329 a c)
def x2525 (a : Args F) (c : Dev nD) : FVec F S32x128 .f32 := k0_pay288 (x2329 a c) (x2417 a c)
def yO11 (a : Args F) (c : Dev nD) : Vec F S32x1x1x128 .f32 := (k0_pay289 (x2525 a c))
def yO12 (a : Args F) (c : Dev nD) : Vec F S32x1x1x128 .f32 := (k0_pay290 (x2438 a c) (x2504 a c))
def yO13 (a : Args F) (c : Dev nD) : Vec F S32x1x1x128 .f32 := (k0_pay291 (x2459 a c) (x2504 a c))
def yO14 (a : Args F) (c : Dev nD) : Vec F S32x1x1x128 .f32 := (k0_pay292 (x2480 a c) (x2504 a c))
def yO15 (a : Args F) (c : Dev nD) : Vec F S32x1x1x128 .f32 := (k0_pay293 (x2501 a c) (x2504 a c))

/-! ## What is packed -/

def yA (a : Args F) (c : Dev nD) (s g : Fin 2) : Fin 8 → Vec F S1x1x32x128 .f32 := match s, g with
  | 0, 0 => ![y00A0 a c, y00A1 a c, y00A2 a c, y00A3 a c, y00A4 a c, y00A5 a c, y00A6 a c, y00A7 a c]
  | 0, 1 => ![y01A0 a c, y01A1 a c, y01A2 a c, y01A3 a c, y01A4 a c, y01A5 a c, y01A6 a c, y01A7 a c]
  | 1, 0 => ![y10A0 a c, y10A1 a c, y10A2 a c, y10A3 a c, y10A4 a c, y10A5 a c, y10A6 a c, y10A7 a c]
  | 1, 1 => ![y11A0 a c, y11A1 a c, y11A2 a c, y11A3 a c, y11A4 a c, y11A5 a c, y11A6 a c, y11A7 a c]
def yM (a : Args F) (c : Dev nD) (s g : Fin 2) : Vec F S1x1x8x32 .f32 := match s, g with
  | 0, 0 => y00M a c
  | 0, 1 => y01M a c
  | 1, 0 => y10M a c
  | 1, 1 => y11M a c
def yL (a : Args F) (c : Dev nD) (s g : Fin 2) : Vec F S1x1x8x32 .f32 := match s, g with
  | 0, 0 => y00L a c
  | 0, 1 => y01L a c
  | 1, 0 => y10L a c
  | 1, 1 => y11L a c

def vals (a : Args F) : Vals F where
  A c s g i := fun j => yA a c s g i (ix4 0 0 (j 0) (j 1))
  M c s g := fun j => yM a c s g (ix4 0 0 (j 0) (j 1))
  L c s g := fun j => yL a c s g (ix4 0 0 (j 0) (j 1))

def xOut (a : Args F) (c : Dev nD) : Fin 16 → Vec F S32x1x1x128 .f32 := ![yO0 a c, yO1 a c, yO2 a c, yO3 a c, yO4 a c, yO5 a c, yO6 a c, yO7 a c, yO8 a c, yO9 a c, yO10 a c, yO11 a c, yO12 a c, yO13 a c, yO14 a c, yO15 a c]

theorem pk_split0 (a : Args F) (c : Dev nD) (g : Fin 2) : Pk (vals a) c 0 g 10
    ⊢ iprop(srcGot (vals a) c 0 g ∗ srcGot (vals a) c 1 g ∗ srcGot (vals a) c 2 g) := pk_split (vals a) c 0 g

theorem pk_split1 (a : Args F) (c : Dev nD) (g : Fin 2) : Pk (vals a) c 1 g 10
    ⊢ iprop(srcGot (vals a) c 3 g ∗ srcGot (vals a) c 4 g ∗ srcGot (vals a) c 5 g) := pk_split (vals a) c 1 g

end Cert.KernelIdealPf

end
-- ==== Proof.IP1.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part1 (a : Args F) (c : Dev nD) {Q : _ → sProp 𝕄} :
    Rec (vals a) ⊢ iprop((Idle kH kM 4 c 0 (a.k c)) -∗ (Idle vH vM 20 c 0 (a.v c)) -∗
      (∀ w1 : BitVec 32, ∀ w2 : BitVec 32, ∀ w4 : BitVec 32, (Fly kH kM 4 c 0 (a.k c) ∗ Fly vH vM 20 c 0 (a.v c)) -∗ Q ⟨c, w1, w2, (x8 c), w4, (x11 c)⟩) -∗
      WP c (k0_part1 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 ) Q) := by
  rw [k0_part1_eq_skeleton]; unfold k0_part1_skel
  simp only [semSignalWord, semWaitWord, Prog.lift, Prog.bind_op, Prog.bind_ret, Prog.pure_eq_ret]
  iintro #HR K0 V0 Hk
  iapply (op_dev (c := c))
  iapply (op_start 4 c 0 _ (off_eq0 c) (by rfl) (by rfl) (by rfl)) $$ K0
  iintro K0
  iapply (op_start 20 c 0 _ (off_eq0 c) (by rfl) (by rfl) (by rfl)) $$ V0
  iintro V0
  iapply (fin_eq _ ⟨c, _, _, (x8 c), _, (x11 c)⟩ (by rfl))
  iapply Hk
  isplitl [K0]; · iexact K0
  iexact V0

theorem part2 (a : Args F) (c : Dev nD) {Q : _ → sProp 𝕄} :
    Rec (vals a) ⊢ iprop((Idle kH kM 5 c 1 (a.k c)) -∗ (Idle vH vM 21 c 1 (a.v c)) -∗ (Idle kH kM 6 c 2 (a.k c)) -∗ (Idle vH vM 22 c 2 (a.v c)) -∗
      ((Fly kH kM 5 c 1 (a.k c) ∗ Fly vH vM 21 c 1 (a.v c) ∗ Fly kH kM 6 c 2 (a.k c) ∗ Fly vH vM 22 c 2 (a.v c)) -∗ Q PUnit.unit) -∗
      WP c (k0_part2 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part2_eq_skeleton]; unfold k0_part2_skel
  simp only [semSignalWord, semWaitWord, Prog.lift, Prog.bind_op, Prog.bind_ret, Prog.pure_eq_ret]
  iintro #HR K1 V1 K2 V2 Hk
  iapply (op_start 5 c 1 _ (off_eq1 c) (by rfl) (by rfl) (by rfl)) $$ K1
  iintro K1
  iapply (op_start 21 c 1 _ (off_eq1 c) (by rfl) (by rfl) (by rfl)) $$ V1
  iintro V1
  iapply (op_start 6 c 2 _ (off_eq2 c) (by rfl) (by rfl) (by rfl)) $$ K2
  iintro K2
  iapply (op_start 22 c 2 _ (off_eq2 c) (by rfl) (by rfl) (by rfl)) $$ V2
  iintro V2
  iapply (fin_eq _ PUnit.unit (by rfl))
  iapply Hk
  isplitl [K1]; · iexact K1
  isplitl [V1]; · iexact V1
  isplitl [K2]; · iexact K2
  iexact V2

theorem part3 (a : Args F) (c : Dev nD) {Q : _ → sProp 𝕄} :
    Rec (vals a) ⊢ iprop((Idle kH kM 7 c 3 (a.k c)) -∗ (Idle vH vM 23 c 3 (a.v c)) -∗ (Idle kH kM 8 c 4 (a.k c)) -∗ (Idle vH vM 24 c 4 (a.v c)) -∗
      ((Fly kH kM 7 c 3 (a.k c) ∗ Fly vH vM 23 c 3 (a.v c) ∗ Fly kH kM 8 c 4 (a.k c) ∗ Fly vH vM 24 c 4 (a.v c)) -∗ Q PUnit.unit) -∗
      WP c (k0_part3 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part3_eq_skeleton]; unfold k0_part3_skel
  simp only [semSignalWord, semWaitWord, Prog.lift, Prog.bind_op, Prog.bind_ret, Prog.pure_eq_ret]
  iintro #HR K3 V3 K4 V4 Hk
  iapply (op_start 7 c 3 _ (off_eq3 c) (by rfl) (by rfl) (by rfl)) $$ K3
  iintro K3
  iapply (op_start 23 c 3 _ (off_eq3 c) (by rfl) (by rfl) (by rfl)) $$ V3
  iintro V3
  iapply (op_start 8 c 4 _ (off_eq4 c) (by rfl) (by rfl) (by rfl)) $$ K4
  iintro K4
  iapply (op_start 24 c 4 _ (off_eq4 c) (by rfl) (by rfl) (by rfl)) $$ V4
  iintro V4
  iapply (fin_eq _ PUnit.unit (by rfl))
  iapply Hk
  isplitl [K3]; · iexact K3
  isplitl [V3]; · iexact V3
  isplitl [K4]; · iexact K4
  iexact V4

theorem part4 (a : Args F) (c : Dev nD) {Q : _ → sProp 𝕄} :
    Rec (vals a) ⊢ iprop((Idle kH kM 9 c 5 (a.k c)) -∗ (Idle vH vM 25 c 5 (a.v c)) -∗ (Idle kH kM 10 c 6 (a.k c)) -∗ (Idle vH vM 26 c 6 (a.v c)) -∗
      ((Fly kH kM 9 c 5 (a.k c) ∗ Fly vH vM 25 c 5 (a.v c) ∗ Fly kH kM 10 c 6 (a.k c) ∗ Fly vH vM 26 c 6 (a.v c)) -∗ Q PUnit.unit) -∗
      WP c (k0_part4 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part4_eq_skeleton]; unfold k0_part4_skel
  simp only [semSignalWord, semWaitWord, Prog.lift, Prog.bind_op, Prog.bind_ret, Prog.pure_eq_ret]
  iintro #HR K5 V5 K6 V6 Hk
  iapply (op_start 9 c 5 _ (off_eq5 c) (by rfl) (by rfl) (by rfl)) $$ K5
  iintro K5
  iapply (op_start 25 c 5 _ (off_eq5 c) (by rfl) (by rfl) (by rfl)) $$ V5
  iintro V5
  iapply (op_start 10 c 6 _ (off_eq6 c) (by rfl) (by rfl) (by rfl)) $$ K6
  iintro K6
  iapply (op_start 26 c 6 _ (off_eq6 c) (by rfl) (by rfl) (by rfl)) $$ V6
  iintro V6
  iapply (fin_eq _ PUnit.unit (by rfl))
  iapply Hk
  isplitl [K5]; · iexact K5
  isplitl [V5]; · iexact V5
  isplitl [K6]; · iexact K6
  iexact V6

theorem part5 (a : Args F) (c : Dev nD) {Q : _ → sProp 𝕄} :
    Rec (vals a) ⊢ iprop((Idle kH kM 11 c 7 (a.k c)) -∗ (Idle vH vM 27 c 7 (a.v c)) -∗ (Idle kH kM 12 c 8 (a.k c)) -∗ (Idle vH vM 28 c 8 (a.v c)) -∗
      ((Fly kH kM 11 c 7 (a.k c) ∗ Fly vH vM 27 c 7 (a.v c) ∗ Fly kH kM 12 c 8 (a.k c) ∗ Fly vH vM 28 c 8 (a.v c)) -∗ Q PUnit.unit) -∗
      WP c (k0_part5 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part5_eq_skeleton]; unfold k0_part5_skel
  simp only [semSignalWord, semWaitWord, Prog.lift, Prog.bind_op, Prog.bind_ret, Prog.pure_eq_ret]
  iintro #HR K7 V7 K8 V8 Hk
  iapply (op_start 11 c 7 _ (off_eq7 c) (by rfl) (by rfl) (by rfl)) $$ K7
  iintro K7
  iapply (op_start 27 c 7 _ (off_eq7 c) (by rfl) (by rfl) (by rfl)) $$ V7
  iintro V7
  iapply (op_start 12 c 8 _ (off_eq8 c) (by rfl) (by rfl) (by rfl)) $$ K8
  iintro K8
  iapply (op_start 28 c 8 _ (off_eq8 c) (by rfl) (by rfl) (by rfl)) $$ V8
  iintro V8
  iapply (fin_eq _ PUnit.unit (by rfl))
  iapply Hk
  isplitl [K7]; · iexact K7
  isplitl [V7]; · iexact V7
  isplitl [K8]; · iexact K8
  iexact V8

theorem part6 (a : Args F) (c : Dev nD) {Q : _ → sProp 𝕄} :
    Rec (vals a) ⊢ iprop((Idle kH kM 13 c 9 (a.k c)) -∗ (Idle vH vM 29 c 9 (a.v c)) -∗ (Idle kH kM 14 c 10 (a.k c)) -∗ (Idle vH vM 30 c 10 (a.v c)) -∗
      ((Fly kH kM 13 c 9 (a.k c) ∗ Fly vH vM 29 c 9 (a.v c) ∗ Fly kH kM 14 c 10 (a.k c) ∗ Fly vH vM 30 c 10 (a.v c)) -∗ Q PUnit.unit) -∗
      WP c (k0_part6 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part6_eq_skeleton]; unfold k0_part6_skel
  simp only [semSignalWord, semWaitWord, Prog.lift, Prog.bind_op, Prog.bind_ret, Prog.pure_eq_ret]
  iintro #HR K9 V9 K10 V10 Hk
  iapply (op_start 13 c 9 _ (off_eq9 c) (by rfl) (by rfl) (by rfl)) $$ K9
  iintro K9
  iapply (op_start 29 c 9 _ (off_eq9 c) (by rfl) (by rfl) (by rfl)) $$ V9
  iintro V9
  iapply (op_start 14 c 10 _ (off_eq10 c) (by rfl) (by rfl) (by rfl)) $$ K10
  iintro K10
  iapply (op_start 30 c 10 _ (off_eq10 c) (by rfl) (by rfl) (by rfl)) $$ V10
  iintro V10
  iapply (fin_eq _ PUnit.unit (by rfl))
  iapply Hk
  isplitl [K9]; · iexact K9
  isplitl [V9]; · iexact V9
  isplitl [K10]; · iexact K10
  iexact V10

theorem part7 (a : Args F) (c : Dev nD) {Q : _ → sProp 𝕄} :
    Rec (vals a) ⊢ iprop((Idle kH kM 15 c 11 (a.k c)) -∗ (Idle vH vM 31 c 11 (a.v c)) -∗ (Idle kH kM 16 c 12 (a.k c)) -∗ (Idle vH vM 32 c 12 (a.v c)) -∗
      ((Fly kH kM 15 c 11 (a.k c) ∗ Fly vH vM 31 c 11 (a.v c) ∗ Fly kH kM 16 c 12 (a.k c) ∗ Fly vH vM 32 c 12 (a.v c)) -∗ Q PUnit.unit) -∗
      WP c (k0_part7 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part7_eq_skeleton]; unfold k0_part7_skel
  simp only [semSignalWord, semWaitWord, Prog.lift, Prog.bind_op, Prog.bind_ret, Prog.pure_eq_ret]
  iintro #HR K11 V11 K12 V12 Hk
  iapply (op_start 15 c 11 _ (off_eq11 c) (by rfl) (by rfl) (by rfl)) $$ K11
  iintro K11
  iapply (op_start 31 c 11 _ (off_eq11 c) (by rfl) (by rfl) (by rfl)) $$ V11
  iintro V11
  iapply (op_start 16 c 12 _ (off_eq12 c) (by rfl) (by rfl) (by rfl)) $$ K12
  iintro K12
  iapply (op_start 32 c 12 _ (off_eq12 c) (by rfl) (by rfl) (by rfl)) $$ V12
  iintro V12
  iapply (fin_eq _ PUnit.unit (by rfl))
  iapply Hk
  isplitl [K11]; · iexact K11
  isplitl [V11]; · iexact V11
  isplitl [K12]; · iexact K12
  iexact V12

theorem part8 (a : Args F) (c : Dev nD) {Q : _ → sProp 𝕄} :
    Rec (vals a) ⊢ iprop((Idle kH kM 17 c 13 (a.k c)) -∗ (Idle vH vM 33 c 13 (a.v c)) -∗ (Idle kH kM 18 c 14 (a.k c)) -∗ (Idle vH vM 34 c 14 (a.v c)) -∗
      ((Fly kH kM 17 c 13 (a.k c) ∗ Fly vH vM 33 c 13 (a.v c) ∗ Fly kH kM 18 c 14 (a.k c) ∗ Fly vH vM 34 c 14 (a.v c)) -∗ Q PUnit.unit) -∗
      WP c (k0_part8 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part8_eq_skeleton]; unfold k0_part8_skel
  simp only [semSignalWord, semWaitWord, Prog.lift, Prog.bind_op, Prog.bind_ret, Prog.pure_eq_ret]
  iintro #HR K13 V13 K14 V14 Hk
  iapply (op_start 17 c 13 _ (off_eq13 c) (by rfl) (by rfl) (by rfl)) $$ K13
  iintro K13
  iapply (op_start 33 c 13 _ (off_eq13 c) (by rfl) (by rfl) (by rfl)) $$ V13
  iintro V13
  iapply (op_start 18 c 14 _ (off_eq14 c) (by rfl) (by rfl) (by rfl)) $$ K14
  iintro K14
  iapply (op_start 34 c 14 _ (off_eq14 c) (by rfl) (by rfl) (by rfl)) $$ V14
  iintro V14
  iapply (fin_eq _ PUnit.unit (by rfl))
  iapply Hk
  isplitl [K13]; · iexact K13
  isplitl [V13]; · iexact V13
  isplitl [K14]; · iexact K14
  iexact V14

theorem part9 (a : Args F) (c : Dev nD) (v10 : BitVec 32) {Q : _ → sProp 𝕄} :
    Rec (vals a) ⊢ iprop((Idle kH kM 19 c 15 (a.k c)) -∗ (Idle vH vM 35 c 15 (a.v c)) -∗
      (∀ w1 : BitVec 32, ∀ w2 : BitVec 32, ∀ w3 : BitVec 32, ∀ w4 : BitVec 1, ∀ w5 : BitVec 1, (Fly kH kM 19 c 15 (a.k c) ∗ Fly vH vM 35 c 15 (a.v c)) -∗ Q ⟨x204, w1, w2, w3, w4, w5⟩) -∗
      WP c (k0_part9 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v10) Q) := by
  rw [k0_part9_eq_skeleton]; unfold k0_part9_skel
  simp only [semSignalWord, semWaitWord, Prog.lift, Prog.bind_op, Prog.bind_ret, Prog.pure_eq_ret]
  iintro #HR K15 V15 Hk
  iapply (op_start 19 c 15 _ (off_eq15 c) (by rfl) (by rfl) (by rfl)) $$ K15
  iintro K15
  iapply (op_start 35 c 15 _ (off_eq15 c) (by rfl) (by rfl) (by rfl)) $$ V15
  iintro V15
  iapply (fin_eq _ ⟨x204, _, _, _, _, _⟩ (by rfl))
  iapply Hk
  isplitl [K15]; · iexact K15
  iexact V15

theorem part10 (a : Args F) (c : Dev nD) (v10 : BitVec 32) (v222 : BitVec 32) (v225 : BitVec 32) (v226 : BitVec 32) (v227 : BitVec 1) (v228 : BitVec 1) {Q : _ → sProp 𝕄} :
    Rec (vals a) ⊢ iprop((Ow c 18) -∗ (BarTok c 0) -∗
      (∀ w0 : BitVec 32, ∀ w1 : BitVec 32, ∀ w2 : BitVec 32, ∀ w3 : BitVec 1, (Ow c 17) -∗ Q ⟨w0, w1, w2, w3⟩) -∗
      WP c (k0_part10 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 x204 v222 v225 v226 v227 v228) Q) := by
  rw [k0_part10_eq_skeleton]; unfold k0_part10_skel
  simp only [semSignalWord, semWaitWord, Prog.lift, Prog.bind_op, Prog.bind_ret, Prog.pure_eq_ret]
  iintro #HR HO BT0 Hk
  iapply (op_signal (vals a) 0 17 (dev_eq1 c) rfl rfl (tal_bar c 0) rfl) $$ HR HO BT0
  iintro HO
  iapply (fin_eq _ ⟨_, _, _, _⟩ (by rfl))
  iapply Hk
  iexact HO

theorem part11 (a : Args F) (c : Dev nD) (v10 : BitVec 32) (v257 : BitVec 32) (v260 : BitVec 32) (v261 : BitVec 32) (v266 : BitVec 1) {Q : _ → sProp 𝕄} :
    Rec (vals a) ⊢ iprop((Ow c 17) -∗ (BarTok c 1) -∗
      (∀ w0 : BitVec 32, ∀ w1 : BitVec 32, ∀ w2 : BitVec 32, (Ow c 16) -∗ Q ⟨w0, w1, w2⟩) -∗
      WP c (k0_part11 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 x204 v257 v260 v261 v266) Q) := by
  rw [k0_part11_eq_skeleton]; unfold k0_part11_skel
  simp only [semSignalWord, semWaitWord, Prog.lift, Prog.bind_op, Prog.bind_ret, Prog.pure_eq_ret]
  iintro #HR HO BT1 Hk
  iapply (op_signal (vals a) 1 16 (dev_eq2 c) rfl rfl (tal_bar c 1) rfl) $$ HR HO BT1
  iintro HO
  iapply (fin_eq _ ⟨_, _, _⟩ (by rfl))
  iapply Hk
  iexact HO

end Cert.KernelIdealPf

end
-- ==== Proof.IP2.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part12 (a : Args F) (c : Dev nD) (v2 : BitVec 32) (v5 : BitVec 32) (v292 : BitVec 32) (v303 : BitVec 32) (c8_i32_303 : BitVec 32) {Q : _ → sProp 𝕄} :
    Rec (vals a) ⊢ iprop((Ow c 16) -∗ (BarTok c 2) -∗ (BarTok c 3) -∗
      (∀ w0 : BitVec 32, ∀ w1 : BitVec 32, (Ow c 14) -∗ Q ⟨w0, w1⟩) -∗
      WP c (k0_part12 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c) x204 v292 v303 c8_i32_303) Q) := by
  rw [k0_part12_eq_skeleton]; unfold k0_part12_skel
  simp only [semSignalWord, semWaitWord, Prog.lift, Prog.bind_op, Prog.bind_ret, Prog.pure_eq_ret]
  iintro #HR HO BT2 BT3 Hk
  iapply (op_signal (vals a) 2 15 (dev_eq3 c) rfl rfl (tal_bar c 2) rfl) $$ HR HO BT2
  iintro HO
  iapply (op_signal (vals a) 3 14 (dev_eq4 c) rfl rfl (tal_bar c 3) rfl) $$ HR HO BT3
  iintro HO
  iapply (fin_eq _ ⟨_, _⟩ (by rfl))
  iapply Hk
  iexact HO

theorem part13 (a : Args F) (c : Dev nD) (v2 : BitVec 32) (v5 : BitVec 32) (v337 : BitVec 32) (c8_i32_327 : BitVec 32) {Q : _ → sProp 𝕄} :
    Rec (vals a) ⊢ iprop((Ow c 14) -∗ (BarTok c 4) -∗ (BarTok c 5) -∗ (BarWait c) -∗ (Held lenM c Finset.univ fullShare (fun t => t = a.len c)) -∗ (Held btM c Finset.univ fullShare (fun t => t = a.bt c)) -∗
      ((Ow c 12 ∗ semVal (barCell c) 0 ∗ Held lenM c Finset.univ fullShare (fun t => t = a.len c) ∗ Held btM c Finset.univ fullShare (fun t => t = a.bt c) ∗ slotAny (nb c 0) 0 0 ∗ slotAny (nb c 0) 0 1 ∗ slotAny (nb c 1) 1 0 ∗ slotAny (nb c 1) 1 1 ∗ slotAny (nb c 2) 2 0 ∗ slotAny (nb c 2) 2 1 ∗ slotAny (nb c 3) 3 0 ∗ slotAny (nb c 3) 3 1 ∗ slotAny (nb c 4) 4 0 ∗ slotAny (nb c 4) 4 1 ∗ slotAny (nb c 5) 5 0 ∗ slotAny (nb c 5) 5 1) -∗ Q ⟨(x365 a c), (x371 a c), (x373 a c)⟩) -∗
      WP c (k0_part13 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c) (x11 c) x204 v337 c8_i32_327) Q) := by
  rw [k0_part13_eq_skeleton]; unfold k0_part13_skel
  simp only [semSignalWord, semWaitWord, Prog.lift, Prog.bind_op, Prog.bind_ret, Prog.pure_eq_ret]
  iintro #HR HO BT4 BT5 BW HLn HB Hk
  iapply (op_signal (vals a) 4 13 (dev_eq5 c) rfl rfl (tal_bar c 4) rfl) $$ HR HO BT4
  iintro HO
  iapply (op_signal (vals a) 5 12 (dev_eq6 c) rfl rfl (tal_bar c 5) rfl) $$ HR HO BT5
  iintro HO
  iapply (op_barrier (vals a) 12 rfl rfl (by decide)) $$ HR HO BW
  iintro ⟨HO, BW, BP⟩
  ihave BP := (bar_split c) $$ BP
  icases BP with ⟨SA00, SA01, SA10, SA11, SA20, SA21, SA30, SA31, SA40, SA41, SA50, SA51⟩
  iapply (op_ld (a.len c)) $$ HLn
  iintro HLn
  iapply (op_ld (a.bt c)) $$ HB
  iintro HB
  iapply (fin_eq _ ⟨(x365 a c), (x371 a c), (x373 a c)⟩ (by rfl))
  iapply Hk
  isplitl [HO]; · iexact HO
  isplitl [BW]; · iexact BW
  isplitl [HLn]; · iexact HLn
  isplitl [HB]; · iexact HB
  isplitl [SA00]; · iexact SA00
  isplitl [SA01]; · iexact SA01
  isplitl [SA10]; · iexact SA10
  isplitl [SA11]; · iexact SA11
  isplitl [SA20]; · iexact SA20
  isplitl [SA21]; · iexact SA21
  isplitl [SA30]; · iexact SA30
  isplitl [SA31]; · iexact SA31
  isplitl [SA40]; · iexact SA40
  isplitl [SA41]; · iexact SA41
  isplitl [SA50]; · iexact SA50
  iexact SA51

theorem part14 (a : Args F) (c : Dev nD) {Q : _ → sProp 𝕄} :
    Rec (vals a) ⊢ iprop((Held qM c Finset.univ fullShare (fun t => t = a.q c)) -∗ (Ow c 12) -∗ (Fly kH kM 4 c 0 (a.k c)) -∗ (Fly vH vM 20 c 0 (a.v c)) -∗
      ((Held qM c Finset.univ fullShare (fun t => t = a.q c) ∗ Ow c 12 ∗ Done kH kM 4 c 0 (a.k c) ∗ Done vH vM 20 c 0 (a.v c)) -∗ Q ⟨(x386 a c), (x389 a c), (x405 a c)⟩) -∗
      WP c (k0_part14 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x365 a c) (x371 a c) (x373 a c)) Q) := by
  rw [k0_part14_eq_skeleton]; unfold k0_part14_skel
  simp only [semSignalWord, semWaitWord, Prog.lift, Prog.bind_op, Prog.bind_ret, Prog.pure_eq_ret]
  iintro #HR HQ HO K0 V0 Hk
  iapply (op_ld (a.q c)) $$ HQ
  iintro HQ
  iapply (op_landed (vals a) (n := 4) (h := 0) (by rfl) (by rfl) (by decide)) $$ HR HO K0
  iintro ⟨HO, K0⟩
  iapply (op_landed (vals a) (n := 20) (h := 0) (by rfl) (by rfl) (by decide)) $$ HR HO V0
  iintro ⟨HO, V0⟩
  iapply (op_ld_head (h := 0) (by rfl)) $$ K0
  iintro K0
  iapply (fin_eq _ ⟨(x386 a c), (x389 a c), (x405 a c)⟩ (by rfl))
  iapply Hk
  isplitl [HQ]; · iexact HQ
  isplitl [HO]; · iexact HO
  isplitl [K0]; · iexact K0
  iexact V0

theorem part15 (a : Args F) (c : Dev nD) {Q : _ → sProp 𝕄} :
    Rec (vals a) ⊢ iprop((Done vH vM 20 c 0 (a.v c)) -∗ (Held qM c Finset.univ fullShare (fun t => t = a.q c)) -∗ (Ow c 12) -∗ (Fly kH kM 5 c 1 (a.k c)) -∗
      ((Done vH vM 20 c 0 (a.v c) ∗ Held qM c Finset.univ fullShare (fun t => t = a.q c) ∗ Ow c 12 ∗ Done kH kM 5 c 1 (a.k c)) -∗ Q ⟨(x414 a c), (x420 a c), (x422 a c), (x425 a c)⟩) -∗
      WP c (k0_part15 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x389 a c) (x405 a c)) Q) := by
  rw [k0_part15_eq_skeleton]; unfold k0_part15_skel
  simp only [semSignalWord, semWaitWord, Prog.lift, Prog.bind_op, Prog.bind_ret, Prog.pure_eq_ret]
  iintro #HR V0 HQ HO K1 Hk
  iapply (op_ld_head (h := 0) (by rfl)) $$ V0
  iintro V0
  iapply (op_ld (a.q c)) $$ HQ
  iintro HQ
  iapply (op_landed (vals a) (n := 5) (h := 1) (by rfl) (by rfl) (by decide)) $$ HR HO K1
  iintro ⟨HO, K1⟩
  iapply (fin_eq _ ⟨(x414 a c), (x420 a c), (x422 a c), (x425 a c)⟩ (by rfl))
  iapply Hk
  isplitl [V0]; · iexact V0
  isplitl [HQ]; · iexact HQ
  isplitl [HO]; · iexact HO
  iexact K1

theorem part16 (a : Args F) (c : Dev nD) {Q : _ → sProp 𝕄} :
    Rec (vals a) ⊢ iprop((Ow c 12) -∗ (Fly vH vM 21 c 1 (a.v c)) -∗ (Done kH kM 5 c 1 (a.k c)) -∗ (Held qM c Finset.univ fullShare (fun t => t = a.q c)) -∗ (Fly kH kM 6 c 2 (a.k c)) -∗
      ((Ow c 12 ∗ Done vH vM 21 c 1 (a.v c) ∗ Done kH kM 5 c 1 (a.k c) ∗ Held qM c Finset.univ fullShare (fun t => t = a.q c) ∗ Done kH kM 6 c 2 (a.k c)) -∗ Q ⟨(x450 a c), (x456 a c), (x458 a c), (x461 a c)⟩) -∗
      WP c (k0_part16 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x425 a c)) Q) := by
  rw [k0_part16_eq_skeleton]; unfold k0_part16_skel
  simp only [semSignalWord, semWaitWord, Prog.lift, Prog.bind_op, Prog.bind_ret, Prog.pure_eq_ret]
  iintro #HR HO V1 K1 HQ K2 Hk
  iapply (op_landed (vals a) (n := 21) (h := 1) (by rfl) (by rfl) (by decide)) $$ HR HO V1
  iintro ⟨HO, V1⟩
  iapply (op_ld_head (h := 1) (by rfl)) $$ K1
  iintro K1
  iapply (op_ld_head (h := 1) (by rfl)) $$ V1
  iintro V1
  iapply (op_ld (a.q c)) $$ HQ
  iintro HQ
  iapply (op_landed (vals a) (n := 6) (h := 2) (by rfl) (by rfl) (by decide)) $$ HR HO K2
  iintro ⟨HO, K2⟩
  iapply (fin_eq _ ⟨(x450 a c), (x456 a c), (x458 a c), (x461 a c)⟩ (by rfl))
  iapply Hk
  isplitl [HO]; · iexact HO
  isplitl [V1]; · iexact V1
  isplitl [K1]; · iexact K1
  isplitl [HQ]; · iexact HQ
  iexact K2

theorem part17 (a : Args F) (c : Dev nD) {Q : _ → sProp 𝕄} :
    Rec (vals a) ⊢ iprop((Ow c 12) -∗ (Fly vH vM 22 c 2 (a.v c)) -∗ (Done kH kM 6 c 2 (a.k c)) -∗ (Held qM c Finset.univ fullShare (fun t => t = a.q c)) -∗
      ((Ow c 12 ∗ Done vH vM 22 c 2 (a.v c) ∗ Done kH kM 6 c 2 (a.k c) ∗ Held qM c Finset.univ fullShare (fun t => t = a.q c)) -∗ Q ⟨(x486 a c), (x492 a c), (x494 a c), (x497 a c)⟩) -∗
      WP c (k0_part17 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x461 a c)) Q) := by
  rw [k0_part17_eq_skeleton]; unfold k0_part17_skel
  simp only [semSignalWord, semWaitWord, Prog.lift, Prog.bind_op, Prog.bind_ret, Prog.pure_eq_ret]
  iintro #HR HO V2 K2 HQ Hk
  iapply (op_landed (vals a) (n := 22) (h := 2) (by rfl) (by rfl) (by decide)) $$ HR HO V2
  iintro ⟨HO, V2⟩
  iapply (op_ld_head (h := 2) (by rfl)) $$ K2
  iintro K2
  iapply (op_ld_head (h := 2) (by rfl)) $$ V2
  iintro V2
  iapply (op_ld (a.q c)) $$ HQ
  iintro HQ
  iapply (fin_eq _ ⟨(x486 a c), (x492 a c), (x494 a c), (x497 a c)⟩ (by rfl))
  iapply Hk
  isplitl [HO]; · iexact HO
  isplitl [V2]; · iexact V2
  isplitl [K2]; · iexact K2
  iexact HQ

theorem part18 (a : Args F) (c : Dev nD) {Q : _ → sProp 𝕄} :
    Rec (vals a) ⊢ iprop((Ow c 12) -∗ (Fly kH kM 7 c 3 (a.k c)) -∗ (Fly vH vM 23 c 3 (a.v c)) -∗
      ((Ow c 12 ∗ Done kH kM 7 c 3 (a.k c) ∗ Done vH vM 23 c 3 (a.v c)) -∗ Q ⟨(x522 a c), (x528 a c), (x530 a c)⟩) -∗
      WP c (k0_part18 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x497 a c)) Q) := by
  rw [k0_part18_eq_skeleton]; unfold k0_part18_skel
  simp only [semSignalWord, semWaitWord, Prog.lift, Prog.bind_op, Prog.bind_ret, Prog.pure_eq_ret]
  iintro #HR HO K3 V3 Hk
  iapply (op_landed (vals a) (n := 7) (h := 3) (by rfl) (by rfl) (by decide)) $$ HR HO K3
  iintro ⟨HO, K3⟩
  iapply (op_landed (vals a) (n := 23) (h := 3) (by rfl) (by rfl) (by decide)) $$ HR HO V3
  iintro ⟨HO, V3⟩
  iapply (op_ld_head (h := 3) (by rfl)) $$ K3
  iintro K3
  iapply (op_ld_head (h := 3) (by rfl)) $$ V3
  iintro V3
  iapply (fin_eq _ ⟨(x522 a c), (x528 a c), (x530 a c)⟩ (by rfl))
  iapply Hk
  isplitl [HO]; · iexact HO
  isplitl [K3]; · iexact K3
  iexact V3

theorem part19 (a : Args F) (c : Dev nD) {Q : _ → sProp 𝕄} :
    Rec (vals a) ⊢ iprop((Held qM c Finset.univ fullShare (fun t => t = a.q c)) -∗ (Ow c 12) -∗ (Fly kH kM 8 c 4 (a.k c)) -∗ (Fly vH vM 24 c 4 (a.v c)) -∗
      ((Held qM c Finset.univ fullShare (fun t => t = a.q c) ∗ Ow c 12 ∗ Done kH kM 8 c 4 (a.k c) ∗ Done vH vM 24 c 4 (a.v c)) -∗ Q ⟨(x553 a c), (x556 a c), (x558 a c), (x559 a c)⟩) -∗
      WP c (k0_part19 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part19_eq_skeleton]; unfold k0_part19_skel
  simp only [semSignalWord, semWaitWord, Prog.lift, Prog.bind_op, Prog.bind_ret, Prog.pure_eq_ret]
  iintro #HR HQ HO K4 V4 Hk
  iapply (op_ld (a.q c)) $$ HQ
  iintro HQ
  iapply (op_landed (vals a) (n := 8) (h := 4) (by rfl) (by rfl) (by decide)) $$ HR HO K4
  iintro ⟨HO, K4⟩
  iapply (op_landed (vals a) (n := 24) (h := 4) (by rfl) (by rfl) (by decide)) $$ HR HO V4
  iintro ⟨HO, V4⟩
  iapply (op_ld_head (h := 4) (by rfl)) $$ K4
  iintro K4
  iapply (op_ld_head (h := 4) (by rfl)) $$ V4
  iintro V4
  iapply (fin_eq _ ⟨(x553 a c), (x556 a c), (x558 a c), (x559 a c)⟩ (by rfl))
  iapply Hk
  isplitl [HQ]; · iexact HQ
  isplitl [HO]; · iexact HO
  isplitl [K4]; · iexact K4
  iexact V4

theorem part20 (a : Args F) (c : Dev nD) {Q : _ → sProp 𝕄} :
    Rec (vals a) ⊢ iprop((Held qM c Finset.univ fullShare (fun t => t = a.q c)) -∗ (Ow c 12) -∗ (Fly kH kM 9 c 5 (a.k c)) -∗ (Fly vH vM 25 c 5 (a.v c)) -∗
      ((Held qM c Finset.univ fullShare (fun t => t = a.q c) ∗ Ow c 12 ∗ Done kH kM 9 c 5 (a.k c) ∗ Done vH vM 25 c 5 (a.v c)) -∗ Q ⟨(x564 a c), (x566 a c), (x569 a c), (x585 a c), (x587 a c)⟩) -∗
      WP c (k0_part20 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x553 a c) (x556 a c) (x559 a c)) Q) := by
  rw [k0_part20_eq_skeleton]; unfold k0_part20_skel
  simp only [semSignalWord, semWaitWord, Prog.lift, Prog.bind_op, Prog.bind_ret, Prog.pure_eq_ret]
  iintro #HR HQ HO K5 V5 Hk
  iapply (op_ld (a.q c)) $$ HQ
  iintro HQ
  iapply (op_landed (vals a) (n := 9) (h := 5) (by rfl) (by rfl) (by decide)) $$ HR HO K5
  iintro ⟨HO, K5⟩
  iapply (op_landed (vals a) (n := 25) (h := 5) (by rfl) (by rfl) (by decide)) $$ HR HO V5
  iintro ⟨HO, V5⟩
  iapply (op_ld_head (h := 5) (by rfl)) $$ K5
  iintro K5
  iapply (op_ld_head (h := 5) (by rfl)) $$ V5
  iintro V5
  iapply (fin_eq _ ⟨(x564 a c), (x566 a c), (x569 a c), (x585 a c), (x587 a c)⟩ (by rfl))
  iapply Hk
  isplitl [HQ]; · iexact HQ
  isplitl [HO]; · iexact HO
  isplitl [K5]; · iexact K5
  iexact V5

theorem part21 (a : Args F) (c : Dev nD) {Q : _ → sProp 𝕄} :
    Rec (vals a) ⊢ iprop((Held qM c Finset.univ fullShare (fun t => t = a.q c)) -∗ (Ow c 12) -∗ (Fly kH kM 10 c 6 (a.k c)) -∗ (Fly vH vM 26 c 6 (a.v c)) -∗
      ((Held qM c Finset.univ fullShare (fun t => t = a.q c) ∗ Ow c 12 ∗ Done kH kM 10 c 6 (a.k c) ∗ Done vH vM 26 c 6 (a.v c)) -∗ Q ⟨(x594 a c), (x600 a c), (x602 a c), (x605 a c)⟩) -∗
      WP c (k0_part21 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x569 a c) (x585 a c) (x587 a c)) Q) := by
  rw [k0_part21_eq_skeleton]; unfold k0_part21_skel
  simp only [semSignalWord, semWaitWord, Prog.lift, Prog.bind_op, Prog.bind_ret, Prog.pure_eq_ret]
  iintro #HR HQ HO K6 V6 Hk
  iapply (op_ld (a.q c)) $$ HQ
  iintro HQ
  iapply (op_landed (vals a) (n := 10) (h := 6) (by rfl) (by rfl) (by decide)) $$ HR HO K6
  iintro ⟨HO, K6⟩
  iapply (op_landed (vals a) (n := 26) (h := 6) (by rfl) (by rfl) (by decide)) $$ HR HO V6
  iintro ⟨HO, V6⟩
  iapply (fin_eq _ ⟨(x594 a c), (x600 a c), (x602 a c), (x605 a c)⟩ (by rfl))
  iapply Hk
  isplitl [HQ]; · iexact HQ
  isplitl [HO]; · iexact HO
  isplitl [K6]; · iexact K6
  iexact V6

theorem part22 (a : Args F) (c : Dev nD) {Q : _ → sProp 𝕄} :
    Rec (vals a) ⊢ iprop((Done kH kM 10 c 6 (a.k c)) -∗ (Done vH vM 26 c 6 (a.v c)) -∗ (Held qM c Finset.univ fullShare (fun t => t = a.q c)) -∗ (Ow c 12) -∗ (Fly kH kM 11 c 7 (a.k c)) -∗
      ((Done kH kM 10 c 6 (a.k c) ∗ Done vH vM 26 c 6 (a.v c) ∗ Held qM c Finset.univ fullShare (fun t => t = a.q c) ∗ Ow c 12 ∗ Done kH kM 11 c 7 (a.k c)) -∗ Q ⟨(x630 a c), (x636 a c), (x638 a c), (x641 a c)⟩) -∗
      WP c (k0_part22 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x605 a c)) Q) := by
  rw [k0_part22_eq_skeleton]; unfold k0_part22_skel
  simp only [semSignalWord, semWaitWord, Prog.lift, Prog.bind_op, Prog.bind_ret, Prog.pure_eq_ret]
  iintro #HR K6 V6 HQ HO K7 Hk
  iapply (op_ld_head (h := 6) (by rfl)) $$ K6
  iintro K6
  iapply (op_ld_head (h := 6) (by rfl)) $$ V6
  iintro V6
  iapply (op_ld (a.q c)) $$ HQ
  iintro HQ
  iapply (op_landed (vals a) (n := 11) (h := 7) (by rfl) (by rfl) (by decide)) $$ HR HO K7
  iintro ⟨HO, K7⟩
  iapply (fin_eq _ ⟨(x630 a c), (x636 a c), (x638 a c), (x641 a c)⟩ (by rfl))
  iapply Hk
  isplitl [K6]; · iexact K6
  isplitl [V6]; · iexact V6
  isplitl [HQ]; · iexact HQ
  isplitl [HO]; · iexact HO
  iexact K7

end Cert.KernelIdealPf

end
-- ==== Proof.IP3.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part23 (a : Args F) (c : Dev nD) {Q : _ → sProp 𝕄} :
    Rec (vals a) ⊢ iprop((Ow c 12) -∗ (Fly vH vM 27 c 7 (a.v c)) -∗ (Done kH kM 11 c 7 (a.k c)) -∗ (Pk (vals a) c 0 0 0) -∗
      ((Ow c 12 ∗ Done vH vM 27 c 7 (a.v c) ∗ Done kH kM 11 c 7 (a.k c) ∗ Pk (vals a) c 0 0 1) -∗ Q ⟨(x674 a c), (x676 a c), (x678 a c)⟩) -∗
      WP c (k0_part23 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x414 a c) (x420 a c) (x422 a c) (x450 a c) (x456 a c) (x486 a c) (x492 a c) (x522 a c) (x528 a c) (x558 a c) (x564 a c) (x594 a c) (x600 a c) (x630 a c) (x636 a c) (x641 a c)) Q) := by
  rw [k0_part23_eq_skeleton]; unfold k0_part23_skel
  simp only [semSignalWord, semWaitWord, Prog.lift, Prog.bind_op, Prog.bind_ret, Prog.pure_eq_ret]
  iintro #HR HO V7 K7 PK00 Hk
  iapply (op_landed (vals a) (n := 27) (h := 7) (by rfl) (by rfl) (by decide)) $$ HR HO V7
  iintro ⟨HO, V7⟩
  iapply (op_ld_head (h := 7) (by rfl)) $$ K7
  iintro K7
  iapply (op_ld_head (h := 7) (by rfl)) $$ V7
  iintro V7
  iapply (op_pk_peek (vals a) (by rfl) (by rfl) (by rfl)) $$ PK00
  iintro %_ PK00
  iapply (op_pk_acc (vals a) 0 0 1 (by rfl) (by rfl) (by rfl) (by rfl) (fun _ _ => by rfl)) $$ PK00
  iintro PK00
  iapply (op_pk_peek (vals a) (by rfl) (by rfl) (by rfl)) $$ PK00
  iintro %_ PK00
  iapply (fin_eq _ ⟨(x674 a c), (x676 a c), (x678 a c)⟩ (by rfl))
  iapply Hk
  isplitl [HO]; · iexact HO
  isplitl [V7]; · iexact V7
  isplitl [K7]; · iexact K7
  iexact PK00

theorem part24 (a : Args F) (c : Dev nD) {Q : _ → sProp 𝕄} :
    Rec (vals a) ⊢ iprop((Pk (vals a) c 0 0 1) -∗
      ((Pk (vals a) c 0 0 9) -∗ Q PUnit.unit) -∗
      WP c (k0_part24 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x458 a c) (x494 a c) (x530 a c) (x566 a c) (x602 a c) (x638 a c) (x674 a c) (x676 a c)) Q) := by
  rw [k0_part24_eq_skeleton]; unfold k0_part24_skel
  simp only [semSignalWord, semWaitWord, Prog.lift, Prog.bind_op, Prog.bind_ret, Prog.pure_eq_ret]
  iintro #HR PK00 Hk
  iapply (op_pk_acc (vals a) 1 1 2 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 2 2 3 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 3 3 4 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 4 4 5 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 5 5 6 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 6 6 7 (by rfl) (by rfl) (by rfl) (by rfl) (fun _ _ => by rfl)) $$ PK00
  iintro PK00
  iapply (op_pk_peek (vals a) (by rfl) (by rfl) (by rfl)) $$ PK00
  iintro %_ PK00
  iapply (op_pk_acc (vals a) 7 7 8 (by rfl) (by rfl) (by rfl) (by rfl) (fun _ _ => by rfl)) $$ PK00
  iintro PK00
  iapply (op_pk_peek (vals a) (by rfl) (by rfl) (by rfl)) $$ PK00
  iintro %_ PK00
  iapply (op_pk_max (vals a) (by rfl) (by rfl) (fun _ _ => by rfl)) $$ PK00
  iintro PK00
  iapply (fin_eq _ PUnit.unit (by rfl))
  iapply Hk
  iexact PK00

theorem part25 (a : Args F) (c : Dev nD) (v10 : BitVec 32) {Q : _ → sProp 𝕄} :
    Rec (vals a) ⊢ iprop((Pk (vals a) c 0 0 9) -∗
      (∀ w0 : BitVec 32, ∀ w1 : BitVec 32, ∀ w2 : BitVec 32, ∀ w3 : BitVec 32, (Pk (vals a) c 0 0 10) -∗ Q ⟨w0, w1, w2, w3⟩) -∗
      WP c (k0_part25 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v10 (x678 a c)) Q) := by
  rw [k0_part25_eq_skeleton]; unfold k0_part25_skel
  simp only [semSignalWord, semWaitWord, Prog.lift, Prog.bind_op, Prog.bind_ret, Prog.pure_eq_ret]
  iintro #HR PK00 Hk
  iapply (op_pk_peek (vals a) (by rfl) (by rfl) (by rfl)) $$ PK00
  iintro %_ PK00
  iapply (op_pk_sum (vals a) (by rfl) (by rfl) (fun _ _ => by rfl)) $$ PK00
  iintro PK00
  iapply (fin_eq _ ⟨_, _, _, _⟩ (by rfl))
  iapply Hk
  iexact PK00

theorem part26 (a : Args F) (c : Dev nD) (v10 : BitVec 32) (v737 : BitVec 32) (v738 : BitVec 32) (c0_i32_665 : BitVec 32) {Q : _ → sProp 𝕄} :
    Rec (vals a) ⊢ iprop((Ow c 12) -∗ (Pk (vals a) c 0 0 10) -∗ (slotAny (nb c 0) 0 0) -∗ (SendTok c 0 0) -∗
      (∀ w0 : BitVec 32, ∀ w1 : BitVec 32, ∀ w2 : BitVec 32, ∀ w3 : BitVec 1, ∀ w4 : BitVec 1, (Ow c 11 ∗ Sent c 0 0 ∗ srcGot (vals a) c 1 0 ∗ srcGot (vals a) c 2 0) -∗ Q ⟨w0, w1, w2, w3, w4⟩) -∗
      WP c (k0_part26 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 v737 v738 c0_i32_665) Q) := by
  rw [k0_part26_eq_skeleton]; unfold k0_part26_skel
  simp only [semSignalWord, semWaitWord, Prog.lift, Prog.bind_op, Prog.bind_ret, Prog.pure_eq_ret]
  iintro #HR HO PK00 SA00 ST00 Hk
  ihave PK00 := (pk_split0 a c 0) $$ PK00
  icases PK00 with ⟨SG00, SG10, SG20⟩
  iapply (op_send (vals a) (e := 0) (g := 0) 11 (dev_eq7 c) (by rfl) (by rfl) (by rfl) (by rfl) (by rfl) (by rfl) (by rfl) (tal_recv c 0 0 11 rfl rfl) rfl) $$ HR HO SG00 SA00 ST00
  iintro ⟨HO, ST00⟩
  iapply (fin_eq _ ⟨_, _, _, _, _⟩ (by rfl))
  iapply Hk
  isplitl [HO]; · iexact HO
  isplitl [ST00]; · iexact ST00
  isplitl [SG10]; · iexact SG10
  iexact SG20

theorem part27 (a : Args F) (c : Dev nD) (v10 : BitVec 32) (v769 : BitVec 32) (v772 : BitVec 32) (v773 : BitVec 32) (v774 : BitVec 1) (v775 : BitVec 1) {Q : _ → sProp 𝕄} :
    Rec (vals a) ⊢ iprop((Ow c 11) -∗ (srcGot (vals a) c 1 0) -∗ (slotAny (nb c 1) 1 0) -∗ (SendTok c 1 0) -∗
      (∀ w0 : BitVec 32, ∀ w1 : BitVec 32, ∀ w2 : BitVec 1, ∀ w3 : BitVec 1, (Ow c 10 ∗ Sent c 1 0) -∗ Q ⟨w0, w1, w2, w3⟩) -∗
      WP c (k0_part27 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 v769 v772 v773 v774 v775) Q) := by
  rw [k0_part27_eq_skeleton]; unfold k0_part27_skel
  simp only [semSignalWord, semWaitWord, Prog.lift, Prog.bind_op, Prog.bind_ret, Prog.pure_eq_ret]
  iintro #HR HO SG10 SA10 ST10 Hk
  iapply (op_send (vals a) (e := 1) (g := 0) 10 (dev_eq8 c) (by rfl) (by rfl) (by rfl) (by rfl) (by rfl) (by rfl) (by rfl) (tal_recv c 1 0 10 rfl rfl) rfl) $$ HR HO SG10 SA10 ST10
  iintro ⟨HO, ST10⟩
  iapply (fin_eq _ ⟨_, _, _, _⟩ (by rfl))
  iapply Hk
  isplitl [HO]; · iexact HO
  iexact ST10

theorem part28 (a : Args F) (c : Dev nD) (v10 : BitVec 32) (v796 : BitVec 32) (v807 : BitVec 1) (v809 : BitVec 1) {Q : _ → sProp 𝕄} :
    Rec (vals a) ⊢ iprop((Ow c 10) -∗ (srcGot (vals a) c 2 0) -∗ (slotAny (nb c 2) 2 0) -∗ (SendTok c 2 0) -∗ (Held qM c Finset.univ fullShare (fun t => t = a.q c)) -∗
      (∀ w0 : BitVec 32, ∀ w1 : BitVec 32, (Ow c 9 ∗ Sent c 2 0 ∗ Held qM c Finset.univ fullShare (fun t => t = a.q c)) -∗ Q ⟨w0, w1, (x839 a c)⟩) -∗
      WP c (k0_part28 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 v796 v807 v809) Q) := by
  rw [k0_part28_eq_skeleton]; unfold k0_part28_skel
  simp only [semSignalWord, semWaitWord, Prog.lift, Prog.bind_op, Prog.bind_ret, Prog.pure_eq_ret]
  iintro #HR HO SG20 SA20 ST20 HQ Hk
  iapply (op_send (vals a) (e := 2) (g := 0) 9 (dev_eq9 c) (by rfl) (by rfl) (by rfl) (by rfl) (by rfl) (by rfl) (by rfl) (tal_recv c 2 0 9 rfl rfl) rfl) $$ HR HO SG20 SA20 ST20
  iintro ⟨HO, ST20⟩
  iapply (op_ld (a.q c)) $$ HQ
  iintro HQ
  iapply (fin_eq _ ⟨_, _, (x839 a c)⟩ (by rfl))
  iapply Hk
  isplitl [HO]; · iexact HO
  isplitl [ST20]; · iexact ST20
  iexact HQ

theorem part29 (a : Args F) (c : Dev nD) {Q : _ → sProp 𝕄} :
    Rec (vals a) ⊢ iprop((Ow c 9) -∗ (Fly kH kM 12 c 8 (a.k c)) -∗ (Fly vH vM 28 c 8 (a.v c)) -∗
      ((Ow c 9 ∗ Done kH kM 12 c 8 (a.k c) ∗ Done vH vM 28 c 8 (a.v c)) -∗ Q ⟨(x860 a c), (x865 a c), (x869 a c)⟩) -∗
      WP c (k0_part29 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x839 a c)) Q) := by
  rw [k0_part29_eq_skeleton]; unfold k0_part29_skel
  simp only [semSignalWord, semWaitWord, Prog.lift, Prog.bind_op, Prog.bind_ret, Prog.pure_eq_ret]
  iintro #HR HO K8 V8 Hk
  iapply (op_landed (vals a) (n := 12) (h := 8) (by rfl) (by rfl) (by decide)) $$ HR HO K8
  iintro ⟨HO, K8⟩
  iapply (op_landed (vals a) (n := 28) (h := 8) (by rfl) (by rfl) (by decide)) $$ HR HO V8
  iintro ⟨HO, V8⟩
  iapply (op_ld_head (h := 8) (by rfl)) $$ K8
  iintro K8
  iapply (op_ld_head (h := 8) (by rfl)) $$ V8
  iintro V8
  iapply (fin_eq _ ⟨(x860 a c), (x865 a c), (x869 a c)⟩ (by rfl))
  iapply Hk
  isplitl [HO]; · iexact HO
  isplitl [K8]; · iexact K8
  iexact V8

theorem part30 (a : Args F) (c : Dev nD) {Q : _ → sProp 𝕄} :
    Rec (vals a) ⊢ iprop((Held qM c Finset.univ fullShare (fun t => t = a.q c)) -∗ (Ow c 9) -∗ (Fly kH kM 13 c 9 (a.k c)) -∗ (Fly vH vM 29 c 9 (a.v c)) -∗
      ((Held qM c Finset.univ fullShare (fun t => t = a.q c) ∗ Ow c 9 ∗ Done kH kM 13 c 9 (a.k c) ∗ Done vH vM 29 c 9 (a.v c)) -∗ Q ⟨(x871 a c), (x873 a c), (x896 a c), (x897 a c)⟩) -∗
      WP c (k0_part30 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x860 a c) (x869 a c)) Q) := by
  rw [k0_part30_eq_skeleton]; unfold k0_part30_skel
  simp only [semSignalWord, semWaitWord, Prog.lift, Prog.bind_op, Prog.bind_ret, Prog.pure_eq_ret]
  iintro #HR HQ HO K9 V9 Hk
  iapply (op_ld (a.q c)) $$ HQ
  iintro HQ
  iapply (op_landed (vals a) (n := 13) (h := 9) (by rfl) (by rfl) (by decide)) $$ HR HO K9
  iintro ⟨HO, K9⟩
  iapply (op_landed (vals a) (n := 29) (h := 9) (by rfl) (by rfl) (by decide)) $$ HR HO V9
  iintro ⟨HO, V9⟩
  iapply (op_ld_head (h := 9) (by rfl)) $$ K9
  iintro K9
  iapply (op_ld_head (h := 9) (by rfl)) $$ V9
  iintro V9
  iapply (fin_eq _ ⟨(x871 a c), (x873 a c), (x896 a c), (x897 a c)⟩ (by rfl))
  iapply Hk
  isplitl [HQ]; · iexact HQ
  isplitl [HO]; · iexact HO
  isplitl [K9]; · iexact K9
  iexact V9

theorem part31 (a : Args F) (c : Dev nD) {Q : _ → sProp 𝕄} :
    Rec (vals a) ⊢ iprop((Held qM c Finset.univ fullShare (fun t => t = a.q c)) -∗ (Ow c 9) -∗ (Fly kH kM 14 c 10 (a.k c)) -∗ (Fly vH vM 30 c 10 (a.v c)) -∗
      ((Held qM c Finset.univ fullShare (fun t => t = a.q c) ∗ Ow c 9 ∗ Done kH kM 14 c 10 (a.k c) ∗ Done vH vM 30 c 10 (a.v c)) -∗ Q ⟨(x901 a c), (x907 a c), (x909 a c), (x912 a c), (x927 a c)⟩) -∗
      WP c (k0_part31 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x896 a c) (x897 a c)) Q) := by
  rw [k0_part31_eq_skeleton]; unfold k0_part31_skel
  simp only [semSignalWord, semWaitWord, Prog.lift, Prog.bind_op, Prog.bind_ret, Prog.pure_eq_ret]
  iintro #HR HQ HO K10 V10 Hk
  iapply (op_ld (a.q c)) $$ HQ
  iintro HQ
  iapply (op_landed (vals a) (n := 14) (h := 10) (by rfl) (by rfl) (by decide)) $$ HR HO K10
  iintro ⟨HO, K10⟩
  iapply (op_landed (vals a) (n := 30) (h := 10) (by rfl) (by rfl) (by decide)) $$ HR HO V10
  iintro ⟨HO, V10⟩
  iapply (op_ld_head (h := 10) (by rfl)) $$ K10
  iintro K10
  iapply (fin_eq _ ⟨(x901 a c), (x907 a c), (x909 a c), (x912 a c), (x927 a c)⟩ (by rfl))
  iapply Hk
  isplitl [HQ]; · iexact HQ
  isplitl [HO]; · iexact HO
  isplitl [K10]; · iexact K10
  iexact V10

theorem part32 (a : Args F) (c : Dev nD) {Q : _ → sProp 𝕄} :
    Rec (vals a) ⊢ iprop((Done vH vM 30 c 10 (a.v c)) -∗ (Held qM c Finset.univ fullShare (fun t => t = a.q c)) -∗ (Ow c 9) -∗ (Fly kH kM 15 c 11 (a.k c)) -∗
      ((Done vH vM 30 c 10 (a.v c) ∗ Held qM c Finset.univ fullShare (fun t => t = a.q c) ∗ Ow c 9 ∗ Done kH kM 15 c 11 (a.k c)) -∗ Q ⟨(x937 a c), (x943 a c), (x945 a c), (x948 a c)⟩) -∗
      WP c (k0_part32 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x912 a c) (x927 a c)) Q) := by
  rw [k0_part32_eq_skeleton]; unfold k0_part32_skel
  simp only [semSignalWord, semWaitWord, Prog.lift, Prog.bind_op, Prog.bind_ret, Prog.pure_eq_ret]
  iintro #HR V10 HQ HO K11 Hk
  iapply (op_ld_head (h := 10) (by rfl)) $$ V10
  iintro V10
  iapply (op_ld (a.q c)) $$ HQ
  iintro HQ
  iapply (op_landed (vals a) (n := 15) (h := 11) (by rfl) (by rfl) (by decide)) $$ HR HO K11
  iintro ⟨HO, K11⟩
  iapply (fin_eq _ ⟨(x937 a c), (x943 a c), (x945 a c), (x948 a c)⟩ (by rfl))
  iapply Hk
  isplitl [V10]; · iexact V10
  isplitl [HQ]; · iexact HQ
  isplitl [HO]; · iexact HO
  iexact K11

theorem part33 (a : Args F) (c : Dev nD) {Q : _ → sProp 𝕄} :
    Rec (vals a) ⊢ iprop((Ow c 9) -∗ (Fly vH vM 31 c 11 (a.v c)) -∗ (Done kH kM 15 c 11 (a.k c)) -∗ (Held qM c Finset.univ fullShare (fun t => t = a.q c)) -∗ (Fly kH kM 16 c 12 (a.k c)) -∗
      ((Ow c 9 ∗ Done vH vM 31 c 11 (a.v c) ∗ Done kH kM 15 c 11 (a.k c) ∗ Held qM c Finset.univ fullShare (fun t => t = a.q c) ∗ Done kH kM 16 c 12 (a.k c)) -∗ Q ⟨(x973 a c), (x979 a c), (x981 a c), (x984 a c)⟩) -∗
      WP c (k0_part33 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x948 a c)) Q) := by
  rw [k0_part33_eq_skeleton]; unfold k0_part33_skel
  simp only [semSignalWord, semWaitWord, Prog.lift, Prog.bind_op, Prog.bind_ret, Prog.pure_eq_ret]
  iintro #HR HO V11 K11 HQ K12 Hk
  iapply (op_landed (vals a) (n := 31) (h := 11) (by rfl) (by rfl) (by decide)) $$ HR HO V11
  iintro ⟨HO, V11⟩
  iapply (op_ld_head (h := 11) (by rfl)) $$ K11
  iintro K11
  iapply (op_ld_head (h := 11) (by rfl)) $$ V11
  iintro V11
  iapply (op_ld (a.q c)) $$ HQ
  iintro HQ
  iapply (op_landed (vals a) (n := 16) (h := 12) (by rfl) (by rfl) (by decide)) $$ HR HO K12
  iintro ⟨HO, K12⟩
  iapply (fin_eq _ ⟨(x973 a c), (x979 a c), (x981 a c), (x984 a c)⟩ (by rfl))
  iapply Hk
  isplitl [HO]; · iexact HO
  isplitl [V11]; · iexact V11
  isplitl [K11]; · iexact K11
  isplitl [HQ]; · iexact HQ
  iexact K12

end Cert.KernelIdealPf

end
-- ==== Proof.IP4.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part34 (a : Args F) (c : Dev nD) {Q : _ → sProp 𝕄} :
    Rec (vals a) ⊢ iprop((Ow c 9) -∗ (Fly vH vM 32 c 12 (a.v c)) -∗ (Done kH kM 16 c 12 (a.k c)) -∗ (Held qM c Finset.univ fullShare (fun t => t = a.q c)) -∗
      ((Ow c 9 ∗ Done vH vM 32 c 12 (a.v c) ∗ Done kH kM 16 c 12 (a.k c) ∗ Held qM c Finset.univ fullShare (fun t => t = a.q c)) -∗ Q ⟨(x1009 a c), (x1015 a c), (x1017 a c), (x1020 a c)⟩) -∗
      WP c (k0_part34 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x984 a c)) Q) := by
  rw [k0_part34_eq_skeleton]; unfold k0_part34_skel
  simp only [semSignalWord, semWaitWord, Prog.lift, Prog.bind_op, Prog.bind_ret, Prog.pure_eq_ret]
  iintro #HR HO V12 K12 HQ Hk
  iapply (op_landed (vals a) (n := 32) (h := 12) (by rfl) (by rfl) (by decide)) $$ HR HO V12
  iintro ⟨HO, V12⟩
  iapply (op_ld_head (h := 12) (by rfl)) $$ K12
  iintro K12
  iapply (op_ld_head (h := 12) (by rfl)) $$ V12
  iintro V12
  iapply (op_ld (a.q c)) $$ HQ
  iintro HQ
  iapply (fin_eq _ ⟨(x1009 a c), (x1015 a c), (x1017 a c), (x1020 a c)⟩ (by rfl))
  iapply Hk
  isplitl [HO]; · iexact HO
  isplitl [V12]; · iexact V12
  isplitl [K12]; · iexact K12
  iexact HQ

theorem part35 (a : Args F) (c : Dev nD) {Q : _ → sProp 𝕄} :
    Rec (vals a) ⊢ iprop((Ow c 9) -∗ (Fly kH kM 17 c 13 (a.k c)) -∗ (Fly vH vM 33 c 13 (a.v c)) -∗
      ((Ow c 9 ∗ Done kH kM 17 c 13 (a.k c) ∗ Done vH vM 33 c 13 (a.v c)) -∗ Q ⟨(x1045 a c), (x1051 a c), (x1053 a c)⟩) -∗
      WP c (k0_part35 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x1020 a c)) Q) := by
  rw [k0_part35_eq_skeleton]; unfold k0_part35_skel
  simp only [semSignalWord, semWaitWord, Prog.lift, Prog.bind_op, Prog.bind_ret, Prog.pure_eq_ret]
  iintro #HR HO K13 V13 Hk
  iapply (op_landed (vals a) (n := 17) (h := 13) (by rfl) (by rfl) (by decide)) $$ HR HO K13
  iintro ⟨HO, K13⟩
  iapply (op_landed (vals a) (n := 33) (h := 13) (by rfl) (by rfl) (by decide)) $$ HR HO V13
  iintro ⟨HO, V13⟩
  iapply (op_ld_head (h := 13) (by rfl)) $$ K13
  iintro K13
  iapply (op_ld_head (h := 13) (by rfl)) $$ V13
  iintro V13
  iapply (fin_eq _ ⟨(x1045 a c), (x1051 a c), (x1053 a c)⟩ (by rfl))
  iapply Hk
  isplitl [HO]; · iexact HO
  isplitl [K13]; · iexact K13
  iexact V13

theorem part36 (a : Args F) (c : Dev nD) {Q : _ → sProp 𝕄} :
    Rec (vals a) ⊢ iprop((Held qM c Finset.univ fullShare (fun t => t = a.q c)) -∗ (Ow c 9) -∗ (Fly kH kM 18 c 14 (a.k c)) -∗ (Fly vH vM 34 c 14 (a.v c)) -∗
      ((Held qM c Finset.univ fullShare (fun t => t = a.q c) ∗ Ow c 9 ∗ Done kH kM 18 c 14 (a.k c) ∗ Done vH vM 34 c 14 (a.v c)) -∗ Q ⟨(x1076 a c), (x1079 a c), (x1080 a c)⟩) -∗
      WP c (k0_part36 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c) Q) := by
  rw [k0_part36_eq_skeleton]; unfold k0_part36_skel
  simp only [semSignalWord, semWaitWord, Prog.lift, Prog.bind_op, Prog.bind_ret, Prog.pure_eq_ret]
  iintro #HR HQ HO K14 V14 Hk
  iapply (op_ld (a.q c)) $$ HQ
  iintro HQ
  iapply (op_landed (vals a) (n := 18) (h := 14) (by rfl) (by rfl) (by decide)) $$ HR HO K14
  iintro ⟨HO, K14⟩
  iapply (op_landed (vals a) (n := 34) (h := 14) (by rfl) (by rfl) (by decide)) $$ HR HO V14
  iintro ⟨HO, V14⟩
  iapply (op_ld_head (h := 14) (by rfl)) $$ K14
  iintro K14
  iapply (op_ld_head (h := 14) (by rfl)) $$ V14
  iintro V14
  iapply (fin_eq _ ⟨(x1076 a c), (x1079 a c), (x1080 a c)⟩ (by rfl))
  iapply Hk
  isplitl [HQ]; · iexact HQ
  isplitl [HO]; · iexact HO
  isplitl [K14]; · iexact K14
  iexact V14

theorem part37 (a : Args F) (c : Dev nD) {Q : _ → sProp 𝕄} :
    Rec (vals a) ⊢ iprop((Held qM c Finset.univ fullShare (fun t => t = a.q c)) -∗ (Ow c 9) -∗ (Fly kH kM 19 c 15 (a.k c)) -∗ (Fly vH vM 35 c 15 (a.v c)) -∗
      ((Held qM c Finset.univ fullShare (fun t => t = a.q c) ∗ Ow c 9 ∗ Done kH kM 19 c 15 (a.k c) ∗ Done vH vM 35 c 15 (a.v c)) -∗ Q ⟨(x1081 a c), (x1087 a c), (x1089 a c), (x1092 a c), (x1108 a c)⟩) -∗
      WP c (k0_part37 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x386 a c) (x1076 a c) (x1079 a c) (x1080 a c)) Q) := by
  rw [k0_part37_eq_skeleton]; unfold k0_part37_skel
  simp only [semSignalWord, semWaitWord, Prog.lift, Prog.bind_op, Prog.bind_ret, Prog.pure_eq_ret]
  iintro #HR HQ HO K15 V15 Hk
  iapply (op_ld (a.q c)) $$ HQ
  iintro HQ
  iapply (op_landed (vals a) (n := 19) (h := 15) (by rfl) (by rfl) (by decide)) $$ HR HO K15
  iintro ⟨HO, K15⟩
  iapply (op_landed (vals a) (n := 35) (h := 15) (by rfl) (by rfl) (by decide)) $$ HR HO V15
  iintro ⟨HO, V15⟩
  iapply (op_ld_head (h := 15) (by rfl)) $$ K15
  iintro K15
  iapply (fin_eq _ ⟨(x1081 a c), (x1087 a c), (x1089 a c), (x1092 a c), (x1108 a c)⟩ (by rfl))
  iapply Hk
  isplitl [HQ]; · iexact HQ
  isplitl [HO]; · iexact HO
  isplitl [K15]; · iexact K15
  iexact V15

theorem part38 (a : Args F) (c : Dev nD) {Q : _ → sProp 𝕄} :
    Rec (vals a) ⊢ iprop((Done vH vM 35 c 15 (a.v c)) -∗ (Pk (vals a) c 0 1 0) -∗
      ((Done vH vM 35 c 15 (a.v c) ∗ Pk (vals a) c 0 1 4) -∗ Q ⟨(x1125 a c), (x1127 a c), (x1129 a c)⟩) -∗
      WP c (k0_part38 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x386 a c) (x865 a c) (x871 a c) (x873 a c) (x901 a c) (x907 a c) (x909 a c) (x937 a c) (x943 a c) (x945 a c) (x973 a c) (x979 a c) (x981 a c) (x1009 a c) (x1015 a c) (x1045 a c) (x1051 a c) (x1081 a c) (x1087 a c) (x1092 a c) (x1108 a c)) Q) := by
  rw [k0_part38_eq_skeleton]; unfold k0_part38_skel
  simp only [semSignalWord, semWaitWord, Prog.lift, Prog.bind_op, Prog.bind_ret, Prog.pure_eq_ret]
  iintro #HR V15 PK01 Hk
  iapply (op_ld_head (h := 15) (by rfl)) $$ V15
  iintro V15
  iapply (op_pk_peek (vals a) (by rfl) (by rfl) (by rfl)) $$ PK01
  iintro %_ PK01
  iapply (op_pk_acc (vals a) 0 0 1 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 1 1 2 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 2 2 3 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 3 3 4 (by rfl) (by rfl) (by rfl) (by rfl) (fun _ _ => by rfl)) $$ PK01
  iintro PK01
  iapply (fin_eq _ ⟨(x1125 a c), (x1127 a c), (x1129 a c)⟩ (by rfl))
  iapply Hk
  isplitl [V15]; · iexact V15
  iexact PK01

theorem part39 (a : Args F) (c : Dev nD) (v10 : BitVec 32) {Q : _ → sProp 𝕄} :
    Rec (vals a) ⊢ iprop((Pk (vals a) c 0 1 4) -∗
      (∀ w0 : BitVec 32, ∀ w1 : BitVec 32, ∀ w2 : BitVec 32, ∀ w3 : BitVec 32, ∀ w4 : BitVec 32, (Pk (vals a) c 0 1 10) -∗ Q ⟨w0, w1, w2, w3, w4⟩) -∗
      WP c (k0_part39 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v10 (x1017 a c) (x1053 a c) (x1089 a c) (x1125 a c) (x1127 a c) (x1129 a c)) Q) := by
  rw [k0_part39_eq_skeleton]; unfold k0_part39_skel
  simp only [semSignalWord, semWaitWord, Prog.lift, Prog.bind_op, Prog.bind_ret, Prog.pure_eq_ret]
  iintro #HR PK01 Hk
  iapply (op_pk_peek (vals a) (by rfl) (by rfl) (by rfl)) $$ PK01
  iintro %_ PK01
  iapply (op_pk_acc (vals a) 4 4 5 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 5 5 6 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 6 6 7 (by rfl) (by rfl) (by rfl) (by rfl) (fun _ _ => by rfl)) $$ PK01
  iintro PK01
  iapply (op_pk_peek (vals a) (by rfl) (by rfl) (by rfl)) $$ PK01
  iintro %_ PK01
  iapply (op_pk_acc (vals a) 7 7 8 (by rfl) (by rfl) (by rfl) (by rfl) (fun _ _ => by rfl)) $$ PK01
  iintro PK01
  iapply (op_pk_peek (vals a) (by rfl) (by rfl) (by rfl)) $$ PK01
  iintro %_ PK01
  iapply (op_pk_max (vals a) (by rfl) (by rfl) (fun _ _ => by rfl)) $$ PK01
  iintro PK01
  iapply (op_pk_peek (vals a) (by rfl) (by rfl) (by rfl)) $$ PK01
  iintro %_ PK01
  iapply (op_pk_sum (vals a) (by rfl) (by rfl) (fun _ _ => by rfl)) $$ PK01
  iintro PK01
  iapply (fin_eq _ ⟨_, _, _, _, _⟩ (by rfl))
  iapply Hk
  iexact PK01

theorem part40 (a : Args F) (c : Dev nD) (v10 : BitVec 32) (v1160 : BitVec 32) (c2_i32_1036 : BitVec 32) (v1161 : BitVec 32) (v1166 : BitVec 32) (v1168 : BitVec 32) {Q : _ → sProp 𝕄} :
    Rec (vals a) ⊢ iprop(
      (∀ w0 : BitVec 32, ∀ w1 : BitVec 32, Q ⟨w0, w1⟩) -∗
      WP c (k0_part40 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x8 c) v10 v1160 c2_i32_1036 v1161 v1166 v1168) Q) := by
  rw [k0_part40_eq_skeleton]; unfold k0_part40_skel
  simp only [semSignalWord, semWaitWord, Prog.lift, Prog.bind_op, Prog.bind_ret, Prog.pure_eq_ret]
  iintro #HR  Hk
  iapply (fin_eq _ ⟨_, _⟩ (by rfl))
  iapply Hk

theorem part41 (a : Args F) (c : Dev nD) (v10 : BitVec 32) {Q : _ → sProp 𝕄} :
    Rec (vals a) ⊢ iprop((Ow c 9) -∗ (Pk (vals a) c 0 1 10) -∗ (slotAny (nb c 0) 0 1) -∗ (SendTok c 0 1) -∗
      (∀ w0 : BitVec 32, ∀ w1 : BitVec 32, ∀ w2 : BitVec 32, (Ow c 8 ∗ Sent c 0 1 ∗ srcGot (vals a) c 1 1 ∗ srcGot (vals a) c 2 1) -∗ Q ⟨w0, w1, w2⟩) -∗
      WP c (k0_part41 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v10) Q) := by
  rw [k0_part41_eq_skeleton]; unfold k0_part41_skel
  simp only [semSignalWord, semWaitWord, Prog.lift, Prog.bind_op, Prog.bind_ret, Prog.pure_eq_ret]
  iintro #HR HO PK01 SA01 ST01 Hk
  ihave PK01 := (pk_split0 a c 1) $$ PK01
  icases PK01 with ⟨SG01, SG11, SG21⟩
  iapply (op_send (vals a) (e := 0) (g := 1) 8 (dev_eq10 c) (by rfl) (by rfl) (by rfl) (by rfl) (by rfl) (by rfl) (by rfl) (tal_recv c 0 1 8 rfl rfl) rfl) $$ HR HO SG01 SA01 ST01
  iintro ⟨HO, ST01⟩
  iapply (fin_eq _ ⟨_, _, _⟩ (by rfl))
  iapply Hk
  isplitl [HO]; · iexact HO
  isplitl [ST01]; · iexact ST01
  isplitl [SG11]; · iexact SG11
  iexact SG21

theorem part42 (a : Args F) (c : Dev nD) (v10 : BitVec 32) (v1235 : BitVec 32) {Q : _ → sProp 𝕄} :
    Rec (vals a) ⊢ iprop((Ow c 8) -∗ (srcGot (vals a) c 1 1) -∗ (slotAny (nb c 1) 1 1) -∗ (SendTok c 1 1) -∗
      (∀ w0 : BitVec 32, ∀ w1 : BitVec 32, ∀ w2 : BitVec 32, ∀ w3 : BitVec 1, (Ow c 7 ∗ Sent c 1 1) -∗ Q ⟨w0, w1, w2, w3⟩) -∗
      WP c (k0_part42 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v10 v1235) Q) := by
  rw [k0_part42_eq_skeleton]; unfold k0_part42_skel
  simp only [semSignalWord, semWaitWord, Prog.lift, Prog.bind_op, Prog.bind_ret, Prog.pure_eq_ret]
  iintro #HR HO SG11 SA11 ST11 Hk
  iapply (op_send (vals a) (e := 1) (g := 1) 7 (dev_eq11 c) (by rfl) (by rfl) (by rfl) (by rfl) (by rfl) (by rfl) (by rfl) (tal_recv c 1 1 7 rfl rfl) rfl) $$ HR HO SG11 SA11 ST11
  iintro ⟨HO, ST11⟩
  iapply (fin_eq _ ⟨_, _, _, _⟩ (by rfl))
  iapply Hk
  isplitl [HO]; · iexact HO
  iexact ST11

theorem part43 (a : Args F) (c : Dev nD) (v726 : BitVec 32) (v737 : BitVec 32) (v1263 : BitVec 32) (v1266 : BitVec 32) (v1267 : BitVec 32) (v1272 : BitVec 1) {Q : _ → sProp 𝕄} :
    Rec (vals a) ⊢ iprop((Ow c 7) -∗ (srcGot (vals a) c 2 1) -∗ (slotAny (nb c 2) 2 1) -∗ (SendTok c 2 1) -∗
      (∀ w0 : BitVec 32, (Ow c 6 ∗ Sent c 2 1) -∗ Q w0) -∗
      WP c (k0_part43 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c (x8 c) v726 v737 v1263 v1266 v1267 v1272) Q) := by
  rw [k0_part43_eq_skeleton]; unfold k0_part43_skel
  simp only [semSignalWord, semWaitWord, Prog.lift, Prog.bind_op, Prog.bind_ret, Prog.pure_eq_ret]
  iintro #HR HO SG21 SA21 ST21 Hk
  iapply (op_send (vals a) (e := 2) (g := 1) 6 (dev_eq12 c) (by rfl) (by rfl) (by rfl) (by rfl) (by rfl) (by rfl) (by rfl) (tal_recv c 2 1 6 rfl rfl) rfl) $$ HR HO SG21 SA21 ST21
  iintro ⟨HO, ST21⟩
  iapply (fin_eq _ _ (by rfl))
  iapply Hk
  isplitl [HO]; · iexact HO
  iexact ST21

theorem part44 (a : Args F) (c : Dev nD) (v769 : BitVec 32) (v780 : BitVec 32) (v812 : BitVec 32) (v823 : BitVec 32) {Q : _ → sProp 𝕄} :
    Rec (vals a) ⊢ iprop((Ow c 6) -∗ (RecvTok c 0 0) -∗ (RecvTok c 1 0) -∗
      ((Ow c 6 ∗ Rcv (vals a) c 0 0 ∗ Rcv (vals a) c 1 0) -∗ Q PUnit.unit) -∗
      WP c (k0_part44 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x8 c) v769 v780 v812 v823) Q) := by
  rw [k0_part44_eq_skeleton]; unfold k0_part44_skel
  simp only [semSignalWord, semWaitWord, Prog.lift, Prog.bind_op, Prog.bind_ret, Prog.pure_eq_ret]
  iintro #HR HO RC00 RC10 Hk
  iapply (op_recv (vals a) (e := 0) (g := 0) (by rfl) (by rfl) (by decide)) $$ HR HO RC00
  iintro ⟨HO, RC00⟩
  iapply (op_recv (vals a) (e := 1) (g := 0) (by rfl) (by rfl) (by decide)) $$ HR HO RC10
  iintro ⟨HO, RC10⟩
  iapply (fin_eq _ PUnit.unit (by rfl))
  iapply Hk
  isplitl [HO]; · iexact HO
  isplitl [RC00]; · iexact RC00
  iexact RC10

end Cert.KernelIdealPf

end
-- ==== Proof.IP5.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part45 (a : Args F) (c : Dev nD) {Q : _ → sProp 𝕄} :
    Rec (vals a) ⊢ iprop((Ow c 6) -∗ (RecvTok c 2 0) -∗ (Rcv (vals a) c 0 0) -∗ (Rcv (vals a) c 1 0) -∗
      ((Ow c 6 ∗ Rcv (vals a) c 2 0 ∗ Rcv (vals a) c 0 0 ∗ Rcv (vals a) c 1 0) -∗ Q ⟨(x1334 a c), (x1336 a c), (x1339 a c), (x1341 a c), (x1343 a c), (x1345 a c), (x1347 a c), (x1350 a c)⟩) -∗
      WP c (k0_part45 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x676 a c) (x678 a c)) Q) := by
  rw [k0_part45_eq_skeleton]; unfold k0_part45_skel
  simp only [semSignalWord, semWaitWord, Prog.lift, Prog.bind_op, Prog.bind_ret, Prog.pure_eq_ret]
  iintro #HR HO RC20 RC00 RC10 Hk
  iapply (op_recv (vals a) (e := 2) (g := 0) (by rfl) (by rfl) (by decide)) $$ HR HO RC20
  iintro ⟨HO, RC20⟩
  iapply (op_ld_max (vals a) (y00M a (nb c (opp 0))) (by rfl) (by rfl) (fun _ _ => by rfl)) $$ RC00
  iintro RC00
  iapply (op_ld_max (vals a) (y00M a (nb c (opp 1))) (by rfl) (by rfl) (fun _ _ => by rfl)) $$ RC10
  iintro RC10
  iapply (op_ld_max (vals a) (y00M a (nb c (opp 2))) (by rfl) (by rfl) (fun _ _ => by rfl)) $$ RC20
  iintro RC20
  iapply (op_ld_sum (vals a) (y00L a (nb c (opp 0))) (by rfl) (by rfl) (fun _ _ => by rfl)) $$ RC00
  iintro RC00
  iapply (op_ld_sum (vals a) (y00L a (nb c (opp 1))) (by rfl) (by rfl) (fun _ _ => by rfl)) $$ RC10
  iintro RC10
  iapply (op_ld_sum (vals a) (y00L a (nb c (opp 2))) (by rfl) (by rfl) (fun _ _ => by rfl)) $$ RC20
  iintro RC20
  iapply (fin_eq _ ⟨(x1334 a c), (x1336 a c), (x1339 a c), (x1341 a c), (x1343 a c), (x1345 a c), (x1347 a c), (x1350 a c)⟩ (by rfl))
  iapply Hk
  isplitl [HO]; · iexact HO
  isplitl [RC20]; · iexact RC20
  isplitl [RC00]; · iexact RC00
  iexact RC10

theorem part46 (a : Args F) (c : Dev nD) {Q : _ → sProp 𝕄} :
    Rec (vals a) ⊢ iprop((Rcv (vals a) c 0 0) -∗ (Rcv (vals a) c 1 0) -∗ (Rcv (vals a) c 2 0) -∗
      ((Rcv (vals a) c 0 0 ∗ Rcv (vals a) c 1 0 ∗ Rcv (vals a) c 2 0) -∗ Q ⟨(x1354 a c), (x1355 a c), (x1356 a c), (x1357 a c), (x1358 a c), (x1379 a c), (x1388 a c)⟩) -∗
      WP c (k0_part46 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x422 a c) (x458 a c) (x1334 a c) (x1336 a c) (x1341 a c) (x1343 a c) (x1345 a c) (x1347 a c) (x1350 a c)) Q) := by
  rw [k0_part46_eq_skeleton]; unfold k0_part46_skel
  simp only [semSignalWord, semWaitWord, Prog.lift, Prog.bind_op, Prog.bind_ret, Prog.pure_eq_ret]
  iintro #HR RC00 RC10 RC20 Hk
  iapply (op_ld_acc (vals a) 0 (y00A0 a (nb c (opp 0))) (by rfl) (by rfl) (fun _ _ => by rfl)) $$ RC00
  iintro RC00
  iapply (op_ld_acc (vals a) 0 (y00A0 a (nb c (opp 1))) (by rfl) (by rfl) (fun _ _ => by rfl)) $$ RC10
  iintro RC10
  iapply (op_ld_acc (vals a) 0 (y00A0 a (nb c (opp 2))) (by rfl) (by rfl) (fun _ _ => by rfl)) $$ RC20
  iintro RC20
  iapply (op_ld_acc (vals a) 1 (y00A1 a (nb c (opp 0))) (by rfl) (by rfl) (fun _ _ => by rfl)) $$ RC00
  iintro RC00
  iapply (fin_eq _ ⟨(x1354 a c), (x1355 a c), (x1356 a c), (x1357 a c), (x1358 a c), (x1379 a c), (x1388 a c)⟩ (by rfl))
  iapply Hk
  isplitl [RC00]; · iexact RC00
  isplitl [RC10]; · iexact RC10
  iexact RC20

theorem part47 (a : Args F) (c : Dev nD) {Q : _ → sProp 𝕄} :
    Rec (vals a) ⊢ iprop((Rcv (vals a) c 1 0) -∗ (Rcv (vals a) c 2 0) -∗ (Rcv (vals a) c 0 0) -∗
      ((Rcv (vals a) c 1 0 ∗ Rcv (vals a) c 2 0 ∗ Rcv (vals a) c 0 0) -∗ Q ⟨(x1400 a c), (x1421 a c), (x1424 a c)⟩) -∗
      WP c (k0_part47 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x494 a c) (x530 a c) (x1355 a c) (x1356 a c) (x1357 a c) (x1358 a c) (x1388 a c)) Q) := by
  rw [k0_part47_eq_skeleton]; unfold k0_part47_skel
  simp only [semSignalWord, semWaitWord, Prog.lift, Prog.bind_op, Prog.bind_ret, Prog.pure_eq_ret]
  iintro #HR RC10 RC20 RC00 Hk
  iapply (op_ld_acc (vals a) 1 (y00A1 a (nb c (opp 1))) (by rfl) (by rfl) (fun _ _ => by rfl)) $$ RC10
  iintro RC10
  iapply (op_ld_acc (vals a) 1 (y00A1 a (nb c (opp 2))) (by rfl) (by rfl) (fun _ _ => by rfl)) $$ RC20
  iintro RC20
  iapply (op_ld_acc (vals a) 2 (y00A2 a (nb c (opp 0))) (by rfl) (by rfl) (fun _ _ => by rfl)) $$ RC00
  iintro RC00
  iapply (op_ld_acc (vals a) 2 (y00A2 a (nb c (opp 1))) (by rfl) (by rfl) (fun _ _ => by rfl)) $$ RC10
  iintro RC10
  iapply (op_ld_acc (vals a) 2 (y00A2 a (nb c (opp 2))) (by rfl) (by rfl) (fun _ _ => by rfl)) $$ RC20
  iintro RC20
  iapply (fin_eq _ ⟨(x1400 a c), (x1421 a c), (x1424 a c)⟩ (by rfl))
  iapply Hk
  isplitl [RC10]; · iexact RC10
  isplitl [RC20]; · iexact RC20
  iexact RC00

theorem part48 (a : Args F) (c : Dev nD) {Q : _ → sProp 𝕄} :
    Rec (vals a) ⊢ iprop((Rcv (vals a) c 0 0) -∗ (Rcv (vals a) c 1 0) -∗ (Rcv (vals a) c 2 0) -∗
      ((Rcv (vals a) c 0 0 ∗ Rcv (vals a) c 1 0 ∗ Rcv (vals a) c 2 0) -∗ Q ⟨(x1442 a c), (x1457 a c)⟩) -∗
      WP c (k0_part48 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x566 a c) (x1355 a c) (x1356 a c) (x1357 a c) (x1358 a c) (x1424 a c)) Q) := by
  rw [k0_part48_eq_skeleton]; unfold k0_part48_skel
  simp only [semSignalWord, semWaitWord, Prog.lift, Prog.bind_op, Prog.bind_ret, Prog.pure_eq_ret]
  iintro #HR RC00 RC10 RC20 Hk
  iapply (op_ld_acc (vals a) 3 (y00A3 a (nb c (opp 0))) (by rfl) (by rfl) (fun _ _ => by rfl)) $$ RC00
  iintro RC00
  iapply (op_ld_acc (vals a) 3 (y00A3 a (nb c (opp 1))) (by rfl) (by rfl) (fun _ _ => by rfl)) $$ RC10
  iintro RC10
  iapply (op_ld_acc (vals a) 3 (y00A3 a (nb c (opp 2))) (by rfl) (by rfl) (fun _ _ => by rfl)) $$ RC20
  iintro RC20
  iapply (op_ld_acc (vals a) 4 (y00A4 a (nb c (opp 0))) (by rfl) (by rfl) (fun _ _ => by rfl)) $$ RC00
  iintro RC00
  iapply (op_ld_acc (vals a) 4 (y00A4 a (nb c (opp 1))) (by rfl) (by rfl) (fun _ _ => by rfl)) $$ RC10
  iintro RC10
  iapply (fin_eq _ ⟨(x1442 a c), (x1457 a c)⟩ (by rfl))
  iapply Hk
  isplitl [RC00]; · iexact RC00
  isplitl [RC10]; · iexact RC10
  iexact RC20

theorem part49 (a : Args F) (c : Dev nD) {Q : _ → sProp 𝕄} :
    Rec (vals a) ⊢ iprop((Rcv (vals a) c 2 0) -∗ (Rcv (vals a) c 0 0) -∗ (Rcv (vals a) c 1 0) -∗
      ((Rcv (vals a) c 2 0 ∗ Rcv (vals a) c 0 0 ∗ Rcv (vals a) c 1 0) -∗ Q ⟨(x1463 a c), (x1484 a c), (x1493 a c)⟩) -∗
      WP c (k0_part49 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x602 a c) (x638 a c) (x1355 a c) (x1356 a c) (x1357 a c) (x1358 a c) (x1457 a c)) Q) := by
  rw [k0_part49_eq_skeleton]; unfold k0_part49_skel
  simp only [semSignalWord, semWaitWord, Prog.lift, Prog.bind_op, Prog.bind_ret, Prog.pure_eq_ret]
  iintro #HR RC20 RC00 RC10 Hk
  iapply (op_ld_acc (vals a) 4 (y00A4 a (nb c (opp 2))) (by rfl) (by rfl) (fun _ _ => by rfl)) $$ RC20
  iintro RC20
  iapply (op_ld_acc (vals a) 5 (y00A5 a (nb c (opp 0))) (by rfl) (by rfl) (fun _ _ => by rfl)) $$ RC00
  iintro RC00
  iapply (op_ld_acc (vals a) 5 (y00A5 a (nb c (opp 1))) (by rfl) (by rfl) (fun _ _ => by rfl)) $$ RC10
  iintro RC10
  iapply (op_ld_acc (vals a) 5 (y00A5 a (nb c (opp 2))) (by rfl) (by rfl) (fun _ _ => by rfl)) $$ RC20
  iintro RC20
  iapply (op_ld_acc (vals a) 6 (y00A6 a (nb c (opp 0))) (by rfl) (by rfl) (fun _ _ => by rfl)) $$ RC00
  iintro RC00
  iapply (fin_eq _ ⟨(x1463 a c), (x1484 a c), (x1493 a c)⟩ (by rfl))
  iapply Hk
  isplitl [RC20]; · iexact RC20
  isplitl [RC00]; · iexact RC00
  iexact RC10

theorem part50 (a : Args F) (c : Dev nD) {Q : _ → sProp 𝕄} :
    Rec (vals a) ⊢ iprop((Rcv (vals a) c 1 0) -∗ (Rcv (vals a) c 2 0) -∗ (Rcv (vals a) c 0 0) -∗
      ((Rcv (vals a) c 1 0 ∗ Rcv (vals a) c 2 0 ∗ Rcv (vals a) c 0 0) -∗ Q ⟨(x1505 a c), (x1526 a c)⟩) -∗
      WP c (k0_part50 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x674 a c) (x1355 a c) (x1356 a c) (x1357 a c) (x1358 a c) (x1493 a c)) Q) := by
  rw [k0_part50_eq_skeleton]; unfold k0_part50_skel
  simp only [semSignalWord, semWaitWord, Prog.lift, Prog.bind_op, Prog.bind_ret, Prog.pure_eq_ret]
  iintro #HR RC10 RC20 RC00 Hk
  iapply (op_ld_acc (vals a) 6 (y00A6 a (nb c (opp 1))) (by rfl) (by rfl) (fun _ _ => by rfl)) $$ RC10
  iintro RC10
  iapply (op_ld_acc (vals a) 6 (y00A6 a (nb c (opp 2))) (by rfl) (by rfl) (fun _ _ => by rfl)) $$ RC20
  iintro RC20
  iapply (op_ld_acc (vals a) 7 (y00A7 a (nb c (opp 0))) (by rfl) (by rfl) (fun _ _ => by rfl)) $$ RC00
  iintro RC00
  iapply (op_ld_acc (vals a) 7 (y00A7 a (nb c (opp 1))) (by rfl) (by rfl) (fun _ _ => by rfl)) $$ RC10
  iintro RC10
  iapply (op_ld_acc (vals a) 7 (y00A7 a (nb c (opp 2))) (by rfl) (by rfl) (fun _ _ => by rfl)) $$ RC20
  iintro RC20
  iapply (fin_eq _ ⟨(x1505 a c), (x1526 a c)⟩ (by rfl))
  iapply Hk
  isplitl [RC10]; · iexact RC10
  isplitl [RC20]; · iexact RC20
  iexact RC00

theorem part51 (a : Args F) (c : Dev nD) {Q : _ → sProp 𝕄} :
    Rec (vals a) ⊢ iprop((Pk (vals a) c 1 0 0) -∗
      ((Pk (vals a) c 1 0 8) -∗ Q PUnit.unit) -∗
      WP c (k0_part51 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1379 a c) (x1400 a c) (x1421 a c) (x1442 a c) (x1463 a c) (x1484 a c) (x1505 a c) (x1526 a c)) Q) := by
  rw [k0_part51_eq_skeleton]; unfold k0_part51_skel
  simp only [semSignalWord, semWaitWord, Prog.lift, Prog.bind_op, Prog.bind_ret, Prog.pure_eq_ret]
  iintro #HR PK10 Hk
  iapply (op_pk_peek (vals a) (by rfl) (by rfl) (by rfl)) $$ PK10
  iintro %_ PK10
  iapply (op_pk_acc (vals a) 0 0 1 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 1 1 2 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 2 2 3 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 3 3 4 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 4 4 5 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 5 5 6 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 6 6 7 (by rfl) (by rfl) (by rfl) (by rfl) (fun _ _ => by rfl)) $$ PK10
  iintro PK10
  iapply (op_pk_peek (vals a) (by rfl) (by rfl) (by rfl)) $$ PK10
  iintro %_ PK10
  iapply (op_pk_acc (vals a) 7 7 8 (by rfl) (by rfl) (by rfl) (by rfl) (fun _ _ => by rfl)) $$ PK10
  iintro PK10
  iapply (fin_eq _ PUnit.unit (by rfl))
  iapply Hk
  iexact PK10

theorem part52 (a : Args F) (c : Dev nD) (v2 : BitVec 32) (v5 : BitVec 32) {Q : _ → sProp 𝕄} :
    Rec (vals a) ⊢ iprop((Pk (vals a) c 1 0 8) -∗
      (∀ w0 : BitVec 32, (Pk (vals a) c 1 0 10) -∗ Q w0) -∗
      WP c (k0_part52 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 (x8 c) (x1339 a c) (x1354 a c)) Q) := by
  rw [k0_part52_eq_skeleton]; unfold k0_part52_skel
  simp only [semSignalWord, semWaitWord, Prog.lift, Prog.bind_op, Prog.bind_ret, Prog.pure_eq_ret]
  iintro #HR PK10 Hk
  iapply (op_pk_peek (vals a) (by rfl) (by rfl) (by rfl)) $$ PK10
  iintro %_ PK10
  iapply (op_pk_max (vals a) (by rfl) (by rfl) (fun _ _ => by rfl)) $$ PK10
  iintro PK10
  iapply (op_pk_peek (vals a) (by rfl) (by rfl) (by rfl)) $$ PK10
  iintro %_ PK10
  iapply (op_pk_sum (vals a) (by rfl) (by rfl) (fun _ _ => by rfl)) $$ PK10
  iintro PK10
  iapply (fin_eq _ _ (by rfl))
  iapply Hk
  iexact PK10

theorem part53 (a : Args F) (c : Dev nD) (v2 : BitVec 32) (v5 : BitVec 32) {Q : _ → sProp 𝕄} :
    Rec (vals a) ⊢ iprop((Ow c 6) -∗ (Pk (vals a) c 1 0 10) -∗ (slotAny (nb c 3) 3 0) -∗ (SendTok c 3 0) -∗ (slotAny (nb c 4) 4 0) -∗ (SendTok c 4 0) -∗
      (∀ w0 : BitVec 32, ∀ w1 : BitVec 32, ∀ w2 : BitVec 32, ∀ w3 : BitVec 32, (Ow c 4 ∗ Sent c 3 0 ∗ Sent c 4 0 ∗ srcGot (vals a) c 5 0) -∗ Q ⟨w0, w1, w2, w3⟩) -∗
      WP c (k0_part53 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c)) Q) := by
  rw [k0_part53_eq_skeleton]; unfold k0_part53_skel
  simp only [semSignalWord, semWaitWord, Prog.lift, Prog.bind_op, Prog.bind_ret, Prog.pure_eq_ret]
  iintro #HR HO PK10 SA30 ST30 SA40 ST40 Hk
  ihave PK10 := (pk_split1 a c 0) $$ PK10
  icases PK10 with ⟨SG30, SG40, SG50⟩
  iapply (op_send (vals a) (e := 3) (g := 0) 5 (dev_eq13 c) (by rfl) (by rfl) (by rfl) (by rfl) (by rfl) (by rfl) (by rfl) (tal_recv c 3 0 5 rfl rfl) rfl) $$ HR HO SG30 SA30 ST30
  iintro ⟨HO, ST30⟩
  iapply (op_send (vals a) (e := 4) (g := 0) 4 (dev_eq14 c) (by rfl) (by rfl) (by rfl) (by rfl) (by rfl) (by rfl) (by rfl) (tal_recv c 4 0 4 rfl rfl) rfl) $$ HR HO SG40 SA40 ST40
  iintro ⟨HO, ST40⟩
  iapply (fin_eq _ ⟨_, _, _, _⟩ (by rfl))
  iapply Hk
  isplitl [HO]; · iexact HO
  isplitl [ST30]; · iexact ST30
  isplitl [ST40]; · iexact ST40
  iexact SG50

theorem part54 (a : Args F) (c : Dev nD) (v2 : BitVec 32) (v5 : BitVec 32) (v1177 : BitVec 32) (v1188 : BitVec 32) (v1607 : BitVec 32) (c4_i32_1421 : BitVec 32) (c0_i32_1422 : BitVec 32) {Q : _ → sProp 𝕄} :
    Rec (vals a) ⊢ iprop((Ow c 4) -∗ (srcGot (vals a) c 5 0) -∗ (slotAny (nb c 5) 5 0) -∗ (SendTok c 5 0) -∗
      (∀ w0 : BitVec 32, ∀ w1 : BitVec 32, (Ow c 3 ∗ Sent c 5 0) -∗ Q ⟨w0, w1⟩) -∗
      WP c (k0_part54 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 v1177 v1188 v1607 c4_i32_1421 c0_i32_1422) Q) := by
  rw [k0_part54_eq_skeleton]; unfold k0_part54_skel
  simp only [semSignalWord, semWaitWord, Prog.lift, Prog.bind_op, Prog.bind_ret, Prog.pure_eq_ret]
  iintro #HR HO SG50 SA50 ST50 Hk
  iapply (op_send (vals a) (e := 5) (g := 0) 3 (dev_eq15 c) (by rfl) (by rfl) (by rfl) (by rfl) (by rfl) (by rfl) (by rfl) (tal_recv c 5 0 3 rfl rfl) rfl) $$ HR HO SG50 SA50 ST50
  iintro ⟨HO, ST50⟩
  iapply (fin_eq _ ⟨_, _⟩ (by rfl))
  iapply Hk
  isplitl [HO]; · iexact HO
  iexact ST50

theorem part55 (a : Args F) (c : Dev nD) (v1220 : BitVec 32) (v1231 : BitVec 32) (v1263 : BitVec 32) (v1274 : BitVec 32) (v1635 : BitVec 32) {Q : _ → sProp 𝕄} :
    Rec (vals a) ⊢ iprop((Ow c 3) -∗ (RecvTok c 0 1) -∗ (RecvTok c 1 1) -∗
      (∀ w0 : BitVec 32, (Ow c 3 ∗ Rcv (vals a) c 0 1 ∗ Rcv (vals a) c 1 1) -∗ Q w0) -∗
      WP c (k0_part55 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x8 c) v1220 v1231 v1263 v1274 v1635) Q) := by
  rw [k0_part55_eq_skeleton]; unfold k0_part55_skel
  simp only [semSignalWord, semWaitWord, Prog.lift, Prog.bind_op, Prog.bind_ret, Prog.pure_eq_ret]
  iintro #HR HO RC01 RC11 Hk
  iapply (op_recv (vals a) (e := 0) (g := 1) (by rfl) (by rfl) (by decide)) $$ HR HO RC01
  iintro ⟨HO, RC01⟩
  iapply (op_recv (vals a) (e := 1) (g := 1) (by rfl) (by rfl) (by decide)) $$ HR HO RC11
  iintro ⟨HO, RC11⟩
  iapply (fin_eq _ _ (by rfl))
  iapply Hk
  isplitl [HO]; · iexact HO
  isplitl [RC01]; · iexact RC01
  iexact RC11

end Cert.KernelIdealPf

end
-- ==== Proof.IP6.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part56 (a : Args F) (c : Dev nD) (v1659 : BitVec 32) {Q : _ → sProp 𝕄} :
    Rec (vals a) ⊢ iprop((Ow c 3) -∗ (RecvTok c 2 1) -∗ (Rcv (vals a) c 0 1) -∗ (Rcv (vals a) c 1 1) -∗
      ((Ow c 3 ∗ Rcv (vals a) c 2 1 ∗ Rcv (vals a) c 0 1 ∗ Rcv (vals a) c 1 1) -∗ Q ⟨(x1669 a c), (x1671 a c), (x1673 a c), (x1675 a c), (x1677 a c), (x1679 a c), (x1681 a c)⟩) -∗
      WP c (k0_part56 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x8 c) (x1127 a c) v1659) Q) := by
  rw [k0_part56_eq_skeleton]; unfold k0_part56_skel
  simp only [semSignalWord, semWaitWord, Prog.lift, Prog.bind_op, Prog.bind_ret, Prog.pure_eq_ret]
  iintro #HR HO RC21 RC01 RC11 Hk
  iapply (op_recv (vals a) (e := 2) (g := 1) (by rfl) (by rfl) (by decide)) $$ HR HO RC21
  iintro ⟨HO, RC21⟩
  iapply (op_ld_max (vals a) (y01M a (nb c (opp 0))) (by rfl) (by rfl) (fun _ _ => by rfl)) $$ RC01
  iintro RC01
  iapply (op_ld_max (vals a) (y01M a (nb c (opp 1))) (by rfl) (by rfl) (fun _ _ => by rfl)) $$ RC11
  iintro RC11
  iapply (op_ld_max (vals a) (y01M a (nb c (opp 2))) (by rfl) (by rfl) (fun _ _ => by rfl)) $$ RC21
  iintro RC21
  iapply (op_ld_sum (vals a) (y01L a (nb c (opp 0))) (by rfl) (by rfl) (fun _ _ => by rfl)) $$ RC01
  iintro RC01
  iapply (op_ld_sum (vals a) (y01L a (nb c (opp 1))) (by rfl) (by rfl) (fun _ _ => by rfl)) $$ RC11
  iintro RC11
  iapply (op_ld_sum (vals a) (y01L a (nb c (opp 2))) (by rfl) (by rfl) (fun _ _ => by rfl)) $$ RC21
  iintro RC21
  iapply (fin_eq _ ⟨(x1669 a c), (x1671 a c), (x1673 a c), (x1675 a c), (x1677 a c), (x1679 a c), (x1681 a c)⟩ (by rfl))
  iapply Hk
  isplitl [HO]; · iexact HO
  isplitl [RC21]; · iexact RC21
  isplitl [RC01]; · iexact RC01
  iexact RC11

theorem part57 (a : Args F) (c : Dev nD) {Q : _ → sProp 𝕄} :
    Rec (vals a) ⊢ iprop((Rcv (vals a) c 0 1) -∗ (Rcv (vals a) c 1 1) -∗ (Rcv (vals a) c 2 1) -∗
      ((Rcv (vals a) c 0 1 ∗ Rcv (vals a) c 1 1 ∗ Rcv (vals a) c 2 1) -∗ Q ⟨(x1682 a c), (x1697 a c), (x1698 a c), (x1699 a c), (x1700 a c), (x1701 a c), (x1722 a c), (x1725 a c)⟩) -∗
      WP c (k0_part57 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x873 a c) (x909 a c) (x1127 a c) (x1129 a c) (x1669 a c) (x1671 a c) (x1673 a c) (x1675 a c) (x1677 a c) (x1679 a c) (x1681 a c)) Q) := by
  rw [k0_part57_eq_skeleton]; unfold k0_part57_skel
  simp only [semSignalWord, semWaitWord, Prog.lift, Prog.bind_op, Prog.bind_ret, Prog.pure_eq_ret]
  iintro #HR RC01 RC11 RC21 Hk
  iapply (op_ld_acc (vals a) 0 (y01A0 a (nb c (opp 0))) (by rfl) (by rfl) (fun _ _ => by rfl)) $$ RC01
  iintro RC01
  iapply (op_ld_acc (vals a) 0 (y01A0 a (nb c (opp 1))) (by rfl) (by rfl) (fun _ _ => by rfl)) $$ RC11
  iintro RC11
  iapply (op_ld_acc (vals a) 0 (y01A0 a (nb c (opp 2))) (by rfl) (by rfl) (fun _ _ => by rfl)) $$ RC21
  iintro RC21
  iapply (fin_eq _ ⟨(x1682 a c), (x1697 a c), (x1698 a c), (x1699 a c), (x1700 a c), (x1701 a c), (x1722 a c), (x1725 a c)⟩ (by rfl))
  iapply Hk
  isplitl [RC01]; · iexact RC01
  isplitl [RC11]; · iexact RC11
  iexact RC21

theorem part58 (a : Args F) (c : Dev nD) {Q : _ → sProp 𝕄} :
    Rec (vals a) ⊢ iprop((Rcv (vals a) c 0 1) -∗ (Rcv (vals a) c 1 1) -∗ (Rcv (vals a) c 2 1) -∗
      ((Rcv (vals a) c 0 1 ∗ Rcv (vals a) c 1 1 ∗ Rcv (vals a) c 2 1) -∗ Q ⟨(x1743 a c), (x1758 a c)⟩) -∗
      WP c (k0_part58 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x945 a c) (x1698 a c) (x1699 a c) (x1700 a c) (x1701 a c) (x1725 a c)) Q) := by
  rw [k0_part58_eq_skeleton]; unfold k0_part58_skel
  simp only [semSignalWord, semWaitWord, Prog.lift, Prog.bind_op, Prog.bind_ret, Prog.pure_eq_ret]
  iintro #HR RC01 RC11 RC21 Hk
  iapply (op_ld_acc (vals a) 1 (y01A1 a (nb c (opp 0))) (by rfl) (by rfl) (fun _ _ => by rfl)) $$ RC01
  iintro RC01
  iapply (op_ld_acc (vals a) 1 (y01A1 a (nb c (opp 1))) (by rfl) (by rfl) (fun _ _ => by rfl)) $$ RC11
  iintro RC11
  iapply (op_ld_acc (vals a) 1 (y01A1 a (nb c (opp 2))) (by rfl) (by rfl) (fun _ _ => by rfl)) $$ RC21
  iintro RC21
  iapply (op_ld_acc (vals a) 2 (y01A2 a (nb c (opp 0))) (by rfl) (by rfl) (fun _ _ => by rfl)) $$ RC01
  iintro RC01
  iapply (op_ld_acc (vals a) 2 (y01A2 a (nb c (opp 1))) (by rfl) (by rfl) (fun _ _ => by rfl)) $$ RC11
  iintro RC11
  iapply (fin_eq _ ⟨(x1743 a c), (x1758 a c)⟩ (by rfl))
  iapply Hk
  isplitl [RC01]; · iexact RC01
  isplitl [RC11]; · iexact RC11
  iexact RC21

theorem part59 (a : Args F) (c : Dev nD) {Q : _ → sProp 𝕄} :
    Rec (vals a) ⊢ iprop((Rcv (vals a) c 2 1) -∗ (Rcv (vals a) c 0 1) -∗ (Rcv (vals a) c 1 1) -∗
      ((Rcv (vals a) c 2 1 ∗ Rcv (vals a) c 0 1 ∗ Rcv (vals a) c 1 1) -∗ Q ⟨(x1764 a c), (x1785 a c), (x1794 a c)⟩) -∗
      WP c (k0_part59 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x981 a c) (x1017 a c) (x1698 a c) (x1699 a c) (x1700 a c) (x1701 a c) (x1758 a c)) Q) := by
  rw [k0_part59_eq_skeleton]; unfold k0_part59_skel
  simp only [semSignalWord, semWaitWord, Prog.lift, Prog.bind_op, Prog.bind_ret, Prog.pure_eq_ret]
  iintro #HR RC21 RC01 RC11 Hk
  iapply (op_ld_acc (vals a) 2 (y01A2 a (nb c (opp 2))) (by rfl) (by rfl) (fun _ _ => by rfl)) $$ RC21
  iintro RC21
  iapply (op_ld_acc (vals a) 3 (y01A3 a (nb c (opp 0))) (by rfl) (by rfl) (fun _ _ => by rfl)) $$ RC01
  iintro RC01
  iapply (op_ld_acc (vals a) 3 (y01A3 a (nb c (opp 1))) (by rfl) (by rfl) (fun _ _ => by rfl)) $$ RC11
  iintro RC11
  iapply (op_ld_acc (vals a) 3 (y01A3 a (nb c (opp 2))) (by rfl) (by rfl) (fun _ _ => by rfl)) $$ RC21
  iintro RC21
  iapply (op_ld_acc (vals a) 4 (y01A4 a (nb c (opp 0))) (by rfl) (by rfl) (fun _ _ => by rfl)) $$ RC01
  iintro RC01
  iapply (fin_eq _ ⟨(x1764 a c), (x1785 a c), (x1794 a c)⟩ (by rfl))
  iapply Hk
  isplitl [RC21]; · iexact RC21
  isplitl [RC01]; · iexact RC01
  iexact RC11

theorem part60 (a : Args F) (c : Dev nD) {Q : _ → sProp 𝕄} :
    Rec (vals a) ⊢ iprop((Rcv (vals a) c 1 1) -∗ (Rcv (vals a) c 2 1) -∗ (Rcv (vals a) c 0 1) -∗
      ((Rcv (vals a) c 1 1 ∗ Rcv (vals a) c 2 1 ∗ Rcv (vals a) c 0 1) -∗ Q ⟨(x1806 a c), (x1827 a c), (x1830 a c)⟩) -∗
      WP c (k0_part60 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1053 a c) (x1089 a c) (x1698 a c) (x1699 a c) (x1700 a c) (x1701 a c) (x1794 a c)) Q) := by
  rw [k0_part60_eq_skeleton]; unfold k0_part60_skel
  simp only [semSignalWord, semWaitWord, Prog.lift, Prog.bind_op, Prog.bind_ret, Prog.pure_eq_ret]
  iintro #HR RC11 RC21 RC01 Hk
  iapply (op_ld_acc (vals a) 4 (y01A4 a (nb c (opp 1))) (by rfl) (by rfl) (fun _ _ => by rfl)) $$ RC11
  iintro RC11
  iapply (op_ld_acc (vals a) 4 (y01A4 a (nb c (opp 2))) (by rfl) (by rfl) (fun _ _ => by rfl)) $$ RC21
  iintro RC21
  iapply (op_ld_acc (vals a) 5 (y01A5 a (nb c (opp 0))) (by rfl) (by rfl) (fun _ _ => by rfl)) $$ RC01
  iintro RC01
  iapply (op_ld_acc (vals a) 5 (y01A5 a (nb c (opp 1))) (by rfl) (by rfl) (fun _ _ => by rfl)) $$ RC11
  iintro RC11
  iapply (op_ld_acc (vals a) 5 (y01A5 a (nb c (opp 2))) (by rfl) (by rfl) (fun _ _ => by rfl)) $$ RC21
  iintro RC21
  iapply (fin_eq _ ⟨(x1806 a c), (x1827 a c), (x1830 a c)⟩ (by rfl))
  iapply Hk
  isplitl [RC11]; · iexact RC11
  isplitl [RC21]; · iexact RC21
  iexact RC01

theorem part61 (a : Args F) (c : Dev nD) {Q : _ → sProp 𝕄} :
    Rec (vals a) ⊢ iprop((Rcv (vals a) c 0 1) -∗ (Rcv (vals a) c 1 1) -∗ (Rcv (vals a) c 2 1) -∗
      ((Rcv (vals a) c 0 1 ∗ Rcv (vals a) c 1 1 ∗ Rcv (vals a) c 2 1) -∗ Q ⟨(x1848 a c), (x1863 a c)⟩) -∗
      WP c (k0_part61 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1125 a c) (x1698 a c) (x1699 a c) (x1700 a c) (x1701 a c) (x1830 a c)) Q) := by
  rw [k0_part61_eq_skeleton]; unfold k0_part61_skel
  simp only [semSignalWord, semWaitWord, Prog.lift, Prog.bind_op, Prog.bind_ret, Prog.pure_eq_ret]
  iintro #HR RC01 RC11 RC21 Hk
  iapply (op_ld_acc (vals a) 6 (y01A6 a (nb c (opp 0))) (by rfl) (by rfl) (fun _ _ => by rfl)) $$ RC01
  iintro RC01
  iapply (op_ld_acc (vals a) 6 (y01A6 a (nb c (opp 1))) (by rfl) (by rfl) (fun _ _ => by rfl)) $$ RC11
  iintro RC11
  iapply (op_ld_acc (vals a) 6 (y01A6 a (nb c (opp 2))) (by rfl) (by rfl) (fun _ _ => by rfl)) $$ RC21
  iintro RC21
  iapply (op_ld_acc (vals a) 7 (y01A7 a (nb c (opp 0))) (by rfl) (by rfl) (fun _ _ => by rfl)) $$ RC01
  iintro RC01
  iapply (op_ld_acc (vals a) 7 (y01A7 a (nb c (opp 1))) (by rfl) (by rfl) (fun _ _ => by rfl)) $$ RC11
  iintro RC11
  iapply (fin_eq _ ⟨(x1848 a c), (x1863 a c)⟩ (by rfl))
  iapply Hk
  isplitl [RC01]; · iexact RC01
  isplitl [RC11]; · iexact RC11
  iexact RC21

theorem part62 (a : Args F) (c : Dev nD) {Q : _ → sProp 𝕄} :
    Rec (vals a) ⊢ iprop((Rcv (vals a) c 2 1) -∗ (Pk (vals a) c 1 1 0) -∗
      ((Rcv (vals a) c 2 1 ∗ Pk (vals a) c 1 1 6) -∗ Q (x1869 a c)) -∗
      WP c (k0_part62 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1701 a c) (x1722 a c) (x1743 a c) (x1764 a c) (x1785 a c) (x1806 a c) (x1827 a c) (x1863 a c)) Q) := by
  rw [k0_part62_eq_skeleton]; unfold k0_part62_skel
  simp only [semSignalWord, semWaitWord, Prog.lift, Prog.bind_op, Prog.bind_ret, Prog.pure_eq_ret]
  iintro #HR RC21 PK11 Hk
  iapply (op_ld_acc (vals a) 7 (y01A7 a (nb c (opp 2))) (by rfl) (by rfl) (fun _ _ => by rfl)) $$ RC21
  iintro RC21
  iapply (op_pk_peek (vals a) (by rfl) (by rfl) (by rfl)) $$ PK11
  iintro %_ PK11
  iapply (op_pk_acc (vals a) 0 0 1 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 1 1 2 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 2 2 3 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 3 3 4 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 4 4 5 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 5 5 6 (by rfl) (by rfl) (by rfl) (by rfl) (fun _ _ => by rfl)) $$ PK11
  iintro PK11
  iapply (fin_eq _ (x1869 a c) (by rfl))
  iapply Hk
  isplitl [RC21]; · iexact RC21
  iexact PK11

theorem part63 (a : Args F) (c : Dev nD) (v2 : BitVec 32) (v5 : BitVec 32) {Q : _ → sProp 𝕄} :
    Rec (vals a) ⊢ iprop((Pk (vals a) c 1 1 6) -∗
      (∀ w0 : BitVec 32, ∀ w1 : BitVec 32, (Pk (vals a) c 1 1 10) -∗ Q ⟨w0, w1⟩) -∗
      WP c (k0_part63 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 (x8 c) (x1682 a c) (x1697 a c) (x1848 a c) (x1869 a c)) Q) := by
  rw [k0_part63_eq_skeleton]; unfold k0_part63_skel
  simp only [semSignalWord, semWaitWord, Prog.lift, Prog.bind_op, Prog.bind_ret, Prog.pure_eq_ret]
  iintro #HR PK11 Hk
  iapply (op_pk_peek (vals a) (by rfl) (by rfl) (by rfl)) $$ PK11
  iintro %_ PK11
  iapply (op_pk_acc (vals a) 6 6 7 (by rfl) (by rfl) (by rfl) (by rfl) (fun _ _ => by rfl)) $$ PK11
  iintro PK11
  iapply (op_pk_peek (vals a) (by rfl) (by rfl) (by rfl)) $$ PK11
  iintro %_ PK11
  iapply (op_pk_acc (vals a) 7 7 8 (by rfl) (by rfl) (by rfl) (by rfl) (fun _ _ => by rfl)) $$ PK11
  iintro PK11
  iapply (op_pk_peek (vals a) (by rfl) (by rfl) (by rfl)) $$ PK11
  iintro %_ PK11
  iapply (op_pk_max (vals a) (by rfl) (by rfl) (fun _ _ => by rfl)) $$ PK11
  iintro PK11
  iapply (op_pk_peek (vals a) (by rfl) (by rfl) (by rfl)) $$ PK11
  iintro %_ PK11
  iapply (op_pk_sum (vals a) (by rfl) (by rfl) (fun _ _ => by rfl)) $$ PK11
  iintro PK11
  iapply (fin_eq _ ⟨_, _⟩ (by rfl))
  iapply Hk
  iexact PK11

theorem part64 (a : Args F) (c : Dev nD) (v2 : BitVec 32) (v5 : BitVec 32) (v1910 : BitVec 32) (v1914 : BitVec 32) {Q : _ → sProp 𝕄} :
    Rec (vals a) ⊢ iprop((Ow c 3) -∗ (Pk (vals a) c 1 1 10) -∗ (slotAny (nb c 3) 3 1) -∗ (SendTok c 3 1) -∗
      (∀ w0 : BitVec 32, (Ow c 2 ∗ Sent c 3 1 ∗ srcGot (vals a) c 4 1 ∗ srcGot (vals a) c 5 1) -∗ Q w0) -∗
      WP c (k0_part64 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c) v1910 v1914) Q) := by
  rw [k0_part64_eq_skeleton]; unfold k0_part64_skel
  simp only [semSignalWord, semWaitWord, Prog.lift, Prog.bind_op, Prog.bind_ret, Prog.pure_eq_ret]
  iintro #HR HO PK11 SA31 ST31 Hk
  ihave PK11 := (pk_split1 a c 1) $$ PK11
  icases PK11 with ⟨SG31, SG41, SG51⟩
  iapply (op_send (vals a) (e := 3) (g := 1) 2 (dev_eq16 c) (by rfl) (by rfl) (by rfl) (by rfl) (by rfl) (by rfl) (by rfl) (tal_recv c 3 1 2 rfl rfl) rfl) $$ HR HO SG31 SA31 ST31
  iintro ⟨HO, ST31⟩
  iapply (fin_eq _ _ (by rfl))
  iapply Hk
  isplitl [HO]; · iexact HO
  isplitl [ST31]; · iexact ST31
  isplitl [SG41]; · iexact SG41
  iexact SG51

theorem part65 (a : Args F) (c : Dev nD) (v2 : BitVec 32) (v5 : BitVec 32) {Q : _ → sProp 𝕄} :
    Rec (vals a) ⊢ iprop((Ow c 2) -∗ (srcGot (vals a) c 4 1) -∗ (slotAny (nb c 4) 4 1) -∗ (SendTok c 4 1) -∗ (srcGot (vals a) c 5 1) -∗ (slotAny (nb c 5) 5 1) -∗ (SendTok c 5 1) -∗
      (∀ w0 : BitVec 32, (Ow c 0 ∗ Sent c 4 1 ∗ Sent c 5 1) -∗ Q w0) -∗
      WP c (k0_part65 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c)) Q) := by
  rw [k0_part65_eq_skeleton]; unfold k0_part65_skel
  simp only [semSignalWord, semWaitWord, Prog.lift, Prog.bind_op, Prog.bind_ret, Prog.pure_eq_ret]
  iintro #HR HO SG41 SA41 ST41 SG51 SA51 ST51 Hk
  iapply (op_send (vals a) (e := 4) (g := 1) 1 (dev_eq17 c) (by rfl) (by rfl) (by rfl) (by rfl) (by rfl) (by rfl) (by rfl) (tal_recv c 4 1 1 rfl rfl) rfl) $$ HR HO SG41 SA41 ST41
  iintro ⟨HO, ST41⟩
  iapply (op_send (vals a) (e := 5) (g := 1) 0 (dev_eq18 c) (by rfl) (by rfl) (by rfl) (by rfl) (by rfl) (by rfl) (by rfl) (tal_recv c 5 1 0 rfl rfl) rfl) $$ HR HO SG51 SA51 ST51
  iintro ⟨HO, ST51⟩
  iapply (fin_eq _ _ (by rfl))
  iapply Hk
  isplitl [HO]; · iexact HO
  isplitl [ST41]; · iexact ST41
  iexact ST51

theorem part66 (a : Args F) (c : Dev nD) (v2 : BitVec 32) (v5 : BitVec 32) (v1567 : BitVec 32) (v1592 : BitVec 32) {Q : _ → sProp 𝕄} :
    Rec (vals a) ⊢ iprop((Ow c 0) -∗ (RecvTok c 3 0) -∗ (RecvTok c 4 0) -∗
      ((Ow c 0 ∗ Rcv (vals a) c 3 0 ∗ Rcv (vals a) c 4 0) -∗ Q PUnit.unit) -∗
      WP c (k0_part66 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 v1567 v1592) Q) := by
  rw [k0_part66_eq_skeleton]; unfold k0_part66_skel
  simp only [semSignalWord, semWaitWord, Prog.lift, Prog.bind_op, Prog.bind_ret, Prog.pure_eq_ret]
  iintro #HR HO RC30 RC40 Hk
  iapply (op_recv (vals a) (e := 3) (g := 0) (by rfl) (by rfl) (by decide)) $$ HR HO RC30
  iintro ⟨HO, RC30⟩
  iapply (op_recv (vals a) (e := 4) (g := 0) (by rfl) (by rfl) (by decide)) $$ HR HO RC40
  iintro ⟨HO, RC40⟩
  iapply (fin_eq _ PUnit.unit (by rfl))
  iapply Hk
  isplitl [HO]; · iexact HO
  isplitl [RC30]; · iexact RC30
  iexact RC40

end Cert.KernelIdealPf

end
-- ==== Proof.IP7.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part67 (a : Args F) (c : Dev nD) (v2 : BitVec 32) (v5 : BitVec 32) (v1617 : BitVec 32) {Q : _ → sProp 𝕄} :
    Rec (vals a) ⊢ iprop((Ow c 0) -∗ (RecvTok c 5 0) -∗ (Rcv (vals a) c 3 0) -∗ (Rcv (vals a) c 4 0) -∗
      ((Ow c 0 ∗ Rcv (vals a) c 5 0 ∗ Rcv (vals a) c 3 0 ∗ Rcv (vals a) c 4 0) -∗ Q ⟨(x2012 a c), (x2014 a c), (x2016 a c), (x2018 a c)⟩) -∗
      WP c (k0_part67 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 v1617) Q) := by
  rw [k0_part67_eq_skeleton]; unfold k0_part67_skel
  simp only [semSignalWord, semWaitWord, Prog.lift, Prog.bind_op, Prog.bind_ret, Prog.pure_eq_ret]
  iintro #HR HO RC50 RC30 RC40 Hk
  iapply (op_recv (vals a) (e := 5) (g := 0) (by rfl) (by rfl) (by decide)) $$ HR HO RC50
  iintro ⟨HO, RC50⟩
  iapply (op_ld_max (vals a) (y10M a (nb c (opp 3))) (by rfl) (by rfl) (fun _ _ => by rfl)) $$ RC30
  iintro RC30
  iapply (op_ld_max (vals a) (y10M a (nb c (opp 4))) (by rfl) (by rfl) (fun _ _ => by rfl)) $$ RC40
  iintro RC40
  iapply (op_ld_max (vals a) (y10M a (nb c (opp 5))) (by rfl) (by rfl) (fun _ _ => by rfl)) $$ RC50
  iintro RC50
  iapply (op_ld_sum (vals a) (y10L a (nb c (opp 3))) (by rfl) (by rfl) (fun _ _ => by rfl)) $$ RC30
  iintro RC30
  iapply (fin_eq _ ⟨(x2012 a c), (x2014 a c), (x2016 a c), (x2018 a c)⟩ (by rfl))
  iapply Hk
  isplitl [HO]; · iexact HO
  isplitl [RC50]; · iexact RC50
  isplitl [RC30]; · iexact RC30
  iexact RC40

theorem part68 (a : Args F) (c : Dev nD) {Q : _ → sProp 𝕄} :
    Rec (vals a) ⊢ iprop((Rcv (vals a) c 4 0) -∗ (Rcv (vals a) c 5 0) -∗ (Rcv (vals a) c 3 0) -∗
      ((Rcv (vals a) c 4 0 ∗ Rcv (vals a) c 5 0 ∗ Rcv (vals a) c 3 0) -∗ Q ⟨(x2040 a c), (x2041 a c), (x2042 a c), (x2043 a c), (x2044 a c), (x2059 a c)⟩) -∗
      WP c (k0_part68 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1339 a c) (x1354 a c) (x1379 a c) (x2012 a c) (x2014 a c) (x2016 a c) (x2018 a c)) Q) := by
  rw [k0_part68_eq_skeleton]; unfold k0_part68_skel
  simp only [semSignalWord, semWaitWord, Prog.lift, Prog.bind_op, Prog.bind_ret, Prog.pure_eq_ret]
  iintro #HR RC40 RC50 RC30 Hk
  iapply (op_ld_sum (vals a) (y10L a (nb c (opp 4))) (by rfl) (by rfl) (fun _ _ => by rfl)) $$ RC40
  iintro RC40
  iapply (op_ld_sum (vals a) (y10L a (nb c (opp 5))) (by rfl) (by rfl) (fun _ _ => by rfl)) $$ RC50
  iintro RC50
  iapply (op_ld_acc (vals a) 0 (y10A0 a (nb c (opp 3))) (by rfl) (by rfl) (fun _ _ => by rfl)) $$ RC30
  iintro RC30
  iapply (op_ld_acc (vals a) 0 (y10A0 a (nb c (opp 4))) (by rfl) (by rfl) (fun _ _ => by rfl)) $$ RC40
  iintro RC40
  iapply (fin_eq _ ⟨(x2040 a c), (x2041 a c), (x2042 a c), (x2043 a c), (x2044 a c), (x2059 a c)⟩ (by rfl))
  iapply Hk
  isplitl [RC40]; · iexact RC40
  isplitl [RC50]; · iexact RC50
  iexact RC30

theorem part69 (a : Args F) (c : Dev nD) {Q : _ → sProp 𝕄} :
    Rec (vals a) ⊢ iprop((Rcv (vals a) c 5 0) -∗ (Rcv (vals a) c 3 0) -∗ (Rcv (vals a) c 4 0) -∗
      ((Rcv (vals a) c 5 0 ∗ Rcv (vals a) c 3 0 ∗ Rcv (vals a) c 4 0) -∗ Q ⟨(x2065 a c), (x2086 a c), (x2095 a c)⟩) -∗
      WP c (k0_part69 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1400 a c) (x1421 a c) (x2041 a c) (x2042 a c) (x2043 a c) (x2044 a c) (x2059 a c)) Q) := by
  rw [k0_part69_eq_skeleton]; unfold k0_part69_skel
  simp only [semSignalWord, semWaitWord, Prog.lift, Prog.bind_op, Prog.bind_ret, Prog.pure_eq_ret]
  iintro #HR RC50 RC30 RC40 Hk
  iapply (op_ld_acc (vals a) 0 (y10A0 a (nb c (opp 5))) (by rfl) (by rfl) (fun _ _ => by rfl)) $$ RC50
  iintro RC50
  iapply (op_ld_acc (vals a) 1 (y10A1 a (nb c (opp 3))) (by rfl) (by rfl) (fun _ _ => by rfl)) $$ RC30
  iintro RC30
  iapply (op_ld_acc (vals a) 1 (y10A1 a (nb c (opp 4))) (by rfl) (by rfl) (fun _ _ => by rfl)) $$ RC40
  iintro RC40
  iapply (op_ld_acc (vals a) 1 (y10A1 a (nb c (opp 5))) (by rfl) (by rfl) (fun _ _ => by rfl)) $$ RC50
  iintro RC50
  iapply (op_ld_acc (vals a) 2 (y10A2 a (nb c (opp 3))) (by rfl) (by rfl) (fun _ _ => by rfl)) $$ RC30
  iintro RC30
  iapply (fin_eq _ ⟨(x2065 a c), (x2086 a c), (x2095 a c)⟩ (by rfl))
  iapply Hk
  isplitl [RC50]; · iexact RC50
  isplitl [RC30]; · iexact RC30
  iexact RC40

theorem part70 (a : Args F) (c : Dev nD) {Q : _ → sProp 𝕄} :
    Rec (vals a) ⊢ iprop((Rcv (vals a) c 4 0) -∗ (Rcv (vals a) c 5 0) -∗ (Rcv (vals a) c 3 0) -∗
      ((Rcv (vals a) c 4 0 ∗ Rcv (vals a) c 5 0 ∗ Rcv (vals a) c 3 0) -∗ Q ⟨(x2107 a c), (x2128 a c), (x2131 a c)⟩) -∗
      WP c (k0_part70 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1442 a c) (x1463 a c) (x2041 a c) (x2042 a c) (x2043 a c) (x2044 a c) (x2095 a c)) Q) := by
  rw [k0_part70_eq_skeleton]; unfold k0_part70_skel
  simp only [semSignalWord, semWaitWord, Prog.lift, Prog.bind_op, Prog.bind_ret, Prog.pure_eq_ret]
  iintro #HR RC40 RC50 RC30 Hk
  iapply (op_ld_acc (vals a) 2 (y10A2 a (nb c (opp 4))) (by rfl) (by rfl) (fun _ _ => by rfl)) $$ RC40
  iintro RC40
  iapply (op_ld_acc (vals a) 2 (y10A2 a (nb c (opp 5))) (by rfl) (by rfl) (fun _ _ => by rfl)) $$ RC50
  iintro RC50
  iapply (op_ld_acc (vals a) 3 (y10A3 a (nb c (opp 3))) (by rfl) (by rfl) (fun _ _ => by rfl)) $$ RC30
  iintro RC30
  iapply (op_ld_acc (vals a) 3 (y10A3 a (nb c (opp 4))) (by rfl) (by rfl) (fun _ _ => by rfl)) $$ RC40
  iintro RC40
  iapply (op_ld_acc (vals a) 3 (y10A3 a (nb c (opp 5))) (by rfl) (by rfl) (fun _ _ => by rfl)) $$ RC50
  iintro RC50
  iapply (fin_eq _ ⟨(x2107 a c), (x2128 a c), (x2131 a c)⟩ (by rfl))
  iapply Hk
  isplitl [RC40]; · iexact RC40
  isplitl [RC50]; · iexact RC50
  iexact RC30

theorem part71 (a : Args F) (c : Dev nD) {Q : _ → sProp 𝕄} :
    Rec (vals a) ⊢ iprop((Rcv (vals a) c 3 0) -∗ (Rcv (vals a) c 4 0) -∗ (Rcv (vals a) c 5 0) -∗
      ((Rcv (vals a) c 3 0 ∗ Rcv (vals a) c 4 0 ∗ Rcv (vals a) c 5 0) -∗ Q ⟨(x2149 a c), (x2164 a c)⟩) -∗
      WP c (k0_part71 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1484 a c) (x2041 a c) (x2042 a c) (x2043 a c) (x2044 a c) (x2131 a c)) Q) := by
  rw [k0_part71_eq_skeleton]; unfold k0_part71_skel
  simp only [semSignalWord, semWaitWord, Prog.lift, Prog.bind_op, Prog.bind_ret, Prog.pure_eq_ret]
  iintro #HR RC30 RC40 RC50 Hk
  iapply (op_ld_acc (vals a) 4 (y10A4 a (nb c (opp 3))) (by rfl) (by rfl) (fun _ _ => by rfl)) $$ RC30
  iintro RC30
  iapply (op_ld_acc (vals a) 4 (y10A4 a (nb c (opp 4))) (by rfl) (by rfl) (fun _ _ => by rfl)) $$ RC40
  iintro RC40
  iapply (op_ld_acc (vals a) 4 (y10A4 a (nb c (opp 5))) (by rfl) (by rfl) (fun _ _ => by rfl)) $$ RC50
  iintro RC50
  iapply (op_ld_acc (vals a) 5 (y10A5 a (nb c (opp 3))) (by rfl) (by rfl) (fun _ _ => by rfl)) $$ RC30
  iintro RC30
  iapply (op_ld_acc (vals a) 5 (y10A5 a (nb c (opp 4))) (by rfl) (by rfl) (fun _ _ => by rfl)) $$ RC40
  iintro RC40
  iapply (fin_eq _ ⟨(x2149 a c), (x2164 a c)⟩ (by rfl))
  iapply Hk
  isplitl [RC30]; · iexact RC30
  isplitl [RC40]; · iexact RC40
  iexact RC50

theorem part72 (a : Args F) (c : Dev nD) {Q : _ → sProp 𝕄} :
    Rec (vals a) ⊢ iprop((Rcv (vals a) c 5 0) -∗ (Rcv (vals a) c 3 0) -∗ (Rcv (vals a) c 4 0) -∗
      ((Rcv (vals a) c 5 0 ∗ Rcv (vals a) c 3 0 ∗ Rcv (vals a) c 4 0) -∗ Q ⟨(x2170 a c), (x2191 a c), (x2200 a c)⟩) -∗
      WP c (k0_part72 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1505 a c) (x1526 a c) (x2041 a c) (x2042 a c) (x2043 a c) (x2044 a c) (x2164 a c)) Q) := by
  rw [k0_part72_eq_skeleton]; unfold k0_part72_skel
  simp only [semSignalWord, semWaitWord, Prog.lift, Prog.bind_op, Prog.bind_ret, Prog.pure_eq_ret]
  iintro #HR RC50 RC30 RC40 Hk
  iapply (op_ld_acc (vals a) 5 (y10A5 a (nb c (opp 5))) (by rfl) (by rfl) (fun _ _ => by rfl)) $$ RC50
  iintro RC50
  iapply (op_ld_acc (vals a) 6 (y10A6 a (nb c (opp 3))) (by rfl) (by rfl) (fun _ _ => by rfl)) $$ RC30
  iintro RC30
  iapply (op_ld_acc (vals a) 6 (y10A6 a (nb c (opp 4))) (by rfl) (by rfl) (fun _ _ => by rfl)) $$ RC40
  iintro RC40
  iapply (op_ld_acc (vals a) 6 (y10A6 a (nb c (opp 5))) (by rfl) (by rfl) (fun _ _ => by rfl)) $$ RC50
  iintro RC50
  iapply (op_ld_acc (vals a) 7 (y10A7 a (nb c (opp 3))) (by rfl) (by rfl) (fun _ _ => by rfl)) $$ RC30
  iintro RC30
  iapply (fin_eq _ ⟨(x2170 a c), (x2191 a c), (x2200 a c)⟩ (by rfl))
  iapply Hk
  isplitl [RC50]; · iexact RC50
  isplitl [RC30]; · iexact RC30
  iexact RC40

theorem part73 (a : Args F) (c : Dev nD) {Q : _ → sProp 𝕄} :
    Rec (vals a) ⊢ iprop((Rcv (vals a) c 4 0) -∗ (Rcv (vals a) c 5 0) -∗ (OutH (xOut a c) c 0) -∗
      ((Rcv (vals a) c 4 0 ∗ Rcv (vals a) c 5 0 ∗ OutH (xOut a c) c 3) -∗ Q ⟨(x2212 a c), (x2215 a c), (x2236 a c)⟩) -∗
      WP c (k0_part73 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x2040 a c) (x2043 a c) (x2044 a c) (x2065 a c) (x2086 a c) (x2107 a c) (x2128 a c) (x2200 a c)) Q) := by
  rw [k0_part73_eq_skeleton]; unfold k0_part73_skel
  simp only [semSignalWord, semWaitWord, Prog.lift, Prog.bind_op, Prog.bind_ret, Prog.pure_eq_ret]
  iintro #HR RC40 RC50 OUT0 Hk
  iapply (op_ld_acc (vals a) 7 (y10A7 a (nb c (opp 4))) (by rfl) (by rfl) (fun _ _ => by rfl)) $$ RC40
  iintro RC40
  iapply (op_ld_acc (vals a) 7 (y10A7 a (nb c (opp 5))) (by rfl) (by rfl) (fun _ _ => by rfl)) $$ RC50
  iintro RC50
  iapply (op_out_peek) $$ OUT0
  iintro %_ OUT0
  iapply (op_out 0 0 1 (by rfl) (by rfl) (by rfl) (by rfl)) $$ OUT0
  iintro OUT0
  iapply (op_out_peek) $$ OUT0
  iintro %_ OUT0
  iapply (op_out 1 1 2 (by rfl) (by rfl) (by rfl) (by rfl)) $$ OUT0
  iintro OUT0
  iapply (op_out_peek) $$ OUT0
  iintro %_ OUT0
  iapply (op_out 2 2 3 (by rfl) (by rfl) (by rfl) (by rfl)) $$ OUT0
  iintro OUT0
  iapply (fin_eq _ ⟨(x2212 a c), (x2215 a c), (x2236 a c)⟩ (by rfl))
  iapply Hk
  isplitl [RC40]; · iexact RC40
  isplitl [RC50]; · iexact RC50
  iexact OUT0

theorem part74 (a : Args F) (c : Dev nD) {Q : _ → sProp 𝕄} :
    Rec (vals a) ⊢ iprop((OutH (xOut a c) c 3) -∗
      (∀ w0 : BitVec 32, (OutH (xOut a c) c 8) -∗ Q w0) -∗
      WP c (k0_part74 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x2149 a c) (x2170 a c) (x2191 a c) (x2212 a c) (x2215 a c) (x2236 a c)) Q) := by
  rw [k0_part74_eq_skeleton]; unfold k0_part74_skel
  simp only [semSignalWord, semWaitWord, Prog.lift, Prog.bind_op, Prog.bind_ret, Prog.pure_eq_ret]
  iintro #HR OUT0 Hk
  iapply (op_out_peek) $$ OUT0
  iintro %_ OUT0
  iapply (op_out 3 3 4 (by rfl) (by rfl) (by rfl) (by rfl)) $$ OUT0
  iintro OUT0
  iapply (op_out_peek) $$ OUT0
  iintro %_ OUT0
  iapply (op_out 4 4 5 (by rfl) (by rfl) (by rfl) (by rfl)) $$ OUT0
  iintro OUT0
  iapply (op_out_peek) $$ OUT0
  iintro %_ OUT0
  iapply (op_out 5 5 6 (by rfl) (by rfl) (by rfl) (by rfl)) $$ OUT0
  iintro OUT0
  iapply (op_out_peek) $$ OUT0
  iintro %_ OUT0
  iapply (op_out 6 6 7 (by rfl) (by rfl) (by rfl) (by rfl)) $$ OUT0
  iintro OUT0
  iapply (op_out_peek) $$ OUT0
  iintro %_ OUT0
  iapply (op_out 7 7 8 (by rfl) (by rfl) (by rfl) (by rfl)) $$ OUT0
  iintro OUT0
  iapply (fin_eq _ _ (by rfl))
  iapply Hk
  iexact OUT0

theorem part75 (a : Args F) (c : Dev nD) (v2 : BitVec 32) (v5 : BitVec 32) (v1910 : BitVec 32) (v1935 : BitVec 32) (c8_i32_1998 : BitVec 32) {Q : _ → sProp 𝕄} :
    Rec (vals a) ⊢ iprop((Ow c 0) -∗ (RecvTok c 3 1) -∗ (RecvTok c 4 1) -∗
      (∀ w0 : BitVec 32, (Ow c 0 ∗ Rcv (vals a) c 3 1 ∗ Rcv (vals a) c 4 1) -∗ Q w0) -∗
      WP c (k0_part75 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 v1910 v1935 c8_i32_1998) Q) := by
  rw [k0_part75_eq_skeleton]; unfold k0_part75_skel
  simp only [semSignalWord, semWaitWord, Prog.lift, Prog.bind_op, Prog.bind_ret, Prog.pure_eq_ret]
  iintro #HR HO RC31 RC41 Hk
  iapply (op_recv (vals a) (e := 3) (g := 1) (by rfl) (by rfl) (by decide)) $$ HR HO RC31
  iintro ⟨HO, RC31⟩
  iapply (op_recv (vals a) (e := 4) (g := 1) (by rfl) (by rfl) (by decide)) $$ HR HO RC41
  iintro ⟨HO, RC41⟩
  iapply (fin_eq _ _ (by rfl))
  iapply Hk
  isplitl [HO]; · iexact HO
  isplitl [RC31]; · iexact RC31
  iexact RC41

theorem part76 (a : Args F) (c : Dev nD) (v2 : BitVec 32) (v5 : BitVec 32) (v1960 : BitVec 32) (c8_i32_2032 : BitVec 32) {Q : _ → sProp 𝕄} :
    Rec (vals a) ⊢ iprop((Ow c 0) -∗ (RecvTok c 5 1) -∗ (Rcv (vals a) c 3 1) -∗ (Rcv (vals a) c 4 1) -∗
      ((Ow c 0 ∗ Rcv (vals a) c 5 1 ∗ Rcv (vals a) c 3 1 ∗ Rcv (vals a) c 4 1) -∗ Q ⟨(x2301 a c), (x2303 a c), (x2305 a c), (x2307 a c), (x2309 a c)⟩) -∗
      WP c (k0_part76 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 v2 v5 v1960 c8_i32_2032) Q) := by
  rw [k0_part76_eq_skeleton]; unfold k0_part76_skel
  simp only [semSignalWord, semWaitWord, Prog.lift, Prog.bind_op, Prog.bind_ret, Prog.pure_eq_ret]
  iintro #HR HO RC51 RC31 RC41 Hk
  iapply (op_recv (vals a) (e := 5) (g := 1) (by rfl) (by rfl) (by decide)) $$ HR HO RC51
  iintro ⟨HO, RC51⟩
  iapply (op_ld_max (vals a) (y11M a (nb c (opp 3))) (by rfl) (by rfl) (fun _ _ => by rfl)) $$ RC31
  iintro RC31
  iapply (op_ld_max (vals a) (y11M a (nb c (opp 4))) (by rfl) (by rfl) (fun _ _ => by rfl)) $$ RC41
  iintro RC41
  iapply (op_ld_max (vals a) (y11M a (nb c (opp 5))) (by rfl) (by rfl) (fun _ _ => by rfl)) $$ RC51
  iintro RC51
  iapply (op_ld_sum (vals a) (y11L a (nb c (opp 3))) (by rfl) (by rfl) (fun _ _ => by rfl)) $$ RC31
  iintro RC31
  iapply (op_ld_sum (vals a) (y11L a (nb c (opp 4))) (by rfl) (by rfl) (fun _ _ => by rfl)) $$ RC41
  iintro RC41
  iapply (fin_eq _ ⟨(x2301 a c), (x2303 a c), (x2305 a c), (x2307 a c), (x2309 a c)⟩ (by rfl))
  iapply Hk
  isplitl [HO]; · iexact HO
  isplitl [RC51]; · iexact RC51
  isplitl [RC31]; · iexact RC31
  iexact RC41

theorem part77 (a : Args F) (c : Dev nD) {Q : _ → sProp 𝕄} :
    Rec (vals a) ⊢ iprop((Rcv (vals a) c 5 1) -∗ (Rcv (vals a) c 3 1) -∗ (Rcv (vals a) c 4 1) -∗
      ((Rcv (vals a) c 5 1 ∗ Rcv (vals a) c 3 1 ∗ Rcv (vals a) c 4 1) -∗ Q ⟨(x2329 a c), (x2330 a c), (x2331 a c), (x2332 a c), (x2333 a c), (x2348 a c), (x2350 a c), (x2352 a c)⟩) -∗
      WP c (k0_part77 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1682 a c) (x1697 a c) (x1722 a c) (x2301 a c) (x2303 a c) (x2305 a c) (x2307 a c) (x2309 a c)) Q) := by
  rw [k0_part77_eq_skeleton]; unfold k0_part77_skel
  simp only [semSignalWord, semWaitWord, Prog.lift, Prog.bind_op, Prog.bind_ret, Prog.pure_eq_ret]
  iintro #HR RC51 RC31 RC41 Hk
  iapply (op_ld_sum (vals a) (y11L a (nb c (opp 5))) (by rfl) (by rfl) (fun _ _ => by rfl)) $$ RC51
  iintro RC51
  iapply (op_ld_acc (vals a) 0 (y11A0 a (nb c (opp 3))) (by rfl) (by rfl) (fun _ _ => by rfl)) $$ RC31
  iintro RC31
  iapply (op_ld_acc (vals a) 0 (y11A0 a (nb c (opp 4))) (by rfl) (by rfl) (fun _ _ => by rfl)) $$ RC41
  iintro RC41
  iapply (op_ld_acc (vals a) 0 (y11A0 a (nb c (opp 5))) (by rfl) (by rfl) (fun _ _ => by rfl)) $$ RC51
  iintro RC51
  iapply (fin_eq _ ⟨(x2329 a c), (x2330 a c), (x2331 a c), (x2332 a c), (x2333 a c), (x2348 a c), (x2350 a c), (x2352 a c)⟩ (by rfl))
  iapply Hk
  isplitl [RC51]; · iexact RC51
  isplitl [RC31]; · iexact RC31
  iexact RC41

end Cert.KernelIdealPf

end
-- ==== Proof.IP8.lean ====
/-
The parts of the body, one after the other.
-/
module

public import proofs.«01_k».proof.Proof.IVals

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part78 (a : Args F) (c : Dev nD) {Q : _ → sProp 𝕄} :
    Rec (vals a) ⊢ iprop((Rcv (vals a) c 3 1) -∗ (Rcv (vals a) c 4 1) -∗ (Rcv (vals a) c 5 1) -∗
      ((Rcv (vals a) c 3 1 ∗ Rcv (vals a) c 4 1 ∗ Rcv (vals a) c 5 1) -∗ Q ⟨(x2354 a c), (x2375 a c), (x2384 a c), (x2386 a c), (x2387 a c)⟩) -∗
      WP c (k0_part78 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1743 a c) (x1764 a c) (x2330 a c) (x2331 a c) (x2332 a c) (x2333 a c) (x2348 a c) (x2350 a c) (x2352 a c)) Q) := by
  rw [k0_part78_eq_skeleton]; unfold k0_part78_skel
  simp only [semSignalWord, semWaitWord, Prog.lift, Prog.bind_op, Prog.bind_ret, Prog.pure_eq_ret]
  iintro #HR RC31 RC41 RC51 Hk
  iapply (op_ld_acc (vals a) 1 (y11A1 a (nb c (opp 3))) (by rfl) (by rfl) (fun _ _ => by rfl)) $$ RC31
  iintro RC31
  iapply (op_ld_acc (vals a) 1 (y11A1 a (nb c (opp 4))) (by rfl) (by rfl) (fun _ _ => by rfl)) $$ RC41
  iintro RC41
  iapply (op_ld_acc (vals a) 1 (y11A1 a (nb c (opp 5))) (by rfl) (by rfl) (fun _ _ => by rfl)) $$ RC51
  iintro RC51
  iapply (op_ld_acc (vals a) 2 (y11A2 a (nb c (opp 3))) (by rfl) (by rfl) (fun _ _ => by rfl)) $$ RC31
  iintro RC31
  iapply (op_ld_acc (vals a) 2 (y11A2 a (nb c (opp 4))) (by rfl) (by rfl) (fun _ _ => by rfl)) $$ RC41
  iintro RC41
  iapply (fin_eq _ ⟨(x2354 a c), (x2375 a c), (x2384 a c), (x2386 a c), (x2387 a c)⟩ (by rfl))
  iapply Hk
  isplitl [RC31]; · iexact RC31
  isplitl [RC41]; · iexact RC41
  iexact RC51

theorem part79 (a : Args F) (c : Dev nD) {Q : _ → sProp 𝕄} :
    Rec (vals a) ⊢ iprop((Rcv (vals a) c 5 1) -∗ (Rcv (vals a) c 3 1) -∗ (Rcv (vals a) c 4 1) -∗
      ((Rcv (vals a) c 5 1 ∗ Rcv (vals a) c 3 1 ∗ Rcv (vals a) c 4 1) -∗ Q ⟨(x2396 a c), (x2417 a c), (x2420 a c), (x2422 a c)⟩) -∗
      WP c (k0_part79 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1785 a c) (x1806 a c) (x2330 a c) (x2331 a c) (x2332 a c) (x2333 a c) (x2384 a c) (x2386 a c) (x2387 a c)) Q) := by
  rw [k0_part79_eq_skeleton]; unfold k0_part79_skel
  simp only [semSignalWord, semWaitWord, Prog.lift, Prog.bind_op, Prog.bind_ret, Prog.pure_eq_ret]
  iintro #HR RC51 RC31 RC41 Hk
  iapply (op_ld_acc (vals a) 2 (y11A2 a (nb c (opp 5))) (by rfl) (by rfl) (fun _ _ => by rfl)) $$ RC51
  iintro RC51
  iapply (op_ld_acc (vals a) 3 (y11A3 a (nb c (opp 3))) (by rfl) (by rfl) (fun _ _ => by rfl)) $$ RC31
  iintro RC31
  iapply (op_ld_acc (vals a) 3 (y11A3 a (nb c (opp 4))) (by rfl) (by rfl) (fun _ _ => by rfl)) $$ RC41
  iintro RC41
  iapply (op_ld_acc (vals a) 3 (y11A3 a (nb c (opp 5))) (by rfl) (by rfl) (fun _ _ => by rfl)) $$ RC51
  iintro RC51
  iapply (op_ld_acc (vals a) 4 (y11A4 a (nb c (opp 3))) (by rfl) (by rfl) (fun _ _ => by rfl)) $$ RC31
  iintro RC31
  iapply (fin_eq _ ⟨(x2396 a c), (x2417 a c), (x2420 a c), (x2422 a c)⟩ (by rfl))
  iapply Hk
  isplitl [RC51]; · iexact RC51
  isplitl [RC31]; · iexact RC31
  iexact RC41

theorem part80 (a : Args F) (c : Dev nD) {Q : _ → sProp 𝕄} :
    Rec (vals a) ⊢ iprop((Rcv (vals a) c 4 1) -∗ (Rcv (vals a) c 5 1) -∗ (Rcv (vals a) c 3 1) -∗
      ((Rcv (vals a) c 4 1 ∗ Rcv (vals a) c 5 1 ∗ Rcv (vals a) c 3 1) -∗ Q ⟨(x2438 a c), (x2453 a c), (x2455 a c), (x2457 a c)⟩) -∗
      WP c (k0_part80 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1827 a c) (x2330 a c) (x2331 a c) (x2332 a c) (x2333 a c) (x2420 a c) (x2422 a c)) Q) := by
  rw [k0_part80_eq_skeleton]; unfold k0_part80_skel
  simp only [semSignalWord, semWaitWord, Prog.lift, Prog.bind_op, Prog.bind_ret, Prog.pure_eq_ret]
  iintro #HR RC41 RC51 RC31 Hk
  iapply (op_ld_acc (vals a) 4 (y11A4 a (nb c (opp 4))) (by rfl) (by rfl) (fun _ _ => by rfl)) $$ RC41
  iintro RC41
  iapply (op_ld_acc (vals a) 4 (y11A4 a (nb c (opp 5))) (by rfl) (by rfl) (fun _ _ => by rfl)) $$ RC51
  iintro RC51
  iapply (op_ld_acc (vals a) 5 (y11A5 a (nb c (opp 3))) (by rfl) (by rfl) (fun _ _ => by rfl)) $$ RC31
  iintro RC31
  iapply (op_ld_acc (vals a) 5 (y11A5 a (nb c (opp 4))) (by rfl) (by rfl) (fun _ _ => by rfl)) $$ RC41
  iintro RC41
  iapply (op_ld_acc (vals a) 5 (y11A5 a (nb c (opp 5))) (by rfl) (by rfl) (fun _ _ => by rfl)) $$ RC51
  iintro RC51
  iapply (fin_eq _ ⟨(x2438 a c), (x2453 a c), (x2455 a c), (x2457 a c)⟩ (by rfl))
  iapply Hk
  isplitl [RC41]; · iexact RC41
  isplitl [RC51]; · iexact RC51
  iexact RC31

theorem part81 (a : Args F) (c : Dev nD) {Q : _ → sProp 𝕄} :
    Rec (vals a) ⊢ iprop((Rcv (vals a) c 3 1) -∗ (Rcv (vals a) c 4 1) -∗ (Rcv (vals a) c 5 1) -∗
      ((Rcv (vals a) c 3 1 ∗ Rcv (vals a) c 4 1 ∗ Rcv (vals a) c 5 1) -∗ Q ⟨(x2459 a c), (x2480 a c), (x2489 a c), (x2491 a c), (x2492 a c)⟩) -∗
      WP c (k0_part81 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x1848 a c) (x1869 a c) (x2330 a c) (x2331 a c) (x2332 a c) (x2333 a c) (x2453 a c) (x2455 a c) (x2457 a c)) Q) := by
  rw [k0_part81_eq_skeleton]; unfold k0_part81_skel
  simp only [semSignalWord, semWaitWord, Prog.lift, Prog.bind_op, Prog.bind_ret, Prog.pure_eq_ret]
  iintro #HR RC31 RC41 RC51 Hk
  iapply (op_ld_acc (vals a) 6 (y11A6 a (nb c (opp 3))) (by rfl) (by rfl) (fun _ _ => by rfl)) $$ RC31
  iintro RC31
  iapply (op_ld_acc (vals a) 6 (y11A6 a (nb c (opp 4))) (by rfl) (by rfl) (fun _ _ => by rfl)) $$ RC41
  iintro RC41
  iapply (op_ld_acc (vals a) 6 (y11A6 a (nb c (opp 5))) (by rfl) (by rfl) (fun _ _ => by rfl)) $$ RC51
  iintro RC51
  iapply (op_ld_acc (vals a) 7 (y11A7 a (nb c (opp 3))) (by rfl) (by rfl) (fun _ _ => by rfl)) $$ RC31
  iintro RC31
  iapply (op_ld_acc (vals a) 7 (y11A7 a (nb c (opp 4))) (by rfl) (by rfl) (fun _ _ => by rfl)) $$ RC41
  iintro RC41
  iapply (fin_eq _ ⟨(x2459 a c), (x2480 a c), (x2489 a c), (x2491 a c), (x2492 a c)⟩ (by rfl))
  iapply Hk
  isplitl [RC31]; · iexact RC31
  isplitl [RC41]; · iexact RC41
  iexact RC51

theorem part82 (a : Args F) (c : Dev nD) {Q : _ → sProp 𝕄} :
    Rec (vals a) ⊢ iprop((Rcv (vals a) c 5 1) -∗ (OutH (xOut a c) c 8) -∗
      ((Rcv (vals a) c 5 1 ∗ OutH (xOut a c) c 11) -∗ Q ⟨(x2501 a c), (x2504 a c), (x2525 a c)⟩) -∗
      WP c (k0_part82 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x2329 a c) (x2333 a c) (x2354 a c) (x2375 a c) (x2396 a c) (x2417 a c) (x2489 a c) (x2491 a c) (x2492 a c)) Q) := by
  rw [k0_part82_eq_skeleton]; unfold k0_part82_skel
  simp only [semSignalWord, semWaitWord, Prog.lift, Prog.bind_op, Prog.bind_ret, Prog.pure_eq_ret]
  iintro #HR RC51 OUT0 Hk
  iapply (op_ld_acc (vals a) 7 (y11A7 a (nb c (opp 5))) (by rfl) (by rfl) (fun _ _ => by rfl)) $$ RC51
  iintro RC51
  iapply (op_out_peek) $$ OUT0
  iintro %_ OUT0
  iapply (op_out 8 8 9 (by rfl) (by rfl) (by rfl) (by rfl)) $$ OUT0
  iintro OUT0
  iapply (op_out_peek) $$ OUT0
  iintro %_ OUT0
  iapply (op_out 9 9 10 (by rfl) (by rfl) (by rfl) (by rfl)) $$ OUT0
  iintro OUT0
  iapply (op_out_peek) $$ OUT0
  iintro %_ OUT0
  iapply (op_out 10 10 11 (by rfl) (by rfl) (by rfl) (by rfl)) $$ OUT0
  iintro OUT0
  iapply (op_out_peek) $$ OUT0
  iintro %_ OUT0
  iapply (fin_eq _ ⟨(x2501 a c), (x2504 a c), (x2525 a c)⟩ (by rfl))
  iapply Hk
  isplitl [RC51]; · iexact RC51
  iexact OUT0

theorem part83 (a : Args F) (c : Dev nD) {Q : _ → sProp 𝕄} :
    Rec (vals a) ⊢ iprop((OutH (xOut a c) c 11) -∗
      ((OutH (xOut a c) c 16) -∗ Q PUnit.unit) -∗
      WP c (k0_part83 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 (x2438 a c) (x2459 a c) (x2480 a c) (x2501 a c) (x2504 a c) (x2525 a c)) Q) := by
  rw [k0_part83_eq_skeleton]; unfold k0_part83_skel
  simp only [semSignalWord, semWaitWord, Prog.lift, Prog.bind_op, Prog.bind_ret, Prog.pure_eq_ret]
  iintro #HR OUT0 Hk
  iapply (op_out 11 11 12 (by rfl) (by rfl) (by rfl) (by rfl)) $$ OUT0
  iintro OUT0
  iapply (op_out_peek) $$ OUT0
  iintro %_ OUT0
  iapply (op_out 12 12 13 (by rfl) (by rfl) (by rfl) (by rfl)) $$ OUT0
  iintro OUT0
  iapply (op_out_peek) $$ OUT0
  iintro %_ OUT0
  iapply (op_out 13 13 14 (by rfl) (by rfl) (by rfl) (by rfl)) $$ OUT0
  iintro OUT0
  iapply (op_out_peek) $$ OUT0
  iintro %_ OUT0
  iapply (op_out 14 14 15 (by rfl) (by rfl) (by rfl) (by rfl)) $$ OUT0
  iintro OUT0
  iapply (op_out_peek) $$ OUT0
  iintro %_ OUT0
  iapply (op_out 15 15 16 (by rfl) (by rfl) (by rfl) (by rfl)) $$ OUT0
  iintro OUT0
  iapply (fin_eq _ PUnit.unit (by rfl))
  iapply Hk
  iexact OUT0

theorem part84 (a : Args F) (c : Dev nD) {Q : _ → sProp 𝕄} :
    Rec (vals a) ⊢ iprop((Ow c 0) -∗ (Sent c 0 0) -∗ (Sent c 1 0) -∗ (Sent c 2 0) -∗
      ((Ow c 0 ∗ SendDone c 0 0 ∗ SendDone c 1 0 ∗ SendDone c 2 0) -∗ Q PUnit.unit) -∗
      WP c (k0_part84 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 ) Q) := by
  rw [k0_part84_eq_skeleton]; unfold k0_part84_skel
  simp only [semSignalWord, semWaitWord, Prog.lift, Prog.bind_op, Prog.bind_ret, Prog.pure_eq_ret]
  iintro #HR HO ST00 ST10 ST20 Hk
  iapply (op_sent (vals a) (e := 0) (g := 0) (by rfl) (by rfl) (by decide)) $$ HR HO ST00
  iintro ⟨HO, ST00⟩
  iapply (op_sent (vals a) (e := 1) (g := 0) (by rfl) (by rfl) (by decide)) $$ HR HO ST10
  iintro ⟨HO, ST10⟩
  iapply (op_sent (vals a) (e := 2) (g := 0) (by rfl) (by rfl) (by decide)) $$ HR HO ST20
  iintro ⟨HO, ST20⟩
  iapply (fin_eq _ PUnit.unit (by rfl))
  iapply Hk
  isplitl [HO]; · iexact HO
  isplitl [ST00]; · iexact ST00
  isplitl [ST10]; · iexact ST10
  iexact ST20

theorem part85 (a : Args F) (c : Dev nD) {Q : _ → sProp 𝕄} :
    Rec (vals a) ⊢ iprop((Ow c 0) -∗ (Sent c 0 1) -∗ (Sent c 1 1) -∗ (Sent c 2 1) -∗
      ((Ow c 0 ∗ SendDone c 0 1 ∗ SendDone c 1 1 ∗ SendDone c 2 1) -∗ Q PUnit.unit) -∗
      WP c (k0_part85 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 ) Q) := by
  rw [k0_part85_eq_skeleton]; unfold k0_part85_skel
  simp only [semSignalWord, semWaitWord, Prog.lift, Prog.bind_op, Prog.bind_ret, Prog.pure_eq_ret]
  iintro #HR HO ST01 ST11 ST21 Hk
  iapply (op_sent (vals a) (e := 0) (g := 1) (by rfl) (by rfl) (by decide)) $$ HR HO ST01
  iintro ⟨HO, ST01⟩
  iapply (op_sent (vals a) (e := 1) (g := 1) (by rfl) (by rfl) (by decide)) $$ HR HO ST11
  iintro ⟨HO, ST11⟩
  iapply (op_sent (vals a) (e := 2) (g := 1) (by rfl) (by rfl) (by decide)) $$ HR HO ST21
  iintro ⟨HO, ST21⟩
  iapply (fin_eq _ PUnit.unit (by rfl))
  iapply Hk
  isplitl [HO]; · iexact HO
  isplitl [ST01]; · iexact ST01
  isplitl [ST11]; · iexact ST11
  iexact ST21

theorem part86 (a : Args F) (c : Dev nD) {Q : _ → sProp 𝕄} :
    Rec (vals a) ⊢ iprop((Ow c 0) -∗ (Sent c 3 0) -∗ (Sent c 4 0) -∗ (Sent c 5 0) -∗
      ((Ow c 0 ∗ SendDone c 3 0 ∗ SendDone c 4 0 ∗ SendDone c 5 0) -∗ Q PUnit.unit) -∗
      WP c (k0_part86 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 ) Q) := by
  rw [k0_part86_eq_skeleton]; unfold k0_part86_skel
  simp only [semSignalWord, semWaitWord, Prog.lift, Prog.bind_op, Prog.bind_ret, Prog.pure_eq_ret]
  iintro #HR HO ST30 ST40 ST50 Hk
  iapply (op_sent (vals a) (e := 3) (g := 0) (by rfl) (by rfl) (by decide)) $$ HR HO ST30
  iintro ⟨HO, ST30⟩
  iapply (op_sent (vals a) (e := 4) (g := 0) (by rfl) (by rfl) (by decide)) $$ HR HO ST40
  iintro ⟨HO, ST40⟩
  iapply (op_sent (vals a) (e := 5) (g := 0) (by rfl) (by rfl) (by decide)) $$ HR HO ST50
  iintro ⟨HO, ST50⟩
  iapply (fin_eq _ PUnit.unit (by rfl))
  iapply Hk
  isplitl [HO]; · iexact HO
  isplitl [ST30]; · iexact ST30
  isplitl [ST40]; · iexact ST40
  iexact ST50

end Cert.KernelIdealPf

end
-- ==== Proof.IRun.lean ====
/-
The body's parts in sequence.
-/
module

public import proofs.«01_k».proof.Proof.IP1
public import proofs.«01_k».proof.Proof.IP2
public import proofs.«01_k».proof.Proof.IP3
public import proofs.«01_k».proof.Proof.IP4
public import proofs.«01_k».proof.Proof.IP5
public import proofs.«01_k».proof.Proof.IP6
public import proofs.«01_k».proof.Proof.IP7
public import proofs.«01_k».proof.Proof.IP8

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part87 (a : Args F) (c : Dev nD) {Q : _ → sProp 𝕄} :
    Rec (vals a) ⊢ iprop((Idle kH kM 4 c 0 (a.k c)) -∗ (Idle vH vM 20 c 0 (a.v c)) -∗ (Idle kH kM 5 c 1 (a.k c)) -∗ (Idle vH vM 21 c 1 (a.v c)) -∗ (Idle kH kM 6 c 2 (a.k c)) -∗ (Idle vH vM 22 c 2 (a.v c)) -∗ (Idle kH kM 7 c 3 (a.k c)) -∗ (Idle vH vM 23 c 3 (a.v c)) -∗ (Idle kH kM 8 c 4 (a.k c)) -∗ (Idle vH vM 24 c 4 (a.v c)) -∗ (Idle kH kM 9 c 5 (a.k c)) -∗ (Idle vH vM 25 c 5 (a.v c)) -∗ (Idle kH kM 10 c 6 (a.k c)) -∗ (Idle vH vM 26 c 6 (a.v c)) -∗ (Idle kH kM 11 c 7 (a.k c)) -∗ (Idle vH vM 27 c 7 (a.v c)) -∗ (Idle kH kM 12 c 8 (a.k c)) -∗ (Idle vH vM 28 c 8 (a.v c)) -∗ (Idle kH kM 13 c 9 (a.k c)) -∗ (Idle vH vM 29 c 9 (a.v c)) -∗ (Idle kH kM 14 c 10 (a.k c)) -∗ (Idle vH vM 30 c 10 (a.v c)) -∗ (Idle kH kM 15 c 11 (a.k c)) -∗ (Idle vH vM 31 c 11 (a.v c)) -∗ (Idle kH kM 16 c 12 (a.k c)) -∗ (Idle vH vM 32 c 12 (a.v c)) -∗ (Idle kH kM 17 c 13 (a.k c)) -∗ (Idle vH vM 33 c 13 (a.v c)) -∗ (Idle kH kM 18 c 14 (a.k c)) -∗ (Idle vH vM 34 c 14 (a.v c)) -∗ (Idle kH kM 19 c 15 (a.k c)) -∗ (Idle vH vM 35 c 15 (a.v c)) -∗ (Ow c 18) -∗ (BarTok c 0) -∗ (BarTok c 1) -∗ (BarTok c 2) -∗ (BarTok c 3) -∗ (BarTok c 4) -∗ (BarTok c 5) -∗ (BarWait c) -∗ (Held lenM c Finset.univ fullShare (fun t => t = a.len c)) -∗ (Held btM c Finset.univ fullShare (fun t => t = a.bt c)) -∗ (Held qM c Finset.univ fullShare (fun t => t = a.q c)) -∗ (Pk (vals a) c 0 0 0) -∗ (SendTok c 0 0) -∗ (SendTok c 1 0) -∗ (SendTok c 2 0) -∗ (Pk (vals a) c 0 1 0) -∗ (SendTok c 0 1) -∗ (SendTok c 1 1) -∗ (SendTok c 2 1) -∗ (RecvTok c 0 0) -∗ (RecvTok c 1 0) -∗ (RecvTok c 2 0) -∗ (Pk (vals a) c 1 0 0) -∗ (SendTok c 3 0) -∗ (SendTok c 4 0) -∗ (SendTok c 5 0) -∗ (RecvTok c 0 1) -∗ (RecvTok c 1 1) -∗ (RecvTok c 2 1) -∗
      (∀ w1 : BitVec 32, ∀ w2 : BitVec 32, ∀ w15 : BitVec 32, ∀ w16 : BitVec 32, ∀ w17 : BitVec 32, (semVal (barCell c) 0 ∗ Held lenM c Finset.univ fullShare (fun t => t = a.len c) ∗ Held btM c Finset.univ fullShare (fun t => t = a.bt c) ∗ slotAny (nb c 3) 3 1 ∗ slotAny (nb c 4) 4 1 ∗ slotAny (nb c 5) 5 1 ∗ Done kH kM 4 c 0 (a.k c) ∗ Done vH vM 20 c 0 (a.v c) ∗ Done vH vM 21 c 1 (a.v c) ∗ Done kH kM 5 c 1 (a.k c) ∗ Done vH vM 22 c 2 (a.v c) ∗ Done kH kM 6 c 2 (a.k c) ∗ Done kH kM 7 c 3 (a.k c) ∗ Done vH vM 23 c 3 (a.v c) ∗ Done kH kM 8 c 4 (a.k c) ∗ Done vH vM 24 c 4 (a.v c) ∗ Done kH kM 9 c 5 (a.k c) ∗ Done vH vM 25 c 5 (a.v c) ∗ Done kH kM 10 c 6 (a.k c) ∗ Done vH vM 26 c 6 (a.v c) ∗ Done vH vM 27 c 7 (a.v c) ∗ Done kH kM 11 c 7 (a.k c) ∗ Sent c 0 0 ∗ Sent c 1 0 ∗ Sent c 2 0 ∗ Done kH kM 12 c 8 (a.k c) ∗ Done vH vM 28 c 8 (a.v c) ∗ Done kH kM 13 c 9 (a.k c) ∗ Done vH vM 29 c 9 (a.v c) ∗ Done kH kM 14 c 10 (a.k c) ∗ Done vH vM 30 c 10 (a.v c) ∗ Done vH vM 31 c 11 (a.v c) ∗ Done kH kM 15 c 11 (a.k c) ∗ Done vH vM 32 c 12 (a.v c) ∗ Done kH kM 16 c 12 (a.k c) ∗ Done kH kM 17 c 13 (a.k c) ∗ Done vH vM 33 c 13 (a.v c) ∗ Done kH kM 18 c 14 (a.k c) ∗ Done vH vM 34 c 14 (a.v c) ∗ Held qM c Finset.univ fullShare (fun t => t = a.q c) ∗ Done kH kM 19 c 15 (a.k c) ∗ Done vH vM 35 c 15 (a.v c) ∗ Sent c 0 1 ∗ Sent c 1 1 ∗ Sent c 2 1 ∗ Rcv (vals a) c 1 0 ∗ Rcv (vals a) c 2 0 ∗ Rcv (vals a) c 0 0 ∗ Sent c 3 0 ∗ Sent c 4 0 ∗ Sent c 5 0 ∗ Ow c 3 ∗ Rcv (vals a) c 1 1 ∗ Rcv (vals a) c 2 1 ∗ Rcv (vals a) c 0 1) -∗ Q ⟨c, w1, w2, (x8 c), (x1125 a c), (x1339 a c), (x1354 a c), (x1379 a c), (x1400 a c), (x1421 a c), (x1442 a c), (x1463 a c), (x1484 a c), (x1505 a c), (x1526 a c), w15, w16, w17, (x1682 a c), (x1697 a c), (x1698 a c), (x1699 a c), (x1700 a c), (x1701 a c), (x1722 a c), (x1743 a c), (x1764 a c), (x1785 a c), (x1806 a c), (x1827 a c), (x1830 a c)⟩) -∗
      WP c (k0_part87 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 ) Q) := by
  rw [k0_part87_eq_skeleton]; unfold k0_part87_skel
  iintro #HR K0 V0 K1 V1 K2 V2 K3 V3 K4 V4 K5 V5 K6 V6 K7 V7 K8 V8 K9 V9 K10 V10 K11 V11 K12 V12 K13 V13 K14 V14 K15 V15 HO BT0 BT1 BT2 BT3 BT4 BT5 BW HLn HB HQ PK00 ST00 ST10 ST20 PK01 ST01 ST11 ST21 RC00 RC10 RC20 PK10 ST30 ST40 ST50 RC01 RC11 RC21 Hk
  iapply seqW
  iapply (part1 a c ) $$ HR K0 V0
  iintro %v2 %v5 %v10 ⟨K0, V0⟩
  iapply seqW
  iapply (part2 a c ) $$ HR K1 V1 K2 V2
  iintro ⟨K1, V1, K2, V2⟩
  iapply seqW
  iapply (part3 a c ) $$ HR K3 V3 K4 V4
  iintro ⟨K3, V3, K4, V4⟩
  iapply seqW
  iapply (part4 a c ) $$ HR K5 V5 K6 V6
  iintro ⟨K5, V5, K6, V6⟩
  iapply seqW
  iapply (part5 a c ) $$ HR K7 V7 K8 V8
  iintro ⟨K7, V7, K8, V8⟩
  iapply seqW
  iapply (part6 a c ) $$ HR K9 V9 K10 V10
  iintro ⟨K9, V9, K10, V10⟩
  iapply seqW
  iapply (part7 a c ) $$ HR K11 V11 K12 V12
  iintro ⟨K11, V11, K12, V12⟩
  iapply seqW
  iapply (part8 a c ) $$ HR K13 V13 K14 V14
  iintro ⟨K13, V13, K14, V14⟩
  iapply seqW
  iapply (part9 a c v10) $$ HR K15 V15
  iintro %v222 %v225 %v226 %v227 %v228 ⟨K15, V15⟩
  iapply seqW
  iapply (part10 a c v10 v222 v225 v226 v227 v228) $$ HR HO BT0
  iintro %v257 %v260 %v261 %v266 HO
  iapply seqW
  iapply (part11 a c v10 v257 v260 v261 v266) $$ HR HO BT1
  iintro %v292 %v303 %c8_i32_303 HO
  iapply seqW
  iapply (part12 a c v2 v5 v292 v303 c8_i32_303) $$ HR HO BT2 BT3
  iintro %v337 %c8_i32_327 HO
  iapply seqW
  iapply (part13 a c v2 v5 v337 c8_i32_327) $$ HR HO BT4 BT5 BW HLn HB
  iintro ⟨HO, BW, HLn, HB, SA00, SA01, SA10, SA11, SA20, SA21, SA30, SA31, SA40, SA41, SA50, SA51⟩
  iapply seqW
  iapply (part14 a c ) $$ HR HQ HO K0 V0
  iintro ⟨HQ, HO, K0, V0⟩
  iapply seqW
  iapply (part15 a c ) $$ HR V0 HQ HO K1
  iintro ⟨V0, HQ, HO, K1⟩
  iapply seqW
  iapply (part16 a c ) $$ HR HO V1 K1 HQ K2
  iintro ⟨HO, V1, K1, HQ, K2⟩
  iapply seqW
  iapply (part17 a c ) $$ HR HO V2 K2 HQ
  iintro ⟨HO, V2, K2, HQ⟩
  iapply seqW
  iapply (part18 a c ) $$ HR HO K3 V3
  iintro ⟨HO, K3, V3⟩
  iapply seqW
  iapply (part19 a c ) $$ HR HQ HO K4 V4
  iintro ⟨HQ, HO, K4, V4⟩
  iapply seqW
  iapply (part20 a c ) $$ HR HQ HO K5 V5
  iintro ⟨HQ, HO, K5, V5⟩
  iapply seqW
  iapply (part21 a c ) $$ HR HQ HO K6 V6
  iintro ⟨HQ, HO, K6, V6⟩
  iapply seqW
  iapply (part22 a c ) $$ HR K6 V6 HQ HO K7
  iintro ⟨K6, V6, HQ, HO, K7⟩
  iapply seqW
  iapply (part23 a c ) $$ HR HO V7 K7 PK00
  iintro ⟨HO, V7, K7, PK00⟩
  iapply seqW
  iapply (part24 a c ) $$ HR PK00
  iintro PK00
  iapply seqW
  iapply (part25 a c v10) $$ HR PK00
  iintro %v726 %v737 %v738 %c0_i32_665 PK00
  iapply seqW
  iapply (part26 a c v10 v737 v738 c0_i32_665) $$ HR HO PK00 SA00 ST00
  iintro %v769 %v772 %v773 %v774 %v775 ⟨HO, ST00, SG10, SG20⟩
  iapply seqW
  iapply (part27 a c v10 v769 v772 v773 v774 v775) $$ HR HO SG10 SA10 ST10
  iintro %v780 %v796 %v807 %v809 ⟨HO, ST10⟩
  iapply seqW
  iapply (part28 a c v10 v796 v807 v809) $$ HR HO SG20 SA20 ST20 HQ
  iintro %v812 %v823 ⟨HO, ST20, HQ⟩
  iapply seqW
  iapply (part29 a c ) $$ HR HO K8 V8
  iintro ⟨HO, K8, V8⟩
  iapply seqW
  iapply (part30 a c ) $$ HR HQ HO K9 V9
  iintro ⟨HQ, HO, K9, V9⟩
  iapply seqW
  iapply (part31 a c ) $$ HR HQ HO K10 V10
  iintro ⟨HQ, HO, K10, V10⟩
  iapply seqW
  iapply (part32 a c ) $$ HR V10 HQ HO K11
  iintro ⟨V10, HQ, HO, K11⟩
  iapply seqW
  iapply (part33 a c ) $$ HR HO V11 K11 HQ K12
  iintro ⟨HO, V11, K11, HQ, K12⟩
  iapply seqW
  iapply (part34 a c ) $$ HR HO V12 K12 HQ
  iintro ⟨HO, V12, K12, HQ⟩
  iapply seqW
  iapply (part35 a c ) $$ HR HO K13 V13
  iintro ⟨HO, K13, V13⟩
  iapply seqW
  iapply (part36 a c ) $$ HR HQ HO K14 V14
  iintro ⟨HQ, HO, K14, V14⟩
  iapply seqW
  iapply (part37 a c ) $$ HR HQ HO K15 V15
  iintro ⟨HQ, HO, K15, V15⟩
  iapply seqW
  iapply (part38 a c ) $$ HR V15 PK01
  iintro ⟨V15, PK01⟩
  iapply seqW
  iapply (part39 a c v10) $$ HR PK01
  iintro %v1160 %c2_i32_1036 %v1161 %v1166 %v1168 PK01
  iapply seqW
  iapply (part40 a c v10 v1160 c2_i32_1036 v1161 v1166 v1168) $$ HR
  iintro %v1177 %v1188
  iapply seqW
  iapply (part41 a c v10) $$ HR HO PK01 SA01 ST01
  iintro %v1220 %v1231 %v1235 ⟨HO, ST01, SG11, SG21⟩
  iapply seqW
  iapply (part42 a c v10 v1235) $$ HR HO SG11 SA11 ST11
  iintro %v1263 %v1266 %v1267 %v1272 ⟨HO, ST11⟩
  iapply seqW
  iapply (part43 a c v726 v737 v1263 v1266 v1267 v1272) $$ HR HO SG21 SA21 ST21
  iintro %v1274 ⟨HO, ST21⟩
  iapply seqW
  iapply (part44 a c v769 v780 v812 v823) $$ HR HO RC00 RC10
  iintro ⟨HO, RC00, RC10⟩
  iapply seqW
  iapply (part45 a c ) $$ HR HO RC20 RC00 RC10
  iintro ⟨HO, RC20, RC00, RC10⟩
  iapply seqW
  iapply (part46 a c ) $$ HR RC00 RC10 RC20
  iintro ⟨RC00, RC10, RC20⟩
  iapply seqW
  iapply (part47 a c ) $$ HR RC10 RC20 RC00
  iintro ⟨RC10, RC20, RC00⟩
  iapply seqW
  iapply (part48 a c ) $$ HR RC00 RC10 RC20
  iintro ⟨RC00, RC10, RC20⟩
  iapply seqW
  iapply (part49 a c ) $$ HR RC20 RC00 RC10
  iintro ⟨RC20, RC00, RC10⟩
  iapply seqW
  iapply (part50 a c ) $$ HR RC10 RC20 RC00
  iintro ⟨RC10, RC20, RC00⟩
  iapply seqW
  iapply (part51 a c ) $$ HR PK10
  iintro PK10
  iapply seqW
  iapply (part52 a c v2 v5) $$ HR PK10
  iintro %v1567 PK10
  iapply seqW
  iapply (part53 a c v2 v5) $$ HR HO PK10 SA30 ST30 SA40 ST40
  iintro %v1592 %v1607 %c4_i32_1421 %c0_i32_1422 ⟨HO, ST30, ST40, SG50⟩
  iapply seqW
  iapply (part54 a c v2 v5 v1177 v1188 v1607 c4_i32_1421 c0_i32_1422) $$ HR HO SG50 SA50 ST50
  iintro %v1617 %v1635 ⟨HO, ST50⟩
  iapply seqW
  iapply (part55 a c v1220 v1231 v1263 v1274 v1635) $$ HR HO RC01 RC11
  iintro %v1659 ⟨HO, RC01, RC11⟩
  iapply seqW
  iapply (part56 a c v1659) $$ HR HO RC21 RC01 RC11
  iintro ⟨HO, RC21, RC01, RC11⟩
  iapply seqW
  iapply (part57 a c ) $$ HR RC01 RC11 RC21
  iintro ⟨RC01, RC11, RC21⟩
  iapply seqW
  iapply (part58 a c ) $$ HR RC01 RC11 RC21
  iintro ⟨RC01, RC11, RC21⟩
  iapply seqW
  iapply (part59 a c ) $$ HR RC21 RC01 RC11
  iintro ⟨RC21, RC01, RC11⟩
  iapply seqW
  iapply (part60 a c ) $$ HR RC11 RC21 RC01
  iintro ⟨RC11, RC21, RC01⟩
  simp only [Prog.pure_eq_ret]
  iapply (fin_eq _ ⟨c, _, _, (x8 c), (x1125 a c), (x1339 a c), (x1354 a c), (x1379 a c), (x1400 a c), (x1421 a c), (x1442 a c), (x1463 a c), (x1484 a c), (x1505 a c), (x1526 a c), _, _, _, (x1682 a c), (x1697 a c), (x1698 a c), (x1699 a c), (x1700 a c), (x1701 a c), (x1722 a c), (x1743 a c), (x1764 a c), (x1785 a c), (x1806 a c), (x1827 a c), (x1830 a c)⟩ (by rfl))
  iapply Hk
  isplitl [BW]; · iexact BW
  isplitl [HLn]; · iexact HLn
  isplitl [HB]; · iexact HB
  isplitl [SA31]; · iexact SA31
  isplitl [SA41]; · iexact SA41
  isplitl [SA51]; · iexact SA51
  isplitl [K0]; · iexact K0
  isplitl [V0]; · iexact V0
  isplitl [V1]; · iexact V1
  isplitl [K1]; · iexact K1
  isplitl [V2]; · iexact V2
  isplitl [K2]; · iexact K2
  isplitl [K3]; · iexact K3
  isplitl [V3]; · iexact V3
  isplitl [K4]; · iexact K4
  isplitl [V4]; · iexact V4
  isplitl [K5]; · iexact K5
  isplitl [V5]; · iexact V5
  isplitl [K6]; · iexact K6
  isplitl [V6]; · iexact V6
  isplitl [V7]; · iexact V7
  isplitl [K7]; · iexact K7
  isplitl [ST00]; · iexact ST00
  isplitl [ST10]; · iexact ST10
  isplitl [ST20]; · iexact ST20
  isplitl [K8]; · iexact K8
  isplitl [V8]; · iexact V8
  isplitl [K9]; · iexact K9
  isplitl [V9]; · iexact V9
  isplitl [K10]; · iexact K10
  isplitl [V10]; · iexact V10
  isplitl [V11]; · iexact V11
  isplitl [K11]; · iexact K11
  isplitl [V12]; · iexact V12
  isplitl [K12]; · iexact K12
  isplitl [K13]; · iexact K13
  isplitl [V13]; · iexact V13
  isplitl [K14]; · iexact K14
  isplitl [V14]; · iexact V14
  isplitl [HQ]; · iexact HQ
  isplitl [K15]; · iexact K15
  isplitl [V15]; · iexact V15
  isplitl [ST01]; · iexact ST01
  isplitl [ST11]; · iexact ST11
  isplitl [ST21]; · iexact ST21
  isplitl [RC10]; · iexact RC10
  isplitl [RC20]; · iexact RC20
  isplitl [RC00]; · iexact RC00
  isplitl [ST30]; · iexact ST30
  isplitl [ST40]; · iexact ST40
  isplitl [ST50]; · iexact ST50
  isplitl [HO]; · iexact HO
  isplitl [RC11]; · iexact RC11
  isplitl [RC21]; · iexact RC21
  iexact RC01

theorem part88 (a : Args F) (c : Dev nD) (v2 : BitVec 32) (v5 : BitVec 32) (v1567 : BitVec 32) (v1592 : BitVec 32) (v1617 : BitVec 32) {Q : _ → sProp 𝕄} :
    Rec (vals a) ⊢ iprop((Rcv (vals a) c 0 1) -∗ (Rcv (vals a) c 1 1) -∗ (Rcv (vals a) c 2 1) -∗ (Pk (vals a) c 1 1 0) -∗ (Ow c 3) -∗ (slotAny (nb c 3) 3 1) -∗ (SendTok c 3 1) -∗ (slotAny (nb c 4) 4 1) -∗ (SendTok c 4 1) -∗ (slotAny (nb c 5) 5 1) -∗ (SendTok c 5 1) -∗ (RecvTok c 3 0) -∗ (RecvTok c 4 0) -∗ (RecvTok c 5 0) -∗ (OutH (xOut a c) c 0) -∗ (RecvTok c 3 1) -∗ (RecvTok c 4 1) -∗ (RecvTok c 5 1) -∗ (Sent c 0 0) -∗ (Sent c 1 0) -∗ (Sent c 2 0) -∗ (Sent c 0 1) -∗ (Sent c 1 1) -∗ (Sent c 2 1) -∗ (Sent c 3 0) -∗ (Sent c 4 0) -∗ (Sent c 5 0) -∗
      ((Rcv (vals a) c 0 1 ∗ Rcv (vals a) c 1 1 ∗ Rcv (vals a) c 2 1 ∗ SendDone c 3 1 ∗ Sent c 4 1 ∗ Sent c 5 1 ∗ Rcv (vals a) c 3 0 ∗ Rcv (vals a) c 4 0 ∗ Rcv (vals a) c 5 0 ∗ Rcv (vals a) c 3 1 ∗ Rcv (vals a) c 4 1 ∗ Rcv (vals a) c 5 1 ∗ OutH (xOut a c) c 16 ∗ SendDone c 0 0 ∗ SendDone c 1 0 ∗ SendDone c 2 0 ∗ SendDone c 0 1 ∗ SendDone c 1 1 ∗ SendDone c 2 1 ∗ Ow c 0 ∗ SendDone c 3 0 ∗ SendDone c 4 0 ∗ SendDone c 5 0) -∗ Q PUnit.unit) -∗
      WP c (k0_part88 qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11 c v2 v5 (x8 c) (x1125 a c) (x1339 a c) (x1354 a c) (x1379 a c) (x1400 a c) (x1421 a c) (x1442 a c) (x1463 a c) (x1484 a c) (x1505 a c) (x1526 a c) v1567 v1592 v1617 (x1682 a c) (x1697 a c) (x1698 a c) (x1699 a c) (x1700 a c) (x1701 a c) (x1722 a c) (x1743 a c) (x1764 a c) (x1785 a c) (x1806 a c) (x1827 a c) (x1830 a c)) Q) := by
  rw [k0_part88_eq_skeleton]; unfold k0_part88_skel
  iintro #HR RC01 RC11 RC21 PK11 HO SA31 ST31 SA41 ST41 SA51 ST51 RC30 RC40 RC50 OUT0 RC31 RC41 RC51 ST00 ST10 ST20 ST01 ST11 ST21 ST30 ST40 ST50 Hk
  iapply seqW
  iapply (part61 a c ) $$ HR RC01 RC11 RC21
  iintro ⟨RC01, RC11, RC21⟩
  iapply seqW
  iapply (part62 a c ) $$ HR RC21 PK11
  iintro ⟨RC21, PK11⟩
  iapply seqW
  iapply (part63 a c v2 v5) $$ HR PK11
  iintro %v1910 %v1914 PK11
  iapply seqW
  iapply (part64 a c v2 v5 v1910 v1914) $$ HR HO PK11 SA31 ST31
  iintro %v1935 ⟨HO, ST31, SG41, SG51⟩
  iapply seqW
  iapply (part65 a c v2 v5) $$ HR HO SG41 SA41 ST41 SG51 SA51 ST51
  iintro %v1960 ⟨HO, ST41, ST51⟩
  iapply seqW
  iapply (part66 a c v2 v5 v1567 v1592) $$ HR HO RC30 RC40
  iintro ⟨HO, RC30, RC40⟩
  iapply seqW
  iapply (part67 a c v2 v5 v1617) $$ HR HO RC50 RC30 RC40
  iintro ⟨HO, RC50, RC30, RC40⟩
  iapply seqW
  iapply (part68 a c ) $$ HR RC40 RC50 RC30
  iintro ⟨RC40, RC50, RC30⟩
  iapply seqW
  iapply (part69 a c ) $$ HR RC50 RC30 RC40
  iintro ⟨RC50, RC30, RC40⟩
  iapply seqW
  iapply (part70 a c ) $$ HR RC40 RC50 RC30
  iintro ⟨RC40, RC50, RC30⟩
  iapply seqW
  iapply (part71 a c ) $$ HR RC30 RC40 RC50
  iintro ⟨RC30, RC40, RC50⟩
  iapply seqW
  iapply (part72 a c ) $$ HR RC50 RC30 RC40
  iintro ⟨RC50, RC30, RC40⟩
  iapply seqW
  iapply (part73 a c ) $$ HR RC40 RC50 OUT0
  iintro ⟨RC40, RC50, OUT0⟩
  iapply seqW
  iapply (part74 a c ) $$ HR OUT0
  iintro %c8_i32_1998 OUT0
  iapply seqW
  iapply (part75 a c v2 v5 v1910 v1935 c8_i32_1998) $$ HR HO RC31 RC41
  iintro %c8_i32_2032 ⟨HO, RC31, RC41⟩
  iapply seqW
  iapply (part76 a c v2 v5 v1960 c8_i32_2032) $$ HR HO RC51 RC31 RC41
  iintro ⟨HO, RC51, RC31, RC41⟩
  iapply seqW
  iapply (part77 a c ) $$ HR RC51 RC31 RC41
  iintro ⟨RC51, RC31, RC41⟩
  iapply seqW
  iapply (part78 a c ) $$ HR RC31 RC41 RC51
  iintro ⟨RC31, RC41, RC51⟩
  iapply seqW
  iapply (part79 a c ) $$ HR RC51 RC31 RC41
  iintro ⟨RC51, RC31, RC41⟩
  iapply seqW
  iapply (part80 a c ) $$ HR RC41 RC51 RC31
  iintro ⟨RC41, RC51, RC31⟩
  iapply seqW
  iapply (part81 a c ) $$ HR RC31 RC41 RC51
  iintro ⟨RC31, RC41, RC51⟩
  iapply seqW
  iapply (part82 a c ) $$ HR RC51 OUT0
  iintro ⟨RC51, OUT0⟩
  iapply seqW
  iapply (part83 a c ) $$ HR OUT0
  iintro OUT0
  iapply seqW
  iapply (part84 a c ) $$ HR HO ST00 ST10 ST20
  iintro ⟨HO, ST00, ST10, ST20⟩
  iapply seqW
  iapply (part85 a c ) $$ HR HO ST01 ST11 ST21
  iintro ⟨HO, ST01, ST11, ST21⟩
  iapply seqW
  iapply (part86 a c ) $$ HR HO ST30 ST40 ST50
  iintro ⟨HO, ST30, ST40, ST50⟩
  simp only [Prog.lift, Prog.bind_op, Prog.bind_ret, Prog.pure_eq_ret]
  iapply (op_sent (vals a) (e := 3) (g := 1) (by rfl) (by rfl) (by decide)) $$ HR HO ST31
  iintro ⟨HO, ST31⟩
  iapply (fin_eq _ PUnit.unit (by rfl))
  iapply Hk
  isplitl [RC01]; · iexact RC01
  isplitl [RC11]; · iexact RC11
  isplitl [RC21]; · iexact RC21
  isplitl [ST31]; · iexact ST31
  isplitl [ST41]; · iexact ST41
  isplitl [ST51]; · iexact ST51
  isplitl [RC30]; · iexact RC30
  isplitl [RC40]; · iexact RC40
  isplitl [RC50]; · iexact RC50
  isplitl [RC31]; · iexact RC31
  isplitl [RC41]; · iexact RC41
  isplitl [RC51]; · iexact RC51
  isplitl [OUT0]; · iexact OUT0
  isplitl [ST00]; · iexact ST00
  isplitl [ST10]; · iexact ST10
  isplitl [ST20]; · iexact ST20
  isplitl [ST01]; · iexact ST01
  isplitl [ST11]; · iexact ST11
  isplitl [ST21]; · iexact ST21
  isplitl [HO]; · iexact HO
  isplitl [ST30]; · iexact ST30
  isplitl [ST40]; · iexact ST40
  iexact ST50

/-- What a device runs the body from: -/
def Start (a : Args F) (c : Dev nD) : sProp 𝕄 := iprop((Idle kH kM 4 c 0 (a.k c)) ∗ (Idle vH vM 20 c 0 (a.v c)) ∗ (Idle kH kM 5 c 1 (a.k c)) ∗ (Idle vH vM 21 c 1 (a.v c)) ∗ (Idle kH kM 6 c 2 (a.k c)) ∗ (Idle vH vM 22 c 2 (a.v c)) ∗ (Idle kH kM 7 c 3 (a.k c)) ∗ (Idle vH vM 23 c 3 (a.v c)) ∗ (Idle kH kM 8 c 4 (a.k c)) ∗ (Idle vH vM 24 c 4 (a.v c)) ∗ (Idle kH kM 9 c 5 (a.k c)) ∗ (Idle vH vM 25 c 5 (a.v c)) ∗ (Idle kH kM 10 c 6 (a.k c)) ∗ (Idle vH vM 26 c 6 (a.v c)) ∗ (Idle kH kM 11 c 7 (a.k c)) ∗ (Idle vH vM 27 c 7 (a.v c)) ∗ (Idle kH kM 12 c 8 (a.k c)) ∗ (Idle vH vM 28 c 8 (a.v c)) ∗ (Idle kH kM 13 c 9 (a.k c)) ∗ (Idle vH vM 29 c 9 (a.v c)) ∗ (Idle kH kM 14 c 10 (a.k c)) ∗ (Idle vH vM 30 c 10 (a.v c)) ∗ (Idle kH kM 15 c 11 (a.k c)) ∗ (Idle vH vM 31 c 11 (a.v c)) ∗ (Idle kH kM 16 c 12 (a.k c)) ∗ (Idle vH vM 32 c 12 (a.v c)) ∗ (Idle kH kM 17 c 13 (a.k c)) ∗ (Idle vH vM 33 c 13 (a.v c)) ∗ (Idle kH kM 18 c 14 (a.k c)) ∗ (Idle vH vM 34 c 14 (a.v c)) ∗ (Idle kH kM 19 c 15 (a.k c)) ∗ (Idle vH vM 35 c 15 (a.v c)) ∗ (Held qM c Finset.univ fullShare (fun t => t = a.q c)) ∗ (Held btM c Finset.univ fullShare (fun t => t = a.bt c)) ∗ (Held lenM c Finset.univ fullShare (fun t => t = a.len c)) ∗ (Ow c 18) ∗ (BarWait c) ∗ (OutH (xOut a c) c 0) ∗ (BarTok c 0) ∗ (SendTok c 0 0) ∗ (RecvTok c 0 0) ∗ (SendTok c 0 1) ∗ (RecvTok c 0 1) ∗ (BarTok c 1) ∗ (SendTok c 1 0) ∗ (RecvTok c 1 0) ∗ (SendTok c 1 1) ∗ (RecvTok c 1 1) ∗ (BarTok c 2) ∗ (SendTok c 2 0) ∗ (RecvTok c 2 0) ∗ (SendTok c 2 1) ∗ (RecvTok c 2 1) ∗ (BarTok c 3) ∗ (SendTok c 3 0) ∗ (RecvTok c 3 0) ∗ (SendTok c 3 1) ∗ (RecvTok c 3 1) ∗ (BarTok c 4) ∗ (SendTok c 4 0) ∗ (RecvTok c 4 0) ∗ (SendTok c 4 1) ∗ (RecvTok c 4 1) ∗ (BarTok c 5) ∗ (SendTok c 5 0) ∗ (RecvTok c 5 0) ∗ (SendTok c 5 1) ∗ (RecvTok c 5 1) ∗ (Pk (vals a) c 0 0 0) ∗ (Pk (vals a) c 0 1 0) ∗ (Pk (vals a) c 1 0 0) ∗ (Pk (vals a) c 1 1 0))

/-- and what it ends with. -/
def Done1 (a : Args F) (c : Dev nD) : sProp 𝕄 := iprop((semVal (barCell c) 0) ∗ (Held lenM c Finset.univ fullShare (fun t => t = a.len c)) ∗ (Held btM c Finset.univ fullShare (fun t => t = a.bt c)) ∗ (Done kH kM 4 c 0 (a.k c)) ∗ (Done vH vM 20 c 0 (a.v c)) ∗ (Done vH vM 21 c 1 (a.v c)) ∗ (Done kH kM 5 c 1 (a.k c)) ∗ (Done vH vM 22 c 2 (a.v c)) ∗ (Done kH kM 6 c 2 (a.k c)) ∗ (Done kH kM 7 c 3 (a.k c)) ∗ (Done vH vM 23 c 3 (a.v c)) ∗ (Done kH kM 8 c 4 (a.k c)) ∗ (Done vH vM 24 c 4 (a.v c)) ∗ (Done kH kM 9 c 5 (a.k c)) ∗ (Done vH vM 25 c 5 (a.v c)) ∗ (Done kH kM 10 c 6 (a.k c)) ∗ (Done vH vM 26 c 6 (a.v c)) ∗ (Done vH vM 27 c 7 (a.v c)) ∗ (Done kH kM 11 c 7 (a.k c)) ∗ (Done kH kM 12 c 8 (a.k c)) ∗ (Done vH vM 28 c 8 (a.v c)) ∗ (Done kH kM 13 c 9 (a.k c)) ∗ (Done vH vM 29 c 9 (a.v c)) ∗ (Done kH kM 14 c 10 (a.k c)) ∗ (Done vH vM 30 c 10 (a.v c)) ∗ (Done vH vM 31 c 11 (a.v c)) ∗ (Done kH kM 15 c 11 (a.k c)) ∗ (Done vH vM 32 c 12 (a.v c)) ∗ (Done kH kM 16 c 12 (a.k c)) ∗ (Done kH kM 17 c 13 (a.k c)) ∗ (Done vH vM 33 c 13 (a.v c)) ∗ (Done kH kM 18 c 14 (a.k c)) ∗ (Done vH vM 34 c 14 (a.v c)) ∗ (Held qM c Finset.univ fullShare (fun t => t = a.q c)) ∗ (Done kH kM 19 c 15 (a.k c)) ∗ (Done vH vM 35 c 15 (a.v c)) ∗ (Rcv (vals a) c 1 0) ∗ (Rcv (vals a) c 2 0) ∗ (Rcv (vals a) c 0 0) ∗ (Rcv (vals a) c 0 1) ∗ (Rcv (vals a) c 1 1) ∗ (Rcv (vals a) c 2 1) ∗ (SendDone c 3 1) ∗ (SendDone c 4 1) ∗ (SendDone c 5 1) ∗ (Rcv (vals a) c 3 0) ∗ (Rcv (vals a) c 4 0) ∗ (Rcv (vals a) c 5 0) ∗ (Rcv (vals a) c 3 1) ∗ (Rcv (vals a) c 4 1) ∗ (Rcv (vals a) c 5 1) ∗ (OutH (xOut a c) c 16) ∗ (SendDone c 0 0) ∗ (SendDone c 1 0) ∗ (SendDone c 2 0) ∗ (SendDone c 0 1) ∗ (SendDone c 1 1) ∗ (SendDone c 2 1) ∗ (Ow c 0) ∗ (SendDone c 3 0) ∗ (SendDone c 4 0) ∗ (SendDone c 5 0))

theorem body_run (a : Args F) (c : Dev nD) {Q : _ → sProp 𝕄} :
    Rec (vals a) ⊢ iprop(Start a c -∗ (Done1 a c -∗ Q PUnit.unit) -∗
      WP c (cc0_body qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11) Q) := by
  rw [cc0_body_eq_skeleton]; unfold cc0_body_skel Start Done1
  iintro #HR ⟨K0, V0, K1, V1, K2, V2, K3, V3, K4, V4, K5, V5, K6, V6, K7, V7, K8, V8, K9, V9, K10, V10, K11, V11, K12, V12, K13, V13, K14, V14, K15, V15, HQ, HB, HLn, HO, BW, OUT0, BT0, ST00, RC00, ST01, RC01, BT1, ST10, RC10, ST11, RC11, BT2, ST20, RC20, ST21, RC21, BT3, ST30, RC30, ST31, RC31, BT4, ST40, RC40, ST41, RC41, BT5, ST50, RC50, ST51, RC51, PK00, PK01, PK10, PK11⟩ Hk
  iapply seqW
  iapply (part87 a c) $$ HR K0 V0 K1 V1 K2 V2 K3 V3 K4 V4 K5 V5 K6 V6 K7 V7 K8 V8 K9 V9 K10 V10 K11 V11 K12 V12 K13 V13 K14 V14 K15 V15 HO BT0 BT1 BT2 BT3 BT4 BT5 BW HLn HB HQ PK00 ST00 ST10 ST20 PK01 ST01 ST11 ST21 RC00 RC10 RC20 PK10 ST30 ST40 ST50 RC01 RC11 RC21
  iintro %u1 %u2 %u15 %u16 %u17 ⟨BW, HLn, HB, SA31, SA41, SA51, K0, V0, V1, K1, V2, K2, K3, V3, K4, V4, K5, V5, K6, V6, V7, K7, ST00, ST10, ST20, K8, V8, K9, V9, K10, V10, V11, K11, V12, K12, K13, V13, K14, V14, HQ, K15, V15, ST01, ST11, ST21, RC10, RC20, RC00, ST30, ST40, ST50, HO, RC11, RC21, RC01⟩
  iapply seqW
  iapply (part88 a c u1 u2 u15 u16 u17) $$ HR RC01 RC11 RC21 PK11 HO SA31 ST31 SA41 ST41 SA51 ST51 RC30 RC40 RC50 OUT0 RC31 RC41 RC51 ST00 ST10 ST20 ST01 ST11 ST21 ST30 ST40 ST50
  iintro ⟨RC01, RC11, RC21, ST31, ST41, ST51, RC30, RC40, RC50, RC31, RC41, RC51, OUT0, ST00, ST10, ST20, ST01, ST11, ST21, HO, ST30, ST40, ST50⟩
  simp only [Prog.lift, Prog.bind_op, Prog.bind_ret, Prog.pure_eq_ret]
  iapply (op_sent (vals a) (e := 4) (g := 1) (by rfl) (by rfl) (by decide)) $$ HR HO ST41
  iintro ⟨HO, ST41⟩
  iapply (op_sent (vals a) (e := 5) (g := 1) (by rfl) (by rfl) (by decide)) $$ HR HO ST51
  iintro ⟨HO, ST51⟩
  iapply fin
  iapply Hk
  isplitl [BW]; · iexact BW
  isplitl [HLn]; · iexact HLn
  isplitl [HB]; · iexact HB
  isplitl [K0]; · iexact K0
  isplitl [V0]; · iexact V0
  isplitl [V1]; · iexact V1
  isplitl [K1]; · iexact K1
  isplitl [V2]; · iexact V2
  isplitl [K2]; · iexact K2
  isplitl [K3]; · iexact K3
  isplitl [V3]; · iexact V3
  isplitl [K4]; · iexact K4
  isplitl [V4]; · iexact V4
  isplitl [K5]; · iexact K5
  isplitl [V5]; · iexact V5
  isplitl [K6]; · iexact K6
  isplitl [V6]; · iexact V6
  isplitl [V7]; · iexact V7
  isplitl [K7]; · iexact K7
  isplitl [K8]; · iexact K8
  isplitl [V8]; · iexact V8
  isplitl [K9]; · iexact K9
  isplitl [V9]; · iexact V9
  isplitl [K10]; · iexact K10
  isplitl [V10]; · iexact V10
  isplitl [V11]; · iexact V11
  isplitl [K11]; · iexact K11
  isplitl [V12]; · iexact V12
  isplitl [K12]; · iexact K12
  isplitl [K13]; · iexact K13
  isplitl [V13]; · iexact V13
  isplitl [K14]; · iexact K14
  isplitl [V14]; · iexact V14
  isplitl [HQ]; · iexact HQ
  isplitl [K15]; · iexact K15
  isplitl [V15]; · iexact V15
  isplitl [RC10]; · iexact RC10
  isplitl [RC20]; · iexact RC20
  isplitl [RC00]; · iexact RC00
  isplitl [RC01]; · iexact RC01
  isplitl [RC11]; · iexact RC11
  isplitl [RC21]; · iexact RC21
  isplitl [ST31]; · iexact ST31
  isplitl [ST41]; · iexact ST41
  isplitl [ST51]; · iexact ST51
  isplitl [RC30]; · iexact RC30
  isplitl [RC40]; · iexact RC40
  isplitl [RC50]; · iexact RC50
  isplitl [RC31]; · iexact RC31
  isplitl [RC41]; · iexact RC41
  isplitl [RC51]; · iexact RC51
  isplitl [OUT0]; · iexact OUT0
  isplitl [ST00]; · iexact ST00
  isplitl [ST10]; · iexact ST10
  isplitl [ST20]; · iexact ST20
  isplitl [ST01]; · iexact ST01
  isplitl [ST11]; · iexact ST11
  isplitl [ST21]; · iexact ST21
  isplitl [HO]; · iexact HO
  isplitl [ST30]; · iexact ST30
  isplitl [ST40]; · iexact ST40
  iexact ST50

end Cert.KernelIdealPf

end
-- ==== Proof.IEnds.lean ====
/-
What a device has before and after the body: whole buffers cut into the pieces the body works on, and put back together.
-/
module

public import proofs.«01_k».proof.Proof.IRun
public import Idealize.ShloMosaic.Lib.Ring.FamCut

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem fin2 (Φ : Fin 2 → sProp 𝕄) : bigSep Finset.univ Φ = iprop(Φ 0 ∗ Φ 1) :=
  bigSep_univ_eq_bigSepL [0, 1] (by decide) (by decide) Φ
theorem fin3 (Φ : Fin 3 → sProp 𝕄) : bigSep Finset.univ Φ = iprop(Φ 0 ∗ Φ 1 ∗ Φ 2) :=
  bigSep_univ_eq_bigSepL [0, 1, 2] (by decide) (by decide) Φ
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ
theorem fin32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ
theorem fin56 (Φ : Fin 56 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55] (by decide) (by decide) Φ

theorem bs_mono {I : Type} {s : Finset I} {Φ Ψ : I → sProp 𝕄} (h : ∀ i, Φ i ⊢ Ψ i) : bigSep s Φ ⊢ bigSep s Ψ := bigSep_mono fun i _ => h i

/-! ## Cutting and joining -/

section Cut

variable {B : Type} [Fintype B] [DecidableEq B] {s : Shape} {e : EltTy} {sp : Space}

/-- What the sets leave of a buffer. -/
abbrev RestAt (M : Memref sig .tc sp s e) (c : Dev nD) (I : B → Finset s.Idx) : Finset (Idx (M.view.loc (c : Thread nD τ))) :=
  Ring.restOf (ℓ := M.view.loc (c : Thread nD τ)) fun b => M.view.setOn (I b)
def Rest (M : Memref sig .tc .vmem s e) (c : Dev nD) (I : B → Finset s.Idx) : sProp 𝕄 :=
  iprop(∃ f : Buf (Elt F) (M.view.loc (c : Thread nD τ)), M.view.loc (c : Thread nD τ) ↦[RestAt M c I]{fullShare} f)

theorem setOn_disj (M : Memref sig .tc sp s e) (I : B → Finset s.Idx) (hd : ∀ b b', b ≠ b' → Disjoint (I b) (I b')) (b b' : B) (h : b ≠ b') :
    Disjoint (M.view.setOn (I b)) (M.view.setOn (I b')) := (Finset.disjoint_map _).mpr (hd b b' h)

theorem cut (M : Memref sig .tc .vmem s e) (c : Dev nD) (I : B → Finset s.Idx) (hd : ∀ b b', b ≠ b' → Disjoint (I b) (I b')) :
    iprop(∃ f : Buf (Elt F) (M.view.loc (c : Thread nD τ)), M.view.loc (c : Thread nD τ) ↦{fullShare} f)
      ⊢ (iprop((bigSep Finset.univ fun b => Held M c (I b) fullShare fun _ => True) ∗ Rest M c I) : sProp 𝕄) := by
  refine (Ring.fam_split_ex (ℓ := M.view.loc (c : Thread nD τ)) (fun b => M.view.setOn (I b)) (setOn_disj M I hd)).trans ?_
  unfold Rest
  refine sep_mono_left (bs_mono fun b => ?_)
  unfold Held
  iintro ⟨%f, H⟩
  iexists f
  isplitl [H]; · iexact H
  ipureintro; trivial

theorem glue (M : Memref sig .tc .vmem s e) (c : Dev nD) (I : B → Finset s.Idx) (hd : ∀ b b', b ≠ b' → Disjoint (I b) (I b')) :
    (iprop((bigSep Finset.univ fun b => Held M c (I b) fullShare fun _ => True) ∗ Rest M c I) : sProp 𝕄)
      ⊢ iprop(∃ f : Buf (Elt F) (M.view.loc (c : Thread nD τ)), M.view.loc (c : Thread nD τ) ↦{fullShare} f) := by
  unfold Rest
  iintro ⟨HB, ⟨%r, HR⟩⟩
  iapply (Ring.fam_join (ℓ := M.view.loc (c : Thread nD τ)) (fun b => M.view.setOn (I b)) (setOn_disj M I hd) r)
  isplitl [HB]
  · iapply (bs_mono (s := Finset.univ) fun b => show Held M c (I b) fullShare (fun _ => True) ⊢ iprop(∃ f : Buf (Elt F) (M.view.loc (c : Thread nD τ)), M.view.loc (c : Thread nD τ) ↦[M.view.setOn (I b)]{fullShare} f) from by
      unfold Held
      iintro ⟨%f, H, -⟩
      iexists f; iexact H) $$ HB
  · iexists r; iexact HR

/-- The same for a buffer whose contents are known and stay. -/
theorem cut_at (A : Memref sig .tc .hbm s e) (c : Dev nD) (I : B → Finset s.Idx) (hd : ∀ b b', b ≠ b' → Disjoint (I b) (I b'))
    (f : Buf (Elt F) (A.view.loc (c : Thread nD τ))) :
    (A.view.loc (c : Thread nD τ) ↦{fullShare} f : sProp 𝕄)
      ⊣⊢ iprop((bigSep Finset.univ fun b => A.view.loc (c : Thread nD τ) ↦[A.view.setOn (I b)]{fullShare} f)
          ∗ A.view.loc (c : Thread nD τ) ↦[RestAt A c I]{fullShare} f) := by
  have e : _ = (_ : sProp 𝕄) := pointsTo_biUnion (ℓ := A.view.loc (c : Thread nD τ)) (q := fullShare) (f := f) Finset.univ (fun b => A.view.setOn (I b)) (fun b _ b' _ h => setOn_disj A I hd b b' h)
  have h : (A.view.loc (c : Thread nD τ) ↦{fullShare} f : sProp 𝕄) ⊣⊢ iprop((A.view.loc (c : Thread nD τ) ↦[Finset.univ.biUnion fun b => A.view.setOn (I b)]{fullShare} f)
      ∗ A.view.loc (c : Thread nD τ) ↦[RestAt A c I]{fullShare} f) := pointsTo_split_subset (Finset.subset_univ _)
  rw [e] at h
  exact h

/-- Three shares of the same elements are the whole of them. -/
theorem shares_join (M : Memref sig .tc .vmem s e) (c : Dev nD) (S : Finset s.Idx) :
    (iprop(Held M c S (shr 0) (fun _ => True) ∗ Held M c S (shr 1) (fun _ => True) ∗ Held M c S (shr 2) (fun _ => True)) : sProp 𝕄)
      ⊢ Held M c S fullShare fun _ => True := by
  unfold Held
  iintro ⟨⟨%f, H0, -⟩, ⟨%g, H1, -⟩, ⟨%h, H2, -⟩⟩
  ihave %h1 := (pointsTo_agree (ℓ := M.view.loc (c : Thread nD τ)) (I := M.view.setOn S) (J := M.view.setOn S)) $$ [H0 H1]
  · isplitl [H0]; · iexact H0
    iexact H1
  ihave %h2 := (pointsTo_agree (ℓ := M.view.loc (c : Thread nD τ)) (I := M.view.setOn S) (J := M.view.setOn S)) $$ [H0 H2]
  · isplitl [H0]; · iexact H0
    iexact H2
  ihave H1 := (Entails.of_eq (pointsTo_congr (f := g) (g := f) fun i hi => ((h1 i (Finset.mem_inter.mpr ⟨hi, hi⟩)).1).symm)) $$ H1
  ihave H2 := (Entails.of_eq (pointsTo_congr (f := h) (g := f) fun i hi => ((h2 i (Finset.mem_inter.mpr ⟨hi, hi⟩)).1).symm)) $$ H2
  ihave H := (pointsTo_share (PosShare.mem_left_op_right fullShare.right)).2 $$ [H1 H2]
  · isplitl [H1]; · iexact H1
    iexact H2
  ihave H := (pointsTo_share (PosShare.mem_left_op_right fullShare)).2 $$ [H0 H]
  · isplitl [H0]; · iexact H0
    iexact H
  iexists f
  isplitl [H]; · iexact H
  ipureintro; trivial

end Cut

/-! ## The sets are disjoint -/

theorem kv_disj (h h' : Fin 16) (hh : h ≠ h') : Disjoint (kvSet h) (kvSet h') := by
  rw [Finset.disjoint_left]; intro i hi hi'
  exact hh (Fin.ext ((Finset.mem_filter.mp hi).2.symm.trans (Finset.mem_filter.mp hi').2))
theorem mine_disj (g g' : Fin 2) (hh : g ≠ g') : Disjoint (mineSet g) (mineSet g') := by
  rw [Finset.disjoint_left]; intro i hi hi'
  exact hh (Fin.ext ((Finset.mem_filter.mp hi).2.symm.trans (Finset.mem_filter.mp hi').2))
def landI (b : Fin 3 × Fin 2) := landSet b.2 b.1
theorem land_disj (b b' : Fin 3 × Fin 2) (hh : b ≠ b') : Disjoint (landI b) (landI b') := by
  rw [Finset.disjoint_left]; intro i hi hi'
  have h := (Finset.mem_filter.mp hi).2
  have h' := (Finset.mem_filter.mp hi').2
  exact hh (Prod.ext (Fin.ext (h.2.symm.trans h'.2)) (Fin.ext (h.1.symm.trans h'.1)))
theorem src_disj (c : Dev nD) (h h' : Fin 16) (hh : h ≠ h') : Disjoint (srcSet c h) (srcSet c h') := by
  rw [Finset.disjoint_left]; intro i hi hi'
  unfold srcSet at hi hi'
  have e := (Finset.mem_filter.mp hi).2
  have e' := (Finset.mem_filter.mp hi').2
  exact hh (Fin.ext (by omega))

/-! ## Heads -/

theorem at_lt (b : ℕ) (hb : b ≤ 44) (h : Fin 16) : b + h.val < 60 := by omega
def hsem (b : ℕ) (hb : b ≤ 44) (h : Fin 16) : Fin 60 := ⟨b + h.val, at_lt b hb h⟩
variable (A : Memref sig .tc .hbm S256x32x16x128 .f32) (M : Memref sig .tc .vmem S16x64x32x128 .f32) (b : ℕ) (hb : b ≤ 44) (c : Dev nD)
  (f : Buf (Elt F) (A.view.loc (c : Thread nD τ)))

theorem kv_start : (iprop((∃ f, M.view.loc (c : Thread nD τ) ↦{fullShare} f) ∗ (A.view.loc (c : Thread nD τ) ↦{fullShare} f)
      ∗ bigSep Finset.univ fun h : Fin 16 => semVal ((c : Thread nD τ), .dma (dmaAt (hsem b hb h))) 0) : sProp 𝕄)
    ⊢ iprop((bigSep Finset.univ fun h : Fin 16 => Idle A M (hsem b hb h) c h f) ∗ Rest M c kvSet
        ∗ A.view.loc (c : Thread nD τ) ↦[RestAt A c (srcSet c)]{fullShare} f) := by
  unfold Idle
  rw [bigSep_sep', bigSep_sep']
  iintro ⟨HM, HA, HS⟩
  ihave HM := (cut M c kvSet kv_disj) $$ HM
  icases HM with ⟨HM, HR⟩
  ihave HA := (cut_at A c (srcSet c) (src_disj c) f).1 $$ HA
  icases HA with ⟨HA, HR'⟩
  isplitl [HM HA HS]
  · isplitl [HM]; · iexact HM
    isplitl [HA]; · iexact HA
    iexact HS
  isplitl [HR]; · iexact HR
  iexact HR'

theorem kv_done : (iprop((bigSep Finset.univ fun h : Fin 16 => Done A M (hsem b hb h) c h f) ∗ Rest M c kvSet
        ∗ A.view.loc (c : Thread nD τ) ↦[RestAt A c (srcSet c)]{fullShare} f) : sProp 𝕄)
    ⊢ iprop((∃ f, M.view.loc (c : Thread nD τ) ↦{fullShare} f) ∗ (A.view.loc (c : Thread nD τ) ↦{fullShare} f)
      ∗ bigSep Finset.univ fun h : Fin 16 => semVal ((c : Thread nD τ), .dma (dmaAt (hsem b hb h))) 0) := by
  unfold Done Landed
  rw [bigSep_sep', bigSep_sep']
  iintro ⟨⟨⟨HM, HA⟩, HS⟩, HR, HR'⟩
  isplitl [HM HR]
  · iapply (glue M c kvSet kv_disj)
    isplitl [HM]
    · iapply (bs_mono (s := Finset.univ) fun h => held_mono (M := M) (c := c) (S := kvSet h) (q := fullShare) (P := Got c h (A.view.read (Elt F) f)) fun _ _ => trivial) $$ HM
    · iexact HR
  isplitl [HA HR']
  · iapply (cut_at A c (srcSet c) (src_disj c) f).2
    isplitl [HA]; · iexact HA
    iexact HR'
  iexact HS

/-! ## Slots and packed groups -/

theorem land_cut (s : Fin 2) : (iprop(∃ f, (landM s).view.loc (c : Thread nD τ) ↦{fullShare} f) : sProp 𝕄)
    ⊢ iprop((Held (landM s) c (landSet 0 0) fullShare (fun _ => True) ∗ Held (landM s) c (landSet 1 0) fullShare (fun _ => True)
        ∗ Held (landM s) c (landSet 0 1) fullShare (fun _ => True) ∗ Held (landM s) c (landSet 1 1) fullShare (fun _ => True)
        ∗ Held (landM s) c (landSet 0 2) fullShare (fun _ => True) ∗ Held (landM s) c (landSet 1 2) fullShare (fun _ => True))
      ∗ Rest (landM s) c landI) := by
  iintro H
  ihave H := (cut (landM s) c landI land_disj) $$ H
  icases H with ⟨H, HR⟩
  ihave H := (Entails.of_eq ((bigSep_univ_prod _).trans (fin3 _))) $$ H
  icases H with ⟨H0, H1, H2⟩
  ihave H0 := (Entails.of_eq (fin2 _)) $$ H0
  ihave H1 := (Entails.of_eq (fin2 _)) $$ H1
  ihave H2 := (Entails.of_eq (fin2 _)) $$ H2
  icases H0 with ⟨A0, A1⟩
  icases H1 with ⟨B0, B1⟩
  icases H2 with ⟨C0, C1⟩
  isplitr [HR]
  · isplitl [A0]; · iexact A0
    isplitl [A1]; · iexact A1
    isplitl [B0]; · iexact B0
    isplitl [B1]; · iexact B1
    isplitl [C0]; · iexact C0
    iexact C1
  iexact HR

theorem land_glue (s : Fin 2) : (iprop((Held (landM s) c (landSet 0 0) fullShare (fun _ => True) ∗ Held (landM s) c (landSet 1 0) fullShare (fun _ => True)
        ∗ Held (landM s) c (landSet 0 1) fullShare (fun _ => True) ∗ Held (landM s) c (landSet 1 1) fullShare (fun _ => True)
        ∗ Held (landM s) c (landSet 0 2) fullShare (fun _ => True) ∗ Held (landM s) c (landSet 1 2) fullShare (fun _ => True))
      ∗ Rest (landM s) c landI) : sProp 𝕄) ⊢ iprop(∃ f, (landM s).view.loc (c : Thread nD τ) ↦{fullShare} f) := by
  iintro ⟨⟨A0, A1, B0, B1, C0, C1⟩, HR⟩
  iapply (glue (landM s) c landI land_disj)
  isplitr [HR]
  · iapply (Entails.of_eq ((bigSep_univ_prod (fun b : Fin 3 × Fin 2 => (Held (landM s) c (landI b) fullShare (fun _ => True) : sProp 𝕄))).trans (fin3 _)).symm)
    isplitl [A0 A1]
    · iapply (Entails.of_eq (fin2 _).symm); isplitl [A0]; · iexact A0
      iexact A1
    isplitl [B0 B1]
    · iapply (Entails.of_eq (fin2 _).symm); isplitl [B0]; · iexact B0
      iexact B1
    iapply (Entails.of_eq (fin2 _).symm); isplitl [C0]; · iexact C0
    iexact C1
  iexact HR

theorem got_any (X : Vals F) (e : Fin 6) (g : Fin 2) : slotGot X c e g ⊢ Held (landM (stg e)) c (landSet g (num e)) fullShare (fun _ => True) :=
  held_mono fun _ _ => trivial

theorem slot_of (e : Fin 6) (g : Fin 2) : Held (landM (stg e)) c (landSet g (num e)) fullShare (fun _ => True) ⊢ slotAny (F := F) c e g := Entails.rfl
theorem of_src (e : Fin 6) (g : Fin 2) : srcAny (F := F) c e g ⊢ Held (mineM (stg e)) c (mineSet g) (shr (num e)) (fun _ => True) := Entails.rfl

theorem mine_cut (X : Vals F) (s : Fin 2) : (iprop(∃ f, (mineM s).view.loc (c : Thread nD τ) ↦{fullShare} f) : sProp 𝕄)
    ⊢ iprop((Pk X c s 0 0 ∗ Pk X c s 1 0) ∗ Rest (mineM s) c mineSet) := by
  iintro H
  ihave H := (cut (mineM s) c mineSet mine_disj) $$ H
  icases H with ⟨H, HR⟩
  ihave H := (Entails.of_eq (fin2 _)) $$ H
  icases H with ⟨A0, A1⟩
  isplitr [HR]
  · isplitl [A0]; · iapply (pk_start X c s 0); iexact A0
    iapply (pk_start X c s 1); iexact A1
  iexact HR

theorem mine_glue (s : Fin 2) : (iprop((Held (mineM s) c (mineSet 0) fullShare (fun _ => True) ∗ Held (mineM s) c (mineSet 1) fullShare (fun _ => True))
      ∗ Rest (mineM s) c mineSet) : sProp 𝕄) ⊢ iprop(∃ f, (mineM s).view.loc (c : Thread nD τ) ↦{fullShare} f) := by
  iintro ⟨⟨A0, A1⟩, HR⟩
  iapply (glue (mineM s) c mineSet mine_disj)
  isplitr [HR]
  · iapply (Entails.of_eq (fin2 _).symm); isplitl [A0]; · iexact A0
    iexact A1
  iexact HR

omit A M b hb f in
theorem whole_held {s : Shape} {e : EltTy} (M : Memref sig .tc .vmem s e) (h : M.view.set = Finset.univ) (g : Buf (Elt F) (M.view.loc (c : Thread nD τ))) (P : Vec F s e → Prop)
    (hP : P (M.view.read (Elt F) g)) : (M.view.loc (c : Thread nD τ) ↦{fullShare} g : sProp 𝕄) ⊢ Held M c Finset.univ fullShare P := by
  unfold Held
  rw [View.setOn_univ, h]
  iintro H
  iexists g
  isplitl [H]; · iexact H
  ipureintro; exact hP
theorem held_whole {s : Shape} {e : EltTy} (M : Memref sig .tc .vmem s e) (h : M.view.set = Finset.univ) (P : Vec F s e → Prop) :
    (Held M c Finset.univ fullShare P : sProp 𝕄) ⊢ iprop(∃ g : Buf (Elt F) (M.view.loc (c : Thread nD τ)), ⌜P (M.view.read (Elt F) g)⌝ ∗ (M.view.loc (c : Thread nD τ) ↦{fullShare} g)) := by
  unfold Held
  rw [View.setOn_univ, h]
  iintro ⟨%g, H, %hg⟩
  iexists g
  isplitr [H]; · ipureintro; exact hg
  iexact H

/-! ## Before and after -/

/-- A device's buffers the kernel names itself: the scratch, and its blocks of keys and values. -/
def Bufs (a : Args F) (c : Dev nD) : sProp 𝕄 :=
  iprop((∃ f, kM.view.loc (c : Thread nD τ) ↦{fullShare} f) ∗ (∃ f, vM.view.loc (c : Thread nD τ) ↦{fullShare} f)
    ∗ (∃ f, (mineM 0).view.loc (c : Thread nD τ) ↦{fullShare} f) ∗ (∃ f, (landM 0).view.loc (c : Thread nD τ) ↦{fullShare} f)
    ∗ (∃ f, (mineM 1).view.loc (c : Thread nD τ) ↦{fullShare} f) ∗ (∃ f, (landM 1).view.loc (c : Thread nD τ) ↦{fullShare} f)
    ∗ (kH.view.loc (c : Thread nD τ) ↦{fullShare} a.k c) ∗ (vH.view.loc (c : Thread nD τ) ↦{fullShare} a.v c))
def Rests (a : Args F) (c : Dev nD) : sProp 𝕄 :=
  iprop(Rest kM c kvSet ∗ Rest vM c kvSet ∗ Rest (mineM 0) c mineSet ∗ Rest (landM 0) c landI ∗ Rest (mineM 1) c mineSet ∗ Rest (landM 1) c landI
    ∗ (kH.view.loc (c : Thread nD τ) ↦[RestAt kH c (srcSet c)]{fullShare} a.k c) ∗ (vH.view.loc (c : Thread nD τ) ↦[RestAt vH c (srcSet c)]{fullShare} a.v c))
/-- The counters of its local copies. -/
def Sems32 (c : Dev nD) : sProp 𝕄 :=
  iprop((bigSep Finset.univ fun h : Fin 16 => semVal ((c : Thread nD τ), .dma (dmaAt (hsem 4 (by decide) h))) 0)
    ∗ bigSep Finset.univ fun h : Fin 16 => semVal ((c : Thread nD τ), .dma (dmaAt (hsem 20 (by decide) h))) 0)
/-- The counters of the exchange. -/
def Sems25 (c : Dev nD) : sProp 𝕄 := bigSep Finset.univ fun k : Fin 25 => semVal (kcell (c, k)) 0
/-- The duties it pays with, its positions and its credits. -/
def PayToks (c : Dev nD) : sProp 𝕄 :=
  iprop((bigSep Finset.univ fun e : Fin 6 => dutyTok ER (barCell (nb c e)) 0 (opp e))
    ∗ (bigSep Finset.univ fun e : Fin 6 => iprop(dutyTok ER (sendCell c e 0) 0 (0 : Fin 6) ∗ dutyTok ER (sendCell c e 1) 0 (0 : Fin 6)))
    ∗ bigSep Finset.univ fun e : Fin 6 => iprop(dutyTok ER (recvCell (nb c e) e 0) 0 (0 : Fin 6) ∗ dutyTok ER (recvCell (nb c e) e 1) 0 (0 : Fin 6)))
def Poss (c : Dev nD) : sProp 𝕄 := bigSep Finset.univ fun k : Fin 25 => atPos ER (kcell (c, k)) 0 ∅ 0
def Creds (c : Dev nD) : sProp 𝕄 :=
  iprop(cred (tallyAt (barCell c) () 6) ∗ bigSep Finset.univ fun e : Fin 6 => iprop(cred (tallyAt (recvCell c e 0) () N) ∗ cred (tallyAt (recvCell c e 1) () N)))
/-- Its staged arguments, and its result at the heads written so far. -/
def Stage (a : Args F) (c : Dev nD) (k : ℕ) : sProp 𝕄 :=
  iprop(Held qM c Finset.univ fullShare (fun t => t = a.q c) ∗ Held btM c Finset.univ fullShare (fun t => t = a.bt c)
    ∗ Held lenM c Finset.univ fullShare (fun t => t = a.len c) ∗ OutH (xOut a c) c k)

theorem start_of (a : Args F) (c : Dev nD) :
    (iprop(Bufs a c ∗ Sems32 c ∗ PayToks c ∗ Poss c ∗ Creds c ∗ Stage a c 0 ∗ Ow c 18) : sProp 𝕄) ⊢ iprop(Start a c ∗ Rests a c) := by
  unfold Bufs Sems32 PayToks Poss Creds Stage Start Rests
  iintro ⟨⟨S0, S1, S2, S3, S4, S5, A1, A2⟩, ⟨SK, SV⟩, ⟨TB, TS, TR⟩, P, ⟨CB, CR⟩, ⟨HQ, HB, HLn, OUT0⟩, HO⟩
  ihave KK := (kv_start kH kM 4 (by decide) c (a.k c)) $$ [S0 A1 SK]
  · isplitl [S0]; · iexact S0
    isplitl [A1]; · iexact A1
    iexact SK
  icases KK with ⟨KK, R0, R6⟩
  ihave VV := (kv_start vH vM 20 (by decide) c (a.v c)) $$ [S1 A2 SV]
  · isplitl [S1]; · iexact S1
    isplitl [A2]; · iexact A2
    iexact SV
  icases VV with ⟨VV, R1, R7⟩
  ihave KK := (Entails.of_eq (fin16 _)) $$ KK
  ihave VV := (Entails.of_eq (fin16 _)) $$ VV
  icases KK with ⟨K0, K1, K2, K3, K4, K5, K6, K7, K8, K9, K10, K11, K12, K13, K14, K15⟩
  icases VV with ⟨V0, V1, V2, V3, V4, V5, V6, V7, V8, V9, V10, V11, V12, V13, V14, V15⟩
  ihave S2 := (mine_cut c (vals a) 0) $$ S2
  icases S2 with ⟨⟨PK00, PK01⟩, R2⟩
  ihave S4 := (mine_cut c (vals a) 1) $$ S4
  icases S4 with ⟨⟨PK10, PK11⟩, R4⟩
  ihave S3 := (land_cut c 0) $$ S3
  icases S3 with ⟨⟨L00, L01, L10, L11, L20, L21⟩, R3⟩
  ihave S5 := (land_cut c 1) $$ S5
  icases S5 with ⟨⟨L30, L31, L40, L41, L50, L51⟩, R5⟩
  ihave TB := (Entails.of_eq (fin6 _)) $$ TB
  ihave TS := (Entails.of_eq (fin6 _)) $$ TS
  ihave TR := (Entails.of_eq (fin6 _)) $$ TR
  ihave CR := (Entails.of_eq (fin6 _)) $$ CR
  ihave P := (Entails.of_eq (fin25 _)) $$ P
  icases TB with ⟨TB0, TB1, TB2, TB3, TB4, TB5⟩
  icases TS with ⟨⟨TS00, TS01⟩, ⟨TS10, TS11⟩, ⟨TS20, TS21⟩, ⟨TS30, TS31⟩, ⟨TS40, TS41⟩, ⟨TS50, TS51⟩⟩
  icases TR with ⟨⟨TR00, TR01⟩, ⟨TR10, TR11⟩, ⟨TR20, TR21⟩, ⟨TR30, TR31⟩, ⟨TR40, TR41⟩, ⟨TR50, TR51⟩⟩
  icases CR with ⟨⟨CR00, CR01⟩, ⟨CR10, CR11⟩, ⟨CR20, CR21⟩, ⟨CR30, CR31⟩, ⟨CR40, CR41⟩, ⟨CR50, CR51⟩⟩
  icases P with ⟨P0, P1, P2, P3, P4, P5, P6, P7, P8, P9, P10, P11, P12, P13, P14, P15, P16, P17, P18, P19, P20, P21, P22, P23, P24⟩
  isplitr [R0 R1 R2 R3 R4 R5 R6 R7]
  · isplitl [K0]
    · iexact K0
    isplitl [V0]
    · iexact V0
    isplitl [K1]
    · iexact K1
    isplitl [V1]
    · iexact V1
    isplitl [K2]
    · iexact K2
    isplitl [V2]
    · iexact V2
    isplitl [K3]
    · iexact K3
    isplitl [V3]
    · iexact V3
    isplitl [K4]
    · iexact K4
    isplitl [V4]
    · iexact V4
    isplitl [K5]
    · iexact K5
    isplitl [V5]
    · iexact V5
    isplitl [K6]
    · iexact K6
    isplitl [V6]
    · iexact V6
    isplitl [K7]
    · iexact K7
    isplitl [V7]
    · iexact V7
    isplitl [K8]
    · iexact K8
    isplitl [V8]
    · iexact V8
    isplitl [K9]
    · iexact K9
    isplitl [V9]
    · iexact V9
    isplitl [K10]
    · iexact K10
    isplitl [V10]
    · iexact V10
    isplitl [K11]
    · iexact K11
    isplitl [V11]
    · iexact V11
    isplitl [K12]
    · iexact K12
    isplitl [V12]
    · iexact V12
    isplitl [K13]
    · iexact K13
    isplitl [V13]
    · iexact V13
    isplitl [K14]
    · iexact K14
    isplitl [V14]
    · iexact V14
    isplitl [K15]
    · iexact K15
    isplitl [V15]
    · iexact V15
    isplitl [HQ]
    · iexact HQ
    isplitl [HB]
    · iexact HB
    isplitl [HLn]
    · iexact HLn
    isplitl [HO]
    · iexact HO
    isplitl [P0 CB]
    · unfold BarWait
      isplitl [P0]; · iexact P0
      iexact CB
    isplitl [OUT0]
    · iexact OUT0
    isplitl [TB0 L00 L01]
    · unfold BarTok
      isplitl [TB0]; · iexact TB0
      isplitl [L00]; · iapply (slot_of c 0 0); iexact L00
      iapply (slot_of c 0 1); iexact L01
    isplitl [P1 TS00 TR00]
    · unfold SendTok
      isplitl [P1]; · iexact P1
      isplitl [TS00]; · iexact TS00
      iexact TR00
    isplitl [P7 CR00]
    · unfold RecvTok
      isplitl [P7]; · iexact P7
      iexact CR00
    isplitl [P4 TS01 TR01]
    · unfold SendTok
      isplitl [P4]; · iexact P4
      isplitl [TS01]; · iexact TS01
      iexact TR01
    isplitl [P10 CR01]
    · unfold RecvTok
      isplitl [P10]; · iexact P10
      iexact CR01
    isplitl [TB1 L10 L11]
    · unfold BarTok
      isplitl [TB1]; · iexact TB1
      isplitl [L10]; · iapply (slot_of c 1 0); iexact L10
      iapply (slot_of c 1 1); iexact L11
    isplitl [P2 TS10 TR10]
    · unfold SendTok
      isplitl [P2]; · iexact P2
      isplitl [TS10]; · iexact TS10
      iexact TR10
    isplitl [P8 CR10]
    · unfold RecvTok
      isplitl [P8]; · iexact P8
      iexact CR10
    isplitl [P5 TS11 TR11]
    · unfold SendTok
      isplitl [P5]; · iexact P5
      isplitl [TS11]; · iexact TS11
      iexact TR11
    isplitl [P11 CR11]
    · unfold RecvTok
      isplitl [P11]; · iexact P11
      iexact CR11
    isplitl [TB2 L20 L21]
    · unfold BarTok
      isplitl [TB2]; · iexact TB2
      isplitl [L20]; · iapply (slot_of c 2 0); iexact L20
      iapply (slot_of c 2 1); iexact L21
    isplitl [P3 TS20 TR20]
    · unfold SendTok
      isplitl [P3]; · iexact P3
      isplitl [TS20]; · iexact TS20
      iexact TR20
    isplitl [P9 CR20]
    · unfold RecvTok
      isplitl [P9]; · iexact P9
      iexact CR20
    isplitl [P6 TS21 TR21]
    · unfold SendTok
      isplitl [P6]; · iexact P6
      isplitl [TS21]; · iexact TS21
      iexact TR21
    isplitl [P12 CR21]
    · unfold RecvTok
      isplitl [P12]; · iexact P12
      iexact CR21
    isplitl [TB3 L50 L51]
    · unfold BarTok
      isplitl [TB3]; · iexact TB3
      isplitl [L50]; · iapply (slot_of c 5 0); iexact L50
      iapply (slot_of c 5 1); iexact L51
    isplitl [P13 TS30 TR30]
    · unfold SendTok
      isplitl [P13]; · iexact P13
      isplitl [TS30]; · iexact TS30
      iexact TR30
    isplitl [P19 CR30]
    · unfold RecvTok
      isplitl [P19]; · iexact P19
      iexact CR30
    isplitl [P16 TS31 TR31]
    · unfold SendTok
      isplitl [P16]; · iexact P16
      isplitl [TS31]; · iexact TS31
      iexact TR31
    isplitl [P22 CR31]
    · unfold RecvTok
      isplitl [P22]; · iexact P22
      iexact CR31
    isplitl [TB4 L40 L41]
    · unfold BarTok
      isplitl [TB4]; · iexact TB4
      isplitl [L40]; · iapply (slot_of c 4 0); iexact L40
      iapply (slot_of c 4 1); iexact L41
    isplitl [P14 TS40 TR40]
    · unfold SendTok
      isplitl [P14]; · iexact P14
      isplitl [TS40]; · iexact TS40
      iexact TR40
    isplitl [P20 CR40]
    · unfold RecvTok
      isplitl [P20]; · iexact P20
      iexact CR40
    isplitl [P17 TS41 TR41]
    · unfold SendTok
      isplitl [P17]; · iexact P17
      isplitl [TS41]; · iexact TS41
      iexact TR41
    isplitl [P23 CR41]
    · unfold RecvTok
      isplitl [P23]; · iexact P23
      iexact CR41
    isplitl [TB5 L30 L31]
    · unfold BarTok
      isplitl [TB5]; · iexact TB5
      isplitl [L30]; · iapply (slot_of c 3 0); iexact L30
      iapply (slot_of c 3 1); iexact L31
    isplitl [P15 TS50 TR50]
    · unfold SendTok
      isplitl [P15]; · iexact P15
      isplitl [TS50]; · iexact TS50
      iexact TR50
    isplitl [P21 CR50]
    · unfold RecvTok
      isplitl [P21]; · iexact P21
      iexact CR50
    isplitl [P18 TS51 TR51]
    · unfold SendTok
      isplitl [P18]; · iexact P18
      isplitl [TS51]; · iexact TS51
      iexact TR51
    isplitl [P24 CR51]
    · unfold RecvTok
      isplitl [P24]; · iexact P24
      iexact CR51
    isplitl [PK00]
    · iexact PK00
    isplitl [PK01]
    · iexact PK01
    isplitl [PK10]
    · iexact PK10
    iexact PK11
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem done_of (a : Args F) (c : Dev nD) :
    (iprop(Done1 a c ∗ Rests a c) : sProp 𝕄) ⊢ iprop(Bufs a c ∗ Sems32 c ∗ Sems25 c ∗ Stage a c 16 ∗ Ow c 0) := by
  unfold Bufs Sems32 Sems25 Stage Done1 Rests SendDone Rcv
  iintro ⟨⟨BW, HLn, HB, K0, V0, V1, K1, V2, K2, K3, V3, K4, V4, K5, V5, K6, V6, V7, K7, K8, V8, K9, V9, K10, V10, V11, K11, V12, K12, K13, V13, K14, V14, HQ, K15, V15, ⟨RC10, ZRC10⟩, ⟨RC20, ZRC20⟩, ⟨RC00, ZRC00⟩, ⟨RC01, ZRC01⟩, ⟨RC11, ZRC11⟩, ⟨RC21, ZRC21⟩, ⟨ST31, ZST31⟩, ⟨ST41, ZST41⟩, ⟨ST51, ZST51⟩, ⟨RC30, ZRC30⟩, ⟨RC40, ZRC40⟩, ⟨RC50, ZRC50⟩, ⟨RC31, ZRC31⟩, ⟨RC41, ZRC41⟩, ⟨RC51, ZRC51⟩, OUT0, ⟨ST00, ZST00⟩, ⟨ST10, ZST10⟩, ⟨ST20, ZST20⟩, ⟨ST01, ZST01⟩, ⟨ST11, ZST11⟩, ⟨ST21, ZST21⟩, HO, ⟨ST30, ZST30⟩, ⟨ST40, ZST40⟩, ⟨ST50, ZST50⟩⟩, R0, R1, R2, R3, R4, R5, R6, R7⟩
  ihave KK := (kv_done kH kM 4 (by decide) c (a.k c)) $$ [K0 K1 K2 K3 K4 K5 K6 K7 K8 K9 K10 K11 K12 K13 K14 K15 R0 R6]
  · isplitl [K0 K1 K2 K3 K4 K5 K6 K7 K8 K9 K10 K11 K12 K13 K14 K15]
    · iapply (Entails.of_eq (fin16 _).symm)
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [K11]; · iexact K11
      isplitl [K12]; · iexact K12
      isplitl [K13]; · iexact K13
      isplitl [K14]; · iexact K14
      iexact K15
    isplitl [R0]; · iexact R0
    iexact R6
  icases KK with ⟨S0, A1, SK⟩
  ihave VV := (kv_done vH vM 20 (by decide) c (a.v c)) $$ [V0 V1 V2 V3 V4 V5 V6 V7 V8 V9 V10 V11 V12 V13 V14 V15 R1 R7]
  · isplitl [V0 V1 V2 V3 V4 V5 V6 V7 V8 V9 V10 V11 V12 V13 V14 V15]
    · iapply (Entails.of_eq (fin16 _).symm)
      isplitl [V0]; · iexact V0
      isplitl [V1]; · iexact V1
      isplitl [V2]; · iexact V2
      isplitl [V3]; · iexact V3
      isplitl [V4]; · iexact V4
      isplitl [V5]; · iexact V5
      isplitl [V6]; · iexact V6
      isplitl [V7]; · iexact V7
      isplitl [V8]; · iexact V8
      isplitl [V9]; · iexact V9
      isplitl [V10]; · iexact V10
      isplitl [V11]; · iexact V11
      isplitl [V12]; · iexact V12
      isplitl [V13]; · iexact V13
      isplitl [V14]; · iexact V14
      iexact V15
    isplitl [R1]; · iexact R1
    iexact R7
  icases VV with ⟨S1, A2, SV⟩
  ihave M00 := (shares_join (mineM 0) c (mineSet 0)) $$ [ST00 ST10 ST20]
  · isplitl [ST00]; · iapply (of_src c 0 0); iexact ST00
    isplitl [ST10]; · iapply (of_src c 1 0); iexact ST10
    iapply (of_src c 2 0); iexact ST20
  ihave M01 := (shares_join (mineM 0) c (mineSet 1)) $$ [ST01 ST11 ST21]
  · isplitl [ST01]; · iapply (of_src c 0 1); iexact ST01
    isplitl [ST11]; · iapply (of_src c 1 1); iexact ST11
    iapply (of_src c 2 1); iexact ST21
  ihave S2 := (mine_glue c 0) $$ [M00 M01 R2]
  · isplitr [R2]
    · isplitl [M00]; · iexact M00
      iexact M01
    iexact R2
  ihave M10 := (shares_join (mineM 1) c (mineSet 0)) $$ [ST30 ST40 ST50]
  · isplitl [ST30]; · iapply (of_src c 3 0); iexact ST30
    isplitl [ST40]; · iapply (of_src c 4 0); iexact ST40
    iapply (of_src c 5 0); iexact ST50
  ihave M11 := (shares_join (mineM 1) c (mineSet 1)) $$ [ST31 ST41 ST51]
  · isplitl [ST31]; · iapply (of_src c 3 1); iexact ST31
    isplitl [ST41]; · iapply (of_src c 4 1); iexact ST41
    iapply (of_src c 5 1); iexact ST51
  ihave S4 := (mine_glue c 1) $$ [M10 M11 R4]
  · isplitr [R4]
    · isplitl [M10]; · iexact M10
      iexact M11
    iexact R4
  ihave S3 := (land_glue c 0) $$ [RC00 RC01 RC10 RC11 RC20 RC21 R3]
  · isplitr [R3]
    · isplitl [RC00]; · iapply (got_any c (vals a) 0 0); iexact RC00
      isplitl [RC01]; · iapply (got_any c (vals a) 0 1); iexact RC01
      isplitl [RC10]; · iapply (got_any c (vals a) 1 0); iexact RC10
      isplitl [RC11]; · iapply (got_any c (vals a) 1 1); iexact RC11
      isplitl [RC20]; · iapply (got_any c (vals a) 2 0); iexact RC20
      iapply (got_any c (vals a) 2 1); iexact RC21
    iexact R3
  ihave S5 := (land_glue c 1) $$ [RC30 RC31 RC40 RC41 RC50 RC51 R5]
  · isplitr [R5]
    · isplitl [RC30]; · iapply (got_any c (vals a) 3 0); iexact RC30
      isplitl [RC31]; · iapply (got_any c (vals a) 3 1); iexact RC31
      isplitl [RC40]; · iapply (got_any c (vals a) 4 0); iexact RC40
      isplitl [RC41]; · iapply (got_any c (vals a) 4 1); iexact RC41
      isplitl [RC50]; · iapply (got_any c (vals a) 5 0); iexact RC50
      iapply (got_any c (vals a) 5 1); iexact RC51
    iexact R5
  isplitl [S0 S1 S2 S3 S4 S5 A1 A2]
  · isplitl [S0]; · iexact S0
    isplitl [S1]; · iexact S1
    isplitl [S2]; · iexact S2
    isplitl [S3]; · iexact S3
    isplitl [S4]; · iexact S4
    isplitl [S5]; · iexact S5
    isplitl [A1]; · iexact A1
    iexact A2
  isplitl [SK SV]
  · isplitl [SK]; · iexact SK
    iexact SV
  isplitl [BW ZST00 ZST10 ZST20 ZST01 ZST11 ZST21 ZRC00 ZRC10 ZRC20 ZRC01 ZRC11 ZRC21 ZST30 ZST40 ZST50 ZST31 ZST41 ZST51 ZRC30 ZRC40 ZRC50 ZRC31 ZRC41 ZRC51]
  · iapply (Entails.of_eq (fin25 _).symm)
    isplitl [BW]; · iexact BW
    isplitl [ZST00]; · iexact ZST00
    isplitl [ZST10]; · iexact ZST10
    isplitl [ZST20]; · iexact ZST20
    isplitl [ZST01]; · iexact ZST01
    isplitl [ZST11]; · iexact ZST11
    isplitl [ZST21]; · iexact ZST21
    isplitl [ZRC00]; · iexact ZRC00
    isplitl [ZRC10]; · iexact ZRC10
    isplitl [ZRC20]; · iexact ZRC20
    isplitl [ZRC01]; · iexact ZRC01
    isplitl [ZRC11]; · iexact ZRC11
    isplitl [ZRC21]; · iexact ZRC21
    isplitl [ZST30]; · iexact ZST30
    isplitl [ZST40]; · iexact ZST40
    isplitl [ZST50]; · iexact ZST50
    isplitl [ZST31]; · iexact ZST31
    isplitl [ZST41]; · iexact ZST41
    isplitl [ZST51]; · iexact ZST51
    isplitl [ZRC30]; · iexact ZRC30
    isplitl [ZRC40]; · iexact ZRC40
    isplitl [ZRC50]; · iexact ZRC50
    isplitl [ZRC31]; · iexact ZRC31
    isplitl [ZRC41]; · iexact ZRC41
    iexact ZRC51
  isplitr [HO]
  · isplitl [HQ]; · iexact HQ
    isplitl [HB]; · iexact HB
    isplitl [HLn]; · iexact HLn
    iexact OUT0
  iexact HO

end Cert.KernelIdealPf

end
-- ==== Proof.ILaunch.lean ====
/-
The launch: what each device is dealt, what it owes, and the run of the whole mesh from any memory.
-/
module

public import proofs.«01_k».proof.Proof.IEnds
public import proofs.«01_k».proof.Proof.Gen.KernelIdeal.Frame
public import Idealize.ShloMosaic.Lib.Pipeline.CollectiveSegs

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window's staged block. -/
def argsOf : Args F where
  q c := (win0_0.blk t0_0).view.read (Elt F) (m ((c : Thread nD τ).loc main_arg0))
  k c := m ((c : Thread nD τ).loc main_arg1)
  v c := m ((c : Thread nD τ).loc main_arg2)
  bt c := (win0_1.blk t0_0).view.read (Elt F) (m ((c : Thread nD τ).loc main_arg3))
  len c := (win0_2.blk t0_0).view.read (Elt F) (m ((c : Thread nD τ).loc main_arg4))

/-- The result a device writes. -/
def outBuf (a : Args F) (c : Dev nD) : Vec F S32x1x16x128 .f32 := fun i => xOut a c (i 2) (ix4 (i 0) 0 0 (i 3))
theorem outBuf_of (a : Args F) (c : Dev nD) (t : Vec F S32x1x16x128 .f32) (h : OutP (xOut a c) 16 t) : t = outBuf a c := by
  funext i
  obtain ⟨x, y, z, w, rfl⟩ : ∃ x y z w, i = ix4 x y z w := ⟨i 0, i 1, i 2, i 3, eq_ix4 i⟩
  have hy : y = 0 := Fin.ext (by have := y.isLt; show y.val = 0; change y.val < 1 at this; omega)
  subst hy
  exact h z x w z.isLt

/-! ## The kernel's own semaphores -/

def osem : Fin 56 → SemLoc sig := fun i => .dma (dmaAt ⟨4 + i.val, by omega⟩)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSep Finset.univ fun i : Fin 56 => semVal ((c : Thread nD τ), osem i) 0 := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55] (by decide) (by decide), fin56]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) : (iprop(Pipeline.ownSems0 (Ix := Unit) (Name := ℕ) (U := UU) (Lvl := ℕ) (Val := Elt F) (τ := τ) osem c ∗ unscopedSems0 c) : sProp 𝕄)
    ⊢ iprop(Sems32 c ∗ Sems25 c) := by
  rw [ownSems0_eq, unscopedSems0_eq, fin56]
  unfold Sems32 Sems25
  rw [fin16, fin16, fin25]
  iintro ⟨⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44, S45, S46, S47, S48, S49, S50, S51, S52, S53, S54, S55⟩, B⟩
  isplitr [B S32 S33 S34 S35 S36 S37 S38 S39 S40 S41 S42 S43 S44 S45 S46 S47 S48 S49 S50 S51 S52 S53 S54 S55]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact S31
  isplitl [B]; · iexact B
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  iexact S55
theorem sems_join (c : Dev nD) : (iprop(Sems32 c ∗ Sems25 c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, fin56]
  unfold Sems32 Sems25
  rw [fin16, fin16, fin25]
  iintro ⟨⟨⟨S0, S1, S2, S3, S4, S5, S6, S7, S8, S9, S10, S11, S12, S13, S14, S15⟩, S16, S17, S18, S19, S20, S21, S22, S23, S24, S25, S26, S27, S28, S29, S30, S31⟩, B, S32, S33, S34, S35, S36, S37, S38, S39, S40, S41, S42, S43, S44, S45, S46, S47, S48, S49, S50, S51, S52, S53, S54, S55⟩
  isplitl [B]; · iexact B
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [S40]; · iexact S40
  isplitl [S41]; · iexact S41
  isplitl [S42]; · iexact S42
  isplitl [S43]; · iexact S43
  isplitl [S44]; · iexact S44
  isplitl [S45]; · iexact S45
  isplitl [S46]; · iexact S46
  isplitl [S47]; · iexact S47
  isplitl [S48]; · iexact S48
  isplitl [S49]; · iexact S49
  isplitl [S50]; · iexact S50
  isplitl [S51]; · iexact S51
  isplitl [S52]; · iexact S52
  isplitl [S53]; · iexact S53
  isplitl [S54]; · iexact S54
  iexact S55

/-! ## The exchange's cells and duties -/

theorem csem_inj : Function.Injective csem := by decide
theorem kcell_inj : Function.Injective kcell := by
  rintro ⟨c, k⟩ ⟨c', k'⟩ h
  have h1 : c = c' := congrArg (fun g : GSem nD τ sig => g.1.1) h
  subst h1
  have h2 : k = k' := csem_inj (congrArg Prod.snd h)
  subst h2; rfl
def exCells : Finset (GSem nD τ sig) := Finset.univ.map ⟨kcell, kcell_inj⟩

def tokCell (j : Fin 30) : Fin 25 := if h : j.val < 6 then 0 else ⟨j.val - 5, by omega⟩
def tokDuty (j : Fin 30) : Fin 6 := if h : j.val < 6 then ⟨j.val, h⟩ else 0
theorem tok_inj : ∀ j j' : Fin 30, tokCell j = tokCell j' → tokDuty j = tokDuty j' → j = j' := by decide
def tokOf (cj : Dev nD × Fin 30) : GSem nD τ sig × ℕ × Fin 6 := (kcell (cj.1, tokCell cj.2), 0, tokDuty cj.2)
theorem tokOf_inj : Function.Injective tokOf := by
  rintro ⟨c, j⟩ ⟨c', j'⟩ h
  have h1 := kcell_inj (congrArg Prod.fst h)
  have h2 : tokDuty j = tokDuty j' := congrArg (fun x : GSem nD τ sig × ℕ × Fin 6 => x.2.2) h
  have h3 : c = c' := congrArg Prod.fst h1
  have h4 : j = j' := tok_inj j j' (congrArg Prod.snd h1) h2
  subst h3 h4; rfl
def exToks : Finset (GSem nD τ sig × ℕ × Fin 6) := Finset.univ.map ⟨tokOf, tokOf_inj⟩

def u₀ : UU := (initOf (Pipeline.cells cfgs cellOf_inj) (Pipeline.launchToks cfgs cellOf_inj), (initOf exCells exToks, 1))

/-- The duties of a device's own cells. -/
def OwnToks (c : Dev nD) : sProp 𝕄 :=
  iprop((bigSep Finset.univ fun e : Fin 6 => dutyTok ER (barCell c) 0 e)
    ∗ (bigSep Finset.univ fun e : Fin 6 => iprop(dutyTok ER (sendCell c e 0) 0 (0 : Fin 6) ∗ dutyTok ER (sendCell c e 1) 0 (0 : Fin 6)))
    ∗ bigSep Finset.univ fun e : Fin 6 => iprop(dutyTok ER (recvCell c e 0) 0 (0 : Fin 6) ∗ dutyTok ER (recvCell c e 1) 0 (0 : Fin 6)))

theorem fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ
theorem ownToks_of (c : Dev nD) : (bigSep Finset.univ fun j : Fin 30 => (dutyTok ER (tokOf (c, j)).1 (tokOf (c, j)).2.1 (tokOf (c, j)).2.2 : sProp 𝕄)) ⊢ OwnToks c := by
  unfold OwnToks
  rw [fin30, fin6, fin6, fin6]
  iintro ⟨T0, T1, T2, T3, T4, T5, T6, T7, T8, T9, T10, T11, T12, T13, T14, T15, T16, T17, T18, T19, T20, T21, T22, T23, T24, T25, T26, T27, T28, T29⟩
  isplitl [T0 T1 T2 T3 T4 T5]
  · isplitl [T0]; · iexact T0
    isplitl [T1]; · iexact T1
    isplitl [T2]; · iexact T2
    isplitl [T3]; · iexact T3
    isplitl [T4]; · iexact T4
    iexact T5
  isplitl [T6 T9 T7 T10 T8 T11 T18 T21 T19 T22 T20 T23]
  · isplitl [T6 T9]
    · isplitl [T6]; · iexact T6
      iexact T9
    isplitl [T7 T10]
    · isplitl [T7]; · iexact T7
      iexact T10
    isplitl [T8 T11]
    · isplitl [T8]; · iexact T8
      iexact T11
    isplitl [T18 T21]
    · isplitl [T18]; · iexact T18
      iexact T21
    isplitl [T19 T22]
    · isplitl [T19]; · iexact T19
      iexact T22
    isplitl [T20]; · iexact T20
    iexact T23
  isplitl [T12 T15]
  · isplitl [T12]; · iexact T12
    iexact T15
  isplitl [T13 T16]
  · isplitl [T13]; · iexact T13
    iexact T16
  isplitl [T14 T17]
  · isplitl [T14]; · iexact T14
    iexact T17
  isplitl [T24 T27]
  · isplitl [T24]; · iexact T24
    iexact T27
  isplitl [T25 T28]
  · isplitl [T25]; · iexact T25
    iexact T28
  isplitl [T26]; · iexact T26
  iexact T29

/-- A link taken from its other end, and the device at the other end of the same link. -/
def flip : Dev nD × Fin 6 ≃ Dev nD × Fin 6 where
  toFun x := (nb x.1 x.2, opp x.2)
  invFun x := (nb x.1 x.2, opp x.2)
  left_inv x := Prod.ext (nb_opp x.1 x.2) (opp_opp x.2)
  right_inv x := Prod.ext (nb_opp x.1 x.2) (opp_opp x.2)
def along : Dev nD × Fin 6 ≃ Dev nD × Fin 6 where
  toFun x := (nb x.1 x.2, x.2)
  invFun x := (nb x.1 (opp x.2), x.2)
  left_inv x := Prod.ext (nb_opp x.1 x.2) rfl
  right_inv x := Prod.ext (nb_opp' x.1 x.2) rfl

theorem over_links (σ : Dev nD × Fin 6 ≃ Dev nD × Fin 6) (Φ : Dev nD × Fin 6 → sProp 𝕄) :
    (bigSep Finset.univ fun c : Dev nD => bigSep Finset.univ fun e : Fin 6 => Φ (c, e))
      = bigSep Finset.univ fun c : Dev nD => bigSep Finset.univ fun e : Fin 6 => Φ (σ (c, e)) := by
  rw [← bigSep_univ_prod Φ, ← bigSep_univ_prod (fun x => Φ (σ x))]
  exact bigSep_univ_equiv σ Φ

theorem toks_around : (bigSep Finset.univ fun c : Dev nD => (OwnToks c : sProp 𝕄)) ⊢ bigSep Finset.univ fun c : Dev nD => PayToks c := by
  unfold OwnToks PayToks
  rw [bigSep_sep', bigSep_sep', bigSep_sep', bigSep_sep',
    over_links flip (fun x => dutyTok ER (barCell x.1) 0 x.2),
    over_links along (fun x => iprop(dutyTok ER (recvCell x.1 x.2 0) 0 (0 : Fin 6) ∗ dutyTok ER (recvCell x.1 x.2 1) 0 (0 : Fin 6)))]
  exact Entails.rfl

variable (X : Vals F)

/-- What the launch deals a device, and what it has once the cells are open. -/
def G (c : Dev nD) : sProp 𝕄 :=
  iprop((bigSep Finset.univ fun k : Fin 25 => roundState ER (sched X) (kcell (c, k)) 0)
    ∗ (bigSep Finset.univ fun k : Fin 25 => iprop(atPos ER (kcell (c, k)) 0 ∅ 0 ∗ reached ER (kcell (c, k)) 0)) ∗ OwnToks c)
def Open : sProp 𝕄 :=
  iprop(∃ K : Dev nD × Fin 25 → ℕ, (bigSep Finset.univ fun ck => cellInv ER (sched X) (K ck) (kcell ck)) ∗ (bigSep Finset.univ fun ck => reached ER (kcell ck) 0))
instance Open_persistent : BI.Persistent (Open X) := by unfold Open; infer_instance
def G' (c : Dev nD) : sProp 𝕄 := iprop(Open X ∗ Sems32 c ∗ Poss c ∗ PayToks c)

theorem fund : BI.own (ER (initOf exCells exToks)) ⊢ (|==> bigSep Finset.univ (G X) : sProp 𝕄) := by
  have hX (Φ : GSem nD τ sig → sProp 𝕄) : bigSep exCells Φ = bigSep Finset.univ fun c : Dev nD => bigSep Finset.univ fun k : Fin 25 => Φ (kcell (c, k)) := by
    unfold exCells; rw [bigSep_map, bigSep_univ_prod]; rfl
  have hT : bigSep exToks (fun x => (dutyTok ER x.1 x.2.1 x.2.2 : sProp 𝕄)) ⊢ bigSep Finset.univ fun c : Dev nD => OwnToks c := by
    unfold exToks; rw [bigSep_map, bigSep_univ_prod]
    exact bs_mono fun c => ownToks_of c
  iintro HX
  imod (Rounds.fund ER (sched X) exCells exToks) $$ HX with ⟨Hst, Hr, Hat, Htok⟩
  imodintro
  ihave Hst := (Entails.of_eq (hX fun g => roundState ER (sched X) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop(Sems32 c ∗ (bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ OwnToks c) := by
  unfold G
  iintro ⟨Hos, Hus, Hst, Hat, Htok⟩
  ihave Hv := (sems_split (F := F) c) $$ [Hos Hus]
  · isplitl [Hos]; · iexact Hos
    iexact Hus
  unfold Sems25
  icases Hv with ⟨H32, Hv⟩
  imod (show iprop((bigSep Finset.univ fun k : Fin 25 => semVal (kcell (c, k)) 0) ∗ bigSep Finset.univ fun k : Fin 25 => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv]; · iexact Hv
    iexact Hst
  imodintro
  isplitl [H32]; · iexact H32
  isplitl [Hinv]; · iexact Hinv
  isplitl [Hat]; · iexact Hat
  iexact Htok

theorem regroup :
    (bigSep Finset.univ fun c : Dev nD => iprop(Sems32 c ∗ (bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ OwnToks c) : sProp 𝕄)
      ⊢ bigSep Finset.univ (G' X) := by
  rw [bigSep_sep', bigSep_sep', bigSep_sep', ← bigSep_univ_prod (fun ck : Dev nD × Fin 25 => iprop(∃ κ : ℕ, cellInv ER (sched X) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  have hG : bigSep Finset.univ (G' X) = (iprop((bigSep Finset.univ fun _ : Dev nD => Open X) ∗ (bigSep Finset.univ fun c : Dev nD => Sems32 c)
      ∗ (bigSep Finset.univ fun c : Dev nD => Poss c) ∗ bigSep Finset.univ fun c : Dev nD => PayToks c) : sProp 𝕄) := by
    rw [← bigSep_sep', ← bigSep_sep', ← bigSep_sep']; rfl
  rw [hG]
  iintro ⟨H32, HI, ⟨Hat, #HR⟩, Htok⟩
  ihave HK := (BI.bigSep_exists_pi Finset.univ (fun (ck : Dev nD × Fin 25) (κ : ℕ) => (cellInv ER (sched X) κ (kcell ck) : sProp 𝕄))) $$ HI
  icases HK with ⟨%K, #HI⟩
  ihave Htk := (toks_around (F := F)) $$ Htok
  isplitr
  · iapply (BI.bigSep_of_persistent Finset.univ (Open X))
    unfold Open
    iexists K
    isplitl; · iexact HI
    iexact HR
  isplitl [H32]; · iexact H32
  isplitl [Hat]; · unfold Poss; iexact Hat
  iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## What the devices owe -/

def O₀ (c : Dev nD) : CellTallies nD τ sig Unit := owe c 18

theorem owe_at (d : Dev nD) (g : GSem nD τ sig) : ∀ n, owe d n g () = ∑ k ∈ Finset.range n, if g = talCell d k then talAmt k else 0
  | 0 => rfl
  | n + 1 => by
    unfold owe
    rw [Pi.add_apply, Finsupp.add_apply, owe_at d g n, Finset.sum_range_succ, tallyAt_apply]
    congr 1
    by_cases h : g = talCell d n
    · rw [if_pos ⟨h, rfl⟩, if_pos h]
    · rw [if_neg fun h' => h h'.1, if_neg h]
theorem tal_iff (c d : Dev nD) (sm : SemLoc sig) (k : ℕ) : ((c : Thread nD τ), sm) = talCell d k ↔ sm = talSem k ∧ d = nb c (opp (talLink k)) := by
  constructor
  · intro h
    have h1 : c = nb d (talLink k) := congrArg (fun g : GSem nD τ sig => g.1.1) h
    refine ⟨congrArg Prod.snd h, ?_⟩
    rw [h1, nb_opp]
  · rintro ⟨h1, h2⟩
    subst h1 h2
    unfold talCell
    rw [nb_opp']
theorem owed (c : Dev nD) (sm : SemLoc sig) : ∑ d : Dev nD, O₀ d ((c : Thread nD τ), sm) () = ∑ k : Fin 18, if sm = talSem k.val then talAmt k.val else 0 := by
  have h (d : Dev nD) : O₀ d ((c : Thread nD τ), sm) () = ∑ k : Fin 18, if d = nb c (opp (talLink k.val)) then (if sm = talSem k.val then talAmt k.val else 0) else 0 := by
    unfold O₀
    rw [owe_at, Finset.sum_range]
    refine Finset.sum_congr rfl fun k _ => ?_
    by_cases h1 : sm = talSem k.val <;> by_cases h2 : d = nb c (opp (talLink k.val))
    · rw [if_pos ((tal_iff c d sm k.val).mpr ⟨h1, h2⟩), if_pos h2, if_pos h1]
    · rw [if_neg fun h => h2 ((tal_iff c d sm k.val).mp h).2, if_neg h2]
    · rw [if_neg fun h => h1 ((tal_iff c d sm k.val).mp h).1, if_pos h2, if_neg h1]
    · rw [if_neg fun h => h2 ((tal_iff c d sm k.val).mp h).2, if_neg h2]
  rw [Finset.sum_congr rfl fun d _ => h d, Finset.sum_comm]
  refine Finset.sum_congr rfl fun k _ => ?_
  rw [Finset.sum_ite_eq' Finset.univ (nb c (opp (talLink k.val))), if_pos (Finset.mem_univ _)]

theorem bar_tal : ∀ k : Fin 18, (.reg barS : SemLoc sig) = talSem k.val ↔ 12 ≤ k.val := by decide
def talOf (e : Fin 6) (g : Fin 2) : Fin 18 := if e.val < 3 then ⟨11 - (3 * g.val + e.val), by omega⟩ else ⟨5 - (3 * g.val + (e.val - 3)), by omega⟩
theorem recv_tal : ∀ (e : Fin 6) (g : Fin 2) (k : Fin 18), recvS e g = talSem k.val ↔ k = talOf e g := by decide
theorem talOf_lt : ∀ (e : Fin 6) (g : Fin 2), ¬ 12 ≤ (talOf e g).val := by decide

theorem owed_bar (c : Dev nD) : ∑ d : Dev nD, O₀ d (barCell c) () = 6 := by
  rw [owed]
  have h (k : Fin 18) : (if (.reg barS : SemLoc sig) = talSem k.val then talAmt k.val else 0) = if 12 ≤ k.val then 1 else 0 := by
    by_cases hk : 12 ≤ k.val
    · rw [if_pos ((bar_tal k).mpr hk), if_pos hk]; unfold talAmt; rw [if_pos hk]
    · rw [if_neg fun h => hk ((bar_tal k).mp h), if_neg hk]
  rw [Finset.sum_congr rfl fun k _ => h k]
  decide
theorem owed_recv (c : Dev nD) (e : Fin 6) (g : Fin 2) : ∑ d : Dev nD, O₀ d (recvCell c e g) () = N := by
  rw [owed]
  rw [Finset.sum_eq_single (talOf e g) (fun k _ hk => if_neg fun h => hk ((recv_tal e g k).mp h)) (fun h => absurd (Finset.mem_univ _) h),
    if_pos ((recv_tal e g _).mpr rfl)]
  unfold talAmt; rw [if_neg (talOf_lt e g)]

theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ Creds c := by
  have h25 : (Pipeline.launchCred O₀ c : sProp 𝕄) ⊢ bigSep Finset.univ fun k : Fin 25 =>
      cred (tallyOn ((c : Thread nD τ), csem k) (launchCredit (Pipeline.owing O₀) 0 ((c : Thread nD τ), csem k))) := by
    unfold Pipeline.launchCred
    have h := bigSep_map (s := Finset.univ) (⟨csem, csem_inj⟩ : Fin 25 ↪ SemLoc sig)
      (Φ := fun sm : SemLoc sig => (cred (tallyOn ((c : Thread nD τ), sm) (launchCredit (Pipeline.owing O₀) 0 ((c : Thread nD τ), sm))) : sProp 𝕄))
    exact (bigSep_subset (Finset.subset_univ (Finset.univ.map ⟨csem, csem_inj⟩))).trans (show _ ⊢ _ from Entails.of_eq h)
  have hr (e : Fin 6) (g : Fin 2) : (cred (tallyOn ((c : Thread nD τ), csem (rIdx e g)) (launchCredit (Pipeline.owing O₀) 0 ((c : Thread nD τ), csem (rIdx e g)))) : sProp 𝕄)
      ⊢ cred (tallyAt (recvCell c e g) () N) := by
    rw [csem_recv]
    exact Entails.of_eq (congrArg cred (launch_at c _ N (owed_recv c e g)))
  have hb : (cred (tallyOn ((c : Thread nD τ), csem 0) (launchCredit (Pipeline.owing O₀) 0 ((c : Thread nD τ), csem 0))) : sProp 𝕄)
      ⊢ cred (tallyAt (barCell c) () 6) := Entails.of_eq (congrArg cred (launch_at c _ 6 (owed_bar c)))
  unfold Creds
  rw [fin6]
  iintro H
  ihave H := h25 $$ H
  ihave H := (Entails.of_eq (fin25 _)) $$ H
  icases H with ⟨P0, P1, P2, P3, P4, P5, P6, P7, P8, P9, P10, P11, P12, P13, P14, P15, P16, P17, P18, P19, P20, P21, P22, P23, P24⟩
  isplitl [P0]; · iapply hb; iexact P0
  isplitl [P7 P10]
  · isplitl [P7]; · iapply (hr 0 0); iexact P7
    iapply (hr 0 1); iexact P10
  isplitl [P8 P11]
  · isplitl [P8]; · iapply (hr 1 0); iexact P8
    iapply (hr 1 1); iexact P11
  isplitl [P9 P12]
  · isplitl [P9]; · iapply (hr 2 0); iexact P9
    iapply (hr 2 1); iexact P12
  isplitl [P19 P22]
  · isplitl [P19]; · iapply (hr 3 0); iexact P19
    iapply (hr 3 1); iexact P22
  isplitl [P20 P23]
  · isplitl [P20]; · iapply (hr 4 0); iexact P20
    iapply (hr 4 1); iexact P23
  isplitl [P21]; · iapply (hr 5 0); iexact P21
  iapply (hr 5 1); iexact P24

/-! ## The region's proof data -/

def Φ₀ (a : Args F) (c : Dev nD) : sProp 𝕄 := iprop(Rec (vals a) ∗ Bufs a c ∗ Sems32 c ∗ PayToks c ∗ Poss c ∗ Creds c)
def Φ₁ (a : Args F) (c : Dev nD) : sProp 𝕄 := iprop(Bufs a c ∗ Sems32 c ∗ Sems25 c)

abbrev s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).q c
    | ⟨1, _⟩ => (argsOf m).bt c
    | ⟨2, _⟩ => (argsOf m).len c
    | ⟨3, _⟩ => outBuf (argsOf m) c
  Φ t := match t with
    | ⟨0, _⟩ => Φ₀ (argsOf m) c
    | ⟨_ + 1, _⟩ => Φ₁ (argsOf m) c
  q _ := fullShare
  owed t := match t with
    | ⟨0, _⟩ => O₀ c
    | ⟨_ + 1, _⟩ => 0

theorem fetch_0 (t : Fin cfg0.N) : (cfg0.win (0 : Fin 4)).fetch t = true := by rw [show t = t0_0 from fin_N0 t]; rfl
theorem fetch_1 (t : Fin cfg0.N) : (cfg0.win (1 : Fin 4)).fetch t = true := by rw [show t = t0_0 from fin_N0 t]; rfl
theorem fetch_2 (t : Fin cfg0.N) : (cfg0.win (2 : Fin 4)).fetch t = true := by rw [show t = t0_0 from fin_N0 t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev held (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ (argsOf m) c ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def bodyPost (c : Dev nD) : sProp 𝕄 :=
  iprop(Φ₁ (argsOf m) c ∗ (dats m ρ 0 c).owesAt () t0_0.succ ∗ held c cc0_stg0_0 ((argsOf m).q c) ∗ held c cc0_stg1_0 ((argsOf m).bt c)
    ∗ held c cc0_stg2_0 ((argsOf m).len c) ∗ held c cc0_stg3_0 (outBuf (argsOf m) c))

theorem stage_in (a : Args F) (c : Dev nD) (g3 : Buf (Elt F) (((c : Dev nD) : Thread nD τ).loc cc0_stg3_0)) :
    (iprop((((c : Thread nD τ).loc cc0_stg0_0) ↦{fullShare} a.q c) ∗ (((c : Thread nD τ).loc cc0_stg1_0) ↦{fullShare} a.bt c)
      ∗ (((c : Thread nD τ).loc cc0_stg2_0) ↦{fullShare} a.len c) ∗ (((c : Thread nD τ).loc cc0_stg3_0) ↦{fullShare} g3)) : sProp 𝕄) ⊢ Stage a c 0 := by
  unfold Stage OutH
  iintro ⟨H0, H1, H2, H3⟩
  isplitl [H0]; · iapply (whole_held c qM (View.set_whole _) (a.q c) _ (View.read_whole _ _)); iexact H0
  isplitl [H1]; · iapply (whole_held c btM (View.set_whole _) (a.bt c) _ (View.read_whole _ _)); iexact H1
  isplitl [H2]; · iapply (whole_held c lenM (View.set_whole _) (a.len c) _ (View.read_whole _ _)); iexact H2
  iapply (whole_held c outM (View.set_whole _) g3 _ (fun h _ _ hh => absurd hh (Nat.not_lt_zero _))); iexact H3

theorem stage_out (a : Args F) (c : Dev nD) : (Stage a c 16 : sProp 𝕄)
    ⊢ iprop(held c cc0_stg0_0 (a.q c) ∗ held c cc0_stg1_0 (a.bt c) ∗ held c cc0_stg2_0 (a.len c) ∗ held c cc0_stg3_0 (outBuf a c)) := by
  unfold Stage OutH
  iintro ⟨H0, H1, H2, H3⟩
  ihave H0 := (held_whole c qM (View.set_whole _) _) $$ H0
  ihave H1 := (held_whole c btM (View.set_whole _) _) $$ H1
  ihave H2 := (held_whole c lenM (View.set_whole _) _) $$ H2
  ihave H3 := (held_whole c outM (View.set_whole _) _) $$ H3
  icases H0 with ⟨%g0, %h0, H0⟩
  icases H1 with ⟨%g1, %h1, H1⟩
  icases H2 with ⟨%g2, %h2, H2⟩
  icases H3 with ⟨%g3, %h3, H3⟩
  isplitl [H0]
  · iexists g0; isplitr; · ipureintro; exact (View.read_whole _ _).symm.trans h0
    iexact H0
  isplitl [H1]
  · iexists g1; isplitr; · ipureintro; exact (View.read_whole _ _).symm.trans h1
    iexact H1
  isplitl [H2]
  · iexists g2; isplitr; · ipureintro; exact (View.read_whole _ _).symm.trans h2
    iexact H2
  iexists g3; isplitr; · ipureintro; exact (View.read_whole _ _).symm.trans (outBuf_of a c _ h3)
  iexact H3

theorem sound_body (c : Dev nD) : bodyPre m ρ c ⊢ WP c (cc0_body qM (Memref.isWhole_whole _) kH (Memref.isWhole_whole _) vH (Memref.isWhole_whole _) btM (Memref.isWhole_whole _) lenM (Memref.isWhole_whole _) outM (Memref.isWhole_whole _) kM (Memref.isWhole_whole _) vM (Memref.isWhole_whole _) m1M (Memref.isWhole_whole _) r1M (Memref.isWhole_whole _) m2M (Memref.isWhole_whole _) r2M (Memref.isWhole_whole _) cc0_scratch6 cc0_scratch7 cc0_scratch8 cc0_scratch9 cc0_scratch10 cc0_scratch11) (fun _ => bodyPost m ρ c) := by
  unfold bodyPre
  iintro ⟨HΦ, Ho, ⟨%d0, %g0, %hg0, H0⟩, ⟨%d1, %g1, %hg1, H1⟩, ⟨%d2, %g2, %hg2, H2⟩, ⟨%d3, %g3, %hg3, H3⟩⟩
  have e0 : g0 = (argsOf m).q c := by rw [hg0]; unfold Dat.before; rw [if_pos (fetch_0 t0_0)]; rfl
  have e1 : g1 = (argsOf m).bt c := by rw [hg1]; unfold Dat.before; rw [if_pos (fetch_1 t0_0)]; rfl
  have e2 : g2 = (argsOf m).len c := by rw [hg2]; unfold Dat.before; rw [if_pos (fetch_2 t0_0)]; rfl
  subst e0 e1 e2
  unfold Dat.owesAt Pipeline.owesWithin
  icases Ho with ⟨%W, %hW, HO⟩
  unfold Φ₀
  icases HΦ with ⟨#HR, HBf, H32, HT, HP, HC⟩
  ihave HSt := (stage_in (argsOf m) c g3) $$ [H0 H1 H2 H3]
  · isplitl [H0]; · iexact H0
    isplitl [H1]; · iexact H1
    isplitl [H2]; · iexact H2
    iexact H3
  ihave HS := (start_of (argsOf m) c) $$ [HBf H32 HT HP HC HSt HO]
  · isplitl [HBf]; · iexact HBf
    isplitl [H32]; · iexact H32
    isplitl [HT]; · iexact HT
    isplitl [HP]; · iexact HP
    isplitl [HC]; · iexact HC
    isplitl [HSt]; · iexact HSt
    unfold Ow
    iexists W
    iexact HO
  icases HS with ⟨HS, HRs⟩
  iapply (body_run (argsOf m) c) $$ [HR] HS
  · iexact HR
  iintro HD
  ihave HE := (done_of (argsOf m) c) $$ [HD HRs]
  · isplitl [HD]; · iexact HD
    iexact HRs
  icases HE with ⟨HBf, H32, H25, HSt, HO⟩
  unfold bodyPost Φ₁ Dat.owesAt Pipeline.owesWithin Ow
  icases HO with ⟨%W', HO⟩
  isplitl [HBf H32 H25]
  · isplitl [HBf]; · iexact HBf
    isplitl [H32]; · iexact H32
    iexact H25
  isplitl [HO]
  · iexists W'
    isplitr; · ipureintro; exact fun _ _ => Or.inl trivial
    iexact HO
  iapply (stage_out (argsOf m) c)
  iexact HSt

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 16384 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (vals (argsOf m)) c)
      ⊢ |={Set.univ}=> iprop((Rec (vals (argsOf m)) ∗ Sems32 c ∗ PayToks c ∗ Poss c ∗ Creds c
          ∗ (kH.view.loc (c : Thread nD τ) ↦{fullShare} (argsOf m).k c) ∗ (vH.view.loc (c : Thread nD τ) ↦{fullShare} (argsOf m).v c)) ∗ emp) := by
  unfold G' Open Rec
  iintro ⟨HU, #Hlev, Hcr, -, ⟨%K, #HI, #HR⟩, H32, HP, HT⟩
  ihave HC := (creds (F := F) c) $$ Hcr
  ihave HU := (Entails.of_eq (show _ = iprop((((c : Thread nD τ).loc main_arg1) ↦{fullShare} m ((c : Thread nD τ).loc main_arg1)) ∗ (((c : Thread nD τ).loc main_arg2) ↦{fullShare} m ((c : Thread nD τ).loc main_arg2))) from Pipeline.unscopedRestP_eq_of_list cfg0.spec c Pipeline.Prefetch.none (fun b => m ((c : Thread nD τ).loc b)) [main_arg1, main_arg2] (by decide) (by decide))) $$ HU
  icases HU with ⟨H1, H2⟩
  imodintro
  isplitl
  · isplitr
    · iexists K
      isplitr; · iexact HI
      isplitr; · iexact HR
      iexact Hlev
    isplitl [H32]; · iexact H32
    isplitl [HT]; · iexact HT
    isplitl [HP]; · iexact HP
    isplitl [HC]; · iexact HC
    isplitl [H1]; · iexact H1
    iexact H2
  · iempintro

theorem phi0_intro (c : Dev nD) :
    iprop((Rec (vals (argsOf m)) ∗ Sems32 c ∗ PayToks c ∗ Poss c ∗ Creds c
          ∗ (kH.view.loc (c : Thread nD τ) ↦{fullShare} (argsOf m).k c) ∗ (vH.view.loc (c : Thread nD τ) ↦{fullShare} (argsOf m).v c))
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (argsOf m) c from rfl, scopedRest0_eq]
  unfold Φ₀ Bufs
  iintro ⟨⟨HR, H32, HT, HP, HC, H1, H2⟩, -, S0, S1, S2, S3, S4, S5⟩
  isplitl [HR]; · iexact HR
  isplitl [S0 S1 S2 S3 S4 S5 H1 H2]
  · isplitl [S0]; · iexact S0
    isplitl [S1]; · iexact S1
    isplitl [S2]; · iexact S2
    isplitl [S3]; · iexact S3
    isplitl [S4]; · iexact S4
    isplitl [S5]; · iexact S5
    isplitl [H1]; · iexact H1
    iexact H2
  isplitl [H32]; · iexact H32
  isplitl [HT]; · iexact HT
  isplitl [HP]; · iexact HP
  iexact HC

/-- What a device keeps of the region at its end. -/
def Kept (c : Dev nD) : sProp 𝕄 :=
  iprop(unscopedSems0 c ∗ (((c : Thread nD τ).loc main_arg1) ↦{fullShare} m ((c : Thread nD τ).loc main_arg1))
    ∗ (((c : Thread nD τ).loc main_arg2) ↦{fullShare} m ((c : Thread nD τ).loc main_arg2)))

theorem phi1_exit (c : Dev nD) :
    (dats m ρ 0 c).Φ (Fin.last cfg0.N) ⊢ iprop(Kept m c ∗ Pipeline.ownSems0 osem c ∗ Pipeline.scopedRest cfg0.spec c) := by
  rw [show (dats m ρ 0 c).Φ (Fin.last cfg0.N) = Φ₁ (argsOf m) c from rfl, scopedRest0_eq]
  unfold Φ₁ Bufs Kept
  iintro ⟨⟨S0, S1, S2, S3, S4, S5, H1, H2⟩, H32, H25⟩
  ihave HS := (sems_join (F := F) c) $$ [H32 H25]
  · isplitl [H32]; · iexact H32
    iexact H25
  icases HS with ⟨HU, HOs⟩
  isplitl [HU H1 H2]
  · isplitl [HU]; · iexact HU
    isplitl [H1]; · iexact H1
    iexact H2
  isplitl [HOs]; · iexact HOs
  isplitl [S0]; · iexact S0
  isplitl [S1]; · iexact S1
  isplitl [S2]; · iexact S2
  isplitl [S3]; · iexact S3
  isplitl [S4]; · iexact S4
  iexact S5

theorem stage_lv : ∀ (w : Fin cfg0.W) (s : Fin (cfg0.win w).nbuf), ∀ k < 18, semLv (.dma ((cfg0.win w).sem s)) < semLv (talSem k) := by
  intro w s k hk
  have h : semLv (.dma ((cfg0.win w).sem s)) = 0 := by fin_cases w <;> fin_cases s <;> rfl
  rw [h]
  revert k; decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait c _ 18 (stage_lv w s)
    · exact mayWait c _ 0 fun k hk => absurd hk (Nat.not_lt_zero k)

set_option maxRecDepth 16384 in
/-- From any memory with zero counters every weakly fair run of the mesh ends, and then each device's windowed arrays hold
    what the data say, its blocks of keys and values are unchanged, and every counter is zero. -/
theorem run_main : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (vals (argsOf m))) (G' := G' (vals (argsOf m))) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (show (BI.own (((Emb.inl : Emb UB (UB × Counters)).trans (embR : Emb (UB × Counters) 𝕄)) (initOf exCells exToks)) : sProp 𝕄) ⊢ BI.own (ER (initOf exCells exToks)) from Entails.rfl) $$ HX
      imod (fund (vals (argsOf m))) $$ HX with HG
      imodintro
      isplitl [HP]; · iexact HP
      iexact HG)
    (hglob := glob (vals (argsOf m)))
    (hA := fun _ _ => rfl) (hpf := fun _ k => k.elim0)
    (X := fun c => iprop(Rec (vals (argsOf m)) ∗ Sems32 c ∗ PayToks c ∗ Poss c ∗ Creds c
          ∗ (kH.view.loc (c : Thread nD τ) ↦{fullShare} (argsOf m).k c) ∗ (vH.view.loc (c : Thread nD τ) ↦{fullShare} (argsOf m).v c)))
    (Y := Kept m) (Z := fun _ => iprop(emp))
    (hX := start_intro m ρ) (hin := phi0_intro m ρ) (hout := phi1_exit m ρ)
    (QY := fun c s => (s.mem ((c : Thread nD τ).loc main_arg1) = m ((c : Thread nD τ).loc main_arg1)
      ∧ s.mem ((c : Thread nD τ).loc main_arg2) = m ((c : Thread nD τ).loc main_arg2))
      ∧ ∀ sm : SemLoc sig, sm.isScoped .tc = false → s.sem ((c.tc : Thread nD τ), sm) = 0)
    (hY := fun c s' => by
      unfold Kept
      iintro ⟨⟨Hu, H1, H2⟩, -, HSI⟩
      icombine HSI H1 gives %h1
      icombine HSI H2 gives %h2
      have e1 := Buf.eq_of_forall_mem_univ h1
      have e2 := Buf.eq_of_forall_mem_univ h2
      ihave H := (Pipeline.unscopedSems0_read (X := unscopedSems0 c) (c := c) fupd_intro s') $$ [Hu HSI]
      · isplitl [Hu]; · iexact Hu
        iexact HSI
      imod H with ⟨%hs, HSI⟩
      imodintro
      isplitr
      · ipureintro; exact ⟨⟨e1, e2⟩, hs⟩
      iexact HSI)
    (hQ := fun _ h hs => ⟨fun c => ⟨fun w => (h c).1 w, (h c).2.2.1⟩, sem_eq_zero hs fun c => (h c).2.2.2⟩)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans ((dats m ρ 0 c).arrAt_in 0 rfl _), (h.1 c).2.1, (h.1 c).2.2,
    ((h.1 c).1 1).trans ((dats m ρ 0 c).arrAt_in 1 rfl _), ((h.1 c).1 2).trans ((dats m ρ 0 c).arrAt_in 2 rfl _)⟩, h.2⟩) (run_main m ρ)

end Cert.KernelIdealPf

end
-- ==== Proof.VMath.lean ====
/-
Partial softmaxes over the extended reals: what one device, or several together, hold of one head's attention, and how
two stages of merging keep it.
-/
module

public import Idealize.ShloMosaic.PureOps.Ideal
public import Idealize.ShloMosaic.PureOps.Ideal.Laws
public import Idealize.ShloMosaic.Lib.Pointwise

@[expose] public section

noncomputable section

namespace Cert.KernelIdealPf

open Idealize.ShloMosaic

/-- A maximum `m`, a denominator `l` and a row `acc` that hold the weight `w` and the weighted row `X`, both scaled down by
    the exponential of the maximum. -/
def Part {D : Type} (w : ℝ) (X : D → EReal) (m l : EReal) (acc : D → EReal) : Prop :=
  ∃ μ : ℝ, m = ↑μ ∧ l = ↑(Real.exp (-μ) * w) ∧ ∀ d, acc d = ↑(Real.exp (-μ)) * X d

theorem exp_coe (x : ℝ) : Ideal.exp (x : EReal) = ((Real.exp x : ℝ) : EReal) := by
  rfl

theorem scaled (X : EReal) (μ M : ℝ) :
    (((Real.exp (-μ) : ℝ) : EReal) * X) * ((Real.exp (μ - M) : ℝ) : EReal) = ((Real.exp (-M) : ℝ) : EReal) * X := by
  rw [mul_comm, ← mul_assoc, ← EReal.coe_mul, ← Real.exp_add]
  congr 3; ring

theorem scaled' (w μ M : ℝ) :
    ((Real.exp (μ - M) : ℝ) : EReal) * ((Real.exp (-μ) * w : ℝ) : EReal) = ((Real.exp (-M) * w : ℝ) : EReal) := by
  rw [← EReal.coe_mul, ← mul_assoc, ← Real.exp_add]
  congr 3; ring

theorem coe_mul_add (r : ℝ) (hr : 0 ≤ r) (x y : EReal) : (r : EReal) * (x + y) = r * x + r * y :=
  EReal.left_distrib_of_nonneg_of_ne_top (EReal.coe_nonneg.2 hr) (EReal.coe_ne_top r) x y

theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add r hr, ih]

theorem sum_mul_coe {ι : Type*} (s : Finset ι) (r : ℝ) (hr : 0 ≤ r) (f : ι → EReal) :
    (∑ i ∈ s, f i) * (r : EReal) = ∑ i ∈ s, f i * (r : EReal) := by
  rw [mul_comm, coe_mul_sum s r hr]
  exact Finset.sum_congr rfl fun i _ => mul_comm _ _

/-- Reals of either sign add up before they multiply, if none is negative. -/
theorem sum_coe_mul {ι : Type*} (s : Finset ι) (f : ι → ℝ) (hf : ∀ i ∈ s, 0 ≤ f i) (x : EReal) :
    ((∑ i ∈ s, f i : ℝ) : EReal) * x = ∑ i ∈ s, (f i : EReal) * x := by
  classical
  induction s using Finset.induction_on with
  | empty => simp
  | insert a s ha ih =>
    rw [Finset.sum_insert ha, Finset.sum_insert ha, EReal.coe_add,
      EReal.right_distrib_of_nonneg (EReal.coe_nonneg.2 (hf a (Finset.mem_insert_self a s)))
        (EReal.coe_nonneg.2 (Finset.sum_nonneg fun i hi => hf i (Finset.mem_insert_of_mem hi))),
      ih fun i hi => hf i (Finset.mem_insert_of_mem hi)]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Four partial softmaxes merged. -/
theorem Part.merge {D : Type} {w0 w1 w2 w3 : ℝ} {X0 X1 X2 X3 : D → EReal} {m0 m1 m2 m3 l0 l1 l2 l3 : EReal} {a0 a1 a2 a3 : D → EReal}
    (h0 : Part w0 X0 m0 l0 a0) (h1 : Part w1 X1 m1 l1 a1) (h2 : Part w2 X2 m2 l2 a2) (h3 : Part w3 X3 m3 l3 a3)
    {m l : EReal} {acc : D → EReal}
    (hm : m = max (max (max m0 m1) m2) m3)
    (hl : l = Ideal.exp (m0 - m) * l0 + Ideal.exp (m1 - m) * l1 + Ideal.exp (m2 - m) * l2 + Ideal.exp (m3 - m) * l3)
    (ha : ∀ d, acc d = a0 d * Ideal.exp (m0 - m) + a1 d * Ideal.exp (m1 - m) + a2 d * Ideal.exp (m2 - m) + a3 d * Ideal.exp (m3 - m)) :
    Part (w0 + w1 + w2 + w3) (fun d => X0 d + X1 d + X2 d + X3 d) m l acc := by
  obtain ⟨μ0, rfl, rfl, h0⟩ := h0
  obtain ⟨μ1, rfl, rfl, h1⟩ := h1
  obtain ⟨μ2, rfl, rfl, h2⟩ := h2
  obtain ⟨μ3, rfl, rfl, h3⟩ := h3
  have hM : m = ((max (max (max μ0 μ1) μ2) μ3 : ℝ) : EReal) := by
    rw [hm]; simp only [EReal.coe_strictMono.monotone.map_max]
  generalize max (max (max μ0 μ1) μ2) μ3 = M at hM
  clear hm; subst hM
  simp only [← EReal.coe_sub, exp_coe] at hl ha
  refine ⟨M, rfl, ?_, fun d => ?_⟩
  · rw [hl]; simp only [scaled', ← EReal.coe_add]; congr 1; ring
  · rw [ha d, h0 d, h1 d, h2 d, h3 d]
    simp only [scaled]
    have hp : (0:ℝ) ≤ Real.exp (-M) := (Real.exp_pos _).le
    rw [coe_mul_add _ hp, coe_mul_add _ hp, coe_mul_add _ hp]

/-- The quotient at the end. -/
theorem Part.out {D : Type} {w : ℝ} {X : D → EReal} {m l : EReal} {acc : D → EReal} (h : Part w X m l acc) (hw : 0 < w) (d : D) :
    acc d * Ideal.div 1 l = X d * ((w⁻¹ : ℝ) : EReal) := by
  obtain ⟨μ, -, rfl, h⟩ := h
  have hpos : 0 < Real.exp (-μ) * w := mul_pos (Real.exp_pos _) hw
  rw [h d]
  have : Ideal.div 1 ((Real.exp (-μ) * w : ℝ) : EReal) = (((Real.exp (-μ) * w)⁻¹ : ℝ) : EReal) := by
    rw [Ideal.div, if_neg (by rw [EReal.coe_eq_zero]; exact hpos.ne'), one_mul, EReal.coe_inv]
  rw [this, mul_comm, ← mul_assoc, ← EReal.coe_mul, mul_comm (X d)]
  congr 2
  rw [mul_inv, mul_comm (Real.exp (-μ))⁻¹, mul_assoc, inv_mul_cancel₀ (Real.exp_pos _).ne', mul_one]

end Cert.KernelIdealPf

end
-- ==== Proof.VRef.lean ====
/-
The reference's result read at an index: the weighted rows of the pages a sequence names, over the weights' sum.
-/
module

public import Idealize.ShloMosaic.Lib.Pointwise
public import proofs.«01_k».proof.Proof.Gen.ReferenceIdeal.Run
public import proofs.«01_k».proof.Proof.VMath

@[expose] public section

set_option maxRecDepth 16384

noncomputable section

namespace Cert.RefPf
open Cert.ReferenceIdeal Cert.ReferenceIdeal.Gen Cert.KernelIdealPf Idealize.ShloMosaic Idealize.ShloMosaic.TcCoe Idealize.SL.Sem Idealize.ShloMosaic.StableHlo

theorem fiber34 (h : S32x16x1x256x32.ReducesTo [3, 4] S32x16x1) (b : Fin 32) (d : Fin 16) (i : S32x16x1x256x32.Idx) :
    h.drop i = ix3 b d 0 ↔ ∃ k : Fin 256 × Fin 32, ix5 b d 0 k.1 k.2 = i := by
  constructor
  · intro e
    refine ⟨(i 3, i 4), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext x
    apply Fin.ext
    match x with
    | ⟨0, _⟩ => rfl
    | ⟨1, _⟩ => rfl
    | ⟨2, _⟩ => rfl

theorem sum34 (h : S32x16x1x256x32.ReducesTo [3, 4] S32x16x1) (b : Fin 32) (d : Fin 16) (v : S32x16x1x256x32.Idx → EReal) (init : EReal) :
    Ideal.hostReduceAdd h v init (ix3 b d 0) = init + ∑ j : Fin 256, ∑ u : Fin 32, v (ix5 b d 0 j u) := by
  unfold Ideal.hostReduceAdd
  rw [Finset.sum_filter_eq_sum_of_fiber _ (fun k : Fin 256 × Fin 32 => (ix5 b d 0 k.1 k.2 : S32x16x1x256x32.Idx))
    (fun x y e => Prod.ext (congrFun e 3) (congrFun e 4)) (fiber34 h b d), Fintype.sum_prod_type]

theorem fold34 (h : S32x16x1x256x32.ReducesTo [3, 4] S32x16x1) (b : Fin 32) (d : Fin 16) (v : S32x16x1x256x32.Idx → EReal) (init : EReal) :
    (Finset.univ.filter fun i => h.drop i = ix3 b d 0).fold max init v
      = (Finset.univ : Finset (Fin 256 × Fin 32)).fold max init fun k => v (ix5 b d 0 k.1 k.2) :=
  Finset.fold_filter_eq_fold_of_fiber max _ (fun k : Fin 256 × Fin 32 => (ix5 b d 0 k.1 k.2 : S32x16x1x256x32.Idx))
    (fun x y e => Prod.ext (congrFun e 3) (congrFun e 4)) (fiber34 h b d) init v

theorem clamp_lt (w : BitVec 32) : min w.toInt.toNat 1023 < 1024 := by omega

theorem gather5 (A : FVec Ideal S1024x32x16x128 .f32) (i : IVec S32x256x1 32) (b : Fin 32) (h : Fin 16) (j : Fin 256) (u : Fin 32)  (d : Fin 128) :
  Host.gather gather_S1024x32x16x128_S32x256x1_S32x256x32x16x128_234_0_n_n_0_2_13216128 A i (ix5 b j u h d)
    = A (ix4 ⟨min (i (ix3 b j 0)).toInt.toNat 1023, clamp_lt _⟩ u h d) := by
  unfold Host.gather
  refine congrArg A (funext fun a => Fin.ext ?_)
  match a with
  | ⟨0, _⟩ =>
    refine congrArg (fun z => min (i z).toInt.toNat 1023) ((funext fun x => Fin.ext ?_ :) : _ = (ix3 b j 0 : S32x256x1.Idx))
    match x with
    | ⟨0, _⟩ => rfl
    | ⟨1, _⟩ => rfl
    | ⟨2, _⟩ => rfl
  | ⟨1, _⟩ => show 0 + 0 + u.val = u.val; omega
  | ⟨2, _⟩ => show 0 + 0 + h.val = h.val; omega
  | ⟨3, _⟩ => show 0 + 0 + d.val = d.val; omega

theorem scale_real : ∃ s : ℝ, Ideal.ofBits .f32 0x3DB504F3#32 = (s : EReal) := by
  simp only [Ideal.ofBits, Ideal.ieee]
  rw [if_neg (by decide), if_neg (by decide)]
  exact ⟨_, rfl⟩
theorem ofBits_bot : Ideal.ofBits .f32 0xFF800000#32 = (⊥ : EReal) := by
  simp [Ideal.ofBits, Ideal.ieee]

/-- A maximum over values none of which is the top one and one of which is not the bottom one is a real. -/
theorem fold_max_real {ι : Type*} (s : Finset ι) (f : ι → EReal) (ht : ∀ i ∈ s, f i ≠ ⊤) (i : ι) (hi : i ∈ s) (hb : f i ≠ ⊥) :
    ∃ μ : ℝ, s.fold max ⊥ f = (μ : EReal) := by
  have h1 : s.fold max ⊥ f < ⊤ := by
    rw [Finset.fold_max_lt]
    exact ⟨bot_lt_top, fun x hx => lt_top_iff_ne_top.2 (ht x hx)⟩
  have h2 : ⊥ < s.fold max ⊥ f := by
    rw [Finset.lt_fold_max]
    exact .inr ⟨i, hi, bot_lt_iff_ne_bot.2 hb⟩
  exact ⟨(s.fold max ⊥ f).toReal, (EReal.coe_toReal h1.ne h2.ne').symm⟩

/-- Whether a sequence's position is one of its pages'. -/
def used (len : IVec S32 32) (b : Fin 32) (j : Fin 256) : Prop := IntOp.cmpi .slt (BitVec.ofNat 32 j.val) (len (ix1 b)) = 1#1
instance (len : IVec S32 32) (b : Fin 32) (j : Fin 256) : Decidable (used len b j) := inferInstanceAs (Decidable (_ = _))

/-- The row the reference gathers for a position. -/
def wrapped (w : BitVec 32) : BitVec 32 := if IntOp.cmpi .slt w 0#32 = 1#1 then IntOp.addi w 1024#32 else w
def page (bt : IVec S32x256 32) (b : Fin 32) (j : Fin 256) : Fin 1024 := ⟨min (wrapped (bt (ix2 b j))).toInt.toNat 1023, clamp_lt _⟩

section Spec

variable (qr : Fin 32 → Fin 16 → Fin 128 → ℝ) (kr : Fin 1024 → Fin 32 → Fin 16 → Fin 128 → ℝ) (scale : ℝ)

/-- A score. -/
def σ (b : Fin 32) (h : Fin 16) (n : Fin 1024) (u : Fin 32) : ℝ := (∑ d, qr b h d * kr n u h d) * scale

variable (V : FVec Ideal S1024x32x16x128 .f32) (bt : IVec S32x256 32) (len : IVec S32 32)

/-- The weights' sum. -/
def W (b : Fin 32) (h : Fin 16) : ℝ := ∑ j, ∑ u, if used len b j then Real.exp (σ qr kr scale b h (page bt b j) u) else 0
/-- The weighted rows. -/
def X (b : Fin 32) (h : Fin 16) (d : Fin 128) : EReal :=
  ∑ j, ∑ u, if used len b j then (Real.exp (σ qr kr scale b h (page bt b j) u) : EReal) * V (ix4 (page bt b j) u h d) else 0

end Spec

theorem W_pos (qr : Fin 32 → Fin 16 → Fin 128 → ℝ) (kr : Fin 1024 → Fin 32 → Fin 16 → Fin 128 → ℝ) (scale : ℝ) (bt : IVec S32x256 32)
    (len : IVec S32 32) (b : Fin 32) (h : Fin 16) (h0 : used len b 0) : 0 < W qr kr scale bt len b h := by
  have hn : ∀ j u, 0 ≤ if used len b j then Real.exp (σ qr kr scale b h (page bt b j) u) else 0 := fun j u => by
    split
    · exact (Real.exp_pos _).le
    · exact le_rfl
  refine Finset.sum_pos' (fun j _ => Finset.sum_nonneg fun u _ => hn j u) ⟨0, Finset.mem_univ _, ?_⟩
  refine Finset.sum_pos' (fun u _ => hn 0 u) ⟨0, Finset.mem_univ _, ?_⟩
  rw [if_pos h0]; exact Real.exp_pos _

/-! ## The term, in pieces -/

abbrev idxV (bt : IVec S32x256 32) : IVec S32x256x1 32 :=
  broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 1024#32))) bt)
def rowsV (A : FVec Ideal S1024x32x16x128 .f32) (bt : IVec S32x256 32) : FVec Ideal S32x256x32x16x128 .f32 :=
  Host.gather gather_S1024x32x16x128_S32x256x1_S32x256x32x16x128_234_0_n_n_0_2_13216128 A (idxV bt)
def scoreV (Q : FVec Ideal S32x1x16x128 .f32) (K : FVec Ideal S1024x32x16x128 .f32) (bt : IVec S32x256 32) (len : IVec S32 32) : FVec Ideal S32x16x1x256x32 .f32 :=
  select (broadcastInDim S32x16x1x256x32 ![0, 1, 2, 3, 4] bcast_S32x1x1x256x1_S32x16x1x256x32_0_1_2_3_4 (broadcastInDim S32x1x1x256x1 ![0, 3] bcast_S32x256_S32x1x1x256x1_0_3 (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 len))))) (mulf (Host.dotGeneral dot_S32x1x16x128_S32x256x32x16x128_S32x16x1x256x32_3_4_1_12_02_03 none Q (rowsV K bt)) (broadcastInDim S32x16x1x256x32 ![] bcast_S_S32x16x1x256x32 (constant S_ .f32 0x3DB504F3#32))) (broadcastInDim S32x16x1x256x32 ![] bcast_S_S32x16x1x256x32 (constant S_ .f32 0xFF800000#32))
def maxV (S : FVec Ideal S32x16x1x256x32 .f32) : FVec Ideal S32x16x1 .f32 := Host.reduce FloatOps.maximumf S (constant S_ .f32 0xFF800000#32) reducesTo_S32x16x1x256x32_S32x16x1_d3_4 h_S_
def expV (S : FVec Ideal S32x16x1x256x32 .f32) (M : FVec Ideal S32x16x1 .f32) : FVec Ideal S32x16x1x256x32 .f32 :=
  Host.exp (subf S (broadcastInDim S32x16x1x256x32 ![0, 1, 2, 3, 4] bcast_S32x16x1x1x1_S32x16x1x256x32_0_1_2_3_4 (broadcastInDim S32x16x1x1x1 ![0, 1, 2] bcast_S32x16x1_S32x16x1x1x1_0_1_2 M)))
def sumV (E : FVec Ideal S32x16x1x256x32 .f32) : FVec Ideal S32x16x1 .f32 := Host.reduceAdd E (constant S_ .f32 0x00000000#32) reducesTo_S32x16x1x256x32_S32x16x1_d3_4 h_S_
def quotV (E : FVec Ideal S32x16x1x256x32 .f32) (L : FVec Ideal S32x16x1 .f32) : FVec Ideal S32x16x1x256x32 .f32 :=
  Host.divf E (broadcastInDim S32x16x1x256x32 ![0, 1, 2, 3, 4] bcast_S32x16x1x1x1_S32x16x1x256x32_0_1_2_3_4 (broadcastInDim S32x16x1x1x1 ![0, 1, 2] bcast_S32x16x1_S32x16x1x1x1_0_1_2 L))
def outV (R : FVec Ideal S32x256x32x16x128 .f32) (P : FVec Ideal S32x16x1x256x32 .f32) : FVec Ideal S32x1x16x128 .f32 :=
  transpose S32x1x16x128 [0, 3, 1, 2] (Host.dotGeneral dot_S32x256x32x16x128_S32x16x1x256x32_S32x16x128x1_12_34_4_2_03_01 none R P) transposes_S32x16x128x1_S32x1x16x128_0_3_1_2

abbrev refV (Q : FVec Ideal S32x1x16x128 .f32) (K V : FVec Ideal S1024x32x16x128 .f32) (bt : IVec S32x256 32) (len : IVec S32 32) : FVec Ideal S32x1x16x128 .f32 :=
  outV (rowsV V bt) (quotV (expV (scoreV Q K bt len) (maxV (scoreV Q K bt len))) (sumV (expV (scoreV Q K bt len) (maxV (scoreV Q K bt len)))))

theorem res_eq (m : (ℓ : Loc nD τ sig) → Buf (Elt Ideal) ℓ) (c : Dev nD) :
    Cert.ReferenceIdeal.Value.res_main_v35 m c = refV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem rowsV_at (A : FVec Ideal S1024x32x16x128 .f32) (bt : IVec S32x256 32) (b : Fin 32) (h : Fin 16) (j : Fin 256) (u : Fin 32) (d : Fin 128) :
    rowsV A bt (ix5 b j u h d) = A (ix4 (page bt b j) u h d) := by
  unfold rowsV
  rw [gather5]
  have : idxV bt (ix3 b j 0) = wrapped (bt (ix2 b j)) := by
    pointwise [wrapped]
    rfl
  refine congrArg A ?_
  rw [show page bt b j = ⟨min (idxV bt (ix3 b j 0)).toInt.toNat 1023, clamp_lt _⟩ from Fin.ext (by rw [this]; rfl)]

theorem outV_at (R : FVec Ideal S32x256x32x16x128 .f32) (P : FVec Ideal S32x16x1x256x32 .f32) (b : Fin 32) (h : Fin 16) (d : Fin 128) :
    outV R P (ix4 b 0 h d) = ∑ j, ∑ u, R (ix5 b j u h d) * P (ix5 b h 0 j u) := by
  pointwise [outV]
theorem quotV_at (E : FVec Ideal S32x16x1x256x32 .f32) (L : FVec Ideal S32x16x1 .f32) (b : Fin 32) (h : Fin 16) (j : Fin 256) (u : Fin 32) :
    quotV E L (ix5 b h 0 j u) = Ideal.div (E (ix5 b h 0 j u)) (L (ix3 b h 0)) := by
  pointwise [quotV]
theorem expV_at (E : FVec Ideal S32x16x1x256x32 .f32) (L : FVec Ideal S32x16x1 .f32) (b : Fin 32) (h : Fin 16) (j : Fin 256) (u : Fin 32) :
    expV E L (ix5 b h 0 j u) = Ideal.exp (E (ix5 b h 0 j u) - (L (ix3 b h 0))) := by
  pointwise [expV]
theorem sumV_at (E : FVec Ideal S32x16x1x256x32 .f32) (b : Fin 32) (h : Fin 16) :
    sumV E (ix3 b h 0) = ∑ j, ∑ u, E (ix5 b h 0 j u) := by
  pointwise [sumV]
  rw [sum34, zero_add]
theorem maxV_at (E : FVec Ideal S32x16x1x256x32 .f32) (b : Fin 32) (h : Fin 16) :
    maxV E (ix3 b h 0) = (Finset.univ : Finset (Fin 256 × Fin 32)).fold max ⊥ fun k => E (ix5 b h 0 k.1 k.2) := by
  pointwise [maxV]
  rw [fold34, ofBits_bot]
theorem scoreV_at (Q : FVec Ideal S32x1x16x128 .f32) (K : FVec Ideal S1024x32x16x128 .f32) (bt : IVec S32x256 32) (len : IVec S32 32)
    (b : Fin 32) (h : Fin 16) (j : Fin 256) (u : Fin 32) :
    scoreV Q K bt len (ix5 b h 0 j u) = if used len b j then (∑ d, Q (ix4 b 0 h d) * K (ix4 (page bt b j) u h d)) * Ideal.ofBits .f32 0x3DB504F3#32 else ⊥ := by
  pointwise [scoreV]
  simp only [rowsV_at, ofBits_bot]
  rfl

variable {qr : Fin 32 → Fin 16 → Fin 128 → ℝ} {kr : Fin 1024 → Fin 32 → Fin 16 → Fin 128 → ℝ} {scale : ℝ}

theorem score_real {Q : FVec Ideal S32x1x16x128 .f32} {K : FVec Ideal S1024x32x16x128 .f32}
    (hs : Ideal.ofBits .f32 0x3DB504F3#32 = (scale : EReal)) (hQ : ∀ b h d, Q (ix4 b 0 h d) = (qr b h d : EReal))
    (hK : ∀ n u h d, K (ix4 n u h d) = (kr n u h d : EReal)) (b : Fin 32) (h : Fin 16) (n : Fin 1024) (u : Fin 32) :
    (∑ d, Q (ix4 b 0 h d) * K (ix4 n u h d)) * Ideal.ofBits .f32 0x3DB504F3#32 = (σ qr kr scale b h n u : EReal) := by
  simp only [hs, hQ, hK, ← EReal.coe_mul, ← coe_sum]
  rfl

theorem ref_at {Q : FVec Ideal S32x1x16x128 .f32} {K V : FVec Ideal S1024x32x16x128 .f32} (bt : IVec S32x256 32) (len : IVec S32 32)
    (hs : Ideal.ofBits .f32 0x3DB504F3#32 = (scale : EReal)) (hQ : ∀ b h d, Q (ix4 b 0 h d) = (qr b h d : EReal))
    (hK : ∀ n u h d, K (ix4 n u h d) = (kr n u h d : EReal)) (b : Fin 32) (h : Fin 16) (d : Fin 128) (h0 : used len b 0) :
    refV Q K V bt len (ix4 b 0 h d) = X qr kr scale V bt len b h d * (((W qr kr scale bt len b h)⁻¹ : ℝ) : EReal) := by
  have hW := W_pos qr kr scale bt len b h h0
  set w := W qr kr scale bt len b h with hw
  have hS : ∀ j u, scoreV Q K bt len (ix5 b h 0 j u) = if used len b j then (σ qr kr scale b h (page bt b j) u : EReal) else ⊥ := fun j u => by
    rw [scoreV_at]
    simp only [score_real hs hQ hK]
  obtain ⟨μ, hμ⟩ : ∃ μ : ℝ, maxV (scoreV Q K bt len) (ix3 b h 0) = (μ : EReal) := by
    rw [maxV_at]
    refine fold_max_real _ _ (fun k _ => ?_) (0, 0) (Finset.mem_univ _) ?_
    · rw [hS]; split
      · exact EReal.coe_ne_top _
      · exact bot_ne_top
    · rw [hS, if_pos h0]; exact EReal.coe_ne_bot _
  have hE : ∀ j u, expV (scoreV Q K bt len) (maxV (scoreV Q K bt len)) (ix5 b h 0 j u)
      = ((Real.exp (-μ) * (if used len b j then Real.exp (σ qr kr scale b h (page bt b j) u) else 0) : ℝ) : EReal) := fun j u => by
    rw [expV_at, hS, hμ]
    split
    · rw [← EReal.coe_sub, exp_coe, ← Real.exp_add, sub_eq_neg_add]
    · rw [EReal.bot_sub, mul_zero]; rfl
  have hL : sumV (expV (scoreV Q K bt len) (maxV (scoreV Q K bt len))) (ix3 b h 0) = ((Real.exp (-μ) * w : ℝ) : EReal) := by
    rw [sumV_at]
    simp only [hE, ← coe_sum, ← Finset.mul_sum]
    rfl
  have hP : ∀ j u, quotV (expV (scoreV Q K bt len) (maxV (scoreV Q K bt len))) (sumV (expV (scoreV Q K bt len) (maxV (scoreV Q K bt len)))) (ix5 b h 0 j u)
      = (((if used len b j then Real.exp (σ qr kr scale b h (page bt b j) u) else 0) * w⁻¹ : ℝ) : EReal) := fun j u => by
    have hne : Real.exp (-μ) * w ≠ 0 := (mul_pos (Real.exp_pos _) hW).ne'
    rw [quotV_at, hE, hL, Ideal.div, if_neg (by rw [EReal.coe_eq_zero]; exact hne), ← EReal.coe_inv, ← EReal.coe_mul]
    refine congrArg Real.toEReal ?_
    rw [mul_inv]
    have := (Real.exp_pos (-μ)).ne'
    field_simp
  refine (outV_at _ _ b h d).trans ?_
  simp only [hP, rowsV_at]
  unfold X
  rw [sum_mul_coe _ _ (inv_nonneg.2 hW.le)]
  refine Finset.sum_congr rfl fun j _ => ?_
  rw [sum_mul_coe _ _ (inv_nonneg.2 hW.le)]
  refine Finset.sum_congr rfl fun u _ => ?_
  split
  · rw [EReal.coe_mul, mul_comm, mul_assoc, mul_assoc, mul_comm (V _)]
  · rw [zero_mul, zero_mul, EReal.coe_zero, mul_zero]

end Cert.RefPf

end
-- ==== Proof.VLocal.lean ====
/-
What a device holds of each head before the merges: the partial softmax over its own pages, each page counted as often as the
table names it.
-/
module

public import proofs.«01_k».proof.Proof.IVals
public import Idealize.ShloMosaic.Lib.Pointwise
public import proofs.«01_k».proof.Proof.VMath
public import proofs.«01_k».proof.Proof.VRef

@[expose] public section

set_option maxRecDepth 16384

noncomputable section

namespace Cert.KernelIdealPf

open Cert.KernelIdeal Cert.KernelIdeal.Gen Cert.RefPf
open Idealize.ShloMosaic Idealize.ShloMosaic.TcCoe

/-- The page a device's row of the key and value arrays is. -/
def gpage (c : Dev nD) (p : Fin 64) : Fin 1024 := ⟨c.val % 4 * 256 + (page0 c + p.val), by
  have := page0_lt c p; omega⟩

/-- The reals and the table the devices' values are read from. -/
structure Spec where
  qr : Fin 32 → Fin 16 → Fin 128 → ℝ
  kr : Fin 1024 → Fin 32 → Fin 16 → Fin 128 → ℝ
  scale : ℝ
  V : FVec Ideal Cert.ReferenceIdeal.S1024x32x16x128 .f32
  bt : IVec S32x256 32
  len : IVec S32 32

/-- What the devices hold, as blocks of the whole arrays. -/
structure Spec.Of (S : Spec) (a : Args Ideal) : Prop where
  scale : Ideal.ofBits .f32 0x3DB504F3#32 = (S.scale : EReal)
  q : ∀ (c : Dev nD) b h d, a.q c (ix4 b 0 h d) = (S.qr b h d : EReal)
  k : ∀ (c : Dev nD) (p : Fin 256) (hp : c.val % 4 * 256 + p.val < 1024) u h d, (kH.view.read (Elt Ideal) (a.k c) : Vec Ideal S256x32x16x128 .f32) (ix4 p u h d)
    = (S.kr ⟨c.val % 4 * 256 + p.val, hp⟩ u h d : EReal)
  v : ∀ (c : Dev nD) (p : Fin 256) (hp : c.val % 4 * 256 + p.val < 1024) u h d, (vH.view.read (Elt Ideal) (a.v c) : Vec Ideal S256x32x16x128 .f32) (ix4 p u h d)
    = S.V (ix4 ⟨c.val % 4 * 256 + p.val, hp⟩ u h d)
  bt : ∀ c : Dev nD, a.bt c = S.bt
  len : ∀ c : Dev nD, a.len c = S.len

namespace Spec
variable (S : Spec)

/-- How often a sequence's table names a page. -/
def cn (b : Fin 32) (n : Fin 1024) : ℝ := ∑ j, if used S.len b j ∧ S.bt (ix2 b j) = BitVec.ofNat 32 n.val then 1 else 0
theorem cn_nonneg (b : Fin 32) (n : Fin 1024) : 0 ≤ S.cn b n := Finset.sum_nonneg fun j _ => by split <;> norm_num

/-- A page's weight, counted. -/
def wP (b : Fin 32) (h : Fin 16) (n : Fin 1024) : ℝ := ∑ u, S.cn b n * Real.exp (σ S.qr S.kr S.scale b h n u)
/-- A page's weighted rows, counted. -/
def xP (b : Fin 32) (h : Fin 16) (n : Fin 1024) (d : Fin 128) : EReal :=
  ∑ u, ((S.cn b n * Real.exp (σ S.qr S.kr S.scale b h n u) : ℝ) : EReal) * S.V (ix4 n u h d)
/-- A device's. -/
def w1 (c : Dev nD) (b : Fin 32) (h : Fin 16) : ℝ := ∑ p, S.wP b h (gpage c p)
def x1 (c : Dev nD) (b : Fin 32) (h : Fin 16) (d : Fin 128) : EReal := ∑ p, S.xP b h (gpage c p) d

end Spec

theorem pay7_at (q : Vec Ideal S32x1x1x128 .f32) (k : Vec Ideal S1x64x32x128 .f32) (b : Fin 32) (t : Fin 2048) :
    k0_pay7 (F := Ideal) (k0_pay5 q) (k0_pay6 k) (ix2 b t)
      = (∑ x, q (ix4 b 0 0 x) * k (ix4 0 ⟨t.val / 32, by omega⟩ ⟨t.val % 32, by omega⟩ x)) * Ideal.ofBits .f32 0x3DB504F3#32 := by
  pointwise [k0_pay7, k0_pay5, k0_pay6]

theorem pay8_at (q : FVec Ideal S32x128 .bf16) (k : FVec Ideal S2048x128 .bf16) (b : Fin 32) :
    k0_pay8 (F := Ideal) q k (ix2 b 0) = (Finset.univ : Finset (Fin 2048)).fold max ⊥ fun t => k0_pay7 (F := Ideal) q k (ix2 b t) := by
  pointwise [k0_pay8]
  rw [ofBits_bot]

theorem pay9_at (n : FVec Ideal S32x2048 .f32) (q : FVec Ideal S32x128 .bf16) (k : FVec Ideal S2048x128 .bf16) (b : Fin 32) (t : Fin 2048) :
    k0_pay9 (F := Ideal) n q k (ix2 b t) = n (ix2 b t) * Ideal.exp (k0_pay7 (F := Ideal) q k (ix2 b t) - k0_pay8 (F := Ideal) q k (ix2 b 0)) := by
  pointwise [k0_pay9]

theorem pay10_at (n : FVec Ideal S32x2048 .f32) (q : FVec Ideal S32x128 .bf16) (k : FVec Ideal S2048x128 .bf16) (b : Fin 32) :
    k0_pay10 (F := Ideal) n q k (ix2 b 0) = ∑ t : Fin 2048, k0_pay9 (F := Ideal) n q k (ix2 b t) := by
  pointwise [k0_pay10]

theorem pay11_at (n : FVec Ideal S32x2048 .f32) (q : FVec Ideal S32x128 .bf16) (k : FVec Ideal S2048x128 .bf16) (v : Vec Ideal S1x64x32x128 .f32) (b : Fin 32) (d : Fin 128) :
    k0_pay11 (F := Ideal) n q k v (ix2 b d) = ∑ t : Fin 2048, k0_pay9 (F := Ideal) n q k (ix2 b t) * v (ix4 0 ⟨t.val / 32, by omega⟩ ⟨t.val % 32, by omega⟩ d) := by
  pointwise [k0_pay11]

theorem pay4_at (v1 : IVec S1x64x1 32) (v2 : IVec S32x1x256 1) (v3 : IVec S32x256 32) (b : Fin 32) (t : Fin 2048) :
    k0_pay4 (F := Ideal) v1 v2 v3 (ix2 b t)
      = ∑ x : Fin 256, FloatOps.sitofp (F := Ideal) .f32 (BitVec.setWidth 32 (IntOp.andi (IntOp.cmpi .eq (v3 (ix2 b x)) (v1 (ix3 0 ⟨t.val / 32, by omega⟩ 0))) (v2 (ix3 b 0 x)))) := by
  pointwise [k0_pay4]

/-- A device's part of a head, from the payloads of one. -/
theorem local_part (n : FVec Ideal S32x2048 .f32) (q : Vec Ideal S32x1x1x128 .f32) (k v : Vec Ideal S1x64x32x128 .f32) (b : Fin 32)
    (cn s : Fin 2048 → ℝ) (hn : ∀ t, n (ix2 b t) = (cn t : EReal)) (h0 : ∀ t, 0 ≤ cn t)
    (hs : ∀ t, k0_pay7 (F := Ideal) (k0_pay5 q) (k0_pay6 k) (ix2 b t) = (s t : EReal)) :
    Part (∑ t, cn t * Real.exp (s t)) (fun d : Fin 128 => ∑ t, ((cn t * Real.exp (s t) : ℝ) : EReal) * v (ix4 0 ⟨t.val / 32, by omega⟩ ⟨t.val % 32, by omega⟩ d))
      (k0_pay8 (F := Ideal) (k0_pay5 q) (k0_pay6 k) (ix2 b 0)) (k0_pay10 (F := Ideal) n (k0_pay5 q) (k0_pay6 k) (ix2 b 0))
      (fun d => k0_pay11 (F := Ideal) n (k0_pay5 q) (k0_pay6 k) v (ix2 b d)) := by
  obtain ⟨μ, hμ⟩ : ∃ μ : ℝ, k0_pay8 (F := Ideal) (k0_pay5 q) (k0_pay6 k) (ix2 b 0) = (μ : EReal) := by
    rw [pay8_at]
    refine fold_max_real _ _ (fun t _ => ?_) 0 (Finset.mem_univ _) ?_
    · rw [hs]; exact EReal.coe_ne_top _
    · rw [hs]; exact EReal.coe_ne_bot _
  have h9 : ∀ t, k0_pay9 (F := Ideal) n (k0_pay5 q) (k0_pay6 k) (ix2 b t) = ((Real.exp (-μ) * (cn t * Real.exp (s t)) : ℝ) : EReal) := fun t => by
    rw [pay9_at, hn, hs, hμ, ← EReal.coe_sub, exp_coe, ← EReal.coe_mul]
    refine congrArg Real.toEReal ?_
    rw [mul_left_comm, ← Real.exp_add, sub_eq_neg_add]
  refine ⟨μ, hμ, ?_, fun d => ?_⟩
  · rw [pay10_at]
    simp only [h9, ← coe_sum, ← Finset.mul_sum]
  · show k0_pay11 (F := Ideal) n (k0_pay5 q) (k0_pay6 k) v (ix2 b d) = _ * ∑ t : Fin 2048, _
    rw [pay11_at, coe_mul_sum _ _ (Real.exp_pos _).le]
    refine Finset.sum_congr rfl fun t _ => ?_
    rw [h9, EReal.coe_mul, mul_assoc]

theorem page_word (c : Dev nD) : Scalar.addi (Scalar.muli (x8 c) 256#32) (x11 c) = BitVec.ofNat 32 (c.val % 4 * 256 + page0 c) := by
  revert c; decide

theorem word_one (x y : BitVec 32) (w : BitVec 1) (hw : w = 1#1) (h : x = y) : (BitVec.setWidth 32 (IntOp.andi (BitVec.ofBool (x == y)) w)).toInt = 1 := by
  subst hw h
  rw [beq_self_eq_true]; decide
theorem word_zero (x y : BitVec 32) (w : BitVec 1) (h : w = 1#1 → x = y → False) : (BitVec.setWidth 32 (IntOp.andi (BitVec.ofBool (x == y)) w)).toInt = 0 := by
  have hw01 : w = 0#1 ∨ w = 1#1 := (by decide : ∀ w : BitVec 1, w = 0#1 ∨ w = 1#1) w
  by_cases hx : x = y
  · have : w = 0#1 := hw01.resolve_right fun h1 => h h1 hx
    subst this hx
    rw [beq_self_eq_true]; decide
  · rw [beq_false_of_ne hx]
    exact (by decide : ∀ w : BitVec 1, (BitVec.setWidth 32 (IntOp.andi (BitVec.ofBool false) w)).toInt = 0) w

variable {S : Spec} {a : Args Ideal}

/-- The counts. -/
theorem cnt_at (G : S.Of a) (c : Dev nD) (b : Fin 32) (t : Fin 2048) :
    x386 a c (ix2 b t) = (S.cn b (gpage c ⟨t.val / 32, by omega⟩) : EReal) := by
  have e1 : ∀ p : Fin 64, x365 a c (ix3 0 p 0) = BitVec.ofNat 32 (gpage c p).val := fun p => by
    have : x365 a c (ix3 0 p 0) = IntOp.addi (Scalar.addi (Scalar.muli (x8 c) 256#32) (x11 c)) (BitVec.ofNat 32 p.val) := by
      pointwise [x365, k0_pay1]
    rw [this, page_word]
    show BitVec.ofNat 32 _ + BitVec.ofNat 32 _ = _
    rw [← BitVec.ofNat_add]
    exact congrArg (BitVec.ofNat 32) (Nat.add_assoc _ _ _)
  have e2 : ∀ j : Fin 256, x371 a c (ix3 b 0 j) = IntOp.cmpi .slt (BitVec.ofNat 32 j.val) (S.len (ix1 b)) := fun j => by
    rw [← G.len c]
    pointwise [x371, k0_pay2]
  have e3 : ∀ j : Fin 256, x373 a c (ix2 b j) = S.bt (ix2 b j) := fun j => by
    rw [← G.bt c]
    pointwise [x373, k0_pay3]
  unfold x386 Spec.cn
  rw [pay4_at, coe_sum]
  refine Finset.sum_congr rfl fun j _ => ?_
  rw [e1, e2, e3]
  show (((BitVec.setWidth 32 (IntOp.andi (BitVec.ofBool (S.bt (ix2 b j) == BitVec.ofNat 32 (gpage c ⟨t.val / 32, by omega⟩).val)) (IntOp.cmpi .slt (BitVec.ofNat 32 j.val) (S.len (ix1 b))))).toInt : ℝ) : EReal) = _
  refine congrArg Real.toEReal ?_
  split
  · next h => exact_mod_cast word_one _ _ _ h.1 h.2
  · next h => exact_mod_cast word_zero _ _ _ fun h1 h2 => h ⟨h1, h2⟩

/-- A device's part of a head. -/
theorem head_part (G : S.Of a) (c : Dev nD) (h : Fin 16) (q : Vec Ideal S32x1x1x128 .f32) (b : Fin 32) (hq : ∀ d, q (ix4 b 0 0 d) = (S.qr b h d : EReal)) :
    Part (S.w1 c b h) (S.x1 c b h)
      (k0_pay8 (F := Ideal) (k0_pay5 q) (k0_pay6 (headOf c h (kH.view.read (Elt Ideal) (a.k c)))) (ix2 b 0))
      (k0_pay10 (F := Ideal) (x386 a c) (k0_pay5 q) (k0_pay6 (headOf c h (kH.view.read (Elt Ideal) (a.k c)))) (ix2 b 0))
      (fun d => k0_pay11 (F := Ideal) (x386 a c) (k0_pay5 q) (k0_pay6 (headOf c h (kH.view.read (Elt Ideal) (a.k c)))) (headOf c h (vH.view.read (Elt Ideal) (a.v c))) (ix2 b d)) := by
  have H := local_part (x386 a c) q (headOf c h (kH.view.read (Elt Ideal) (a.k c))) (headOf c h (vH.view.read (Elt Ideal) (a.v c))) b
    (fun t => S.cn b (gpage c ⟨t.val / 32, by omega⟩)) (fun t => σ S.qr S.kr S.scale b h (gpage c ⟨t.val / 32, by omega⟩) ⟨t.val % 32, by omega⟩)
    (cnt_at G c b) (fun t => S.cn_nonneg b _) (fun t => by
      rw [pay7_at, G.scale]
      simp only [hq]
      have : ∀ x, headOf c h (kH.view.read (Elt Ideal) (a.k c)) (ix4 0 ⟨t.val / 32, by omega⟩ ⟨t.val % 32, by omega⟩ x)
          = (S.kr (gpage c ⟨t.val / 32, by omega⟩) ⟨t.val % 32, by omega⟩ h x : EReal) := fun x => G.k c ⟨page0 c + t.val / 32, _⟩ _ _ _ _
      simp only [this, ← EReal.coe_mul, ← coe_sum]
      rfl)
  have e1 : ∑ t : Fin 2048, S.cn b (gpage c ⟨t.val / 32, by omega⟩) * Real.exp (σ S.qr S.kr S.scale b h (gpage c ⟨t.val / 32, by omega⟩) ⟨t.val % 32, by omega⟩) = S.w1 c b h := by
    rw [Fin.sum_univ_tiles 64 32 rfl]
    unfold Spec.w1 Spec.wP
    refine Finset.sum_congr rfl fun p _ => Finset.sum_congr rfl fun u _ => ?_
    have h1 : (p.val * 32 + u.val) / 32 = p.val := by omega
    have h2 : (p.val * 32 + u.val) % 32 = u.val := by omega
    simp only [h1, h2]
  have e2 : (fun d : Fin 128 => ∑ t : Fin 2048, ((S.cn b (gpage c ⟨t.val / 32, by omega⟩) * Real.exp (σ S.qr S.kr S.scale b h (gpage c ⟨t.val / 32, by omega⟩) ⟨t.val % 32, by omega⟩) : ℝ) : EReal)
      * headOf c h (vH.view.read (Elt Ideal) (a.v c)) (ix4 0 ⟨t.val / 32, by omega⟩ ⟨t.val % 32, by omega⟩ d)) = S.x1 c b h := by
    funext d
    rw [Fin.sum_univ_tiles 64 32 rfl]
    unfold Spec.x1 Spec.xP
    refine Finset.sum_congr rfl fun p _ => Finset.sum_congr rfl fun u _ => ?_
    have h1 : (p.val * 32 + u.val) / 32 = p.val := by omega
    have h2 : (p.val * 32 + u.val) % 32 = u.val := by omega
    simp only [h1, h2]
    exact congrArg _ (G.v c ⟨page0 c + p.val, _⟩ _ _ _ _)
  rw [← e1, ← e2]
  exact H

end Cert.KernelIdealPf

end
-- ==== Proof.VHeads.lean ====
/-
What a device holds of each head before the merges, head by head.
-/
module

public import proofs.«01_k».proof.Proof.VLocal

@[expose] public section

set_option maxRecDepth 16384

noncomputable section

namespace Cert.KernelIdealPf

open Cert.KernelIdeal Cert.KernelIdeal.Gen Cert.RefPf
open Idealize.ShloMosaic Idealize.ShloMosaic.TcCoe

variable {S : Spec} {a : Args Ideal}

theorem head0 (G : S.Of a) (c : Dev nD) (b : Fin 32) : Part (S.w1 c b 0) (S.x1 c b 0) (x676 a c (ix2 0 b)) (x678 a c (ix2 0 b)) (fun d => x422 a c (ix2 b d)) := by
  have ea : x422 a c = k0_pay11 (F := Ideal) (x386 a c) (k0_pay5 (fun j => a.q c ((Rect.unit (s := S32x1x16x128) ![0, 0, 0, 0] S32x1x1x128.size inb_S32x1x16x128_S32x1x1x128_0_0_0_0).toLoadRect.idx j))) (k0_pay6 (headOf c 0 (kH.view.read (Elt Ideal) (a.k c)))) (headOf c 0 (vH.view.read (Elt Ideal) (a.v c))) := rfl
  have rm : x676 a c (ix2 0 b) = x414 a c (ix2 b 0) := by
    pointwise [x676, k0_pay56]
  have em : x414 a c = k0_pay8 (F := Ideal) (k0_pay5 (fun j => a.q c ((Rect.unit (s := S32x1x16x128) ![0, 0, 0, 0] S32x1x1x128.size inb_S32x1x16x128_S32x1x1x128_0_0_0_0).toLoadRect.idx j))) (k0_pay6 (headOf c 0 (kH.view.read (Elt Ideal) (a.k c)))) := rfl
  have rl : x678 a c (ix2 0 b) = x420 a c (ix2 b 0) := by
    pointwise [x678, k0_pay57]
  have el : x420 a c = k0_pay10 (F := Ideal) (x386 a c) (k0_pay5 (fun j => a.q c ((Rect.unit (s := S32x1x16x128) ![0, 0, 0, 0] S32x1x1x128.size inb_S32x1x16x128_S32x1x1x128_0_0_0_0).toLoadRect.idx j))) (k0_pay6 (headOf c 0 (kH.view.read (Elt Ideal) (a.k c)))) := rfl
  rw [rm, em, rl, el, ea]
  exact head_part G c 0 (fun j => a.q c ((Rect.unit (s := S32x1x16x128) ![0, 0, 0, 0] S32x1x1x128.size inb_S32x1x16x128_S32x1x1x128_0_0_0_0).toLoadRect.idx j)) b fun d => ((by pointwise : (fun j => a.q c ((Rect.unit (s := S32x1x16x128) ![0, 0, 0, 0] S32x1x1x128.size inb_S32x1x16x128_S32x1x1x128_0_0_0_0).toLoadRect.idx j)) (ix4 b 0 0 d) = a.q c (ix4 b 0 0 d))).trans (G.q c b 0 d)

theorem head1 (G : S.Of a) (c : Dev nD) (b : Fin 32) : Part (S.w1 c b 1) (S.x1 c b 1) (x676 a c (ix2 1 b)) (x678 a c (ix2 1 b)) (fun d => x458 a c (ix2 b d)) := by
  have ea : x458 a c = k0_pay11 (F := Ideal) (x386 a c) (k0_pay5 (fun j => a.q c ((Rect.unit (s := S32x1x16x128) ![0, 0, 1, 0] S32x1x1x128.size inb_S32x1x16x128_S32x1x1x128_0_0_1_0).toLoadRect.idx j))) (k0_pay6 (headOf c 1 (kH.view.read (Elt Ideal) (a.k c)))) (headOf c 1 (vH.view.read (Elt Ideal) (a.v c))) := rfl
  have rm : x676 a c (ix2 1 b) = x450 a c (ix2 b 0) := by
    pointwise [x676, k0_pay56]
  have em : x450 a c = k0_pay8 (F := Ideal) (k0_pay5 (fun j => a.q c ((Rect.unit (s := S32x1x16x128) ![0, 0, 1, 0] S32x1x1x128.size inb_S32x1x16x128_S32x1x1x128_0_0_1_0).toLoadRect.idx j))) (k0_pay6 (headOf c 1 (kH.view.read (Elt Ideal) (a.k c)))) := rfl
  have rl : x678 a c (ix2 1 b) = x456 a c (ix2 b 0) := by
    pointwise [x678, k0_pay57]
  have el : x456 a c = k0_pay10 (F := Ideal) (x386 a c) (k0_pay5 (fun j => a.q c ((Rect.unit (s := S32x1x16x128) ![0, 0, 1, 0] S32x1x1x128.size inb_S32x1x16x128_S32x1x1x128_0_0_1_0).toLoadRect.idx j))) (k0_pay6 (headOf c 1 (kH.view.read (Elt Ideal) (a.k c)))) := rfl
  rw [rm, em, rl, el, ea]
  exact head_part G c 1 (fun j => a.q c ((Rect.unit (s := S32x1x16x128) ![0, 0, 1, 0] S32x1x1x128.size inb_S32x1x16x128_S32x1x1x128_0_0_1_0).toLoadRect.idx j)) b fun d => ((by pointwise : (fun j => a.q c ((Rect.unit (s := S32x1x16x128) ![0, 0, 1, 0] S32x1x1x128.size inb_S32x1x16x128_S32x1x1x128_0_0_1_0).toLoadRect.idx j)) (ix4 b 0 0 d) = a.q c (ix4 b 0 1 d))).trans (G.q c b 1 d)

theorem head2 (G : S.Of a) (c : Dev nD) (b : Fin 32) : Part (S.w1 c b 2) (S.x1 c b 2) (x676 a c (ix2 2 b)) (x678 a c (ix2 2 b)) (fun d => x494 a c (ix2 b d)) := by
  have ea : x494 a c = k0_pay11 (F := Ideal) (x386 a c) (k0_pay5 (fun j => a.q c ((Rect.unit (s := S32x1x16x128) ![0, 0, 2, 0] S32x1x1x128.size inb_S32x1x16x128_S32x1x1x128_0_0_2_0).toLoadRect.idx j))) (k0_pay6 (headOf c 2 (kH.view.read (Elt Ideal) (a.k c)))) (headOf c 2 (vH.view.read (Elt Ideal) (a.v c))) := rfl
  have rm : x676 a c (ix2 2 b) = x486 a c (ix2 b 0) := by
    pointwise [x676, k0_pay56]
  have em : x486 a c = k0_pay8 (F := Ideal) (k0_pay5 (fun j => a.q c ((Rect.unit (s := S32x1x16x128) ![0, 0, 2, 0] S32x1x1x128.size inb_S32x1x16x128_S32x1x1x128_0_0_2_0).toLoadRect.idx j))) (k0_pay6 (headOf c 2 (kH.view.read (Elt Ideal) (a.k c)))) := rfl
  have rl : x678 a c (ix2 2 b) = x492 a c (ix2 b 0) := by
    pointwise [x678, k0_pay57]
  have el : x492 a c = k0_pay10 (F := Ideal) (x386 a c) (k0_pay5 (fun j => a.q c ((Rect.unit (s := S32x1x16x128) ![0, 0, 2, 0] S32x1x1x128.size inb_S32x1x16x128_S32x1x1x128_0_0_2_0).toLoadRect.idx j))) (k0_pay6 (headOf c 2 (kH.view.read (Elt Ideal) (a.k c)))) := rfl
  rw [rm, em, rl, el, ea]
  exact head_part G c 2 (fun j => a.q c ((Rect.unit (s := S32x1x16x128) ![0, 0, 2, 0] S32x1x1x128.size inb_S32x1x16x128_S32x1x1x128_0_0_2_0).toLoadRect.idx j)) b fun d => ((by pointwise : (fun j => a.q c ((Rect.unit (s := S32x1x16x128) ![0, 0, 2, 0] S32x1x1x128.size inb_S32x1x16x128_S32x1x1x128_0_0_2_0).toLoadRect.idx j)) (ix4 b 0 0 d) = a.q c (ix4 b 0 2 d))).trans (G.q c b 2 d)

theorem head3 (G : S.Of a) (c : Dev nD) (b : Fin 32) : Part (S.w1 c b 3) (S.x1 c b 3) (x676 a c (ix2 3 b)) (x678 a c (ix2 3 b)) (fun d => x530 a c (ix2 b d)) := by
  have ea : x530 a c = k0_pay11 (F := Ideal) (x386 a c) (k0_pay5 (fun j => a.q c ((Rect.unit (s := S32x1x16x128) ![0, 0, 3, 0] S32x1x1x128.size inb_S32x1x16x128_S32x1x1x128_0_0_3_0).toLoadRect.idx j))) (k0_pay6 (headOf c 3 (kH.view.read (Elt Ideal) (a.k c)))) (headOf c 3 (vH.view.read (Elt Ideal) (a.v c))) := rfl
  have rm : x676 a c (ix2 3 b) = x522 a c (ix2 b 0) := by
    pointwise [x676, k0_pay56]
  have em : x522 a c = k0_pay8 (F := Ideal) (k0_pay5 (fun j => a.q c ((Rect.unit (s := S32x1x16x128) ![0, 0, 3, 0] S32x1x1x128.size inb_S32x1x16x128_S32x1x1x128_0_0_3_0).toLoadRect.idx j))) (k0_pay6 (headOf c 3 (kH.view.read (Elt Ideal) (a.k c)))) := rfl
  have rl : x678 a c (ix2 3 b) = x528 a c (ix2 b 0) := by
    pointwise [x678, k0_pay57]
  have el : x528 a c = k0_pay10 (F := Ideal) (x386 a c) (k0_pay5 (fun j => a.q c ((Rect.unit (s := S32x1x16x128) ![0, 0, 3, 0] S32x1x1x128.size inb_S32x1x16x128_S32x1x1x128_0_0_3_0).toLoadRect.idx j))) (k0_pay6 (headOf c 3 (kH.view.read (Elt Ideal) (a.k c)))) := rfl
  rw [rm, em, rl, el, ea]
  exact head_part G c 3 (fun j => a.q c ((Rect.unit (s := S32x1x16x128) ![0, 0, 3, 0] S32x1x1x128.size inb_S32x1x16x128_S32x1x1x128_0_0_3_0).toLoadRect.idx j)) b fun d => ((by pointwise : (fun j => a.q c ((Rect.unit (s := S32x1x16x128) ![0, 0, 3, 0] S32x1x1x128.size inb_S32x1x16x128_S32x1x1x128_0_0_3_0).toLoadRect.idx j)) (ix4 b 0 0 d) = a.q c (ix4 b 0 3 d))).trans (G.q c b 3 d)

theorem head4 (G : S.Of a) (c : Dev nD) (b : Fin 32) : Part (S.w1 c b 4) (S.x1 c b 4) (x676 a c (ix2 4 b)) (x678 a c (ix2 4 b)) (fun d => x566 a c (ix2 b d)) := by
  have ea : x566 a c = k0_pay11 (F := Ideal) (x386 a c) (k0_pay5 (fun j => a.q c ((Rect.unit (s := S32x1x16x128) ![0, 0, 4, 0] S32x1x1x128.size inb_S32x1x16x128_S32x1x1x128_0_0_4_0).toLoadRect.idx j))) (k0_pay6 (headOf c 4 (kH.view.read (Elt Ideal) (a.k c)))) (headOf c 4 (vH.view.read (Elt Ideal) (a.v c))) := rfl
  have rm : x676 a c (ix2 4 b) = x558 a c (ix2 b 0) := by
    pointwise [x676, k0_pay56]
  have em : x558 a c = k0_pay8 (F := Ideal) (k0_pay5 (fun j => a.q c ((Rect.unit (s := S32x1x16x128) ![0, 0, 4, 0] S32x1x1x128.size inb_S32x1x16x128_S32x1x1x128_0_0_4_0).toLoadRect.idx j))) (k0_pay6 (headOf c 4 (kH.view.read (Elt Ideal) (a.k c)))) := rfl
  have rl : x678 a c (ix2 4 b) = x564 a c (ix2 b 0) := by
    pointwise [x678, k0_pay57]
  have el : x564 a c = k0_pay10 (F := Ideal) (x386 a c) (k0_pay5 (fun j => a.q c ((Rect.unit (s := S32x1x16x128) ![0, 0, 4, 0] S32x1x1x128.size inb_S32x1x16x128_S32x1x1x128_0_0_4_0).toLoadRect.idx j))) (k0_pay6 (headOf c 4 (kH.view.read (Elt Ideal) (a.k c)))) := rfl
  rw [rm, em, rl, el, ea]
  exact head_part G c 4 (fun j => a.q c ((Rect.unit (s := S32x1x16x128) ![0, 0, 4, 0] S32x1x1x128.size inb_S32x1x16x128_S32x1x1x128_0_0_4_0).toLoadRect.idx j)) b fun d => ((by pointwise : (fun j => a.q c ((Rect.unit (s := S32x1x16x128) ![0, 0, 4, 0] S32x1x1x128.size inb_S32x1x16x128_S32x1x1x128_0_0_4_0).toLoadRect.idx j)) (ix4 b 0 0 d) = a.q c (ix4 b 0 4 d))).trans (G.q c b 4 d)

theorem head5 (G : S.Of a) (c : Dev nD) (b : Fin 32) : Part (S.w1 c b 5) (S.x1 c b 5) (x676 a c (ix2 5 b)) (x678 a c (ix2 5 b)) (fun d => x602 a c (ix2 b d)) := by
  have ea : x602 a c = k0_pay11 (F := Ideal) (x386 a c) (k0_pay5 (fun j => a.q c ((Rect.unit (s := S32x1x16x128) ![0, 0, 5, 0] S32x1x1x128.size inb_S32x1x16x128_S32x1x1x128_0_0_5_0).toLoadRect.idx j))) (k0_pay6 (headOf c 5 (kH.view.read (Elt Ideal) (a.k c)))) (headOf c 5 (vH.view.read (Elt Ideal) (a.v c))) := rfl
  have rm : x676 a c (ix2 5 b) = x594 a c (ix2 b 0) := by
    pointwise [x676, k0_pay56]
  have em : x594 a c = k0_pay8 (F := Ideal) (k0_pay5 (fun j => a.q c ((Rect.unit (s := S32x1x16x128) ![0, 0, 5, 0] S32x1x1x128.size inb_S32x1x16x128_S32x1x1x128_0_0_5_0).toLoadRect.idx j))) (k0_pay6 (headOf c 5 (kH.view.read (Elt Ideal) (a.k c)))) := rfl
  have rl : x678 a c (ix2 5 b) = x600 a c (ix2 b 0) := by
    pointwise [x678, k0_pay57]
  have el : x600 a c = k0_pay10 (F := Ideal) (x386 a c) (k0_pay5 (fun j => a.q c ((Rect.unit (s := S32x1x16x128) ![0, 0, 5, 0] S32x1x1x128.size inb_S32x1x16x128_S32x1x1x128_0_0_5_0).toLoadRect.idx j))) (k0_pay6 (headOf c 5 (kH.view.read (Elt Ideal) (a.k c)))) := rfl
  rw [rm, em, rl, el, ea]
  exact head_part G c 5 (fun j => a.q c ((Rect.unit (s := S32x1x16x128) ![0, 0, 5, 0] S32x1x1x128.size inb_S32x1x16x128_S32x1x1x128_0_0_5_0).toLoadRect.idx j)) b fun d => ((by pointwise : (fun j => a.q c ((Rect.unit (s := S32x1x16x128) ![0, 0, 5, 0] S32x1x1x128.size inb_S32x1x16x128_S32x1x1x128_0_0_5_0).toLoadRect.idx j)) (ix4 b 0 0 d) = a.q c (ix4 b 0 5 d))).trans (G.q c b 5 d)

theorem head6 (G : S.Of a) (c : Dev nD) (b : Fin 32) : Part (S.w1 c b 6) (S.x1 c b 6) (x676 a c (ix2 6 b)) (x678 a c (ix2 6 b)) (fun d => x638 a c (ix2 b d)) := by
  have ea : x638 a c = k0_pay11 (F := Ideal) (x386 a c) (k0_pay5 (fun j => a.q c ((Rect.unit (s := S32x1x16x128) ![0, 0, 6, 0] S32x1x1x128.size inb_S32x1x16x128_S32x1x1x128_0_0_6_0).toLoadRect.idx j))) (k0_pay6 (headOf c 6 (kH.view.read (Elt Ideal) (a.k c)))) (headOf c 6 (vH.view.read (Elt Ideal) (a.v c))) := rfl
  have rm : x676 a c (ix2 6 b) = x630 a c (ix2 b 0) := by
    pointwise [x676, k0_pay56]
  have em : x630 a c = k0_pay8 (F := Ideal) (k0_pay5 (fun j => a.q c ((Rect.unit (s := S32x1x16x128) ![0, 0, 6, 0] S32x1x1x128.size inb_S32x1x16x128_S32x1x1x128_0_0_6_0).toLoadRect.idx j))) (k0_pay6 (headOf c 6 (kH.view.read (Elt Ideal) (a.k c)))) := rfl
  have rl : x678 a c (ix2 6 b) = x636 a c (ix2 b 0) := by
    pointwise [x678, k0_pay57]
  have el : x636 a c = k0_pay10 (F := Ideal) (x386 a c) (k0_pay5 (fun j => a.q c ((Rect.unit (s := S32x1x16x128) ![0, 0, 6, 0] S32x1x1x128.size inb_S32x1x16x128_S32x1x1x128_0_0_6_0).toLoadRect.idx j))) (k0_pay6 (headOf c 6 (kH.view.read (Elt Ideal) (a.k c)))) := rfl
  rw [rm, em, rl, el, ea]
  exact head_part G c 6 (fun j => a.q c ((Rect.unit (s := S32x1x16x128) ![0, 0, 6, 0] S32x1x1x128.size inb_S32x1x16x128_S32x1x1x128_0_0_6_0).toLoadRect.idx j)) b fun d => ((by pointwise : (fun j => a.q c ((Rect.unit (s := S32x1x16x128) ![0, 0, 6, 0] S32x1x1x128.size inb_S32x1x16x128_S32x1x1x128_0_0_6_0).toLoadRect.idx j)) (ix4 b 0 0 d) = a.q c (ix4 b 0 6 d))).trans (G.q c b 6 d)

theorem head7 (G : S.Of a) (c : Dev nD) (b : Fin 32) : Part (S.w1 c b 7) (S.x1 c b 7) (x676 a c (ix2 7 b)) (x678 a c (ix2 7 b)) (fun d => x674 a c (ix2 b d)) := by
  have ea : x674 a c = k0_pay11 (F := Ideal) (x386 a c) (k0_pay5 (fun j => a.q c ((Rect.unit (s := S32x1x16x128) ![0, 0, 7, 0] S32x1x1x128.size inb_S32x1x16x128_S32x1x1x128_0_0_7_0).toLoadRect.idx j))) (k0_pay6 (headOf c 7 (kH.view.read (Elt Ideal) (a.k c)))) (headOf c 7 (vH.view.read (Elt Ideal) (a.v c))) := rfl
  have rm : x676 a c (ix2 7 b) = k0_pay53 (x641 a c) (headOf c 7 (kH.view.read (Elt Ideal) (a.k c))) (ix2 b 0) := by
    pointwise [x676, k0_pay56]
  have em : k0_pay53 (F := Ideal) (x641 a c) (headOf c 7 (kH.view.read (Elt Ideal) (a.k c))) = k0_pay8 (F := Ideal) (k0_pay5 (fun j => a.q c ((Rect.unit (s := S32x1x16x128) ![0, 0, 7, 0] S32x1x1x128.size inb_S32x1x16x128_S32x1x1x128_0_0_7_0).toLoadRect.idx j))) (k0_pay6 (headOf c 7 (kH.view.read (Elt Ideal) (a.k c)))) := rfl
  have rl : x678 a c (ix2 7 b) = ∑ t : Fin 2048, k0_pay54 (x386 a c) (x641 a c) (headOf c 7 (kH.view.read (Elt Ideal) (a.k c))) (ix2 b t) := by
    pointwise [x678, k0_pay57]
  have el : k0_pay54 (F := Ideal) (x386 a c) (x641 a c) (headOf c 7 (kH.view.read (Elt Ideal) (a.k c))) = k0_pay9 (F := Ideal) (x386 a c) (k0_pay5 (fun j => a.q c ((Rect.unit (s := S32x1x16x128) ![0, 0, 7, 0] S32x1x1x128.size inb_S32x1x16x128_S32x1x1x128_0_0_7_0).toLoadRect.idx j))) (k0_pay6 (headOf c 7 (kH.view.read (Elt Ideal) (a.k c)))) := rfl
  rw [rm, em, rl, el, ← pay10_at, ea]
  exact head_part G c 7 (fun j => a.q c ((Rect.unit (s := S32x1x16x128) ![0, 0, 7, 0] S32x1x1x128.size inb_S32x1x16x128_S32x1x1x128_0_0_7_0).toLoadRect.idx j)) b fun d => ((by pointwise : (fun j => a.q c ((Rect.unit (s := S32x1x16x128) ![0, 0, 7, 0] S32x1x1x128.size inb_S32x1x16x128_S32x1x1x128_0_0_7_0).toLoadRect.idx j)) (ix4 b 0 0 d) = a.q c (ix4 b 0 7 d))).trans (G.q c b 7 d)

theorem head8 (G : S.Of a) (c : Dev nD) (b : Fin 32) : Part (S.w1 c b 8) (S.x1 c b 8) (x1127 a c (ix2 0 b)) (x1129 a c (ix2 0 b)) (fun d => x873 a c (ix2 b d)) := by
  have ea : x873 a c = k0_pay11 (F := Ideal) (x386 a c) (k0_pay5 (fun j => a.q c ((Rect.unit (s := S32x1x16x128) ![0, 0, 8, 0] S32x1x1x128.size inb_S32x1x16x128_S32x1x1x128_0_0_8_0).toLoadRect.idx j))) (k0_pay6 (headOf c 8 (kH.view.read (Elt Ideal) (a.k c)))) (headOf c 8 (vH.view.read (Elt Ideal) (a.v c))) := rfl
  have rm : x1127 a c (ix2 0 b) = x865 a c (ix2 b 0) := by
    pointwise [x1127, k0_pay120]
  have em : x865 a c = k0_pay8 (F := Ideal) (k0_pay5 (fun j => a.q c ((Rect.unit (s := S32x1x16x128) ![0, 0, 8, 0] S32x1x1x128.size inb_S32x1x16x128_S32x1x1x128_0_0_8_0).toLoadRect.idx j))) (k0_pay6 (headOf c 8 (kH.view.read (Elt Ideal) (a.k c)))) := rfl
  have rl : x1129 a c (ix2 0 b) = x871 a c (ix2 b 0) := by
    pointwise [x1129, k0_pay121]
  have el : x871 a c = k0_pay10 (F := Ideal) (x386 a c) (k0_pay5 (fun j => a.q c ((Rect.unit (s := S32x1x16x128) ![0, 0, 8, 0] S32x1x1x128.size inb_S32x1x16x128_S32x1x1x128_0_0_8_0).toLoadRect.idx j))) (k0_pay6 (headOf c 8 (kH.view.read (Elt Ideal) (a.k c)))) := rfl
  rw [rm, em, rl, el, ea]
  exact head_part G c 8 (fun j => a.q c ((Rect.unit (s := S32x1x16x128) ![0, 0, 8, 0] S32x1x1x128.size inb_S32x1x16x128_S32x1x1x128_0_0_8_0).toLoadRect.idx j)) b fun d => ((by pointwise : (fun j => a.q c ((Rect.unit (s := S32x1x16x128) ![0, 0, 8, 0] S32x1x1x128.size inb_S32x1x16x128_S32x1x1x128_0_0_8_0).toLoadRect.idx j)) (ix4 b 0 0 d) = a.q c (ix4 b 0 8 d))).trans (G.q c b 8 d)

theorem head9 (G : S.Of a) (c : Dev nD) (b : Fin 32) : Part (S.w1 c b 9) (S.x1 c b 9) (x1127 a c (ix2 1 b)) (x1129 a c (ix2 1 b)) (fun d => x909 a c (ix2 b d)) := by
  have ea : x909 a c = k0_pay11 (F := Ideal) (x386 a c) (k0_pay5 (fun j => a.q c ((Rect.unit (s := S32x1x16x128) ![0, 0, 9, 0] S32x1x1x128.size inb_S32x1x16x128_S32x1x1x128_0_0_9_0).toLoadRect.idx j))) (k0_pay6 (headOf c 9 (kH.view.read (Elt Ideal) (a.k c)))) (headOf c 9 (vH.view.read (Elt Ideal) (a.v c))) := rfl
  have rm : x1127 a c (ix2 1 b) = x901 a c (ix2 b 0) := by
    pointwise [x1127, k0_pay120]
  have em : x901 a c = k0_pay8 (F := Ideal) (k0_pay5 (fun j => a.q c ((Rect.unit (s := S32x1x16x128) ![0, 0, 9, 0] S32x1x1x128.size inb_S32x1x16x128_S32x1x1x128_0_0_9_0).toLoadRect.idx j))) (k0_pay6 (headOf c 9 (kH.view.read (Elt Ideal) (a.k c)))) := rfl
  have rl : x1129 a c (ix2 1 b) = x907 a c (ix2 b 0) := by
    pointwise [x1129, k0_pay121]
  have el : x907 a c = k0_pay10 (F := Ideal) (x386 a c) (k0_pay5 (fun j => a.q c ((Rect.unit (s := S32x1x16x128) ![0, 0, 9, 0] S32x1x1x128.size inb_S32x1x16x128_S32x1x1x128_0_0_9_0).toLoadRect.idx j))) (k0_pay6 (headOf c 9 (kH.view.read (Elt Ideal) (a.k c)))) := rfl
  rw [rm, em, rl, el, ea]
  exact head_part G c 9 (fun j => a.q c ((Rect.unit (s := S32x1x16x128) ![0, 0, 9, 0] S32x1x1x128.size inb_S32x1x16x128_S32x1x1x128_0_0_9_0).toLoadRect.idx j)) b fun d => ((by pointwise : (fun j => a.q c ((Rect.unit (s := S32x1x16x128) ![0, 0, 9, 0] S32x1x1x128.size inb_S32x1x16x128_S32x1x1x128_0_0_9_0).toLoadRect.idx j)) (ix4 b 0 0 d) = a.q c (ix4 b 0 9 d))).trans (G.q c b 9 d)

theorem head10 (G : S.Of a) (c : Dev nD) (b : Fin 32) : Part (S.w1 c b 10) (S.x1 c b 10) (x1127 a c (ix2 2 b)) (x1129 a c (ix2 2 b)) (fun d => x945 a c (ix2 b d)) := by
  have ea : x945 a c = k0_pay11 (F := Ideal) (x386 a c) (k0_pay5 (fun j => a.q c ((Rect.unit (s := S32x1x16x128) ![0, 0, 10, 0] S32x1x1x128.size inb_S32x1x16x128_S32x1x1x128_0_0_10_0).toLoadRect.idx j))) (k0_pay6 (headOf c 10 (kH.view.read (Elt Ideal) (a.k c)))) (headOf c 10 (vH.view.read (Elt Ideal) (a.v c))) := rfl
  have rm : x1127 a c (ix2 2 b) = x937 a c (ix2 b 0) := by
    pointwise [x1127, k0_pay120]
  have em : x937 a c = k0_pay8 (F := Ideal) (k0_pay5 (fun j => a.q c ((Rect.unit (s := S32x1x16x128) ![0, 0, 10, 0] S32x1x1x128.size inb_S32x1x16x128_S32x1x1x128_0_0_10_0).toLoadRect.idx j))) (k0_pay6 (headOf c 10 (kH.view.read (Elt Ideal) (a.k c)))) := rfl
  have rl : x1129 a c (ix2 2 b) = x943 a c (ix2 b 0) := by
    pointwise [x1129, k0_pay121]
  have el : x943 a c = k0_pay10 (F := Ideal) (x386 a c) (k0_pay5 (fun j => a.q c ((Rect.unit (s := S32x1x16x128) ![0, 0, 10, 0] S32x1x1x128.size inb_S32x1x16x128_S32x1x1x128_0_0_10_0).toLoadRect.idx j))) (k0_pay6 (headOf c 10 (kH.view.read (Elt Ideal) (a.k c)))) := rfl
  rw [rm, em, rl, el, ea]
  exact head_part G c 10 (fun j => a.q c ((Rect.unit (s := S32x1x16x128) ![0, 0, 10, 0] S32x1x1x128.size inb_S32x1x16x128_S32x1x1x128_0_0_10_0).toLoadRect.idx j)) b fun d => ((by pointwise : (fun j => a.q c ((Rect.unit (s := S32x1x16x128) ![0, 0, 10, 0] S32x1x1x128.size inb_S32x1x16x128_S32x1x1x128_0_0_10_0).toLoadRect.idx j)) (ix4 b 0 0 d) = a.q c (ix4 b 0 10 d))).trans (G.q c b 10 d)

theorem head11 (G : S.Of a) (c : Dev nD) (b : Fin 32) : Part (S.w1 c b 11) (S.x1 c b 11) (x1127 a c (ix2 3 b)) (x1129 a c (ix2 3 b)) (fun d => x981 a c (ix2 b d)) := by
  have ea : x981 a c = k0_pay11 (F := Ideal) (x386 a c) (k0_pay5 (fun j => a.q c ((Rect.unit (s := S32x1x16x128) ![0, 0, 11, 0] S32x1x1x128.size inb_S32x1x16x128_S32x1x1x128_0_0_11_0).toLoadRect.idx j))) (k0_pay6 (headOf c 11 (kH.view.read (Elt Ideal) (a.k c)))) (headOf c 11 (vH.view.read (Elt Ideal) (a.v c))) := rfl
  have rm : x1127 a c (ix2 3 b) = x973 a c (ix2 b 0) := by
    pointwise [x1127, k0_pay120]
  have em : x973 a c = k0_pay8 (F := Ideal) (k0_pay5 (fun j => a.q c ((Rect.unit (s := S32x1x16x128) ![0, 0, 11, 0] S32x1x1x128.size inb_S32x1x16x128_S32x1x1x128_0_0_11_0).toLoadRect.idx j))) (k0_pay6 (headOf c 11 (kH.view.read (Elt Ideal) (a.k c)))) := rfl
  have rl : x1129 a c (ix2 3 b) = x979 a c (ix2 b 0) := by
    pointwise [x1129, k0_pay121]
  have el : x979 a c = k0_pay10 (F := Ideal) (x386 a c) (k0_pay5 (fun j => a.q c ((Rect.unit (s := S32x1x16x128) ![0, 0, 11, 0] S32x1x1x128.size inb_S32x1x16x128_S32x1x1x128_0_0_11_0).toLoadRect.idx j))) (k0_pay6 (headOf c 11 (kH.view.read (Elt Ideal) (a.k c)))) := rfl
  rw [rm, em, rl, el, ea]
  exact head_part G c 11 (fun j => a.q c ((Rect.unit (s := S32x1x16x128) ![0, 0, 11, 0] S32x1x1x128.size inb_S32x1x16x128_S32x1x1x128_0_0_11_0).toLoadRect.idx j)) b fun d => ((by pointwise : (fun j => a.q c ((Rect.unit (s := S32x1x16x128) ![0, 0, 11, 0] S32x1x1x128.size inb_S32x1x16x128_S32x1x1x128_0_0_11_0).toLoadRect.idx j)) (ix4 b 0 0 d) = a.q c (ix4 b 0 11 d))).trans (G.q c b 11 d)

theorem head12 (G : S.Of a) (c : Dev nD) (b : Fin 32) : Part (S.w1 c b 12) (S.x1 c b 12) (x1127 a c (ix2 4 b)) (x1129 a c (ix2 4 b)) (fun d => x1017 a c (ix2 b d)) := by
  have ea : x1017 a c = k0_pay11 (F := Ideal) (x386 a c) (k0_pay5 (fun j => a.q c ((Rect.unit (s := S32x1x16x128) ![0, 0, 12, 0] S32x1x1x128.size inb_S32x1x16x128_S32x1x1x128_0_0_12_0).toLoadRect.idx j))) (k0_pay6 (headOf c 12 (kH.view.read (Elt Ideal) (a.k c)))) (headOf c 12 (vH.view.read (Elt Ideal) (a.v c))) := rfl
  have rm : x1127 a c (ix2 4 b) = x1009 a c (ix2 b 0) := by
    pointwise [x1127, k0_pay120]
  have em : x1009 a c = k0_pay8 (F := Ideal) (k0_pay5 (fun j => a.q c ((Rect.unit (s := S32x1x16x128) ![0, 0, 12, 0] S32x1x1x128.size inb_S32x1x16x128_S32x1x1x128_0_0_12_0).toLoadRect.idx j))) (k0_pay6 (headOf c 12 (kH.view.read (Elt Ideal) (a.k c)))) := rfl
  have rl : x1129 a c (ix2 4 b) = x1015 a c (ix2 b 0) := by
    pointwise [x1129, k0_pay121]
  have el : x1015 a c = k0_pay10 (F := Ideal) (x386 a c) (k0_pay5 (fun j => a.q c ((Rect.unit (s := S32x1x16x128) ![0, 0, 12, 0] S32x1x1x128.size inb_S32x1x16x128_S32x1x1x128_0_0_12_0).toLoadRect.idx j))) (k0_pay6 (headOf c 12 (kH.view.read (Elt Ideal) (a.k c)))) := rfl
  rw [rm, em, rl, el, ea]
  exact head_part G c 12 (fun j => a.q c ((Rect.unit (s := S32x1x16x128) ![0, 0, 12, 0] S32x1x1x128.size inb_S32x1x16x128_S32x1x1x128_0_0_12_0).toLoadRect.idx j)) b fun d => ((by pointwise : (fun j => a.q c ((Rect.unit (s := S32x1x16x128) ![0, 0, 12, 0] S32x1x1x128.size inb_S32x1x16x128_S32x1x1x128_0_0_12_0).toLoadRect.idx j)) (ix4 b 0 0 d) = a.q c (ix4 b 0 12 d))).trans (G.q c b 12 d)

theorem head13 (G : S.Of a) (c : Dev nD) (b : Fin 32) : Part (S.w1 c b 13) (S.x1 c b 13) (x1127 a c (ix2 5 b)) (x1129 a c (ix2 5 b)) (fun d => x1053 a c (ix2 b d)) := by
  have ea : x1053 a c = k0_pay11 (F := Ideal) (x386 a c) (k0_pay5 (fun j => a.q c ((Rect.unit (s := S32x1x16x128) ![0, 0, 13, 0] S32x1x1x128.size inb_S32x1x16x128_S32x1x1x128_0_0_13_0).toLoadRect.idx j))) (k0_pay6 (headOf c 13 (kH.view.read (Elt Ideal) (a.k c)))) (headOf c 13 (vH.view.read (Elt Ideal) (a.v c))) := rfl
  have rm : x1127 a c (ix2 5 b) = x1045 a c (ix2 b 0) := by
    pointwise [x1127, k0_pay120]
  have em : x1045 a c = k0_pay8 (F := Ideal) (k0_pay5 (fun j => a.q c ((Rect.unit (s := S32x1x16x128) ![0, 0, 13, 0] S32x1x1x128.size inb_S32x1x16x128_S32x1x1x128_0_0_13_0).toLoadRect.idx j))) (k0_pay6 (headOf c 13 (kH.view.read (Elt Ideal) (a.k c)))) := rfl
  have rl : x1129 a c (ix2 5 b) = x1051 a c (ix2 b 0) := by
    pointwise [x1129, k0_pay121]
  have el : x1051 a c = k0_pay10 (F := Ideal) (x386 a c) (k0_pay5 (fun j => a.q c ((Rect.unit (s := S32x1x16x128) ![0, 0, 13, 0] S32x1x1x128.size inb_S32x1x16x128_S32x1x1x128_0_0_13_0).toLoadRect.idx j))) (k0_pay6 (headOf c 13 (kH.view.read (Elt Ideal) (a.k c)))) := rfl
  rw [rm, em, rl, el, ea]
  exact head_part G c 13 (fun j => a.q c ((Rect.unit (s := S32x1x16x128) ![0, 0, 13, 0] S32x1x1x128.size inb_S32x1x16x128_S32x1x1x128_0_0_13_0).toLoadRect.idx j)) b fun d => ((by pointwise : (fun j => a.q c ((Rect.unit (s := S32x1x16x128) ![0, 0, 13, 0] S32x1x1x128.size inb_S32x1x16x128_S32x1x1x128_0_0_13_0).toLoadRect.idx j)) (ix4 b 0 0 d) = a.q c (ix4 b 0 13 d))).trans (G.q c b 13 d)

theorem head14 (G : S.Of a) (c : Dev nD) (b : Fin 32) : Part (S.w1 c b 14) (S.x1 c b 14) (x1127 a c (ix2 6 b)) (x1129 a c (ix2 6 b)) (fun d => x1089 a c (ix2 b d)) := by
  have ea : x1089 a c = k0_pay11 (F := Ideal) (x386 a c) (k0_pay5 (fun j => a.q c ((Rect.unit (s := S32x1x16x128) ![0, 0, 14, 0] S32x1x1x128.size inb_S32x1x16x128_S32x1x1x128_0_0_14_0).toLoadRect.idx j))) (k0_pay6 (headOf c 14 (kH.view.read (Elt Ideal) (a.k c)))) (headOf c 14 (vH.view.read (Elt Ideal) (a.v c))) := rfl
  have rm : x1127 a c (ix2 6 b) = x1081 a c (ix2 b 0) := by
    pointwise [x1127, k0_pay120]
  have em : x1081 a c = k0_pay8 (F := Ideal) (k0_pay5 (fun j => a.q c ((Rect.unit (s := S32x1x16x128) ![0, 0, 14, 0] S32x1x1x128.size inb_S32x1x16x128_S32x1x1x128_0_0_14_0).toLoadRect.idx j))) (k0_pay6 (headOf c 14 (kH.view.read (Elt Ideal) (a.k c)))) := rfl
  have rl : x1129 a c (ix2 6 b) = x1087 a c (ix2 b 0) := by
    pointwise [x1129, k0_pay121]
  have el : x1087 a c = k0_pay10 (F := Ideal) (x386 a c) (k0_pay5 (fun j => a.q c ((Rect.unit (s := S32x1x16x128) ![0, 0, 14, 0] S32x1x1x128.size inb_S32x1x16x128_S32x1x1x128_0_0_14_0).toLoadRect.idx j))) (k0_pay6 (headOf c 14 (kH.view.read (Elt Ideal) (a.k c)))) := rfl
  rw [rm, em, rl, el, ea]
  exact head_part G c 14 (fun j => a.q c ((Rect.unit (s := S32x1x16x128) ![0, 0, 14, 0] S32x1x1x128.size inb_S32x1x16x128_S32x1x1x128_0_0_14_0).toLoadRect.idx j)) b fun d => ((by pointwise : (fun j => a.q c ((Rect.unit (s := S32x1x16x128) ![0, 0, 14, 0] S32x1x1x128.size inb_S32x1x16x128_S32x1x1x128_0_0_14_0).toLoadRect.idx j)) (ix4 b 0 0 d) = a.q c (ix4 b 0 14 d))).trans (G.q c b 14 d)

theorem head15 (G : S.Of a) (c : Dev nD) (b : Fin 32) : Part (S.w1 c b 15) (S.x1 c b 15) (x1127 a c (ix2 7 b)) (x1129 a c (ix2 7 b)) (fun d => x1125 a c (ix2 b d)) := by
  have ea : x1125 a c = k0_pay11 (F := Ideal) (x386 a c) (k0_pay5 (fun j => a.q c ((Rect.unit (s := S32x1x16x128) ![0, 0, 15, 0] S32x1x1x128.size inb_S32x1x16x128_S32x1x1x128_0_0_15_0).toLoadRect.idx j))) (k0_pay6 (headOf c 15 (kH.view.read (Elt Ideal) (a.k c)))) (headOf c 15 (vH.view.read (Elt Ideal) (a.v c))) := rfl
  have rm : x1127 a c (ix2 7 b) = k0_pay117 (x1092 a c) (x1108 a c) (ix2 b 0) := by
    pointwise [x1127, k0_pay120]
  have em : k0_pay117 (F := Ideal) (x1092 a c) (x1108 a c) = k0_pay8 (F := Ideal) (k0_pay5 (fun j => a.q c ((Rect.unit (s := S32x1x16x128) ![0, 0, 15, 0] S32x1x1x128.size inb_S32x1x16x128_S32x1x1x128_0_0_15_0).toLoadRect.idx j))) (k0_pay6 (headOf c 15 (kH.view.read (Elt Ideal) (a.k c)))) := rfl
  have rl : x1129 a c (ix2 7 b) = ∑ t : Fin 2048, k0_pay118 (x386 a c) (x1092 a c) (x1108 a c) (ix2 b t) := by
    pointwise [x1129, k0_pay121]
  have el : k0_pay118 (F := Ideal) (x386 a c) (x1092 a c) (x1108 a c) = k0_pay9 (F := Ideal) (x386 a c) (k0_pay5 (fun j => a.q c ((Rect.unit (s := S32x1x16x128) ![0, 0, 15, 0] S32x1x1x128.size inb_S32x1x16x128_S32x1x1x128_0_0_15_0).toLoadRect.idx j))) (k0_pay6 (headOf c 15 (kH.view.read (Elt Ideal) (a.k c)))) := rfl
  rw [rm, em, rl, el, ← pay10_at, ea]
  exact head_part G c 15 (fun j => a.q c ((Rect.unit (s := S32x1x16x128) ![0, 0, 15, 0] S32x1x1x128.size inb_S32x1x16x128_S32x1x1x128_0_0_15_0).toLoadRect.idx j)) b fun d => ((by pointwise : (fun j => a.q c ((Rect.unit (s := S32x1x16x128) ![0, 0, 15, 0] S32x1x1x128.size inb_S32x1x16x128_S32x1x1x128_0_0_15_0).toLoadRect.idx j)) (ix4 b 0 0 d) = a.q c (ix4 b 0 15 d))).trans (G.q c b 15 d)

end Cert.KernelIdealPf

end
-- ==== Proof.VStage1.lean ====
/-
The first stage: a device's partial softmax and three neighbours', merged.
-/
module

public import proofs.«01_k».proof.Proof.VHeads

@[expose] public section

set_option maxRecDepth 16384

noncomputable section

namespace Cert.KernelIdealPf

open Cert.KernelIdeal Cert.KernelIdeal.Gen Cert.RefPf
open Idealize.ShloMosaic Idealize.ShloMosaic.TcCoe

namespace Spec
variable (S : Spec)

/-- A device's and its three neighbours' of the first stage. -/
def w2 (c : Dev nD) (b : Fin 32) (h : Fin 16) : ℝ := S.w1 c b h + S.w1 (nb c (opp 0)) b h + S.w1 (nb c (opp 1)) b h + S.w1 (nb c (opp 2)) b h
def x2 (c : Dev nD) (b : Fin 32) (h : Fin 16) (d : Fin 128) : EReal := S.x1 c b h d + S.x1 (nb c (opp 0)) b h d + S.x1 (nb c (opp 1)) b h d + S.x1 (nb c (opp 2)) b h d

end Spec

variable {S : Spec} {a : Args Ideal}

theorem stage1_0 (G : S.Of a) (c : Dev nD) (b : Fin 32) : Part (S.w2 c b 0) (S.x2 c b 0) (x1339 a c (ix2 0 b)) (x1354 a c (ix2 0 b)) (fun d => x1379 a c (ix2 b d)) := by
  have hm : x1339 a c (ix2 0 b) = max (max (max (x676 a c (ix2 0 b)) (x676 a (nb c (opp 0)) (ix2 0 b))) (x676 a (nb c (opp 1)) (ix2 0 b))) (x676 a (nb c (opp 2)) (ix2 0 b)) := by
    pointwise [x1339, y00M, k0_pay66, rowBox, k0_pay137, k0_pay134, k0_pay133, k0_pay132]
  have hl : x1354 a c (ix2 0 b) = Ideal.exp (x676 a c (ix2 0 b) - x1339 a c (ix2 0 b)) * x678 a c (ix2 0 b) + Ideal.exp (x676 a (nb c (opp 0)) (ix2 0 b) - x1339 a c (ix2 0 b)) * x678 a (nb c (opp 0)) (ix2 0 b) + Ideal.exp (x676 a (nb c (opp 1)) (ix2 0 b) - x1339 a c (ix2 0 b)) * x678 a (nb c (opp 1)) (ix2 0 b) + Ideal.exp (x676 a (nb c (opp 2)) (ix2 0 b) - x1339 a c (ix2 0 b)) * x678 a (nb c (opp 2)) (ix2 0 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1379 a c (ix2 b d) = x422 a c (ix2 b d) * Ideal.exp (x676 a c (ix2 0 b) - x1339 a c (ix2 0 b)) + x422 a (nb c (opp 0)) (ix2 b d) * Ideal.exp (x676 a (nb c (opp 0)) (ix2 0 b) - x1339 a c (ix2 0 b)) + x422 a (nb c (opp 1)) (ix2 b d) * Ideal.exp (x676 a (nb c (opp 1)) (ix2 0 b) - x1339 a c (ix2 0 b)) + x422 a (nb c (opp 2)) (ix2 b d) * Ideal.exp (x676 a (nb c (opp 2)) (ix2 0 b) - x1339 a c (ix2 0 b)) := fun d => by
    pointwise [x1379, y00A0, k0_pay58, accBox, x1347, y00M, k0_pay66, rowBox, k0_pay141, k0_pay137, k0_pay134, k0_pay133, k0_pay132, x1345, k0_pay140, x1343, k0_pay139, x1341, k0_pay138, k0_pay148, k0_pay147, k0_pay146, k0_pay145, k0_pay144, x1339]
  exact Part.merge (head0 G c b) (head0 G (nb c (opp 0)) b) (head0 G (nb c (opp 1)) b) (head0 G (nb c (opp 2)) b) hm hl ha

theorem stage1_1 (G : S.Of a) (c : Dev nD) (b : Fin 32) : Part (S.w2 c b 1) (S.x2 c b 1) (x1339 a c (ix2 1 b)) (x1354 a c (ix2 1 b)) (fun d => x1400 a c (ix2 b d)) := by
  have hm : x1339 a c (ix2 1 b) = max (max (max (x676 a c (ix2 1 b)) (x676 a (nb c (opp 0)) (ix2 1 b))) (x676 a (nb c (opp 1)) (ix2 1 b))) (x676 a (nb c (opp 2)) (ix2 1 b)) := by
    pointwise [x1339, y00M, k0_pay66, rowBox, k0_pay137, k0_pay134, k0_pay133, k0_pay132]
  have hl : x1354 a c (ix2 1 b) = Ideal.exp (x676 a c (ix2 1 b) - x1339 a c (ix2 1 b)) * x678 a c (ix2 1 b) + Ideal.exp (x676 a (nb c (opp 0)) (ix2 1 b) - x1339 a c (ix2 1 b)) * x678 a (nb c (opp 0)) (ix2 1 b) + Ideal.exp (x676 a (nb c (opp 1)) (ix2 1 b) - x1339 a c (ix2 1 b)) * x678 a (nb c (opp 1)) (ix2 1 b) + Ideal.exp (x676 a (nb c (opp 2)) (ix2 1 b) - x1339 a c (ix2 1 b)) * x678 a (nb c (opp 2)) (ix2 1 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1400 a c (ix2 b d) = x458 a c (ix2 b d) * Ideal.exp (x676 a c (ix2 1 b) - x1339 a c (ix2 1 b)) + x458 a (nb c (opp 0)) (ix2 b d) * Ideal.exp (x676 a (nb c (opp 0)) (ix2 1 b) - x1339 a c (ix2 1 b)) + x458 a (nb c (opp 1)) (ix2 b d) * Ideal.exp (x676 a (nb c (opp 1)) (ix2 1 b) - x1339 a c (ix2 1 b)) + x458 a (nb c (opp 2)) (ix2 b d) * Ideal.exp (x676 a (nb c (opp 2)) (ix2 1 b) - x1339 a c (ix2 1 b)) := fun d => by
    pointwise [x1400, y00A1, k0_pay59, accBox, x1388, x1343, y00M, k0_pay66, rowBox, k0_pay139, k0_pay137, k0_pay134, k0_pay133, k0_pay132, x1341, k0_pay138, k0_pay149, k0_pay145, k0_pay144, x1358, x1347, k0_pay141, k0_pay147, x1357, x1345, k0_pay140, k0_pay146, k0_pay150, x1339]
  exact Part.merge (head1 G c b) (head1 G (nb c (opp 0)) b) (head1 G (nb c (opp 1)) b) (head1 G (nb c (opp 2)) b) hm hl ha

theorem stage1_2 (G : S.Of a) (c : Dev nD) (b : Fin 32) : Part (S.w2 c b 2) (S.x2 c b 2) (x1339 a c (ix2 2 b)) (x1354 a c (ix2 2 b)) (fun d => x1421 a c (ix2 b d)) := by
  have hm : x1339 a c (ix2 2 b) = max (max (max (x676 a c (ix2 2 b)) (x676 a (nb c (opp 0)) (ix2 2 b))) (x676 a (nb c (opp 1)) (ix2 2 b))) (x676 a (nb c (opp 2)) (ix2 2 b)) := by
    pointwise [x1339, y00M, k0_pay66, rowBox, k0_pay137, k0_pay134, k0_pay133, k0_pay132]
  have hl : x1354 a c (ix2 2 b) = Ideal.exp (x676 a c (ix2 2 b) - x1339 a c (ix2 2 b)) * x678 a c (ix2 2 b) + Ideal.exp (x676 a (nb c (opp 0)) (ix2 2 b) - x1339 a c (ix2 2 b)) * x678 a (nb c (opp 0)) (ix2 2 b) + Ideal.exp (x676 a (nb c (opp 1)) (ix2 2 b) - x1339 a c (ix2 2 b)) * x678 a (nb c (opp 1)) (ix2 2 b) + Ideal.exp (x676 a (nb c (opp 2)) (ix2 2 b) - x1339 a c (ix2 2 b)) * x678 a (nb c (opp 2)) (ix2 2 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1421 a c (ix2 b d) = x494 a c (ix2 b d) * Ideal.exp (x676 a c (ix2 2 b) - x1339 a c (ix2 2 b)) + x494 a (nb c (opp 0)) (ix2 b d) * Ideal.exp (x676 a (nb c (opp 0)) (ix2 2 b) - x1339 a c (ix2 2 b)) + x494 a (nb c (opp 1)) (ix2 b d) * Ideal.exp (x676 a (nb c (opp 1)) (ix2 2 b) - x1339 a c (ix2 2 b)) + x494 a (nb c (opp 2)) (ix2 b d) * Ideal.exp (x676 a (nb c (opp 2)) (ix2 2 b) - x1339 a c (ix2 2 b)) := fun d => by
    pointwise [x1421, y00A2, k0_pay60, accBox, x1358, x1347, y00M, k0_pay66, rowBox, k0_pay141, k0_pay137, k0_pay134, k0_pay133, k0_pay132, k0_pay147, x1357, x1345, k0_pay140, k0_pay146, x1356, x1343, k0_pay139, k0_pay145, x1355, x1341, k0_pay138, k0_pay144, k0_pay151, x1339]
  exact Part.merge (head2 G c b) (head2 G (nb c (opp 0)) b) (head2 G (nb c (opp 1)) b) (head2 G (nb c (opp 2)) b) hm hl ha

theorem stage1_3 (G : S.Of a) (c : Dev nD) (b : Fin 32) : Part (S.w2 c b 3) (S.x2 c b 3) (x1339 a c (ix2 3 b)) (x1354 a c (ix2 3 b)) (fun d => x1442 a c (ix2 b d)) := by
  have hm : x1339 a c (ix2 3 b) = max (max (max (x676 a c (ix2 3 b)) (x676 a (nb c (opp 0)) (ix2 3 b))) (x676 a (nb c (opp 1)) (ix2 3 b))) (x676 a (nb c (opp 2)) (ix2 3 b)) := by
    pointwise [x1339, y00M, k0_pay66, rowBox, k0_pay137, k0_pay134, k0_pay133, k0_pay132]
  have hl : x1354 a c (ix2 3 b) = Ideal.exp (x676 a c (ix2 3 b) - x1339 a c (ix2 3 b)) * x678 a c (ix2 3 b) + Ideal.exp (x676 a (nb c (opp 0)) (ix2 3 b) - x1339 a c (ix2 3 b)) * x678 a (nb c (opp 0)) (ix2 3 b) + Ideal.exp (x676 a (nb c (opp 1)) (ix2 3 b) - x1339 a c (ix2 3 b)) * x678 a (nb c (opp 1)) (ix2 3 b) + Ideal.exp (x676 a (nb c (opp 2)) (ix2 3 b) - x1339 a c (ix2 3 b)) * x678 a (nb c (opp 2)) (ix2 3 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1442 a c (ix2 b d) = x530 a c (ix2 b d) * Ideal.exp (x676 a c (ix2 3 b) - x1339 a c (ix2 3 b)) + x530 a (nb c (opp 0)) (ix2 b d) * Ideal.exp (x676 a (nb c (opp 0)) (ix2 3 b) - x1339 a c (ix2 3 b)) + x530 a (nb c (opp 1)) (ix2 b d) * Ideal.exp (x676 a (nb c (opp 1)) (ix2 3 b) - x1339 a c (ix2 3 b)) + x530 a (nb c (opp 2)) (ix2 b d) * Ideal.exp (x676 a (nb c (opp 2)) (ix2 3 b) - x1339 a c (ix2 3 b)) := fun d => by
    pointwise [x1442, y00A3, k0_pay61, accBox, x1424, x1355, x1341, y00M, k0_pay66, rowBox, k0_pay138, k0_pay137, k0_pay134, k0_pay133, k0_pay132, k0_pay144, k0_pay152, x1358, x1347, k0_pay141, k0_pay147, x1357, x1345, k0_pay140, k0_pay146, x1356, x1343, k0_pay139, k0_pay145, k0_pay153, x1339]
  exact Part.merge (head3 G c b) (head3 G (nb c (opp 0)) b) (head3 G (nb c (opp 1)) b) (head3 G (nb c (opp 2)) b) hm hl ha

theorem stage1_4 (G : S.Of a) (c : Dev nD) (b : Fin 32) : Part (S.w2 c b 4) (S.x2 c b 4) (x1339 a c (ix2 4 b)) (x1354 a c (ix2 4 b)) (fun d => x1463 a c (ix2 b d)) := by
  have hm : x1339 a c (ix2 4 b) = max (max (max (x676 a c (ix2 4 b)) (x676 a (nb c (opp 0)) (ix2 4 b))) (x676 a (nb c (opp 1)) (ix2 4 b))) (x676 a (nb c (opp 2)) (ix2 4 b)) := by
    pointwise [x1339, y00M, k0_pay66, rowBox, k0_pay137, k0_pay134, k0_pay133, k0_pay132]
  have hl : x1354 a c (ix2 4 b) = Ideal.exp (x676 a c (ix2 4 b) - x1339 a c (ix2 4 b)) * x678 a c (ix2 4 b) + Ideal.exp (x676 a (nb c (opp 0)) (ix2 4 b) - x1339 a c (ix2 4 b)) * x678 a (nb c (opp 0)) (ix2 4 b) + Ideal.exp (x676 a (nb c (opp 1)) (ix2 4 b) - x1339 a c (ix2 4 b)) * x678 a (nb c (opp 1)) (ix2 4 b) + Ideal.exp (x676 a (nb c (opp 2)) (ix2 4 b) - x1339 a c (ix2 4 b)) * x678 a (nb c (opp 2)) (ix2 4 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1463 a c (ix2 b d) = x566 a c (ix2 b d) * Ideal.exp (x676 a c (ix2 4 b) - x1339 a c (ix2 4 b)) + x566 a (nb c (opp 0)) (ix2 b d) * Ideal.exp (x676 a (nb c (opp 0)) (ix2 4 b) - x1339 a c (ix2 4 b)) + x566 a (nb c (opp 1)) (ix2 b d) * Ideal.exp (x676 a (nb c (opp 1)) (ix2 4 b) - x1339 a c (ix2 4 b)) + x566 a (nb c (opp 2)) (ix2 b d) * Ideal.exp (x676 a (nb c (opp 2)) (ix2 4 b) - x1339 a c (ix2 4 b)) := fun d => by
    pointwise [x1463, y00A4, k0_pay62, accBox, x1457, x1357, x1345, y00M, k0_pay66, rowBox, k0_pay140, k0_pay137, k0_pay134, k0_pay133, k0_pay132, k0_pay146, x1356, x1343, k0_pay139, k0_pay145, x1355, x1341, k0_pay138, k0_pay144, k0_pay154, x1358, x1347, k0_pay141, k0_pay147, k0_pay155, x1339]
  exact Part.merge (head4 G c b) (head4 G (nb c (opp 0)) b) (head4 G (nb c (opp 1)) b) (head4 G (nb c (opp 2)) b) hm hl ha

theorem stage1_5 (G : S.Of a) (c : Dev nD) (b : Fin 32) : Part (S.w2 c b 5) (S.x2 c b 5) (x1339 a c (ix2 5 b)) (x1354 a c (ix2 5 b)) (fun d => x1484 a c (ix2 b d)) := by
  have hm : x1339 a c (ix2 5 b) = max (max (max (x676 a c (ix2 5 b)) (x676 a (nb c (opp 0)) (ix2 5 b))) (x676 a (nb c (opp 1)) (ix2 5 b))) (x676 a (nb c (opp 2)) (ix2 5 b)) := by
    pointwise [x1339, y00M, k0_pay66, rowBox, k0_pay137, k0_pay134, k0_pay133, k0_pay132]
  have hl : x1354 a c (ix2 5 b) = Ideal.exp (x676 a c (ix2 5 b) - x1339 a c (ix2 5 b)) * x678 a c (ix2 5 b) + Ideal.exp (x676 a (nb c (opp 0)) (ix2 5 b) - x1339 a c (ix2 5 b)) * x678 a (nb c (opp 0)) (ix2 5 b) + Ideal.exp (x676 a (nb c (opp 1)) (ix2 5 b) - x1339 a c (ix2 5 b)) * x678 a (nb c (opp 1)) (ix2 5 b) + Ideal.exp (x676 a (nb c (opp 2)) (ix2 5 b) - x1339 a c (ix2 5 b)) * x678 a (nb c (opp 2)) (ix2 5 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1484 a c (ix2 b d) = x602 a c (ix2 b d) * Ideal.exp (x676 a c (ix2 5 b) - x1339 a c (ix2 5 b)) + x602 a (nb c (opp 0)) (ix2 b d) * Ideal.exp (x676 a (nb c (opp 0)) (ix2 5 b) - x1339 a c (ix2 5 b)) + x602 a (nb c (opp 1)) (ix2 b d) * Ideal.exp (x676 a (nb c (opp 1)) (ix2 5 b) - x1339 a c (ix2 5 b)) + x602 a (nb c (opp 2)) (ix2 b d) * Ideal.exp (x676 a (nb c (opp 2)) (ix2 5 b) - x1339 a c (ix2 5 b)) := fun d => by
    pointwise [x1484, y00A5, k0_pay63, accBox, x1358, x1347, y00M, k0_pay66, rowBox, k0_pay141, k0_pay137, k0_pay134, k0_pay133, k0_pay132, k0_pay147, x1357, x1345, k0_pay140, k0_pay146, x1356, x1343, k0_pay139, k0_pay145, x1355, x1341, k0_pay138, k0_pay144, k0_pay156, x1339]
  exact Part.merge (head5 G c b) (head5 G (nb c (opp 0)) b) (head5 G (nb c (opp 1)) b) (head5 G (nb c (opp 2)) b) hm hl ha

theorem stage1_6 (G : S.Of a) (c : Dev nD) (b : Fin 32) : Part (S.w2 c b 6) (S.x2 c b 6) (x1339 a c (ix2 6 b)) (x1354 a c (ix2 6 b)) (fun d => x1505 a c (ix2 b d)) := by
  have hm : x1339 a c (ix2 6 b) = max (max (max (x676 a c (ix2 6 b)) (x676 a (nb c (opp 0)) (ix2 6 b))) (x676 a (nb c (opp 1)) (ix2 6 b))) (x676 a (nb c (opp 2)) (ix2 6 b)) := by
    pointwise [x1339, y00M, k0_pay66, rowBox, k0_pay137, k0_pay134, k0_pay133, k0_pay132]
  have hl : x1354 a c (ix2 6 b) = Ideal.exp (x676 a c (ix2 6 b) - x1339 a c (ix2 6 b)) * x678 a c (ix2 6 b) + Ideal.exp (x676 a (nb c (opp 0)) (ix2 6 b) - x1339 a c (ix2 6 b)) * x678 a (nb c (opp 0)) (ix2 6 b) + Ideal.exp (x676 a (nb c (opp 1)) (ix2 6 b) - x1339 a c (ix2 6 b)) * x678 a (nb c (opp 1)) (ix2 6 b) + Ideal.exp (x676 a (nb c (opp 2)) (ix2 6 b) - x1339 a c (ix2 6 b)) * x678 a (nb c (opp 2)) (ix2 6 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1505 a c (ix2 b d) = x638 a c (ix2 b d) * Ideal.exp (x676 a c (ix2 6 b) - x1339 a c (ix2 6 b)) + x638 a (nb c (opp 0)) (ix2 b d) * Ideal.exp (x676 a (nb c (opp 0)) (ix2 6 b) - x1339 a c (ix2 6 b)) + x638 a (nb c (opp 1)) (ix2 b d) * Ideal.exp (x676 a (nb c (opp 1)) (ix2 6 b) - x1339 a c (ix2 6 b)) + x638 a (nb c (opp 2)) (ix2 b d) * Ideal.exp (x676 a (nb c (opp 2)) (ix2 6 b) - x1339 a c (ix2 6 b)) := fun d => by
    pointwise [x1505, y00A6, k0_pay64, accBox, x1493, x1356, x1343, y00M, k0_pay66, rowBox, k0_pay139, k0_pay137, k0_pay134, k0_pay133, k0_pay132, k0_pay145, x1355, x1341, k0_pay138, k0_pay144, k0_pay157, x1358, x1347, k0_pay141, k0_pay147, x1357, x1345, k0_pay140, k0_pay146, k0_pay158, x1339]
  exact Part.merge (head6 G c b) (head6 G (nb c (opp 0)) b) (head6 G (nb c (opp 1)) b) (head6 G (nb c (opp 2)) b) hm hl ha

theorem stage1_7 (G : S.Of a) (c : Dev nD) (b : Fin 32) : Part (S.w2 c b 7) (S.x2 c b 7) (x1339 a c (ix2 7 b)) (x1354 a c (ix2 7 b)) (fun d => x1526 a c (ix2 b d)) := by
  have hm : x1339 a c (ix2 7 b) = max (max (max (x676 a c (ix2 7 b)) (x676 a (nb c (opp 0)) (ix2 7 b))) (x676 a (nb c (opp 1)) (ix2 7 b))) (x676 a (nb c (opp 2)) (ix2 7 b)) := by
    pointwise [x1339, y00M, k0_pay66, rowBox, k0_pay137, k0_pay134, k0_pay133, k0_pay132]
  have hl : x1354 a c (ix2 7 b) = Ideal.exp (x676 a c (ix2 7 b) - x1339 a c (ix2 7 b)) * x678 a c (ix2 7 b) + Ideal.exp (x676 a (nb c (opp 0)) (ix2 7 b) - x1339 a c (ix2 7 b)) * x678 a (nb c (opp 0)) (ix2 7 b) + Ideal.exp (x676 a (nb c (opp 1)) (ix2 7 b) - x1339 a c (ix2 7 b)) * x678 a (nb c (opp 1)) (ix2 7 b) + Ideal.exp (x676 a (nb c (opp 2)) (ix2 7 b) - x1339 a c (ix2 7 b)) * x678 a (nb c (opp 2)) (ix2 7 b) := by
    pointwise [x1354, x1350, y00L, k0_pay67, rowBox, y00M, k0_pay66, k0_pay142, k0_pay139, k0_pay137, k0_pay134, k0_pay133, k0_pay132, k0_pay138, x1347, k0_pay141, x1345, k0_pay140, x1336, k0_pay136, x1334, k0_pay135, k0_pay143, x1339]
  have ha : ∀ d : Fin 128, x1526 a c (ix2 b d) = x674 a c (ix2 b d) * Ideal.exp (x676 a c (ix2 7 b) - x1339 a c (ix2 7 b)) + x674 a (nb c (opp 0)) (ix2 b d) * Ideal.exp (x676 a (nb c (opp 0)) (ix2 7 b) - x1339 a c (ix2 7 b)) + x674 a (nb c (opp 1)) (ix2 b d) * Ideal.exp (x676 a (nb c (opp 1)) (ix2 7 b) - x1339 a c (ix2 7 b)) + x674 a (nb c (opp 2)) (ix2 b d) * Ideal.exp (x676 a (nb c (opp 2)) (ix2 7 b) - x1339 a c (ix2 7 b)) := fun d => by
    pointwise [x1526, y00A7, k0_pay65, accBox, x1358, x1347, y00M, k0_pay66, rowBox, k0_pay141, k0_pay137, k0_pay134, k0_pay133, k0_pay132, k0_pay147, x1357, x1345, k0_pay140, k0_pay146, x1356, x1343, k0_pay139, k0_pay145, x1355, x1341, k0_pay138, k0_pay144, k0_pay159, x1339]
  exact Part.merge (head7 G c b) (head7 G (nb c (opp 0)) b) (head7 G (nb c (opp 1)) b) (head7 G (nb c (opp 2)) b) hm hl ha

theorem stage1_8 (G : S.Of a) (c : Dev nD) (b : Fin 32) : Part (S.w2 c b 8) (S.x2 c b 8) (x1682 a c (ix2 0 b)) (x1697 a c (ix2 0 b)) (fun d => x1722 a c (ix2 b d)) := by
  have hm : x1682 a c (ix2 0 b) = max (max (max (x1127 a c (ix2 0 b)) (x1127 a (nb c (opp 0)) (ix2 0 b))) (x1127 a (nb c (opp 1)) (ix2 0 b))) (x1127 a (nb c (opp 2)) (ix2 0 b)) := by
    pointwise [x1682, x1681, y01M, k0_pay130, rowBox, k0_pay176, k0_pay171, k0_pay170, x1673, k0_pay172, k0_pay177]
  have hl : x1697 a c (ix2 0 b) = Ideal.exp (x1127 a c (ix2 0 b) - x1682 a c (ix2 0 b)) * x1129 a c (ix2 0 b) + Ideal.exp (x1127 a (nb c (opp 0)) (ix2 0 b) - x1682 a c (ix2 0 b)) * x1129 a (nb c (opp 0)) (ix2 0 b) + Ideal.exp (x1127 a (nb c (opp 1)) (ix2 0 b) - x1682 a c (ix2 0 b)) * x1129 a (nb c (opp 1)) (ix2 0 b) + Ideal.exp (x1127 a (nb c (opp 2)) (ix2 0 b) - x1682 a c (ix2 0 b)) * x1129 a (nb c (opp 2)) (ix2 0 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1722 a c (ix2 b d) = x873 a c (ix2 b d) * Ideal.exp (x1127 a c (ix2 0 b) - x1682 a c (ix2 0 b)) + x873 a (nb c (opp 0)) (ix2 b d) * Ideal.exp (x1127 a (nb c (opp 0)) (ix2 0 b) - x1682 a c (ix2 0 b)) + x873 a (nb c (opp 1)) (ix2 b d) * Ideal.exp (x1127 a (nb c (opp 1)) (ix2 0 b) - x1682 a c (ix2 0 b)) + x873 a (nb c (opp 2)) (ix2 b d) * Ideal.exp (x1127 a (nb c (opp 2)) (ix2 0 b) - x1682 a c (ix2 0 b)) := fun d => by
    pointwise [x1722, y01A0, k0_pay122, accBox, x1681, y01M, k0_pay130, rowBox, k0_pay176, k0_pay171, k0_pay170, x1673, k0_pay172, x1671, x1669, k0_pay187, k0_pay186, k0_pay181, k0_pay177, k0_pay185, k0_pay180, k0_pay184, k0_pay179, k0_pay183, k0_pay178, x1682]
  exact Part.merge (head8 G c b) (head8 G (nb c (opp 0)) b) (head8 G (nb c (opp 1)) b) (head8 G (nb c (opp 2)) b) hm hl ha

theorem stage1_9 (G : S.Of a) (c : Dev nD) (b : Fin 32) : Part (S.w2 c b 9) (S.x2 c b 9) (x1682 a c (ix2 1 b)) (x1697 a c (ix2 1 b)) (fun d => x1743 a c (ix2 b d)) := by
  have hm : x1682 a c (ix2 1 b) = max (max (max (x1127 a c (ix2 1 b)) (x1127 a (nb c (opp 0)) (ix2 1 b))) (x1127 a (nb c (opp 1)) (ix2 1 b))) (x1127 a (nb c (opp 2)) (ix2 1 b)) := by
    pointwise [x1682, x1681, y01M, k0_pay130, rowBox, k0_pay176, k0_pay171, k0_pay170, x1673, k0_pay172, k0_pay177]
  have hl : x1697 a c (ix2 1 b) = Ideal.exp (x1127 a c (ix2 1 b) - x1682 a c (ix2 1 b)) * x1129 a c (ix2 1 b) + Ideal.exp (x1127 a (nb c (opp 0)) (ix2 1 b) - x1682 a c (ix2 1 b)) * x1129 a (nb c (opp 0)) (ix2 1 b) + Ideal.exp (x1127 a (nb c (opp 1)) (ix2 1 b) - x1682 a c (ix2 1 b)) * x1129 a (nb c (opp 1)) (ix2 1 b) + Ideal.exp (x1127 a (nb c (opp 2)) (ix2 1 b) - x1682 a c (ix2 1 b)) * x1129 a (nb c (opp 2)) (ix2 1 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1743 a c (ix2 b d) = x909 a c (ix2 b d) * Ideal.exp (x1127 a c (ix2 1 b) - x1682 a c (ix2 1 b)) + x909 a (nb c (opp 0)) (ix2 b d) * Ideal.exp (x1127 a (nb c (opp 0)) (ix2 1 b) - x1682 a c (ix2 1 b)) + x909 a (nb c (opp 1)) (ix2 b d) * Ideal.exp (x1127 a (nb c (opp 1)) (ix2 1 b) - x1682 a c (ix2 1 b)) + x909 a (nb c (opp 2)) (ix2 b d) * Ideal.exp (x1127 a (nb c (opp 2)) (ix2 1 b) - x1682 a c (ix2 1 b)) := fun d => by
    pointwise [x1743, y01A1, k0_pay123, accBox, x1725, x1681, y01M, k0_pay130, rowBox, k0_pay176, k0_pay171, k0_pay170, x1673, k0_pay172, k0_pay188, k0_pay183, k0_pay178, k0_pay177, x1701, k0_pay186, k0_pay181, x1700, x1671, k0_pay185, k0_pay180, x1699, x1669, k0_pay184, k0_pay179, k0_pay189, x1682]
  exact Part.merge (head9 G c b) (head9 G (nb c (opp 0)) b) (head9 G (nb c (opp 1)) b) (head9 G (nb c (opp 2)) b) hm hl ha

theorem stage1_10 (G : S.Of a) (c : Dev nD) (b : Fin 32) : Part (S.w2 c b 10) (S.x2 c b 10) (x1682 a c (ix2 2 b)) (x1697 a c (ix2 2 b)) (fun d => x1764 a c (ix2 b d)) := by
  have hm : x1682 a c (ix2 2 b) = max (max (max (x1127 a c (ix2 2 b)) (x1127 a (nb c (opp 0)) (ix2 2 b))) (x1127 a (nb c (opp 1)) (ix2 2 b))) (x1127 a (nb c (opp 2)) (ix2 2 b)) := by
    pointwise [x1682, x1681, y01M, k0_pay130, rowBox, k0_pay176, k0_pay171, k0_pay170, x1673, k0_pay172, k0_pay177]
  have hl : x1697 a c (ix2 2 b) = Ideal.exp (x1127 a c (ix2 2 b) - x1682 a c (ix2 2 b)) * x1129 a c (ix2 2 b) + Ideal.exp (x1127 a (nb c (opp 0)) (ix2 2 b) - x1682 a c (ix2 2 b)) * x1129 a (nb c (opp 0)) (ix2 2 b) + Ideal.exp (x1127 a (nb c (opp 1)) (ix2 2 b) - x1682 a c (ix2 2 b)) * x1129 a (nb c (opp 1)) (ix2 2 b) + Ideal.exp (x1127 a (nb c (opp 2)) (ix2 2 b) - x1682 a c (ix2 2 b)) * x1129 a (nb c (opp 2)) (ix2 2 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1764 a c (ix2 b d) = x945 a c (ix2 b d) * Ideal.exp (x1127 a c (ix2 2 b) - x1682 a c (ix2 2 b)) + x945 a (nb c (opp 0)) (ix2 b d) * Ideal.exp (x1127 a (nb c (opp 0)) (ix2 2 b) - x1682 a c (ix2 2 b)) + x945 a (nb c (opp 1)) (ix2 b d) * Ideal.exp (x1127 a (nb c (opp 1)) (ix2 2 b) - x1682 a c (ix2 2 b)) + x945 a (nb c (opp 2)) (ix2 b d) * Ideal.exp (x1127 a (nb c (opp 2)) (ix2 2 b) - x1682 a c (ix2 2 b)) := fun d => by
    pointwise [x1764, y01A2, k0_pay124, accBox, x1758, x1700, x1681, y01M, k0_pay130, rowBox, k0_pay176, k0_pay171, k0_pay170, x1673, k0_pay172, x1671, k0_pay185, k0_pay180, k0_pay177, x1699, x1669, k0_pay184, k0_pay179, x1698, k0_pay183, k0_pay178, k0_pay190, x1701, k0_pay186, k0_pay181, k0_pay191, x1682]
  exact Part.merge (head10 G c b) (head10 G (nb c (opp 0)) b) (head10 G (nb c (opp 1)) b) (head10 G (nb c (opp 2)) b) hm hl ha

theorem stage1_11 (G : S.Of a) (c : Dev nD) (b : Fin 32) : Part (S.w2 c b 11) (S.x2 c b 11) (x1682 a c (ix2 3 b)) (x1697 a c (ix2 3 b)) (fun d => x1785 a c (ix2 b d)) := by
  have hm : x1682 a c (ix2 3 b) = max (max (max (x1127 a c (ix2 3 b)) (x1127 a (nb c (opp 0)) (ix2 3 b))) (x1127 a (nb c (opp 1)) (ix2 3 b))) (x1127 a (nb c (opp 2)) (ix2 3 b)) := by
    pointwise [x1682, x1681, y01M, k0_pay130, rowBox, k0_pay176, k0_pay171, k0_pay170, x1673, k0_pay172, k0_pay177]
  have hl : x1697 a c (ix2 3 b) = Ideal.exp (x1127 a c (ix2 3 b) - x1682 a c (ix2 3 b)) * x1129 a c (ix2 3 b) + Ideal.exp (x1127 a (nb c (opp 0)) (ix2 3 b) - x1682 a c (ix2 3 b)) * x1129 a (nb c (opp 0)) (ix2 3 b) + Ideal.exp (x1127 a (nb c (opp 1)) (ix2 3 b) - x1682 a c (ix2 3 b)) * x1129 a (nb c (opp 1)) (ix2 3 b) + Ideal.exp (x1127 a (nb c (opp 2)) (ix2 3 b) - x1682 a c (ix2 3 b)) * x1129 a (nb c (opp 2)) (ix2 3 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1785 a c (ix2 b d) = x981 a c (ix2 b d) * Ideal.exp (x1127 a c (ix2 3 b) - x1682 a c (ix2 3 b)) + x981 a (nb c (opp 0)) (ix2 b d) * Ideal.exp (x1127 a (nb c (opp 0)) (ix2 3 b) - x1682 a c (ix2 3 b)) + x981 a (nb c (opp 1)) (ix2 b d) * Ideal.exp (x1127 a (nb c (opp 1)) (ix2 3 b) - x1682 a c (ix2 3 b)) + x981 a (nb c (opp 2)) (ix2 b d) * Ideal.exp (x1127 a (nb c (opp 2)) (ix2 3 b) - x1682 a c (ix2 3 b)) := fun d => by
    pointwise [x1785, y01A3, k0_pay125, accBox, x1701, x1681, y01M, k0_pay130, rowBox, k0_pay176, k0_pay171, k0_pay170, x1673, k0_pay172, k0_pay186, k0_pay181, k0_pay177, x1700, x1671, k0_pay185, k0_pay180, x1699, x1669, k0_pay184, k0_pay179, x1698, k0_pay183, k0_pay178, k0_pay192, x1682]
  exact Part.merge (head11 G c b) (head11 G (nb c (opp 0)) b) (head11 G (nb c (opp 1)) b) (head11 G (nb c (opp 2)) b) hm hl ha

theorem stage1_12 (G : S.Of a) (c : Dev nD) (b : Fin 32) : Part (S.w2 c b 12) (S.x2 c b 12) (x1682 a c (ix2 4 b)) (x1697 a c (ix2 4 b)) (fun d => x1806 a c (ix2 b d)) := by
  have hm : x1682 a c (ix2 4 b) = max (max (max (x1127 a c (ix2 4 b)) (x1127 a (nb c (opp 0)) (ix2 4 b))) (x1127 a (nb c (opp 1)) (ix2 4 b))) (x1127 a (nb c (opp 2)) (ix2 4 b)) := by
    pointwise [x1682, x1681, y01M, k0_pay130, rowBox, k0_pay176, k0_pay171, k0_pay170, x1673, k0_pay172, k0_pay177]
  have hl : x1697 a c (ix2 4 b) = Ideal.exp (x1127 a c (ix2 4 b) - x1682 a c (ix2 4 b)) * x1129 a c (ix2 4 b) + Ideal.exp (x1127 a (nb c (opp 0)) (ix2 4 b) - x1682 a c (ix2 4 b)) * x1129 a (nb c (opp 0)) (ix2 4 b) + Ideal.exp (x1127 a (nb c (opp 1)) (ix2 4 b) - x1682 a c (ix2 4 b)) * x1129 a (nb c (opp 1)) (ix2 4 b) + Ideal.exp (x1127 a (nb c (opp 2)) (ix2 4 b) - x1682 a c (ix2 4 b)) * x1129 a (nb c (opp 2)) (ix2 4 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1806 a c (ix2 b d) = x1017 a c (ix2 b d) * Ideal.exp (x1127 a c (ix2 4 b) - x1682 a c (ix2 4 b)) + x1017 a (nb c (opp 0)) (ix2 b d) * Ideal.exp (x1127 a (nb c (opp 0)) (ix2 4 b) - x1682 a c (ix2 4 b)) + x1017 a (nb c (opp 1)) (ix2 b d) * Ideal.exp (x1127 a (nb c (opp 1)) (ix2 4 b) - x1682 a c (ix2 4 b)) + x1017 a (nb c (opp 2)) (ix2 b d) * Ideal.exp (x1127 a (nb c (opp 2)) (ix2 4 b) - x1682 a c (ix2 4 b)) := fun d => by
    pointwise [x1806, y01A4, k0_pay126, accBox, x1794, x1699, x1681, y01M, k0_pay130, rowBox, k0_pay176, k0_pay171, k0_pay170, x1673, k0_pay172, x1669, k0_pay184, k0_pay179, k0_pay177, x1698, k0_pay183, k0_pay178, k0_pay193, x1701, k0_pay186, k0_pay181, x1700, x1671, k0_pay185, k0_pay180, k0_pay194, x1682]
  exact Part.merge (head12 G c b) (head12 G (nb c (opp 0)) b) (head12 G (nb c (opp 1)) b) (head12 G (nb c (opp 2)) b) hm hl ha

theorem stage1_13 (G : S.Of a) (c : Dev nD) (b : Fin 32) : Part (S.w2 c b 13) (S.x2 c b 13) (x1682 a c (ix2 5 b)) (x1697 a c (ix2 5 b)) (fun d => x1827 a c (ix2 b d)) := by
  have hm : x1682 a c (ix2 5 b) = max (max (max (x1127 a c (ix2 5 b)) (x1127 a (nb c (opp 0)) (ix2 5 b))) (x1127 a (nb c (opp 1)) (ix2 5 b))) (x1127 a (nb c (opp 2)) (ix2 5 b)) := by
    pointwise [x1682, x1681, y01M, k0_pay130, rowBox, k0_pay176, k0_pay171, k0_pay170, x1673, k0_pay172, k0_pay177]
  have hl : x1697 a c (ix2 5 b) = Ideal.exp (x1127 a c (ix2 5 b) - x1682 a c (ix2 5 b)) * x1129 a c (ix2 5 b) + Ideal.exp (x1127 a (nb c (opp 0)) (ix2 5 b) - x1682 a c (ix2 5 b)) * x1129 a (nb c (opp 0)) (ix2 5 b) + Ideal.exp (x1127 a (nb c (opp 1)) (ix2 5 b) - x1682 a c (ix2 5 b)) * x1129 a (nb c (opp 1)) (ix2 5 b) + Ideal.exp (x1127 a (nb c (opp 2)) (ix2 5 b) - x1682 a c (ix2 5 b)) * x1129 a (nb c (opp 2)) (ix2 5 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1827 a c (ix2 b d) = x1053 a c (ix2 b d) * Ideal.exp (x1127 a c (ix2 5 b) - x1682 a c (ix2 5 b)) + x1053 a (nb c (opp 0)) (ix2 b d) * Ideal.exp (x1127 a (nb c (opp 0)) (ix2 5 b) - x1682 a c (ix2 5 b)) + x1053 a (nb c (opp 1)) (ix2 b d) * Ideal.exp (x1127 a (nb c (opp 1)) (ix2 5 b) - x1682 a c (ix2 5 b)) + x1053 a (nb c (opp 2)) (ix2 b d) * Ideal.exp (x1127 a (nb c (opp 2)) (ix2 5 b) - x1682 a c (ix2 5 b)) := fun d => by
    pointwise [x1827, y01A5, k0_pay127, accBox, x1701, x1681, y01M, k0_pay130, rowBox, k0_pay176, k0_pay171, k0_pay170, x1673, k0_pay172, k0_pay186, k0_pay181, k0_pay177, x1700, x1671, k0_pay185, k0_pay180, x1699, x1669, k0_pay184, k0_pay179, x1698, k0_pay183, k0_pay178, k0_pay195, x1682]
  exact Part.merge (head13 G c b) (head13 G (nb c (opp 0)) b) (head13 G (nb c (opp 1)) b) (head13 G (nb c (opp 2)) b) hm hl ha

theorem stage1_14 (G : S.Of a) (c : Dev nD) (b : Fin 32) : Part (S.w2 c b 14) (S.x2 c b 14) (x1682 a c (ix2 6 b)) (x1697 a c (ix2 6 b)) (fun d => x1848 a c (ix2 b d)) := by
  have hm : x1682 a c (ix2 6 b) = max (max (max (x1127 a c (ix2 6 b)) (x1127 a (nb c (opp 0)) (ix2 6 b))) (x1127 a (nb c (opp 1)) (ix2 6 b))) (x1127 a (nb c (opp 2)) (ix2 6 b)) := by
    pointwise [x1682, x1681, y01M, k0_pay130, rowBox, k0_pay176, k0_pay171, k0_pay170, x1673, k0_pay172, k0_pay177]
  have hl : x1697 a c (ix2 6 b) = Ideal.exp (x1127 a c (ix2 6 b) - x1682 a c (ix2 6 b)) * x1129 a c (ix2 6 b) + Ideal.exp (x1127 a (nb c (opp 0)) (ix2 6 b) - x1682 a c (ix2 6 b)) * x1129 a (nb c (opp 0)) (ix2 6 b) + Ideal.exp (x1127 a (nb c (opp 1)) (ix2 6 b) - x1682 a c (ix2 6 b)) * x1129 a (nb c (opp 1)) (ix2 6 b) + Ideal.exp (x1127 a (nb c (opp 2)) (ix2 6 b) - x1682 a c (ix2 6 b)) * x1129 a (nb c (opp 2)) (ix2 6 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1848 a c (ix2 b d) = x1089 a c (ix2 b d) * Ideal.exp (x1127 a c (ix2 6 b) - x1682 a c (ix2 6 b)) + x1089 a (nb c (opp 0)) (ix2 b d) * Ideal.exp (x1127 a (nb c (opp 0)) (ix2 6 b) - x1682 a c (ix2 6 b)) + x1089 a (nb c (opp 1)) (ix2 b d) * Ideal.exp (x1127 a (nb c (opp 1)) (ix2 6 b) - x1682 a c (ix2 6 b)) + x1089 a (nb c (opp 2)) (ix2 b d) * Ideal.exp (x1127 a (nb c (opp 2)) (ix2 6 b) - x1682 a c (ix2 6 b)) := fun d => by
    pointwise [x1848, y01A6, k0_pay128, accBox, x1830, x1698, x1681, y01M, k0_pay130, rowBox, k0_pay176, k0_pay171, k0_pay170, x1673, k0_pay172, k0_pay183, k0_pay178, k0_pay177, k0_pay196, x1701, k0_pay186, k0_pay181, x1700, x1671, k0_pay185, k0_pay180, x1699, x1669, k0_pay184, k0_pay179, k0_pay197, x1682]
  exact Part.merge (head14 G c b) (head14 G (nb c (opp 0)) b) (head14 G (nb c (opp 1)) b) (head14 G (nb c (opp 2)) b) hm hl ha

theorem stage1_15 (G : S.Of a) (c : Dev nD) (b : Fin 32) : Part (S.w2 c b 15) (S.x2 c b 15) (x1682 a c (ix2 7 b)) (x1697 a c (ix2 7 b)) (fun d => x1869 a c (ix2 b d)) := by
  have hm : x1682 a c (ix2 7 b) = max (max (max (x1127 a c (ix2 7 b)) (x1127 a (nb c (opp 0)) (ix2 7 b))) (x1127 a (nb c (opp 1)) (ix2 7 b))) (x1127 a (nb c (opp 2)) (ix2 7 b)) := by
    pointwise [x1682, x1681, y01M, k0_pay130, rowBox, k0_pay176, k0_pay171, k0_pay170, x1673, k0_pay172, k0_pay177]
  have hl : x1697 a c (ix2 7 b) = Ideal.exp (x1127 a c (ix2 7 b) - x1682 a c (ix2 7 b)) * x1129 a c (ix2 7 b) + Ideal.exp (x1127 a (nb c (opp 0)) (ix2 7 b) - x1682 a c (ix2 7 b)) * x1129 a (nb c (opp 0)) (ix2 7 b) + Ideal.exp (x1127 a (nb c (opp 1)) (ix2 7 b) - x1682 a c (ix2 7 b)) * x1129 a (nb c (opp 1)) (ix2 7 b) + Ideal.exp (x1127 a (nb c (opp 2)) (ix2 7 b) - x1682 a c (ix2 7 b)) * x1129 a (nb c (opp 2)) (ix2 7 b) := by
    pointwise [x1697, x1681, y01M, k0_pay130, rowBox, k0_pay176, k0_pay171, k0_pay170, x1679, y01L, k0_pay131, k0_pay175, x1677, k0_pay174, x1675, k0_pay173, x1673, k0_pay172, x1671, x1669, k0_pay182, k0_pay181, k0_pay177, k0_pay180, k0_pay179, k0_pay178, x1682]
  have ha : ∀ d : Fin 128, x1869 a c (ix2 b d) = x1125 a c (ix2 b d) * Ideal.exp (x1127 a c (ix2 7 b) - x1682 a c (ix2 7 b)) + x1125 a (nb c (opp 0)) (ix2 b d) * Ideal.exp (x1127 a (nb c (opp 0)) (ix2 7 b) - x1682 a c (ix2 7 b)) + x1125 a (nb c (opp 1)) (ix2 b d) * Ideal.exp (x1127 a (nb c (opp 1)) (ix2 7 b) - x1682 a c (ix2 7 b)) + x1125 a (nb c (opp 2)) (ix2 b d) * Ideal.exp (x1127 a (nb c (opp 2)) (ix2 7 b) - x1682 a c (ix2 7 b)) := fun d => by
    pointwise [x1869, y01A7, k0_pay129, accBox, x1863, x1700, x1681, y01M, k0_pay130, rowBox, k0_pay176, k0_pay171, k0_pay170, x1673, k0_pay172, x1671, k0_pay185, k0_pay180, k0_pay177, x1699, x1669, k0_pay184, k0_pay179, x1698, k0_pay183, k0_pay178, k0_pay198, x1701, k0_pay186, k0_pay181, k0_pay199, x1682]
  exact Part.merge (head15 G c b) (head15 G (nb c (opp 0)) b) (head15 G (nb c (opp 1)) b) (head15 G (nb c (opp 2)) b) hm hl ha

end Cert.KernelIdealPf

end
-- ==== Proof.VStage2.lean ====
/-
The second stage, and the quotient at its end.
-/
module

public import proofs.«01_k».proof.Proof.VStage1

@[expose] public section

set_option maxRecDepth 16384

noncomputable section

namespace Cert.KernelIdealPf

open Cert.KernelIdeal Cert.KernelIdeal.Gen Cert.RefPf
open Idealize.ShloMosaic Idealize.ShloMosaic.TcCoe

namespace Spec
variable (S : Spec)

/-- What a device holds of those and its three neighbours' of the second stage. -/
def w3 (c : Dev nD) (b : Fin 32) (h : Fin 16) : ℝ := S.w2 c b h + S.w2 (nb c (opp 3)) b h + S.w2 (nb c (opp 4)) b h + S.w2 (nb c (opp 5)) b h
def x3 (c : Dev nD) (b : Fin 32) (h : Fin 16) (d : Fin 128) : EReal := S.x2 c b h d + S.x2 (nb c (opp 3)) b h d + S.x2 (nb c (opp 4)) b h d + S.x2 (nb c (opp 5)) b h d

end Spec

variable {S : Spec} {a : Args Ideal}

theorem stage2_0 (G : S.Of a) (c : Dev nD) (b : Fin 32) (d : Fin 128) (hw : 0 < S.w3 c b 0) : yO0 a c (ix4 b 0 0 d) = S.x3 c b 0 d * (((S.w3 c b 0)⁻¹ : ℝ) : EReal) := by
  have hl : x2040 a c (ix2 0 b) = Ideal.exp (x1339 a c (ix2 0 b) - (max (max (max (x1339 a c (ix2 0 b)) (x1339 a (nb c (opp 3)) (ix2 0 b))) (x1339 a (nb c (opp 4)) (ix2 0 b))) (x1339 a (nb c (opp 5)) (ix2 0 b)))) * x1354 a c (ix2 0 b) + Ideal.exp (x1339 a (nb c (opp 3)) (ix2 0 b) - (max (max (max (x1339 a c (ix2 0 b)) (x1339 a (nb c (opp 3)) (ix2 0 b))) (x1339 a (nb c (opp 4)) (ix2 0 b))) (x1339 a (nb c (opp 5)) (ix2 0 b)))) * x1354 a (nb c (opp 3)) (ix2 0 b) + Ideal.exp (x1339 a (nb c (opp 4)) (ix2 0 b) - (max (max (max (x1339 a c (ix2 0 b)) (x1339 a (nb c (opp 3)) (ix2 0 b))) (x1339 a (nb c (opp 4)) (ix2 0 b))) (x1339 a (nb c (opp 5)) (ix2 0 b)))) * x1354 a (nb c (opp 4)) (ix2 0 b) + Ideal.exp (x1339 a (nb c (opp 5)) (ix2 0 b) - (max (max (max (x1339 a c (ix2 0 b)) (x1339 a (nb c (opp 3)) (ix2 0 b))) (x1339 a (nb c (opp 4)) (ix2 0 b))) (x1339 a (nb c (opp 5)) (ix2 0 b)))) * x1354 a (nb c (opp 5)) (ix2 0 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2065 a c (ix2 b d) = x1379 a c (ix2 b d) * Ideal.exp (x1339 a c (ix2 0 b) - (max (max (max (x1339 a c (ix2 0 b)) (x1339 a (nb c (opp 3)) (ix2 0 b))) (x1339 a (nb c (opp 4)) (ix2 0 b))) (x1339 a (nb c (opp 5)) (ix2 0 b)))) + x1379 a (nb c (opp 3)) (ix2 b d) * Ideal.exp (x1339 a (nb c (opp 3)) (ix2 0 b) - (max (max (max (x1339 a c (ix2 0 b)) (x1339 a (nb c (opp 3)) (ix2 0 b))) (x1339 a (nb c (opp 4)) (ix2 0 b))) (x1339 a (nb c (opp 5)) (ix2 0 b)))) + x1379 a (nb c (opp 4)) (ix2 b d) * Ideal.exp (x1339 a (nb c (opp 4)) (ix2 0 b) - (max (max (max (x1339 a c (ix2 0 b)) (x1339 a (nb c (opp 3)) (ix2 0 b))) (x1339 a (nb c (opp 4)) (ix2 0 b))) (x1339 a (nb c (opp 5)) (ix2 0 b)))) + x1379 a (nb c (opp 5)) (ix2 b d) * Ideal.exp (x1339 a (nb c (opp 5)) (ix2 0 b) - (max (max (max (x1339 a c (ix2 0 b)) (x1339 a (nb c (opp 3)) (ix2 0 b))) (x1339 a (nb c (opp 4)) (ix2 0 b))) (x1339 a (nb c (opp 5)) (ix2 0 b)))) := fun d => by
    pointwise [x2065, y10A0, k0_pay160, accBox, x2059, x2016, y10M, k0_pay168, rowBox, k0_pay212, x2014, k0_pay211, x2012, k0_pay210, k0_pay224, k0_pay222, k0_pay217, k0_pay214, k0_pay221, k0_pay216, k0_pay220, k0_pay215, x2044, k0_pay223, k0_pay218, k0_pay225]
  have ho : yO0 a c (ix4 b 0 0 d) = x2065 a c (ix2 b d) * Ideal.div 1 (x2040 a c (ix2 0 b)) := by
    pointwise [yO0, k0_pay238, k0_pay237]
  have H : Part (S.w3 c b 0) (S.x3 c b 0) (max (max (max (x1339 a c (ix2 0 b)) (x1339 a (nb c (opp 3)) (ix2 0 b))) (x1339 a (nb c (opp 4)) (ix2 0 b))) (x1339 a (nb c (opp 5)) (ix2 0 b))) (x2040 a c (ix2 0 b)) (fun d => x2065 a c (ix2 b d)) :=
    Part.merge (stage1_0 G c b) (stage1_0 G (nb c (opp 3)) b) (stage1_0 G (nb c (opp 4)) b) (stage1_0 G (nb c (opp 5)) b) rfl hl ha
  rw [ho]
  exact H.out hw d

theorem stage2_1 (G : S.Of a) (c : Dev nD) (b : Fin 32) (d : Fin 128) (hw : 0 < S.w3 c b 1) : yO1 a c (ix4 b 0 0 d) = S.x3 c b 1 d * (((S.w3 c b 1)⁻¹ : ℝ) : EReal) := by
  have hl : x2040 a c (ix2 1 b) = Ideal.exp (x1339 a c (ix2 1 b) - (max (max (max (x1339 a c (ix2 1 b)) (x1339 a (nb c (opp 3)) (ix2 1 b))) (x1339 a (nb c (opp 4)) (ix2 1 b))) (x1339 a (nb c (opp 5)) (ix2 1 b)))) * x1354 a c (ix2 1 b) + Ideal.exp (x1339 a (nb c (opp 3)) (ix2 1 b) - (max (max (max (x1339 a c (ix2 1 b)) (x1339 a (nb c (opp 3)) (ix2 1 b))) (x1339 a (nb c (opp 4)) (ix2 1 b))) (x1339 a (nb c (opp 5)) (ix2 1 b)))) * x1354 a (nb c (opp 3)) (ix2 1 b) + Ideal.exp (x1339 a (nb c (opp 4)) (ix2 1 b) - (max (max (max (x1339 a c (ix2 1 b)) (x1339 a (nb c (opp 3)) (ix2 1 b))) (x1339 a (nb c (opp 4)) (ix2 1 b))) (x1339 a (nb c (opp 5)) (ix2 1 b)))) * x1354 a (nb c (opp 4)) (ix2 1 b) + Ideal.exp (x1339 a (nb c (opp 5)) (ix2 1 b) - (max (max (max (x1339 a c (ix2 1 b)) (x1339 a (nb c (opp 3)) (ix2 1 b))) (x1339 a (nb c (opp 4)) (ix2 1 b))) (x1339 a (nb c (opp 5)) (ix2 1 b)))) * x1354 a (nb c (opp 5)) (ix2 1 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2086 a c (ix2 b d) = x1400 a c (ix2 b d) * Ideal.exp (x1339 a c (ix2 1 b) - (max (max (max (x1339 a c (ix2 1 b)) (x1339 a (nb c (opp 3)) (ix2 1 b))) (x1339 a (nb c (opp 4)) (ix2 1 b))) (x1339 a (nb c (opp 5)) (ix2 1 b)))) + x1400 a (nb c (opp 3)) (ix2 b d) * Ideal.exp (x1339 a (nb c (opp 3)) (ix2 1 b) - (max (max (max (x1339 a c (ix2 1 b)) (x1339 a (nb c (opp 3)) (ix2 1 b))) (x1339 a (nb c (opp 4)) (ix2 1 b))) (x1339 a (nb c (opp 5)) (ix2 1 b)))) + x1400 a (nb c (opp 4)) (ix2 b d) * Ideal.exp (x1339 a (nb c (opp 4)) (ix2 1 b) - (max (max (max (x1339 a c (ix2 1 b)) (x1339 a (nb c (opp 3)) (ix2 1 b))) (x1339 a (nb c (opp 4)) (ix2 1 b))) (x1339 a (nb c (opp 5)) (ix2 1 b)))) + x1400 a (nb c (opp 5)) (ix2 b d) * Ideal.exp (x1339 a (nb c (opp 5)) (ix2 1 b) - (max (max (max (x1339 a c (ix2 1 b)) (x1339 a (nb c (opp 3)) (ix2 1 b))) (x1339 a (nb c (opp 4)) (ix2 1 b))) (x1339 a (nb c (opp 5)) (ix2 1 b)))) := fun d => by
    pointwise [x2086, y10A1, k0_pay161, accBox, x2044, x2016, y10M, k0_pay168, rowBox, k0_pay212, x2014, k0_pay211, x2012, k0_pay210, k0_pay223, k0_pay218, k0_pay214, x2043, k0_pay222, k0_pay217, x2042, k0_pay221, k0_pay216, x2041, k0_pay220, k0_pay215, k0_pay226]
  have ho : yO1 a c (ix4 b 0 0 d) = x2086 a c (ix2 b d) * Ideal.div 1 (x2040 a c (ix2 1 b)) := by
    pointwise [yO1, k0_pay239, k0_pay237]
  have H : Part (S.w3 c b 1) (S.x3 c b 1) (max (max (max (x1339 a c (ix2 1 b)) (x1339 a (nb c (opp 3)) (ix2 1 b))) (x1339 a (nb c (opp 4)) (ix2 1 b))) (x1339 a (nb c (opp 5)) (ix2 1 b))) (x2040 a c (ix2 1 b)) (fun d => x2086 a c (ix2 b d)) :=
    Part.merge (stage1_1 G c b) (stage1_1 G (nb c (opp 3)) b) (stage1_1 G (nb c (opp 4)) b) (stage1_1 G (nb c (opp 5)) b) rfl hl ha
  rw [ho]
  exact H.out hw d

theorem stage2_2 (G : S.Of a) (c : Dev nD) (b : Fin 32) (d : Fin 128) (hw : 0 < S.w3 c b 2) : yO2 a c (ix4 b 0 0 d) = S.x3 c b 2 d * (((S.w3 c b 2)⁻¹ : ℝ) : EReal) := by
  have hl : x2040 a c (ix2 2 b) = Ideal.exp (x1339 a c (ix2 2 b) - (max (max (max (x1339 a c (ix2 2 b)) (x1339 a (nb c (opp 3)) (ix2 2 b))) (x1339 a (nb c (opp 4)) (ix2 2 b))) (x1339 a (nb c (opp 5)) (ix2 2 b)))) * x1354 a c (ix2 2 b) + Ideal.exp (x1339 a (nb c (opp 3)) (ix2 2 b) - (max (max (max (x1339 a c (ix2 2 b)) (x1339 a (nb c (opp 3)) (ix2 2 b))) (x1339 a (nb c (opp 4)) (ix2 2 b))) (x1339 a (nb c (opp 5)) (ix2 2 b)))) * x1354 a (nb c (opp 3)) (ix2 2 b) + Ideal.exp (x1339 a (nb c (opp 4)) (ix2 2 b) - (max (max (max (x1339 a c (ix2 2 b)) (x1339 a (nb c (opp 3)) (ix2 2 b))) (x1339 a (nb c (opp 4)) (ix2 2 b))) (x1339 a (nb c (opp 5)) (ix2 2 b)))) * x1354 a (nb c (opp 4)) (ix2 2 b) + Ideal.exp (x1339 a (nb c (opp 5)) (ix2 2 b) - (max (max (max (x1339 a c (ix2 2 b)) (x1339 a (nb c (opp 3)) (ix2 2 b))) (x1339 a (nb c (opp 4)) (ix2 2 b))) (x1339 a (nb c (opp 5)) (ix2 2 b)))) * x1354 a (nb c (opp 5)) (ix2 2 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2107 a c (ix2 b d) = x1421 a c (ix2 b d) * Ideal.exp (x1339 a c (ix2 2 b) - (max (max (max (x1339 a c (ix2 2 b)) (x1339 a (nb c (opp 3)) (ix2 2 b))) (x1339 a (nb c (opp 4)) (ix2 2 b))) (x1339 a (nb c (opp 5)) (ix2 2 b)))) + x1421 a (nb c (opp 3)) (ix2 b d) * Ideal.exp (x1339 a (nb c (opp 3)) (ix2 2 b) - (max (max (max (x1339 a c (ix2 2 b)) (x1339 a (nb c (opp 3)) (ix2 2 b))) (x1339 a (nb c (opp 4)) (ix2 2 b))) (x1339 a (nb c (opp 5)) (ix2 2 b)))) + x1421 a (nb c (opp 4)) (ix2 b d) * Ideal.exp (x1339 a (nb c (opp 4)) (ix2 2 b) - (max (max (max (x1339 a c (ix2 2 b)) (x1339 a (nb c (opp 3)) (ix2 2 b))) (x1339 a (nb c (opp 4)) (ix2 2 b))) (x1339 a (nb c (opp 5)) (ix2 2 b)))) + x1421 a (nb c (opp 5)) (ix2 b d) * Ideal.exp (x1339 a (nb c (opp 5)) (ix2 2 b) - (max (max (max (x1339 a c (ix2 2 b)) (x1339 a (nb c (opp 3)) (ix2 2 b))) (x1339 a (nb c (opp 4)) (ix2 2 b))) (x1339 a (nb c (opp 5)) (ix2 2 b)))) := fun d => by
    pointwise [x2107, y10A2, k0_pay162, accBox, x2095, x2042, x2016, y10M, k0_pay168, rowBox, k0_pay212, x2014, k0_pay211, x2012, k0_pay210, k0_pay221, k0_pay216, k0_pay214, x2041, k0_pay220, k0_pay215, k0_pay227, x2044, k0_pay223, k0_pay218, x2043, k0_pay222, k0_pay217, k0_pay228]
  have ho : yO2 a c (ix4 b 0 0 d) = x2107 a c (ix2 b d) * Ideal.div 1 (x2040 a c (ix2 2 b)) := by
    pointwise [yO2, k0_pay240, k0_pay237]
  have H : Part (S.w3 c b 2) (S.x3 c b 2) (max (max (max (x1339 a c (ix2 2 b)) (x1339 a (nb c (opp 3)) (ix2 2 b))) (x1339 a (nb c (opp 4)) (ix2 2 b))) (x1339 a (nb c (opp 5)) (ix2 2 b))) (x2040 a c (ix2 2 b)) (fun d => x2107 a c (ix2 b d)) :=
    Part.merge (stage1_2 G c b) (stage1_2 G (nb c (opp 3)) b) (stage1_2 G (nb c (opp 4)) b) (stage1_2 G (nb c (opp 5)) b) rfl hl ha
  rw [ho]
  exact H.out hw d

theorem stage2_3 (G : S.Of a) (c : Dev nD) (b : Fin 32) (d : Fin 128) (hw : 0 < S.w3 c b 3) : yO3 a c (ix4 b 0 0 d) = S.x3 c b 3 d * (((S.w3 c b 3)⁻¹ : ℝ) : EReal) := by
  have hl : x2040 a c (ix2 3 b) = Ideal.exp (x1339 a c (ix2 3 b) - (max (max (max (x1339 a c (ix2 3 b)) (x1339 a (nb c (opp 3)) (ix2 3 b))) (x1339 a (nb c (opp 4)) (ix2 3 b))) (x1339 a (nb c (opp 5)) (ix2 3 b)))) * x1354 a c (ix2 3 b) + Ideal.exp (x1339 a (nb c (opp 3)) (ix2 3 b) - (max (max (max (x1339 a c (ix2 3 b)) (x1339 a (nb c (opp 3)) (ix2 3 b))) (x1339 a (nb c (opp 4)) (ix2 3 b))) (x1339 a (nb c (opp 5)) (ix2 3 b)))) * x1354 a (nb c (opp 3)) (ix2 3 b) + Ideal.exp (x1339 a (nb c (opp 4)) (ix2 3 b) - (max (max (max (x1339 a c (ix2 3 b)) (x1339 a (nb c (opp 3)) (ix2 3 b))) (x1339 a (nb c (opp 4)) (ix2 3 b))) (x1339 a (nb c (opp 5)) (ix2 3 b)))) * x1354 a (nb c (opp 4)) (ix2 3 b) + Ideal.exp (x1339 a (nb c (opp 5)) (ix2 3 b) - (max (max (max (x1339 a c (ix2 3 b)) (x1339 a (nb c (opp 3)) (ix2 3 b))) (x1339 a (nb c (opp 4)) (ix2 3 b))) (x1339 a (nb c (opp 5)) (ix2 3 b)))) * x1354 a (nb c (opp 5)) (ix2 3 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2128 a c (ix2 b d) = x1442 a c (ix2 b d) * Ideal.exp (x1339 a c (ix2 3 b) - (max (max (max (x1339 a c (ix2 3 b)) (x1339 a (nb c (opp 3)) (ix2 3 b))) (x1339 a (nb c (opp 4)) (ix2 3 b))) (x1339 a (nb c (opp 5)) (ix2 3 b)))) + x1442 a (nb c (opp 3)) (ix2 b d) * Ideal.exp (x1339 a (nb c (opp 3)) (ix2 3 b) - (max (max (max (x1339 a c (ix2 3 b)) (x1339 a (nb c (opp 3)) (ix2 3 b))) (x1339 a (nb c (opp 4)) (ix2 3 b))) (x1339 a (nb c (opp 5)) (ix2 3 b)))) + x1442 a (nb c (opp 4)) (ix2 b d) * Ideal.exp (x1339 a (nb c (opp 4)) (ix2 3 b) - (max (max (max (x1339 a c (ix2 3 b)) (x1339 a (nb c (opp 3)) (ix2 3 b))) (x1339 a (nb c (opp 4)) (ix2 3 b))) (x1339 a (nb c (opp 5)) (ix2 3 b)))) + x1442 a (nb c (opp 5)) (ix2 b d) * Ideal.exp (x1339 a (nb c (opp 5)) (ix2 3 b) - (max (max (max (x1339 a c (ix2 3 b)) (x1339 a (nb c (opp 3)) (ix2 3 b))) (x1339 a (nb c (opp 4)) (ix2 3 b))) (x1339 a (nb c (opp 5)) (ix2 3 b)))) := fun d => by
    pointwise [x2128, y10A3, k0_pay163, accBox, x2044, x2016, y10M, k0_pay168, rowBox, k0_pay212, x2014, k0_pay211, x2012, k0_pay210, k0_pay223, k0_pay218, k0_pay214, x2043, k0_pay222, k0_pay217, x2042, k0_pay221, k0_pay216, x2041, k0_pay220, k0_pay215, k0_pay229]
  have ho : yO3 a c (ix4 b 0 0 d) = x2128 a c (ix2 b d) * Ideal.div 1 (x2040 a c (ix2 3 b)) := by
    pointwise [yO3, x2236, k0_pay241, k0_pay237, k0_pay242]
  have H : Part (S.w3 c b 3) (S.x3 c b 3) (max (max (max (x1339 a c (ix2 3 b)) (x1339 a (nb c (opp 3)) (ix2 3 b))) (x1339 a (nb c (opp 4)) (ix2 3 b))) (x1339 a (nb c (opp 5)) (ix2 3 b))) (x2040 a c (ix2 3 b)) (fun d => x2128 a c (ix2 b d)) :=
    Part.merge (stage1_3 G c b) (stage1_3 G (nb c (opp 3)) b) (stage1_3 G (nb c (opp 4)) b) (stage1_3 G (nb c (opp 5)) b) rfl hl ha
  rw [ho]
  exact H.out hw d

theorem stage2_4 (G : S.Of a) (c : Dev nD) (b : Fin 32) (d : Fin 128) (hw : 0 < S.w3 c b 4) : yO4 a c (ix4 b 0 0 d) = S.x3 c b 4 d * (((S.w3 c b 4)⁻¹ : ℝ) : EReal) := by
  have hl : x2040 a c (ix2 4 b) = Ideal.exp (x1339 a c (ix2 4 b) - (max (max (max (x1339 a c (ix2 4 b)) (x1339 a (nb c (opp 3)) (ix2 4 b))) (x1339 a (nb c (opp 4)) (ix2 4 b))) (x1339 a (nb c (opp 5)) (ix2 4 b)))) * x1354 a c (ix2 4 b) + Ideal.exp (x1339 a (nb c (opp 3)) (ix2 4 b) - (max (max (max (x1339 a c (ix2 4 b)) (x1339 a (nb c (opp 3)) (ix2 4 b))) (x1339 a (nb c (opp 4)) (ix2 4 b))) (x1339 a (nb c (opp 5)) (ix2 4 b)))) * x1354 a (nb c (opp 3)) (ix2 4 b) + Ideal.exp (x1339 a (nb c (opp 4)) (ix2 4 b) - (max (max (max (x1339 a c (ix2 4 b)) (x1339 a (nb c (opp 3)) (ix2 4 b))) (x1339 a (nb c (opp 4)) (ix2 4 b))) (x1339 a (nb c (opp 5)) (ix2 4 b)))) * x1354 a (nb c (opp 4)) (ix2 4 b) + Ideal.exp (x1339 a (nb c (opp 5)) (ix2 4 b) - (max (max (max (x1339 a c (ix2 4 b)) (x1339 a (nb c (opp 3)) (ix2 4 b))) (x1339 a (nb c (opp 4)) (ix2 4 b))) (x1339 a (nb c (opp 5)) (ix2 4 b)))) * x1354 a (nb c (opp 5)) (ix2 4 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2149 a c (ix2 b d) = x1463 a c (ix2 b d) * Ideal.exp (x1339 a c (ix2 4 b) - (max (max (max (x1339 a c (ix2 4 b)) (x1339 a (nb c (opp 3)) (ix2 4 b))) (x1339 a (nb c (opp 4)) (ix2 4 b))) (x1339 a (nb c (opp 5)) (ix2 4 b)))) + x1463 a (nb c (opp 3)) (ix2 b d) * Ideal.exp (x1339 a (nb c (opp 3)) (ix2 4 b) - (max (max (max (x1339 a c (ix2 4 b)) (x1339 a (nb c (opp 3)) (ix2 4 b))) (x1339 a (nb c (opp 4)) (ix2 4 b))) (x1339 a (nb c (opp 5)) (ix2 4 b)))) + x1463 a (nb c (opp 4)) (ix2 b d) * Ideal.exp (x1339 a (nb c (opp 4)) (ix2 4 b) - (max (max (max (x1339 a c (ix2 4 b)) (x1339 a (nb c (opp 3)) (ix2 4 b))) (x1339 a (nb c (opp 4)) (ix2 4 b))) (x1339 a (nb c (opp 5)) (ix2 4 b)))) + x1463 a (nb c (opp 5)) (ix2 b d) * Ideal.exp (x1339 a (nb c (opp 5)) (ix2 4 b) - (max (max (max (x1339 a c (ix2 4 b)) (x1339 a (nb c (opp 3)) (ix2 4 b))) (x1339 a (nb c (opp 4)) (ix2 4 b))) (x1339 a (nb c (opp 5)) (ix2 4 b)))) := fun d => by
    pointwise [x2149, y10A4, k0_pay164, accBox, x2131, x2041, x2016, y10M, k0_pay168, rowBox, k0_pay212, x2014, k0_pay211, x2012, k0_pay210, k0_pay220, k0_pay215, k0_pay214, k0_pay230, x2044, k0_pay223, k0_pay218, x2043, k0_pay222, k0_pay217, x2042, k0_pay221, k0_pay216, k0_pay231]
  have ho : yO4 a c (ix4 b 0 0 d) = x2149 a c (ix2 b d) * Ideal.div 1 (x2040 a c (ix2 4 b)) := by
    pointwise [yO4, x2215, k0_pay237, k0_pay243]
  have H : Part (S.w3 c b 4) (S.x3 c b 4) (max (max (max (x1339 a c (ix2 4 b)) (x1339 a (nb c (opp 3)) (ix2 4 b))) (x1339 a (nb c (opp 4)) (ix2 4 b))) (x1339 a (nb c (opp 5)) (ix2 4 b))) (x2040 a c (ix2 4 b)) (fun d => x2149 a c (ix2 b d)) :=
    Part.merge (stage1_4 G c b) (stage1_4 G (nb c (opp 3)) b) (stage1_4 G (nb c (opp 4)) b) (stage1_4 G (nb c (opp 5)) b) rfl hl ha
  rw [ho]
  exact H.out hw d

theorem stage2_5 (G : S.Of a) (c : Dev nD) (b : Fin 32) (d : Fin 128) (hw : 0 < S.w3 c b 5) : yO5 a c (ix4 b 0 0 d) = S.x3 c b 5 d * (((S.w3 c b 5)⁻¹ : ℝ) : EReal) := by
  have hl : x2040 a c (ix2 5 b) = Ideal.exp (x1339 a c (ix2 5 b) - (max (max (max (x1339 a c (ix2 5 b)) (x1339 a (nb c (opp 3)) (ix2 5 b))) (x1339 a (nb c (opp 4)) (ix2 5 b))) (x1339 a (nb c (opp 5)) (ix2 5 b)))) * x1354 a c (ix2 5 b) + Ideal.exp (x1339 a (nb c (opp 3)) (ix2 5 b) - (max (max (max (x1339 a c (ix2 5 b)) (x1339 a (nb c (opp 3)) (ix2 5 b))) (x1339 a (nb c (opp 4)) (ix2 5 b))) (x1339 a (nb c (opp 5)) (ix2 5 b)))) * x1354 a (nb c (opp 3)) (ix2 5 b) + Ideal.exp (x1339 a (nb c (opp 4)) (ix2 5 b) - (max (max (max (x1339 a c (ix2 5 b)) (x1339 a (nb c (opp 3)) (ix2 5 b))) (x1339 a (nb c (opp 4)) (ix2 5 b))) (x1339 a (nb c (opp 5)) (ix2 5 b)))) * x1354 a (nb c (opp 4)) (ix2 5 b) + Ideal.exp (x1339 a (nb c (opp 5)) (ix2 5 b) - (max (max (max (x1339 a c (ix2 5 b)) (x1339 a (nb c (opp 3)) (ix2 5 b))) (x1339 a (nb c (opp 4)) (ix2 5 b))) (x1339 a (nb c (opp 5)) (ix2 5 b)))) * x1354 a (nb c (opp 5)) (ix2 5 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2170 a c (ix2 b d) = x1484 a c (ix2 b d) * Ideal.exp (x1339 a c (ix2 5 b) - (max (max (max (x1339 a c (ix2 5 b)) (x1339 a (nb c (opp 3)) (ix2 5 b))) (x1339 a (nb c (opp 4)) (ix2 5 b))) (x1339 a (nb c (opp 5)) (ix2 5 b)))) + x1484 a (nb c (opp 3)) (ix2 b d) * Ideal.exp (x1339 a (nb c (opp 3)) (ix2 5 b) - (max (max (max (x1339 a c (ix2 5 b)) (x1339 a (nb c (opp 3)) (ix2 5 b))) (x1339 a (nb c (opp 4)) (ix2 5 b))) (x1339 a (nb c (opp 5)) (ix2 5 b)))) + x1484 a (nb c (opp 4)) (ix2 b d) * Ideal.exp (x1339 a (nb c (opp 4)) (ix2 5 b) - (max (max (max (x1339 a c (ix2 5 b)) (x1339 a (nb c (opp 3)) (ix2 5 b))) (x1339 a (nb c (opp 4)) (ix2 5 b))) (x1339 a (nb c (opp 5)) (ix2 5 b)))) + x1484 a (nb c (opp 5)) (ix2 b d) * Ideal.exp (x1339 a (nb c (opp 5)) (ix2 5 b) - (max (max (max (x1339 a c (ix2 5 b)) (x1339 a (nb c (opp 3)) (ix2 5 b))) (x1339 a (nb c (opp 4)) (ix2 5 b))) (x1339 a (nb c (opp 5)) (ix2 5 b)))) := fun d => by
    pointwise [x2170, y10A5, k0_pay165, accBox, x2164, x2043, x2016, y10M, k0_pay168, rowBox, k0_pay212, x2014, k0_pay211, x2012, k0_pay210, k0_pay222, k0_pay217, k0_pay214, x2042, k0_pay221, k0_pay216, x2041, k0_pay220, k0_pay215, k0_pay232, x2044, k0_pay223, k0_pay218, k0_pay233]
  have ho : yO5 a c (ix4 b 0 0 d) = x2170 a c (ix2 b d) * Ideal.div 1 (x2040 a c (ix2 5 b)) := by
    pointwise [yO5, x2215, k0_pay237, k0_pay244]
  have H : Part (S.w3 c b 5) (S.x3 c b 5) (max (max (max (x1339 a c (ix2 5 b)) (x1339 a (nb c (opp 3)) (ix2 5 b))) (x1339 a (nb c (opp 4)) (ix2 5 b))) (x1339 a (nb c (opp 5)) (ix2 5 b))) (x2040 a c (ix2 5 b)) (fun d => x2170 a c (ix2 b d)) :=
    Part.merge (stage1_5 G c b) (stage1_5 G (nb c (opp 3)) b) (stage1_5 G (nb c (opp 4)) b) (stage1_5 G (nb c (opp 5)) b) rfl hl ha
  rw [ho]
  exact H.out hw d

theorem stage2_6 (G : S.Of a) (c : Dev nD) (b : Fin 32) (d : Fin 128) (hw : 0 < S.w3 c b 6) : yO6 a c (ix4 b 0 0 d) = S.x3 c b 6 d * (((S.w3 c b 6)⁻¹ : ℝ) : EReal) := by
  have hl : x2040 a c (ix2 6 b) = Ideal.exp (x1339 a c (ix2 6 b) - (max (max (max (x1339 a c (ix2 6 b)) (x1339 a (nb c (opp 3)) (ix2 6 b))) (x1339 a (nb c (opp 4)) (ix2 6 b))) (x1339 a (nb c (opp 5)) (ix2 6 b)))) * x1354 a c (ix2 6 b) + Ideal.exp (x1339 a (nb c (opp 3)) (ix2 6 b) - (max (max (max (x1339 a c (ix2 6 b)) (x1339 a (nb c (opp 3)) (ix2 6 b))) (x1339 a (nb c (opp 4)) (ix2 6 b))) (x1339 a (nb c (opp 5)) (ix2 6 b)))) * x1354 a (nb c (opp 3)) (ix2 6 b) + Ideal.exp (x1339 a (nb c (opp 4)) (ix2 6 b) - (max (max (max (x1339 a c (ix2 6 b)) (x1339 a (nb c (opp 3)) (ix2 6 b))) (x1339 a (nb c (opp 4)) (ix2 6 b))) (x1339 a (nb c (opp 5)) (ix2 6 b)))) * x1354 a (nb c (opp 4)) (ix2 6 b) + Ideal.exp (x1339 a (nb c (opp 5)) (ix2 6 b) - (max (max (max (x1339 a c (ix2 6 b)) (x1339 a (nb c (opp 3)) (ix2 6 b))) (x1339 a (nb c (opp 4)) (ix2 6 b))) (x1339 a (nb c (opp 5)) (ix2 6 b)))) * x1354 a (nb c (opp 5)) (ix2 6 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2191 a c (ix2 b d) = x1505 a c (ix2 b d) * Ideal.exp (x1339 a c (ix2 6 b) - (max (max (max (x1339 a c (ix2 6 b)) (x1339 a (nb c (opp 3)) (ix2 6 b))) (x1339 a (nb c (opp 4)) (ix2 6 b))) (x1339 a (nb c (opp 5)) (ix2 6 b)))) + x1505 a (nb c (opp 3)) (ix2 b d) * Ideal.exp (x1339 a (nb c (opp 3)) (ix2 6 b) - (max (max (max (x1339 a c (ix2 6 b)) (x1339 a (nb c (opp 3)) (ix2 6 b))) (x1339 a (nb c (opp 4)) (ix2 6 b))) (x1339 a (nb c (opp 5)) (ix2 6 b)))) + x1505 a (nb c (opp 4)) (ix2 b d) * Ideal.exp (x1339 a (nb c (opp 4)) (ix2 6 b) - (max (max (max (x1339 a c (ix2 6 b)) (x1339 a (nb c (opp 3)) (ix2 6 b))) (x1339 a (nb c (opp 4)) (ix2 6 b))) (x1339 a (nb c (opp 5)) (ix2 6 b)))) + x1505 a (nb c (opp 5)) (ix2 b d) * Ideal.exp (x1339 a (nb c (opp 5)) (ix2 6 b) - (max (max (max (x1339 a c (ix2 6 b)) (x1339 a (nb c (opp 3)) (ix2 6 b))) (x1339 a (nb c (opp 4)) (ix2 6 b))) (x1339 a (nb c (opp 5)) (ix2 6 b)))) := fun d => by
    pointwise [x2191, y10A6, k0_pay166, accBox, x2044, x2016, y10M, k0_pay168, rowBox, k0_pay212, x2014, k0_pay211, x2012, k0_pay210, k0_pay223, k0_pay218, k0_pay214, x2043, k0_pay222, k0_pay217, x2042, k0_pay221, k0_pay216, x2041, k0_pay220, k0_pay215, k0_pay234]
  have ho : yO6 a c (ix4 b 0 0 d) = x2191 a c (ix2 b d) * Ideal.div 1 (x2040 a c (ix2 6 b)) := by
    pointwise [yO6, x2215, k0_pay237, k0_pay245]
  have H : Part (S.w3 c b 6) (S.x3 c b 6) (max (max (max (x1339 a c (ix2 6 b)) (x1339 a (nb c (opp 3)) (ix2 6 b))) (x1339 a (nb c (opp 4)) (ix2 6 b))) (x1339 a (nb c (opp 5)) (ix2 6 b))) (x2040 a c (ix2 6 b)) (fun d => x2191 a c (ix2 b d)) :=
    Part.merge (stage1_6 G c b) (stage1_6 G (nb c (opp 3)) b) (stage1_6 G (nb c (opp 4)) b) (stage1_6 G (nb c (opp 5)) b) rfl hl ha
  rw [ho]
  exact H.out hw d

theorem stage2_7 (G : S.Of a) (c : Dev nD) (b : Fin 32) (d : Fin 128) (hw : 0 < S.w3 c b 7) : yO7 a c (ix4 b 0 0 d) = S.x3 c b 7 d * (((S.w3 c b 7)⁻¹ : ℝ) : EReal) := by
  have hl : x2040 a c (ix2 7 b) = Ideal.exp (x1339 a c (ix2 7 b) - (max (max (max (x1339 a c (ix2 7 b)) (x1339 a (nb c (opp 3)) (ix2 7 b))) (x1339 a (nb c (opp 4)) (ix2 7 b))) (x1339 a (nb c (opp 5)) (ix2 7 b)))) * x1354 a c (ix2 7 b) + Ideal.exp (x1339 a (nb c (opp 3)) (ix2 7 b) - (max (max (max (x1339 a c (ix2 7 b)) (x1339 a (nb c (opp 3)) (ix2 7 b))) (x1339 a (nb c (opp 4)) (ix2 7 b))) (x1339 a (nb c (opp 5)) (ix2 7 b)))) * x1354 a (nb c (opp 3)) (ix2 7 b) + Ideal.exp (x1339 a (nb c (opp 4)) (ix2 7 b) - (max (max (max (x1339 a c (ix2 7 b)) (x1339 a (nb c (opp 3)) (ix2 7 b))) (x1339 a (nb c (opp 4)) (ix2 7 b))) (x1339 a (nb c (opp 5)) (ix2 7 b)))) * x1354 a (nb c (opp 4)) (ix2 7 b) + Ideal.exp (x1339 a (nb c (opp 5)) (ix2 7 b) - (max (max (max (x1339 a c (ix2 7 b)) (x1339 a (nb c (opp 3)) (ix2 7 b))) (x1339 a (nb c (opp 4)) (ix2 7 b))) (x1339 a (nb c (opp 5)) (ix2 7 b)))) * x1354 a (nb c (opp 5)) (ix2 7 b) := by
    pointwise [x2040, y10L, k0_pay169, rowBox, x2018, k0_pay213, x2016, y10M, k0_pay168, k0_pay212, x2014, k0_pay211, x2012, k0_pay210, k0_pay219, k0_pay218, k0_pay214, k0_pay217, k0_pay216, k0_pay215]
  have ha : ∀ d : Fin 128, x2212 a c (ix2 b d) = x1526 a c (ix2 b d) * Ideal.exp (x1339 a c (ix2 7 b) - (max (max (max (x1339 a c (ix2 7 b)) (x1339 a (nb c (opp 3)) (ix2 7 b))) (x1339 a (nb c (opp 4)) (ix2 7 b))) (x1339 a (nb c (opp 5)) (ix2 7 b)))) + x1526 a (nb c (opp 3)) (ix2 b d) * Ideal.exp (x1339 a (nb c (opp 3)) (ix2 7 b) - (max (max (max (x1339 a c (ix2 7 b)) (x1339 a (nb c (opp 3)) (ix2 7 b))) (x1339 a (nb c (opp 4)) (ix2 7 b))) (x1339 a (nb c (opp 5)) (ix2 7 b)))) + x1526 a (nb c (opp 4)) (ix2 b d) * Ideal.exp (x1339 a (nb c (opp 4)) (ix2 7 b) - (max (max (max (x1339 a c (ix2 7 b)) (x1339 a (nb c (opp 3)) (ix2 7 b))) (x1339 a (nb c (opp 4)) (ix2 7 b))) (x1339 a (nb c (opp 5)) (ix2 7 b)))) + x1526 a (nb c (opp 5)) (ix2 b d) * Ideal.exp (x1339 a (nb c (opp 5)) (ix2 7 b) - (max (max (max (x1339 a c (ix2 7 b)) (x1339 a (nb c (opp 3)) (ix2 7 b))) (x1339 a (nb c (opp 4)) (ix2 7 b))) (x1339 a (nb c (opp 5)) (ix2 7 b)))) := fun d => by
    pointwise [x2212, y10A7, k0_pay167, accBox, x2200, x2042, x2016, y10M, k0_pay168, rowBox, k0_pay212, x2014, k0_pay211, x2012, k0_pay210, k0_pay221, k0_pay216, k0_pay214, x2041, k0_pay220, k0_pay215, k0_pay235, x2044, k0_pay223, k0_pay218, x2043, k0_pay222, k0_pay217, k0_pay236]
  have ho : yO7 a c (ix4 b 0 0 d) = x2212 a c (ix2 b d) * Ideal.div 1 (x2040 a c (ix2 7 b)) := by
    pointwise [yO7, x2215, k0_pay237, k0_pay246]
  have H : Part (S.w3 c b 7) (S.x3 c b 7) (max (max (max (x1339 a c (ix2 7 b)) (x1339 a (nb c (opp 3)) (ix2 7 b))) (x1339 a (nb c (opp 4)) (ix2 7 b))) (x1339 a (nb c (opp 5)) (ix2 7 b))) (x2040 a c (ix2 7 b)) (fun d => x2212 a c (ix2 b d)) :=
    Part.merge (stage1_7 G c b) (stage1_7 G (nb c (opp 3)) b) (stage1_7 G (nb c (opp 4)) b) (stage1_7 G (nb c (opp 5)) b) rfl hl ha
  rw [ho]
  exact H.out hw d

theorem stage2_8 (G : S.Of a) (c : Dev nD) (b : Fin 32) (d : Fin 128) (hw : 0 < S.w3 c b 8) : yO8 a c (ix4 b 0 0 d) = S.x3 c b 8 d * (((S.w3 c b 8)⁻¹ : ℝ) : EReal) := by
  have hl : x2329 a c (ix2 0 b) = Ideal.exp (x1682 a c (ix2 0 b) - (max (max (max (x1682 a c (ix2 0 b)) (x1682 a (nb c (opp 3)) (ix2 0 b))) (x1682 a (nb c (opp 4)) (ix2 0 b))) (x1682 a (nb c (opp 5)) (ix2 0 b)))) * x1697 a c (ix2 0 b) + Ideal.exp (x1682 a (nb c (opp 3)) (ix2 0 b) - (max (max (max (x1682 a c (ix2 0 b)) (x1682 a (nb c (opp 3)) (ix2 0 b))) (x1682 a (nb c (opp 4)) (ix2 0 b))) (x1682 a (nb c (opp 5)) (ix2 0 b)))) * x1697 a (nb c (opp 3)) (ix2 0 b) + Ideal.exp (x1682 a (nb c (opp 4)) (ix2 0 b) - (max (max (max (x1682 a c (ix2 0 b)) (x1682 a (nb c (opp 3)) (ix2 0 b))) (x1682 a (nb c (opp 4)) (ix2 0 b))) (x1682 a (nb c (opp 5)) (ix2 0 b)))) * x1697 a (nb c (opp 4)) (ix2 0 b) + Ideal.exp (x1682 a (nb c (opp 5)) (ix2 0 b) - (max (max (max (x1682 a c (ix2 0 b)) (x1682 a (nb c (opp 3)) (ix2 0 b))) (x1682 a (nb c (opp 4)) (ix2 0 b))) (x1682 a (nb c (opp 5)) (ix2 0 b)))) * x1697 a (nb c (opp 5)) (ix2 0 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2354 a c (ix2 b d) = x1722 a c (ix2 b d) * Ideal.exp (x1682 a c (ix2 0 b) - (max (max (max (x1682 a c (ix2 0 b)) (x1682 a (nb c (opp 3)) (ix2 0 b))) (x1682 a (nb c (opp 4)) (ix2 0 b))) (x1682 a (nb c (opp 5)) (ix2 0 b)))) + x1722 a (nb c (opp 3)) (ix2 b d) * Ideal.exp (x1682 a (nb c (opp 3)) (ix2 0 b) - (max (max (max (x1682 a c (ix2 0 b)) (x1682 a (nb c (opp 3)) (ix2 0 b))) (x1682 a (nb c (opp 4)) (ix2 0 b))) (x1682 a (nb c (opp 5)) (ix2 0 b)))) + x1722 a (nb c (opp 4)) (ix2 b d) * Ideal.exp (x1682 a (nb c (opp 4)) (ix2 0 b) - (max (max (max (x1682 a c (ix2 0 b)) (x1682 a (nb c (opp 3)) (ix2 0 b))) (x1682 a (nb c (opp 4)) (ix2 0 b))) (x1682 a (nb c (opp 5)) (ix2 0 b)))) + x1722 a (nb c (opp 5)) (ix2 b d) * Ideal.exp (x1682 a (nb c (opp 5)) (ix2 0 b) - (max (max (max (x1682 a c (ix2 0 b)) (x1682 a (nb c (opp 3)) (ix2 0 b))) (x1682 a (nb c (opp 4)) (ix2 0 b))) (x1682 a (nb c (opp 5)) (ix2 0 b)))) := fun d => by
    pointwise [x2354, x2352, x2305, y11M, k0_pay208, rowBox, k0_pay249, x2303, k0_pay248, x2301, k0_pay247, k0_pay264, k0_pay261, k0_pay256, k0_pay252, x2350, y11A0, k0_pay200, accBox, k0_pay263, x2348, k0_pay262, k0_pay260, k0_pay255, k0_pay259, k0_pay254, k0_pay258, k0_pay253, k0_pay265]
  have ho : yO8 a c (ix4 b 0 0 d) = x2354 a c (ix2 b d) * Ideal.div 1 (x2329 a c (ix2 0 b)) := by
    pointwise [yO8, k0_pay285, k0_pay284]
  have H : Part (S.w3 c b 8) (S.x3 c b 8) (max (max (max (x1682 a c (ix2 0 b)) (x1682 a (nb c (opp 3)) (ix2 0 b))) (x1682 a (nb c (opp 4)) (ix2 0 b))) (x1682 a (nb c (opp 5)) (ix2 0 b))) (x2329 a c (ix2 0 b)) (fun d => x2354 a c (ix2 b d)) :=
    Part.merge (stage1_8 G c b) (stage1_8 G (nb c (opp 3)) b) (stage1_8 G (nb c (opp 4)) b) (stage1_8 G (nb c (opp 5)) b) rfl hl ha
  rw [ho]
  exact H.out hw d

theorem stage2_9 (G : S.Of a) (c : Dev nD) (b : Fin 32) (d : Fin 128) (hw : 0 < S.w3 c b 9) : yO9 a c (ix4 b 0 0 d) = S.x3 c b 9 d * (((S.w3 c b 9)⁻¹ : ℝ) : EReal) := by
  have hl : x2329 a c (ix2 1 b) = Ideal.exp (x1682 a c (ix2 1 b) - (max (max (max (x1682 a c (ix2 1 b)) (x1682 a (nb c (opp 3)) (ix2 1 b))) (x1682 a (nb c (opp 4)) (ix2 1 b))) (x1682 a (nb c (opp 5)) (ix2 1 b)))) * x1697 a c (ix2 1 b) + Ideal.exp (x1682 a (nb c (opp 3)) (ix2 1 b) - (max (max (max (x1682 a c (ix2 1 b)) (x1682 a (nb c (opp 3)) (ix2 1 b))) (x1682 a (nb c (opp 4)) (ix2 1 b))) (x1682 a (nb c (opp 5)) (ix2 1 b)))) * x1697 a (nb c (opp 3)) (ix2 1 b) + Ideal.exp (x1682 a (nb c (opp 4)) (ix2 1 b) - (max (max (max (x1682 a c (ix2 1 b)) (x1682 a (nb c (opp 3)) (ix2 1 b))) (x1682 a (nb c (opp 4)) (ix2 1 b))) (x1682 a (nb c (opp 5)) (ix2 1 b)))) * x1697 a (nb c (opp 4)) (ix2 1 b) + Ideal.exp (x1682 a (nb c (opp 5)) (ix2 1 b) - (max (max (max (x1682 a c (ix2 1 b)) (x1682 a (nb c (opp 3)) (ix2 1 b))) (x1682 a (nb c (opp 4)) (ix2 1 b))) (x1682 a (nb c (opp 5)) (ix2 1 b)))) * x1697 a (nb c (opp 5)) (ix2 1 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2375 a c (ix2 b d) = x1743 a c (ix2 b d) * Ideal.exp (x1682 a c (ix2 1 b) - (max (max (max (x1682 a c (ix2 1 b)) (x1682 a (nb c (opp 3)) (ix2 1 b))) (x1682 a (nb c (opp 4)) (ix2 1 b))) (x1682 a (nb c (opp 5)) (ix2 1 b)))) + x1743 a (nb c (opp 3)) (ix2 b d) * Ideal.exp (x1682 a (nb c (opp 3)) (ix2 1 b) - (max (max (max (x1682 a c (ix2 1 b)) (x1682 a (nb c (opp 3)) (ix2 1 b))) (x1682 a (nb c (opp 4)) (ix2 1 b))) (x1682 a (nb c (opp 5)) (ix2 1 b)))) + x1743 a (nb c (opp 4)) (ix2 b d) * Ideal.exp (x1682 a (nb c (opp 4)) (ix2 1 b) - (max (max (max (x1682 a c (ix2 1 b)) (x1682 a (nb c (opp 3)) (ix2 1 b))) (x1682 a (nb c (opp 4)) (ix2 1 b))) (x1682 a (nb c (opp 5)) (ix2 1 b)))) + x1743 a (nb c (opp 5)) (ix2 b d) * Ideal.exp (x1682 a (nb c (opp 5)) (ix2 1 b) - (max (max (max (x1682 a c (ix2 1 b)) (x1682 a (nb c (opp 3)) (ix2 1 b))) (x1682 a (nb c (opp 4)) (ix2 1 b))) (x1682 a (nb c (opp 5)) (ix2 1 b)))) := fun d => by
    pointwise [x2375, y11A1, k0_pay201, accBox, x2333, x2305, y11M, k0_pay208, rowBox, k0_pay249, x2303, k0_pay248, x2301, k0_pay247, k0_pay261, k0_pay256, k0_pay252, x2332, k0_pay260, k0_pay255, x2331, k0_pay259, k0_pay254, x2330, k0_pay258, k0_pay253, k0_pay266]
  have ho : yO9 a c (ix4 b 0 0 d) = x2375 a c (ix2 b d) * Ideal.div 1 (x2329 a c (ix2 1 b)) := by
    pointwise [yO9, k0_pay286, k0_pay284]
  have H : Part (S.w3 c b 9) (S.x3 c b 9) (max (max (max (x1682 a c (ix2 1 b)) (x1682 a (nb c (opp 3)) (ix2 1 b))) (x1682 a (nb c (opp 4)) (ix2 1 b))) (x1682 a (nb c (opp 5)) (ix2 1 b))) (x2329 a c (ix2 1 b)) (fun d => x2375 a c (ix2 b d)) :=
    Part.merge (stage1_9 G c b) (stage1_9 G (nb c (opp 3)) b) (stage1_9 G (nb c (opp 4)) b) (stage1_9 G (nb c (opp 5)) b) rfl hl ha
  rw [ho]
  exact H.out hw d

theorem stage2_10 (G : S.Of a) (c : Dev nD) (b : Fin 32) (d : Fin 128) (hw : 0 < S.w3 c b 10) : yO10 a c (ix4 b 0 0 d) = S.x3 c b 10 d * (((S.w3 c b 10)⁻¹ : ℝ) : EReal) := by
  have hl : x2329 a c (ix2 2 b) = Ideal.exp (x1682 a c (ix2 2 b) - (max (max (max (x1682 a c (ix2 2 b)) (x1682 a (nb c (opp 3)) (ix2 2 b))) (x1682 a (nb c (opp 4)) (ix2 2 b))) (x1682 a (nb c (opp 5)) (ix2 2 b)))) * x1697 a c (ix2 2 b) + Ideal.exp (x1682 a (nb c (opp 3)) (ix2 2 b) - (max (max (max (x1682 a c (ix2 2 b)) (x1682 a (nb c (opp 3)) (ix2 2 b))) (x1682 a (nb c (opp 4)) (ix2 2 b))) (x1682 a (nb c (opp 5)) (ix2 2 b)))) * x1697 a (nb c (opp 3)) (ix2 2 b) + Ideal.exp (x1682 a (nb c (opp 4)) (ix2 2 b) - (max (max (max (x1682 a c (ix2 2 b)) (x1682 a (nb c (opp 3)) (ix2 2 b))) (x1682 a (nb c (opp 4)) (ix2 2 b))) (x1682 a (nb c (opp 5)) (ix2 2 b)))) * x1697 a (nb c (opp 4)) (ix2 2 b) + Ideal.exp (x1682 a (nb c (opp 5)) (ix2 2 b) - (max (max (max (x1682 a c (ix2 2 b)) (x1682 a (nb c (opp 3)) (ix2 2 b))) (x1682 a (nb c (opp 4)) (ix2 2 b))) (x1682 a (nb c (opp 5)) (ix2 2 b)))) * x1697 a (nb c (opp 5)) (ix2 2 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2396 a c (ix2 b d) = x1764 a c (ix2 b d) * Ideal.exp (x1682 a c (ix2 2 b) - (max (max (max (x1682 a c (ix2 2 b)) (x1682 a (nb c (opp 3)) (ix2 2 b))) (x1682 a (nb c (opp 4)) (ix2 2 b))) (x1682 a (nb c (opp 5)) (ix2 2 b)))) + x1764 a (nb c (opp 3)) (ix2 b d) * Ideal.exp (x1682 a (nb c (opp 3)) (ix2 2 b) - (max (max (max (x1682 a c (ix2 2 b)) (x1682 a (nb c (opp 3)) (ix2 2 b))) (x1682 a (nb c (opp 4)) (ix2 2 b))) (x1682 a (nb c (opp 5)) (ix2 2 b)))) + x1764 a (nb c (opp 4)) (ix2 b d) * Ideal.exp (x1682 a (nb c (opp 4)) (ix2 2 b) - (max (max (max (x1682 a c (ix2 2 b)) (x1682 a (nb c (opp 3)) (ix2 2 b))) (x1682 a (nb c (opp 4)) (ix2 2 b))) (x1682 a (nb c (opp 5)) (ix2 2 b)))) + x1764 a (nb c (opp 5)) (ix2 b d) * Ideal.exp (x1682 a (nb c (opp 5)) (ix2 2 b) - (max (max (max (x1682 a c (ix2 2 b)) (x1682 a (nb c (opp 3)) (ix2 2 b))) (x1682 a (nb c (opp 4)) (ix2 2 b))) (x1682 a (nb c (opp 5)) (ix2 2 b)))) := fun d => by
    pointwise [x2396, y11A2, k0_pay202, accBox, x2387, x2332, x2305, y11M, k0_pay208, rowBox, k0_pay249, x2303, k0_pay248, x2301, k0_pay247, k0_pay260, k0_pay255, k0_pay252, k0_pay269, x2386, k0_pay268, x2384, x2331, k0_pay259, k0_pay254, x2330, k0_pay258, k0_pay253, k0_pay267, x2333, k0_pay261, k0_pay256, k0_pay270]
  have ho : yO10 a c (ix4 b 0 0 d) = x2396 a c (ix2 b d) * Ideal.div 1 (x2329 a c (ix2 2 b)) := by
    pointwise [yO10, k0_pay287, k0_pay284]
  have H : Part (S.w3 c b 10) (S.x3 c b 10) (max (max (max (x1682 a c (ix2 2 b)) (x1682 a (nb c (opp 3)) (ix2 2 b))) (x1682 a (nb c (opp 4)) (ix2 2 b))) (x1682 a (nb c (opp 5)) (ix2 2 b))) (x2329 a c (ix2 2 b)) (fun d => x2396 a c (ix2 b d)) :=
    Part.merge (stage1_10 G c b) (stage1_10 G (nb c (opp 3)) b) (stage1_10 G (nb c (opp 4)) b) (stage1_10 G (nb c (opp 5)) b) rfl hl ha
  rw [ho]
  exact H.out hw d

theorem stage2_11 (G : S.Of a) (c : Dev nD) (b : Fin 32) (d : Fin 128) (hw : 0 < S.w3 c b 11) : yO11 a c (ix4 b 0 0 d) = S.x3 c b 11 d * (((S.w3 c b 11)⁻¹ : ℝ) : EReal) := by
  have hl : x2329 a c (ix2 3 b) = Ideal.exp (x1682 a c (ix2 3 b) - (max (max (max (x1682 a c (ix2 3 b)) (x1682 a (nb c (opp 3)) (ix2 3 b))) (x1682 a (nb c (opp 4)) (ix2 3 b))) (x1682 a (nb c (opp 5)) (ix2 3 b)))) * x1697 a c (ix2 3 b) + Ideal.exp (x1682 a (nb c (opp 3)) (ix2 3 b) - (max (max (max (x1682 a c (ix2 3 b)) (x1682 a (nb c (opp 3)) (ix2 3 b))) (x1682 a (nb c (opp 4)) (ix2 3 b))) (x1682 a (nb c (opp 5)) (ix2 3 b)))) * x1697 a (nb c (opp 3)) (ix2 3 b) + Ideal.exp (x1682 a (nb c (opp 4)) (ix2 3 b) - (max (max (max (x1682 a c (ix2 3 b)) (x1682 a (nb c (opp 3)) (ix2 3 b))) (x1682 a (nb c (opp 4)) (ix2 3 b))) (x1682 a (nb c (opp 5)) (ix2 3 b)))) * x1697 a (nb c (opp 4)) (ix2 3 b) + Ideal.exp (x1682 a (nb c (opp 5)) (ix2 3 b) - (max (max (max (x1682 a c (ix2 3 b)) (x1682 a (nb c (opp 3)) (ix2 3 b))) (x1682 a (nb c (opp 4)) (ix2 3 b))) (x1682 a (nb c (opp 5)) (ix2 3 b)))) * x1697 a (nb c (opp 5)) (ix2 3 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2417 a c (ix2 b d) = x1785 a c (ix2 b d) * Ideal.exp (x1682 a c (ix2 3 b) - (max (max (max (x1682 a c (ix2 3 b)) (x1682 a (nb c (opp 3)) (ix2 3 b))) (x1682 a (nb c (opp 4)) (ix2 3 b))) (x1682 a (nb c (opp 5)) (ix2 3 b)))) + x1785 a (nb c (opp 3)) (ix2 b d) * Ideal.exp (x1682 a (nb c (opp 3)) (ix2 3 b) - (max (max (max (x1682 a c (ix2 3 b)) (x1682 a (nb c (opp 3)) (ix2 3 b))) (x1682 a (nb c (opp 4)) (ix2 3 b))) (x1682 a (nb c (opp 5)) (ix2 3 b)))) + x1785 a (nb c (opp 4)) (ix2 b d) * Ideal.exp (x1682 a (nb c (opp 4)) (ix2 3 b) - (max (max (max (x1682 a c (ix2 3 b)) (x1682 a (nb c (opp 3)) (ix2 3 b))) (x1682 a (nb c (opp 4)) (ix2 3 b))) (x1682 a (nb c (opp 5)) (ix2 3 b)))) + x1785 a (nb c (opp 5)) (ix2 b d) * Ideal.exp (x1682 a (nb c (opp 5)) (ix2 3 b) - (max (max (max (x1682 a c (ix2 3 b)) (x1682 a (nb c (opp 3)) (ix2 3 b))) (x1682 a (nb c (opp 4)) (ix2 3 b))) (x1682 a (nb c (opp 5)) (ix2 3 b)))) := fun d => by
    pointwise [x2417, y11A3, k0_pay203, accBox, x2333, x2305, y11M, k0_pay208, rowBox, k0_pay249, x2303, k0_pay248, x2301, k0_pay247, k0_pay261, k0_pay256, k0_pay252, x2332, k0_pay260, k0_pay255, x2331, k0_pay259, k0_pay254, x2330, k0_pay258, k0_pay253, k0_pay271]
  have ho : yO11 a c (ix4 b 0 0 d) = x2417 a c (ix2 b d) * Ideal.div 1 (x2329 a c (ix2 3 b)) := by
    pointwise [yO11, x2525, k0_pay288, k0_pay284, k0_pay289]
  have H : Part (S.w3 c b 11) (S.x3 c b 11) (max (max (max (x1682 a c (ix2 3 b)) (x1682 a (nb c (opp 3)) (ix2 3 b))) (x1682 a (nb c (opp 4)) (ix2 3 b))) (x1682 a (nb c (opp 5)) (ix2 3 b))) (x2329 a c (ix2 3 b)) (fun d => x2417 a c (ix2 b d)) :=
    Part.merge (stage1_11 G c b) (stage1_11 G (nb c (opp 3)) b) (stage1_11 G (nb c (opp 4)) b) (stage1_11 G (nb c (opp 5)) b) rfl hl ha
  rw [ho]
  exact H.out hw d

theorem stage2_12 (G : S.Of a) (c : Dev nD) (b : Fin 32) (d : Fin 128) (hw : 0 < S.w3 c b 12) : yO12 a c (ix4 b 0 0 d) = S.x3 c b 12 d * (((S.w3 c b 12)⁻¹ : ℝ) : EReal) := by
  have hl : x2329 a c (ix2 4 b) = Ideal.exp (x1682 a c (ix2 4 b) - (max (max (max (x1682 a c (ix2 4 b)) (x1682 a (nb c (opp 3)) (ix2 4 b))) (x1682 a (nb c (opp 4)) (ix2 4 b))) (x1682 a (nb c (opp 5)) (ix2 4 b)))) * x1697 a c (ix2 4 b) + Ideal.exp (x1682 a (nb c (opp 3)) (ix2 4 b) - (max (max (max (x1682 a c (ix2 4 b)) (x1682 a (nb c (opp 3)) (ix2 4 b))) (x1682 a (nb c (opp 4)) (ix2 4 b))) (x1682 a (nb c (opp 5)) (ix2 4 b)))) * x1697 a (nb c (opp 3)) (ix2 4 b) + Ideal.exp (x1682 a (nb c (opp 4)) (ix2 4 b) - (max (max (max (x1682 a c (ix2 4 b)) (x1682 a (nb c (opp 3)) (ix2 4 b))) (x1682 a (nb c (opp 4)) (ix2 4 b))) (x1682 a (nb c (opp 5)) (ix2 4 b)))) * x1697 a (nb c (opp 4)) (ix2 4 b) + Ideal.exp (x1682 a (nb c (opp 5)) (ix2 4 b) - (max (max (max (x1682 a c (ix2 4 b)) (x1682 a (nb c (opp 3)) (ix2 4 b))) (x1682 a (nb c (opp 4)) (ix2 4 b))) (x1682 a (nb c (opp 5)) (ix2 4 b)))) * x1697 a (nb c (opp 5)) (ix2 4 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2438 a c (ix2 b d) = x1806 a c (ix2 b d) * Ideal.exp (x1682 a c (ix2 4 b) - (max (max (max (x1682 a c (ix2 4 b)) (x1682 a (nb c (opp 3)) (ix2 4 b))) (x1682 a (nb c (opp 4)) (ix2 4 b))) (x1682 a (nb c (opp 5)) (ix2 4 b)))) + x1806 a (nb c (opp 3)) (ix2 b d) * Ideal.exp (x1682 a (nb c (opp 3)) (ix2 4 b) - (max (max (max (x1682 a c (ix2 4 b)) (x1682 a (nb c (opp 3)) (ix2 4 b))) (x1682 a (nb c (opp 4)) (ix2 4 b))) (x1682 a (nb c (opp 5)) (ix2 4 b)))) + x1806 a (nb c (opp 4)) (ix2 b d) * Ideal.exp (x1682 a (nb c (opp 4)) (ix2 4 b) - (max (max (max (x1682 a c (ix2 4 b)) (x1682 a (nb c (opp 3)) (ix2 4 b))) (x1682 a (nb c (opp 4)) (ix2 4 b))) (x1682 a (nb c (opp 5)) (ix2 4 b)))) + x1806 a (nb c (opp 5)) (ix2 b d) * Ideal.exp (x1682 a (nb c (opp 5)) (ix2 4 b) - (max (max (max (x1682 a c (ix2 4 b)) (x1682 a (nb c (opp 3)) (ix2 4 b))) (x1682 a (nb c (opp 4)) (ix2 4 b))) (x1682 a (nb c (opp 5)) (ix2 4 b)))) := fun d => by
    pointwise [x2438, y11A4, k0_pay204, accBox, x2422, k0_pay273, x2420, x2330, x2305, y11M, k0_pay208, rowBox, k0_pay249, x2303, k0_pay248, x2301, k0_pay247, k0_pay258, k0_pay253, k0_pay252, k0_pay272, x2333, k0_pay261, k0_pay256, x2332, k0_pay260, k0_pay255, x2331, k0_pay259, k0_pay254, k0_pay274]
  have ho : yO12 a c (ix4 b 0 0 d) = x2438 a c (ix2 b d) * Ideal.div 1 (x2329 a c (ix2 4 b)) := by
    pointwise [yO12, x2504, k0_pay284, k0_pay290]
  have H : Part (S.w3 c b 12) (S.x3 c b 12) (max (max (max (x1682 a c (ix2 4 b)) (x1682 a (nb c (opp 3)) (ix2 4 b))) (x1682 a (nb c (opp 4)) (ix2 4 b))) (x1682 a (nb c (opp 5)) (ix2 4 b))) (x2329 a c (ix2 4 b)) (fun d => x2438 a c (ix2 b d)) :=
    Part.merge (stage1_12 G c b) (stage1_12 G (nb c (opp 3)) b) (stage1_12 G (nb c (opp 4)) b) (stage1_12 G (nb c (opp 5)) b) rfl hl ha
  rw [ho]
  exact H.out hw d

theorem stage2_13 (G : S.Of a) (c : Dev nD) (b : Fin 32) (d : Fin 128) (hw : 0 < S.w3 c b 13) : yO13 a c (ix4 b 0 0 d) = S.x3 c b 13 d * (((S.w3 c b 13)⁻¹ : ℝ) : EReal) := by
  have hl : x2329 a c (ix2 5 b) = Ideal.exp (x1682 a c (ix2 5 b) - (max (max (max (x1682 a c (ix2 5 b)) (x1682 a (nb c (opp 3)) (ix2 5 b))) (x1682 a (nb c (opp 4)) (ix2 5 b))) (x1682 a (nb c (opp 5)) (ix2 5 b)))) * x1697 a c (ix2 5 b) + Ideal.exp (x1682 a (nb c (opp 3)) (ix2 5 b) - (max (max (max (x1682 a c (ix2 5 b)) (x1682 a (nb c (opp 3)) (ix2 5 b))) (x1682 a (nb c (opp 4)) (ix2 5 b))) (x1682 a (nb c (opp 5)) (ix2 5 b)))) * x1697 a (nb c (opp 3)) (ix2 5 b) + Ideal.exp (x1682 a (nb c (opp 4)) (ix2 5 b) - (max (max (max (x1682 a c (ix2 5 b)) (x1682 a (nb c (opp 3)) (ix2 5 b))) (x1682 a (nb c (opp 4)) (ix2 5 b))) (x1682 a (nb c (opp 5)) (ix2 5 b)))) * x1697 a (nb c (opp 4)) (ix2 5 b) + Ideal.exp (x1682 a (nb c (opp 5)) (ix2 5 b) - (max (max (max (x1682 a c (ix2 5 b)) (x1682 a (nb c (opp 3)) (ix2 5 b))) (x1682 a (nb c (opp 4)) (ix2 5 b))) (x1682 a (nb c (opp 5)) (ix2 5 b)))) * x1697 a (nb c (opp 5)) (ix2 5 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2459 a c (ix2 b d) = x1827 a c (ix2 b d) * Ideal.exp (x1682 a c (ix2 5 b) - (max (max (max (x1682 a c (ix2 5 b)) (x1682 a (nb c (opp 3)) (ix2 5 b))) (x1682 a (nb c (opp 4)) (ix2 5 b))) (x1682 a (nb c (opp 5)) (ix2 5 b)))) + x1827 a (nb c (opp 3)) (ix2 b d) * Ideal.exp (x1682 a (nb c (opp 3)) (ix2 5 b) - (max (max (max (x1682 a c (ix2 5 b)) (x1682 a (nb c (opp 3)) (ix2 5 b))) (x1682 a (nb c (opp 4)) (ix2 5 b))) (x1682 a (nb c (opp 5)) (ix2 5 b)))) + x1827 a (nb c (opp 4)) (ix2 b d) * Ideal.exp (x1682 a (nb c (opp 4)) (ix2 5 b) - (max (max (max (x1682 a c (ix2 5 b)) (x1682 a (nb c (opp 3)) (ix2 5 b))) (x1682 a (nb c (opp 4)) (ix2 5 b))) (x1682 a (nb c (opp 5)) (ix2 5 b)))) + x1827 a (nb c (opp 5)) (ix2 b d) * Ideal.exp (x1682 a (nb c (opp 5)) (ix2 5 b) - (max (max (max (x1682 a c (ix2 5 b)) (x1682 a (nb c (opp 3)) (ix2 5 b))) (x1682 a (nb c (opp 4)) (ix2 5 b))) (x1682 a (nb c (opp 5)) (ix2 5 b)))) := fun d => by
    pointwise [x2459, x2457, x2333, x2305, y11M, k0_pay208, rowBox, k0_pay249, x2303, k0_pay248, x2301, k0_pay247, k0_pay261, k0_pay256, k0_pay252, k0_pay277, x2455, y11A5, k0_pay205, accBox, k0_pay276, x2453, x2332, k0_pay260, k0_pay255, x2331, k0_pay259, k0_pay254, x2330, k0_pay258, k0_pay253, k0_pay275, k0_pay278]
  have ho : yO13 a c (ix4 b 0 0 d) = x2459 a c (ix2 b d) * Ideal.div 1 (x2329 a c (ix2 5 b)) := by
    pointwise [yO13, x2504, k0_pay284, k0_pay291]
  have H : Part (S.w3 c b 13) (S.x3 c b 13) (max (max (max (x1682 a c (ix2 5 b)) (x1682 a (nb c (opp 3)) (ix2 5 b))) (x1682 a (nb c (opp 4)) (ix2 5 b))) (x1682 a (nb c (opp 5)) (ix2 5 b))) (x2329 a c (ix2 5 b)) (fun d => x2459 a c (ix2 b d)) :=
    Part.merge (stage1_13 G c b) (stage1_13 G (nb c (opp 3)) b) (stage1_13 G (nb c (opp 4)) b) (stage1_13 G (nb c (opp 5)) b) rfl hl ha
  rw [ho]
  exact H.out hw d

theorem stage2_14 (G : S.Of a) (c : Dev nD) (b : Fin 32) (d : Fin 128) (hw : 0 < S.w3 c b 14) : yO14 a c (ix4 b 0 0 d) = S.x3 c b 14 d * (((S.w3 c b 14)⁻¹ : ℝ) : EReal) := by
  have hl : x2329 a c (ix2 6 b) = Ideal.exp (x1682 a c (ix2 6 b) - (max (max (max (x1682 a c (ix2 6 b)) (x1682 a (nb c (opp 3)) (ix2 6 b))) (x1682 a (nb c (opp 4)) (ix2 6 b))) (x1682 a (nb c (opp 5)) (ix2 6 b)))) * x1697 a c (ix2 6 b) + Ideal.exp (x1682 a (nb c (opp 3)) (ix2 6 b) - (max (max (max (x1682 a c (ix2 6 b)) (x1682 a (nb c (opp 3)) (ix2 6 b))) (x1682 a (nb c (opp 4)) (ix2 6 b))) (x1682 a (nb c (opp 5)) (ix2 6 b)))) * x1697 a (nb c (opp 3)) (ix2 6 b) + Ideal.exp (x1682 a (nb c (opp 4)) (ix2 6 b) - (max (max (max (x1682 a c (ix2 6 b)) (x1682 a (nb c (opp 3)) (ix2 6 b))) (x1682 a (nb c (opp 4)) (ix2 6 b))) (x1682 a (nb c (opp 5)) (ix2 6 b)))) * x1697 a (nb c (opp 4)) (ix2 6 b) + Ideal.exp (x1682 a (nb c (opp 5)) (ix2 6 b) - (max (max (max (x1682 a c (ix2 6 b)) (x1682 a (nb c (opp 3)) (ix2 6 b))) (x1682 a (nb c (opp 4)) (ix2 6 b))) (x1682 a (nb c (opp 5)) (ix2 6 b)))) * x1697 a (nb c (opp 5)) (ix2 6 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2480 a c (ix2 b d) = x1848 a c (ix2 b d) * Ideal.exp (x1682 a c (ix2 6 b) - (max (max (max (x1682 a c (ix2 6 b)) (x1682 a (nb c (opp 3)) (ix2 6 b))) (x1682 a (nb c (opp 4)) (ix2 6 b))) (x1682 a (nb c (opp 5)) (ix2 6 b)))) + x1848 a (nb c (opp 3)) (ix2 b d) * Ideal.exp (x1682 a (nb c (opp 3)) (ix2 6 b) - (max (max (max (x1682 a c (ix2 6 b)) (x1682 a (nb c (opp 3)) (ix2 6 b))) (x1682 a (nb c (opp 4)) (ix2 6 b))) (x1682 a (nb c (opp 5)) (ix2 6 b)))) + x1848 a (nb c (opp 4)) (ix2 b d) * Ideal.exp (x1682 a (nb c (opp 4)) (ix2 6 b) - (max (max (max (x1682 a c (ix2 6 b)) (x1682 a (nb c (opp 3)) (ix2 6 b))) (x1682 a (nb c (opp 4)) (ix2 6 b))) (x1682 a (nb c (opp 5)) (ix2 6 b)))) + x1848 a (nb c (opp 5)) (ix2 b d) * Ideal.exp (x1682 a (nb c (opp 5)) (ix2 6 b) - (max (max (max (x1682 a c (ix2 6 b)) (x1682 a (nb c (opp 3)) (ix2 6 b))) (x1682 a (nb c (opp 4)) (ix2 6 b))) (x1682 a (nb c (opp 5)) (ix2 6 b)))) := fun d => by
    pointwise [x2480, y11A6, k0_pay206, accBox, x2333, x2305, y11M, k0_pay208, rowBox, k0_pay249, x2303, k0_pay248, x2301, k0_pay247, k0_pay261, k0_pay256, k0_pay252, x2332, k0_pay260, k0_pay255, x2331, k0_pay259, k0_pay254, x2330, k0_pay258, k0_pay253, k0_pay279]
  have ho : yO14 a c (ix4 b 0 0 d) = x2480 a c (ix2 b d) * Ideal.div 1 (x2329 a c (ix2 6 b)) := by
    pointwise [yO14, x2504, k0_pay284, k0_pay292]
  have H : Part (S.w3 c b 14) (S.x3 c b 14) (max (max (max (x1682 a c (ix2 6 b)) (x1682 a (nb c (opp 3)) (ix2 6 b))) (x1682 a (nb c (opp 4)) (ix2 6 b))) (x1682 a (nb c (opp 5)) (ix2 6 b))) (x2329 a c (ix2 6 b)) (fun d => x2480 a c (ix2 b d)) :=
    Part.merge (stage1_14 G c b) (stage1_14 G (nb c (opp 3)) b) (stage1_14 G (nb c (opp 4)) b) (stage1_14 G (nb c (opp 5)) b) rfl hl ha
  rw [ho]
  exact H.out hw d

theorem stage2_15 (G : S.Of a) (c : Dev nD) (b : Fin 32) (d : Fin 128) (hw : 0 < S.w3 c b 15) : yO15 a c (ix4 b 0 0 d) = S.x3 c b 15 d * (((S.w3 c b 15)⁻¹ : ℝ) : EReal) := by
  have hl : x2329 a c (ix2 7 b) = Ideal.exp (x1682 a c (ix2 7 b) - (max (max (max (x1682 a c (ix2 7 b)) (x1682 a (nb c (opp 3)) (ix2 7 b))) (x1682 a (nb c (opp 4)) (ix2 7 b))) (x1682 a (nb c (opp 5)) (ix2 7 b)))) * x1697 a c (ix2 7 b) + Ideal.exp (x1682 a (nb c (opp 3)) (ix2 7 b) - (max (max (max (x1682 a c (ix2 7 b)) (x1682 a (nb c (opp 3)) (ix2 7 b))) (x1682 a (nb c (opp 4)) (ix2 7 b))) (x1682 a (nb c (opp 5)) (ix2 7 b)))) * x1697 a (nb c (opp 3)) (ix2 7 b) + Ideal.exp (x1682 a (nb c (opp 4)) (ix2 7 b) - (max (max (max (x1682 a c (ix2 7 b)) (x1682 a (nb c (opp 3)) (ix2 7 b))) (x1682 a (nb c (opp 4)) (ix2 7 b))) (x1682 a (nb c (opp 5)) (ix2 7 b)))) * x1697 a (nb c (opp 4)) (ix2 7 b) + Ideal.exp (x1682 a (nb c (opp 5)) (ix2 7 b) - (max (max (max (x1682 a c (ix2 7 b)) (x1682 a (nb c (opp 3)) (ix2 7 b))) (x1682 a (nb c (opp 4)) (ix2 7 b))) (x1682 a (nb c (opp 5)) (ix2 7 b)))) * x1697 a (nb c (opp 5)) (ix2 7 b) := by
    pointwise [x2329, y11L, k0_pay209, rowBox, x2309, k0_pay251, x2307, k0_pay250, x2305, y11M, k0_pay208, k0_pay249, x2303, k0_pay248, x2301, k0_pay247, k0_pay257, k0_pay256, k0_pay252, k0_pay255, k0_pay254, k0_pay253]
  have ha : ∀ d : Fin 128, x2501 a c (ix2 b d) = x1869 a c (ix2 b d) * Ideal.exp (x1682 a c (ix2 7 b) - (max (max (max (x1682 a c (ix2 7 b)) (x1682 a (nb c (opp 3)) (ix2 7 b))) (x1682 a (nb c (opp 4)) (ix2 7 b))) (x1682 a (nb c (opp 5)) (ix2 7 b)))) + x1869 a (nb c (opp 3)) (ix2 b d) * Ideal.exp (x1682 a (nb c (opp 3)) (ix2 7 b) - (max (max (max (x1682 a c (ix2 7 b)) (x1682 a (nb c (opp 3)) (ix2 7 b))) (x1682 a (nb c (opp 4)) (ix2 7 b))) (x1682 a (nb c (opp 5)) (ix2 7 b)))) + x1869 a (nb c (opp 4)) (ix2 b d) * Ideal.exp (x1682 a (nb c (opp 4)) (ix2 7 b) - (max (max (max (x1682 a c (ix2 7 b)) (x1682 a (nb c (opp 3)) (ix2 7 b))) (x1682 a (nb c (opp 4)) (ix2 7 b))) (x1682 a (nb c (opp 5)) (ix2 7 b)))) + x1869 a (nb c (opp 5)) (ix2 b d) * Ideal.exp (x1682 a (nb c (opp 5)) (ix2 7 b) - (max (max (max (x1682 a c (ix2 7 b)) (x1682 a (nb c (opp 3)) (ix2 7 b))) (x1682 a (nb c (opp 4)) (ix2 7 b))) (x1682 a (nb c (opp 5)) (ix2 7 b)))) := fun d => by
    pointwise [x2501, y11A7, k0_pay207, accBox, x2492, x2332, x2305, y11M, k0_pay208, rowBox, k0_pay249, x2303, k0_pay248, x2301, k0_pay247, k0_pay260, k0_pay255, k0_pay252, k0_pay282, x2491, k0_pay281, x2489, x2331, k0_pay259, k0_pay254, x2330, k0_pay258, k0_pay253, k0_pay280, x2333, k0_pay261, k0_pay256, k0_pay283]
  have ho : yO15 a c (ix4 b 0 0 d) = x2501 a c (ix2 b d) * Ideal.div 1 (x2329 a c (ix2 7 b)) := by
    pointwise [yO15, x2504, k0_pay284, k0_pay293]
  have H : Part (S.w3 c b 15) (S.x3 c b 15) (max (max (max (x1682 a c (ix2 7 b)) (x1682 a (nb c (opp 3)) (ix2 7 b))) (x1682 a (nb c (opp 4)) (ix2 7 b))) (x1682 a (nb c (opp 5)) (ix2 7 b))) (x2329 a c (ix2 7 b)) (fun d => x2501 a c (ix2 b d)) :=
    Part.merge (stage1_15 G c b) (stage1_15 G (nb c (opp 3)) b) (stage1_15 G (nb c (opp 4)) b) (stage1_15 G (nb c (opp 5)) b) rfl hl ha
  rw [ho]
  exact H.out hw d

end Cert.KernelIdealPf

end
-- ==== Proof.VTotal.lean ====
/-
The two stages reach every device once, and the devices' pages are the pool's: what a device holds at the end is the whole
table's weights and weighted rows.
-/
module

public import proofs.«01_k».proof.Proof.VStage2

@[expose] public section

set_option maxRecDepth 16384

noncomputable section

namespace Cert.KernelIdealPf

open Cert.KernelIdeal Cert.KernelIdeal.Gen Cert.RefPf
open Idealize.ShloMosaic Idealize.ShloMosaic.TcCoe

/-- A device's sources in the order the stages add them. -/
def srcDev (c : Dev nD) (x : Fin 4 × Fin 4) : Dev nD :=
  let e : Dev nD := ![c, nb c (opp 3), nb c (opp 4), nb c (opp 5)] x.1
  ![e, nb e (opp 0), nb e (opp 1), nb e (opp 2)] x.2

theorem srcDev_bij (c : Dev nD) : Function.Bijective (srcDev c) := by revert c; decide

theorem sum_src {M : Type*} [AddCommMonoid M] (f : Dev nD → M) (c : Dev nD) :
    (f c + f (nb c (opp 0)) + f (nb c (opp 1)) + f (nb c (opp 2)))
    + (f (nb c (opp 3)) + f (nb (nb c (opp 3)) (opp 0)) + f (nb (nb c (opp 3)) (opp 1)) + f (nb (nb c (opp 3)) (opp 2)))
    + (f (nb c (opp 4)) + f (nb (nb c (opp 4)) (opp 0)) + f (nb (nb c (opp 4)) (opp 1)) + f (nb (nb c (opp 4)) (opp 2)))
    + (f (nb c (opp 5)) + f (nb (nb c (opp 5)) (opp 0)) + f (nb (nb c (opp 5)) (opp 1)) + f (nb (nb c (opp 5)) (opp 2)))
      = ∑ d, f d := by
  rw [← (srcDev_bij c).sum_comp f, Fintype.sum_prod_type, Fin.sum_univ_four]
  simp only [Fin.sum_univ_four]
  rfl

/-- A device and one of its pages, for a page of the pool. -/
theorem gpage_bij : Function.Bijective (fun x : Dev nD × Fin 64 => gpage x.1 x.2) := by
  rw [Fintype.bijective_iff_injective_and_card]
  refine ⟨fun x y h => ?_, by decide⟩
  obtain ⟨c, p⟩ := x
  obtain ⟨c', p'⟩ := y
  have h : c.val % 4 * 256 + (page0 c + p.val) = c'.val % 4 * 256 + (page0 c' + p'.val) := congrArg Fin.val h
  unfold page0 at h
  have h1 := c.isLt; have h2 := c'.isLt; have h3 := p.isLt; have h4 := p'.isLt
  change c.val < 16 at h1; change c'.val < 16 at h2
  refine Prod.ext (Fin.ext ?_) (Fin.ext ?_)
  · show c.val = c'.val; omega
  · show p.val = p'.val; omega

theorem sum_pages {M : Type*} [AddCommMonoid M] (f : Fin 1024 → M) : ∑ c : Dev nD, ∑ p, f (gpage c p) = ∑ n, f n := by
  rw [← gpage_bij.sum_comp f, Fintype.sum_prod_type]

variable (S : Spec)

/-- The table's words that are used name pages. -/
def Spec.Pages : Prop := ∀ b j, used S.len b j → 0 ≤ (S.bt (ix2 b j)).toInt ∧ (S.bt (ix2 b j)).toInt < 1024

theorem page_iff (w : BitVec 32) (h0 : 0 ≤ w.toInt) (h1 : w.toInt < 1024) (n : Fin 1024) :
    w = BitVec.ofNat 32 n.val ↔ (⟨min (wrapped w).toInt.toNat 1023, clamp_lt _⟩ : Fin 1024) = n := by
  have hw : wrapped w = w := by
    unfold wrapped
    rw [if_neg]
    show ¬ BitVec.ofBool (w.slt 0#32) = 1#1
    have : w.slt 0#32 = false := by
      simp only [BitVec.slt, BitVec.toInt_zero, decide_eq_false_iff_not, not_lt]; exact h0
    rw [this]; decide
  rw [hw, Fin.ext_iff]
  show w = BitVec.ofNat 32 n.val ↔ min w.toInt.toNat 1023 = n.val
  have hn := n.isLt
  have e : w.toInt = w.toNat := by
    rw [BitVec.toInt_eq_toNat_cond] at h0 ⊢
    have := w.isLt
    split at h0 <;> split <;> omega
  rw [e] at h1 ⊢
  rw [Int.toNat_natCast, ← BitVec.toNat_inj, BitVec.toNat_ofNat]
  omega

variable {S}

theorem cn_eq (hP : S.Pages) (b : Fin 32) (n : Fin 1024) : S.cn b n = ∑ j, if used S.len b j ∧ page S.bt b j = n then 1 else 0 := by
  unfold Spec.cn
  refine Finset.sum_congr rfl fun j _ => ?_
  by_cases h : used S.len b j
  · obtain ⟨h0, h1⟩ := hP b j h
    have := page_iff _ h0 h1 n
    simp only [h, true_and]
    exact if_congr this rfl rfl
  · simp only [h, false_and]

/-- Pages counted as often as the table names them, or the table's positions one by one. -/
theorem sum_named (hP : S.Pages) (b : Fin 32) (g : Fin 1024 → Fin 32 → ℝ) :
    ∑ n, ∑ u, S.cn b n * g n u = ∑ j, ∑ u, if used S.len b j then g (page S.bt b j) u else 0 := by
  simp only [cn_eq hP, Finset.sum_mul]
  have : ∀ n, ∑ u, ∑ j, (if used S.len b j ∧ page S.bt b j = n then (1:ℝ) else 0) * g n u
      = ∑ j, ∑ u, (if used S.len b j ∧ page S.bt b j = n then (1:ℝ) else 0) * g n u := fun n => Finset.sum_comm
  simp only [this]
  rw [Finset.sum_comm]
  refine Finset.sum_congr rfl fun j _ => ?_
  rw [Finset.sum_comm]
  refine Finset.sum_congr rfl fun u _ => ?_
  by_cases h : used S.len b j
  · simp only [h, true_and, if_true, ite_mul, one_mul, zero_mul, Finset.sum_ite_eq, Finset.mem_univ]
  · simp only [h, false_and, if_false, zero_mul, Finset.sum_const_zero]

theorem sum_named' (hP : S.Pages) (b : Fin 32) (g : Fin 1024 → Fin 32 → ℝ) (h0 : ∀ n u, 0 ≤ g n u) (v : Fin 1024 → Fin 32 → EReal) :
    ∑ n, ∑ u, ((S.cn b n * g n u : ℝ) : EReal) * v n u = ∑ j, ∑ u, if used S.len b j then (g (page S.bt b j) u : EReal) * v (page S.bt b j) u else 0 := by
  have e : ∀ n u, ((S.cn b n * g n u : ℝ) : EReal) * v n u = ∑ j, if used S.len b j ∧ page S.bt b j = n then (g n u : EReal) * v n u else 0 := fun n u => by
    rw [cn_eq hP, Finset.sum_mul, sum_coe_mul _ _ fun j _ => mul_nonneg (by split <;> norm_num) (h0 n u)]
    refine Finset.sum_congr rfl fun j _ => ?_
    split
    · rw [one_mul]
    · rw [zero_mul, EReal.coe_zero, zero_mul]
  simp only [e]
  have : ∀ n, ∑ u, ∑ j, (if used S.len b j ∧ page S.bt b j = n then (g n u : EReal) * v n u else 0)
      = ∑ j, ∑ u, (if used S.len b j ∧ page S.bt b j = n then (g n u : EReal) * v n u else 0) := fun n => Finset.sum_comm
  simp only [this]
  rw [Finset.sum_comm]
  refine Finset.sum_congr rfl fun j _ => ?_
  rw [Finset.sum_comm]
  refine Finset.sum_congr rfl fun u _ => ?_
  by_cases h : used S.len b j
  · simp only [h, true_and, if_true, Finset.sum_ite_eq, Finset.mem_univ]
  · simp only [h, false_and, if_false, Finset.sum_const_zero]

theorem w3_eq (hP : S.Pages) (c : Dev nD) (b : Fin 32) (h : Fin 16) : S.w3 c b h = W S.qr S.kr S.scale S.bt S.len b h := by
  refine (sum_src (fun d => S.w1 d b h) c).trans ((sum_pages (S.wP b h)).trans ?_)
  exact sum_named hP b fun n u => Real.exp (σ S.qr S.kr S.scale b h n u)

theorem x3_eq (hP : S.Pages) (c : Dev nD) (b : Fin 32) (h : Fin 16) (d : Fin 128) : S.x3 c b h d = X S.qr S.kr S.scale S.V S.bt S.len b h d := by
  refine (sum_src (fun e => S.x1 e b h d) c).trans ((sum_pages (fun n => S.xP b h n d)).trans ?_)
  exact sum_named' hP b (fun n u => Real.exp (σ S.qr S.kr S.scale b h n u)) (fun n u => (Real.exp_pos _).le) fun n u => S.V (ix4 n u h d)

variable {a : Args Ideal}

theorem out_at (G : S.Of a) (hP : S.Pages) (c : Dev nD) (b : Fin 32) (h : Fin 16) (d : Fin 128) (h0 : used S.len b 0) :
    xOut a c h (ix4 b 0 0 d) = X S.qr S.kr S.scale S.V S.bt S.len b h d * (((W S.qr S.kr S.scale S.bt S.len b h)⁻¹ : ℝ) : EReal) := by
  have hw : 0 < S.w3 c b h := by rw [w3_eq hP]; exact W_pos _ _ _ _ _ _ _ h0
  rw [← w3_eq hP c, ← x3_eq hP c]
  match h, hw with
  | ⟨0, _⟩, hw => exact stage2_0 G c b d hw
  | ⟨1, _⟩, hw => exact stage2_1 G c b d hw
  | ⟨2, _⟩, hw => exact stage2_2 G c b d hw
  | ⟨3, _⟩, hw => exact stage2_3 G c b d hw
  | ⟨4, _⟩, hw => exact stage2_4 G c b d hw
  | ⟨5, _⟩, hw => exact stage2_5 G c b d hw
  | ⟨6, _⟩, hw => exact stage2_6 G c b d hw
  | ⟨7, _⟩, hw => exact stage2_7 G c b d hw
  | ⟨8, _⟩, hw => exact stage2_8 G c b d hw
  | ⟨9, _⟩, hw => exact stage2_9 G c b d hw
  | ⟨10, _⟩, hw => exact stage2_10 G c b d hw
  | ⟨11, _⟩, hw => exact stage2_11 G c b d hw
  | ⟨12, _⟩, hw => exact stage2_12 G c b d hw
  | ⟨13, _⟩, hw => exact stage2_13 G c b d hw
  | ⟨14, _⟩, hw => exact stage2_14 G c b d hw
  | ⟨15, _⟩, hw => exact stage2_15 G c b d hw
  | ⟨n + 16, hn⟩, _ => exact absurd hn (by omega)

end Cert.KernelIdealPf

end
-- ==== Proof.VClose.lean ====
/-
The kernel's result and the reference's are one array: the precondition read, the devices' blocks as blocks of the whole
arrays, and the two readings together.
-/
module

public import proofs.«01_k».proof.Defs
public import proofs.«01_k».proof.Proof.ILaunch
public import proofs.«01_k».proof.Proof.VTotal

@[expose] public section

set_option maxRecDepth 16384

noncomputable section

namespace Cert.ClosePf

open Idealize.ShloMosaic Idealize.ShloMosaic.TcCoe Idealize.SL.Sem
open Cert.RefPf

/-! ## The precondition -/

theorem fold_and {ι : Type*} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert x s hx ih =>
    rw [Finset.fold_insert hx] at h
    obtain ⟨h1, h2⟩ := (by decide : ∀ p q : BitVec 1, IntOp.andi p q = 1#1 → p = 1#1 ∧ q = 1#1) _ _ h
    intro i hi
    rcases Finset.mem_insert.1 hi with rfl | hi
    · exact h1
    · exact ih h2 i hi

theorem finite_of (x : EReal) (h : BitVec.ofBool (decide (FloatOps.absf (F := Ideal) (φ := .f32) x < Ideal.ofBits .f32 0x7F800000#32)) = 1#1) : x = ((x.toReal : ℝ) : EReal) := by
  have ht : Ideal.ofBits .f32 0x7F800000#32 = (⊤ : EReal) := by simp [Ideal.ofBits, Ideal.ieee]
  rw [ht] at h
  have h : max x (-x) < ⊤ := by
    by_contra hn
    rw [show decide (FloatOps.absf (F := Ideal) (φ := .f32) x < (⊤ : EReal)) = false from decide_eq_false hn] at h
    exact absurd h (by decide)
  obtain ⟨h1, h2⟩ := max_lt_iff.1 h
  refine (EReal.coe_toReal h1.ne fun hb => ?_).symm
  rw [hb, EReal.neg_bot] at h2
  exact lt_irrefl _ h2

section Pre
open Cert.Pre_pages_given_KernelIdeal
variable [Facts] (q : FVec Ideal S32x1x16x128 .f32) (k v : FVec Ideal S256x32x16x128 .f32) (bt : IVec S32x256 32) (len : IVec S32 32)

theorem drop_all {s : Shape} {ax : List (Fin s.rank)} (h : s.ReducesTo ax S_) (i : s.Idx) (j : S_.Idx) : h.drop i = j := funext fun x => x.elim0

theorem pre_q (h : (fn (F := Ideal) q k v bt len).1 = fun _ => 1#1) (i : S32x1x16x128.Idx) : q i = (((q i : EReal).toReal : ℝ) : EReal) := by
  have hp : (fn (F := Ideal) q k v bt len).1 (fun x => x.elim0) = 1#1 := by rw [h]
  refine finite_of _ ?_
  have e : ∀ j : S_.Idx, (fn (F := Ideal) q k v bt len).1 j = Finset.fold IntOp.andi (1#1)
      (fun x => BitVec.ofBool (decide (FloatOps.absf (F := Ideal) (φ := .f32) (q x) < Ideal.ofBits FTy.f32 0x7F800000#32))) {i | (Facts.reducesTo_S32x1x16x128_S_d0_1_2_3).drop i = j} := fun j => by
    pointwise [fn, fn_part1]
  rw [e] at hp
  exact fold_and _ _ hp i (Finset.mem_filter.2 ⟨Finset.mem_univ _, drop_all _ _ _⟩)

theorem pre_k (h : (fn (F := Ideal) q k v bt len).2.1 = fun _ => 1#1) (i : S256x32x16x128.Idx) : k i = (((k i : EReal).toReal : ℝ) : EReal) := by
  have hp : (fn (F := Ideal) q k v bt len).2.1 (fun x => x.elim0) = 1#1 := by rw [h]
  refine finite_of _ ?_
  have e : ∀ j : S_.Idx, (fn (F := Ideal) q k v bt len).2.1 j = Finset.fold IntOp.andi (1#1)
      (fun x => BitVec.ofBool (decide (FloatOps.absf (F := Ideal) (φ := .f32) (k x) < Ideal.ofBits FTy.f32 0x7F800000#32))) {i | (Facts.reducesTo_S256x32x16x128_S_d0_1_2_3).drop i = j} := fun j => by
    pointwise [fn, fn_part1]
  rw [e] at hp
  exact fold_and _ _ hp i (Finset.mem_filter.2 ⟨Finset.mem_univ _, drop_all _ _ _⟩)

theorem pre_len (h : (fn (F := Ideal) q k v bt len).2.2.1 = fun _ => 1#1) (b : Fin 32) : IntOp.cmpi .sge (len (ix1 b)) 1#32 = 1#1 := by
  have hp : (fn (F := Ideal) q k v bt len).2.2.1 (fun x => x.elim0) = 1#1 := by rw [h]
  have e : ∀ j : S_.Idx, (fn (F := Ideal) q k v bt len).2.2.1 j = Finset.fold IntOp.andi (1#1)
      (fun x : Fin 32 => IntOp.cmpi .sge (len (ix1 x)) 1#32) Finset.univ := fun j => by
    pointwise [fn, fn_part1]
  rw [e] at hp
  exact fold_and _ _ hp b (Finset.mem_univ _)

theorem pre_bt (h : (fn (F := Ideal) q k v bt len).2.2.2 = fun _ => 1#1) (b : Fin 32) (j : Fin 256) (hu : used len b j) :
    0 ≤ (bt (ix2 b j)).toInt ∧ (bt (ix2 b j)).toInt < 1024 := by
  have hp : (fn (F := Ideal) q k v bt len).2.2.2 (fun x => x.elim0) = 1#1 := by rw [h]
  have e : ∀ j : S_.Idx, (fn (F := Ideal) q k v bt len).2.2.2 j = Finset.fold IntOp.andi (1#1)
      (fun x : Fin 32 × Fin 256 => Scalar.select (IntOp.cmpi .slt (BitVec.ofNat 32 x.2.val) (len (ix1 x.1)))
          (IntOp.andi (IntOp.cmpi .sge (bt (ix2 x.1 x.2)) 0#32) (IntOp.cmpi .slt (bt (ix2 x.1 x.2)) 1024#32)) 1#1) Finset.univ := fun j => by
    pointwise [fn, fn_part1, fn_where]
  rw [e] at hp
  have h1 := fold_and _ _ hp (b, j) (Finset.mem_univ _)
  have h1 : IntOp.andi (IntOp.cmpi .sge (bt (ix2 b j)) 0#32) (IntOp.cmpi .slt (bt (ix2 b j)) 1024#32) = 1#1 := by
    have := h1
    simp only [Scalar.select] at this
    rwa [if_pos (show IntOp.cmpi .slt (BitVec.ofNat 32 j.val) (len (ix1 b)) = 1 from hu)] at this
  obtain ⟨h2, h3⟩ := (by decide : ∀ p q : BitVec 1, IntOp.andi p q = 1#1 → p = 1#1 ∧ q = 1#1) _ _ h1
  have hb : ∀ p : Bool, BitVec.ofBool p = 1#1 → p = true := by decide
  have h2 : (0#32).sle (bt (ix2 b j)) = true := hb _ h2
  have h3 : (bt (ix2 b j)).slt 1024#32 = true := hb _ h3
  rw [BitVec.sle, decide_eq_true_eq] at h2
  rw [BitVec.slt, decide_eq_true_eq] at h3
  exact ⟨h2, h3⟩

end Pre

theorem used_zero (len : IVec Cert.ReferenceIdeal.S32 32) (b : Fin 32) (h : IntOp.cmpi .sge (len (ix1 b)) 1#32 = 1#1) : used len b 0 := by
  have hb : ∀ p : Bool, BitVec.ofBool p = 1#1 → p = true := by decide
  have h1 : (1#32).sle (len (ix1 b)) = true := hb _ h
  rw [BitVec.sle, decide_eq_true_eq] at h1
  have h1 : (1 : ℤ) ≤ (len (ix1 b)).toInt := h1
  show BitVec.ofBool ((BitVec.ofNat 32 0).slt (len (ix1 b))) = 1#1
  rw [show (BitVec.ofNat 32 0).slt (len (ix1 b)) = true from decide_eq_true (show (0 : ℤ) < (len (ix1 b)).toInt by omega)]
  rfl

/-! ## Blocks -/

theorem lin_z : ∀ c : Dev Cert.KernelIdeal.nD, Layout.meshLin [2, 2, 4] c.val [2] = c.val % 4 := by decide

theorem block_at (A : FVec Ideal Cert.ReferenceIdeal.S1024x32x16x128 .f32) (c : Dev Cert.KernelIdeal.nD) (p : Fin 256) (hp : c.val % 4 * 256 + p.val < 1024)
    (u : Fin 32) (h : Fin 16) (d : Fin 128) :
    (Layout.blockN ⟨4, ![256, 32, 16, 128]⟩ ⟨4, ![1024, 32, 16, 128]⟩ (Layout.meshBlock [2, 2, 4] ![[2], [], [], []] c) A) (ix4 p u h d)
      = A (ix4 ⟨c.val % 4 * 256 + p.val, hp⟩ u h d) := by
  refine congrArg A (funext fun x => Fin.ext ?_)
  rw [Layout.TilesN.idx_val]
  match x with
  | ⟨0, _⟩ => show Layout.meshLin [2, 2, 4] c.val [2] * 256 + p.val = c.val % 4 * 256 + p.val; rw [lin_z]
  | ⟨1, _⟩ => show 0 * 32 + u.val = u.val; omega
  | ⟨2, _⟩ => show 0 * 16 + h.val = h.val; omega
  | ⟨3, _⟩ => show 0 * 128 + d.val = d.val; omega

section
open Cert.KernelIdeal Cert.KernelIdeal.Gen Cert.KernelIdealPf

variable (m : (ℓ : Loc nD τ sig) → Buf (Elt Ideal) ℓ) (ρ : Dev nD → PrngReg)

theorem args_q (c : Dev nD) : (argsOf m).q c = m ((c : Thread nD τ).loc main_arg0) := by
  have hz : (fun x => (win0_0.index t0_0) x * main_arg0.ty.shape.size x) = fun _ => 0 := funext fun x => by fin_cases x <;> decide
  exact Memref.read_access_unit_zero (Elt Ideal) main_arg0 hz (fun x => by fin_cases x <;> decide) (m ((c : Thread nD τ).loc main_arg0))
theorem args_bt (c : Dev nD) : (argsOf m).bt c = m ((c : Thread nD τ).loc main_arg3) := by
  have hz : (fun x => (win0_1.index t0_0) x * main_arg3.ty.shape.size x) = fun _ => 0 := funext fun x => by fin_cases x <;> decide
  exact Memref.read_access_unit_zero (Elt Ideal) main_arg3 hz (fun x => by fin_cases x <;> decide) (m ((c : Thread nD τ).loc main_arg3))
theorem args_len (c : Dev nD) : (argsOf m).len c = m ((c : Thread nD τ).loc main_arg4) := by
  have hz : (fun x => (win0_2.index t0_0) x * main_arg4.ty.shape.size x) = fun _ => 0 := funext fun x => by fin_cases x <;> decide
  exact Memref.read_access_unit_zero (Elt Ideal) main_arg4 hz (fun x => by fin_cases x <;> decide) (m ((c : Thread nD τ).loc main_arg4))

theorem arr_out (c : Dev nD) : (dats m ρ 0 c).arrAt 3 cfg0.N = outBuf (argsOf m) c := by
  rw [show cfg0.N = t0_0.val + 1 from rfl, (dats m ρ 0 c).arrAt_succ (3 : Fin 4) t0_0, if_pos (show (cfg0.win (3 : Fin 4)).flush t0_0 = true by rfl)]
  have hz : (fun x => (win0_3.index t0_0) x * main_v1.ty.shape.size x) = fun _ => 0 := funext fun x => by fin_cases x <;> decide
  exact Memref.write_access_unit_zero_univ (Elt Ideal) main_v1 hz (fun x => by fin_cases x <;> decide) _ _

/-- The whole arrays the devices' arguments are cut from, read as reals where they are finite. -/
def specOf (s : ℝ) (Q : FVec Ideal Cert.ReferenceIdeal.S32x1x16x128 .f32) (K V : FVec Ideal Cert.ReferenceIdeal.S1024x32x16x128 .f32)
    (bt : IVec Cert.ReferenceIdeal.S32x256 32) (len : IVec Cert.ReferenceIdeal.S32 32) : Spec where
  qr b h d := (Q (ix4 b 0 h d) : EReal).toReal
  kr n u h d := (K (ix4 n u h d) : EReal).toReal
  scale := s
  V := V
  bt := bt
  len := len

/-- The device that holds a page: one of those at the page's quarter. -/
def holder (n : Fin 1024) : Dev nD := ⟨n.val / 256, by have := n.isLt; show n.val / 256 < 16; omega⟩

theorem out_eq (s : ℝ) (hs : Ideal.ofBits .f32 0x3DB504F3#32 = ((s : ℝ) : EReal))
    (Q : FVec Ideal Cert.ReferenceIdeal.S32x1x16x128 .f32) (K V : FVec Ideal Cert.ReferenceIdeal.S1024x32x16x128 .f32)
    (bt : IVec Cert.ReferenceIdeal.S32x256 32) (len : IVec Cert.ReferenceIdeal.S32 32) (a : Args Ideal)
    (hq : ∀ c, a.q c = Q)
    (hk : ∀ c, a.k c = Layout.blockN ⟨4, ![256, 32, 16, 128]⟩ ⟨4, ![1024, 32, 16, 128]⟩ (Layout.meshBlock [2, 2, 4] ![[2], [], [], []] c) K)
    (hv : ∀ c, a.v c = Layout.blockN ⟨4, ![256, 32, 16, 128]⟩ ⟨4, ![1024, 32, 16, 128]⟩ (Layout.meshBlock [2, 2, 4] ![[2], [], [], []] c) V)
    (hbt : ∀ c, a.bt c = bt) (hlen : ∀ c, a.len c = len)
    (fq : ∀ i, Q i = (((Q i : EReal).toReal : ℝ) : EReal))
    (fk : ∀ (c : Dev nD) (i : S256x32x16x128.Idx), (Layout.blockN ⟨4, ![256, 32, 16, 128]⟩ ⟨4, ![1024, 32, 16, 128]⟩ (Layout.meshBlock [2, 2, 4] ![[2], [], [], []] c) K) i = ((((Layout.blockN ⟨4, ![256, 32, 16, 128]⟩ ⟨4, ![1024, 32, 16, 128]⟩ (Layout.meshBlock [2, 2, 4] ![[2], [], [], []] c) K) i : EReal).toReal : ℝ) : EReal))
    (hl : ∀ b, used len b 0)
    (hp : ∀ b j, used len b j → 0 ≤ (bt (ix2 b j)).toInt ∧ (bt (ix2 b j)).toInt < 1024) (c : Dev nD) :
    outBuf a c = refV Q K V bt len := by
  have fK : ∀ n u h d, K (ix4 n u h d) = (((K (ix4 n u h d) : EReal).toReal : ℝ) : EReal) := fun n u h d => by
    have e := fk (holder n) (ix4 ⟨n.val % 256, Nat.mod_lt _ (by decide)⟩ u h d)
    have hn : (holder n).val % 4 * 256 + (⟨n.val % 256, Nat.mod_lt _ (by decide)⟩ : Fin 256).val < 1024 := by
      show n.val / 256 % 4 * 256 + n.val % 256 < 1024
      have := n.isLt
      omega
    rw [block_at K (holder n) _ hn] at e
    have hn' : (⟨(holder n).val % 4 * 256 + (⟨n.val % 256, Nat.mod_lt _ (by decide)⟩ : Fin 256).val, hn⟩ : Fin 1024) = n := Fin.ext (by
      show n.val / 256 % 4 * 256 + n.val % 256 = n.val
      have := n.isLt
      omega)
    rw [hn'] at e
    exact e
  have G : (specOf s Q K V bt len).Of a :=
    { scale := hs
      q := fun c b h d => by rw [hq c]; exact fq _
      k := fun c p hp u h d => by
        refine Eq.trans ?_ (fK _ u h d)
        rw [← block_at K c p hp, ← hk c]
        rfl
      v := fun c p hp u h d => by
        show _ = V _
        rw [← block_at V c p hp, ← hv c]
        rfl
      bt := hbt
      len := hlen }
  funext i
  obtain ⟨b, y, h, d, rfl⟩ : ∃ (b : Fin 32) (y : Fin 1) (h : Fin 16) (d : Fin 128), i = ix4 b y h d := ⟨i 0, i 1, i 2, i 3, by
    funext x
    match x with
    | ⟨0, _⟩ => rfl
    | ⟨1, _⟩ => rfl
    | ⟨2, _⟩ => rfl
    | ⟨3, _⟩ => rfl⟩
  obtain rfl : y = 0 := Subsingleton.elim _ _
  refine (out_at G hp c b h d (hl b)).trans (Eq.symm ?_)
  exact ref_at bt len hs (fun b h d => fq _) fK b h d (hl b)

/-- Each device's whole result, and its arguments unchanged. -/
theorem run_out : θ_run defs (onTc (τ := τ) (main (F := Ideal))) ⟨m, fun _ => 0, ρ⟩ (fun r => ∀ c : Dev nD,
      r.2.mem ((c.tc : Thread nD τ).loc main_v1) = outBuf (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (arr_out m ρ c),
    ((h.1 c).1 0).trans ((dats m ρ 0 c).arrAt_in 0 rfl _), (h.1 c).2.1, (h.1 c).2.2,
    ((h.1 c).1 1).trans ((dats m ρ 0 c).arrAt_in 1 rfl _), ((h.1 c).1 2).trans ((dats m ρ 0 c).arrAt_in 2 rfl _)⟩) (run_main m ρ)

end

/-! ## The claims -/

theorem preKernel : Cert.Pre_pages_given_KernelIdeal.Facts where
  bcast_S256_S1x256_1 := by decide
  bcast_S32_S32x1_0 := by decide
  bcast_S1x256_S32x256_0_1 := by decide
  bcast_S32x1_S32x256_0_1 := by decide
  bcast_S_S32x256 := by decide
  bcast_S_S32x1x16x128 := by decide
  reducesTo_S32x1x16x128_S_d0_1_2_3 := by decide
  h_S_ := by decide
  bcast_S_S256x32x16x128 := by decide
  reducesTo_S256x32x16x128_S_d0_1_2_3 := by decide
  bcast_S_S32 := by decide
  reducesTo_S32_S_d0 := by decide
  reducesTo_S32x256_S_d0_1 := by decide

theorem preReference : Cert.Pre_pages_given_ReferenceIdeal.Facts where
  bcast_S256_S1x256_1 := by decide
  bcast_S32_S32x1_0 := by decide
  bcast_S1x256_S32x256_0_1 := by decide
  bcast_S32x1_S32x256_0_1 := by decide
  bcast_S_S32x256 := by decide
  bcast_S_S32x1x16x128 := by decide
  reducesTo_S32x1x16x128_S_d0_1_2_3 := by decide
  h_S_ := by decide
  bcast_S_S1024x32x16x128 := by decide
  reducesTo_S1024x32x16x128_S_d0_1_2_3 := by decide
  bcast_S_S32 := by decide
  reducesTo_S32_S_d0 := by decide
  reducesTo_S32x256_S_d0_1 := by decide

theorem reference_quiescent : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

theorem algebraic : Cert.algebraic_KernelIdeal_ReferenceIdeal_pre_pages_given_KernelIdeal (hKernelIdeal := Cert.KernelIdeal.Gen.facts)
    (hReferenceIdeal := Cert.ReferenceIdeal.Gen.facts) (hPre_pages_given_KernelIdeal := preKernel) := by
  intro m g m' g' hpre hagree
  obtain ⟨s, hs⟩ := scale_real
  refine ⟨Cert.ReferenceIdeal.Value.res_main_v35 m' 0, ?_, ?_⟩
  · refine (θ_run Cert.KernelIdeal.defs _ _).mono (fun r h c => ⟨(h c).1.trans ?_, (h c).2⟩) (run_out m g)
    rw [res_eq]
    refine out_eq s hs _ _ _ _ _ (Cert.KernelIdealPf.argsOf m) (fun c => (args_q m c).trans (hagree c).1) (fun c => (hagree c).2.1) (fun c => (hagree c).2.2.1)
      (fun c => (args_bt m c).trans (hagree c).2.2.2.1) (fun c => (args_len m c).trans (hagree c).2.2.2.2) ?_ ?_ ?_ ?_ c
    · intro i
      have h := @pre_q preKernel _ _ _ _ _ (hpre 0).1 i
      rw [(hagree 0).1] at h
      exact h
    · intro c i
      have h := @pre_k preKernel _ _ _ _ _ (hpre c).2.1 i
      rw [(hagree c).2.1] at h
      exact h
    · intro b
      have h := @pre_len preKernel _ _ _ _ _ (hpre 0).2.2.1 b
      rw [(hagree 0).2.2.2.2] at h
      exact used_zero _ b h
    · intro b j hu
      have h := @pre_bt preKernel _ _ _ _ _ (hpre 0).2.2.2 b j
      rw [(hagree 0).2.2.2.2, (hagree 0).2.2.2.1] at h
      exact h hu
  · exact (θ_run Cert.ReferenceIdeal.defs _ _).mono (fun r h => h 0) (Cert.ReferenceIdeal.Value.run m' g')

end Cert.ClosePf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.ILaunch
public import proofs.«01_k».proof.Proof.VClose
public import proofs.«01_k».proof.Proof.Gen.ReferenceIdeal.Run
public import Idealize.ShloMosaic.Adequacy
public import Idealize.ShloMosaic.Init

@[expose] public section

set_option maxRecDepth 65536

noncomputable section

namespace Cert.Proof

open Idealize.ShloMosaic Idealize.SL.Sem

/-! ## The program and its idealization are one text

Nothing is rewritten in the idealization, so both programs unfold to the same term, at any float values. -/

section
variable {F : FTy → Type} [FloatOps F]

theorem defs₀_same : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) => with_unfolding_all rfl
theorem defs_same : @Cert.Kernel.defs F _ Cert.Kernel.Gen.facts = @Cert.KernelIdeal.defs F _ Cert.KernelIdeal.Gen.facts :=
  congrArg (Pipeline.defs (Cert.KernelIdeal.pcfgs (F := F))) defs₀_same

end

theorem kernel_quiescent : Cert.quiescent_Kernel (hKernel := Cert.Kernel.Gen.facts) := fun m g _ => by
  have h := Cert.KernelIdealPf.frame (F := Bits) m g
  rw [← defs_same] at h
  exact h

theorem claim : Cert.Claim := ⟨Cert.Kernel.Gen.facts, Cert.KernelIdeal.Gen.facts, Cert.ReferenceIdeal.Gen.facts, Cert.ClosePf.preKernel, Cert.ClosePf.preReference,
  kernel_quiescent, fun m g _ => Cert.KernelIdealPf.frame m g, fun m g _ => Cert.KernelIdealPf.frame m g,
  Cert.ClosePf.reference_quiescent, fun m g _ => Cert.ClosePf.reference_quiescent m g trivial, trivial, Cert.ClosePf.algebraic⟩

end Cert.Proof

end
